-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4)) (m ((c.tc : Thread Cert.AttnBwdRefIdeal.nD Cert.AttnBwdRefIdeal.τ).loc Cert.AttnBwdRefIdeal.main_arg5))).2.2.2.2.2 = (fun _ => 1#1)

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdIdeal_finite_q [hPre_finite_q : Cert.Pre_finite_q.Facts] (m : (ℓ : Loc Cert.QBwdIdeal.nD Cert.QBwdIdeal.τ Cert.QBwdIdeal.sig) → Buf (Elt Ideal) ℓ) : Prop :=
  ∀ c : Dev Cert.QBwdIdeal.nD,
    (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).1 = (fun _ => 1#1)
    ∧ (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).2.1 = (fun _ => 1#1)
    ∧ (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).2.2.1 = (fun _ => 1#1)
    ∧ (Cert.Pre_finite_q.fn (F := Ideal) (m ((c.tc : Thread Cert.QBwdIdeal.nD Cert.QBwdIdeal.τ).loc Cert.QBwdIdeal.main_arg0)) (m ((c.tc : Thread Cert.QBwdIdeal.nD Cert.QBwdIdeal.τ).loc Cert.QBwdIdeal.main_arg1)) (m ((c.tc : Thread Cert.QBwdIdeal.nD Cert.QBwdIdeal.τ).loc Cert.QBwdIdeal.main_arg2)) (m ((c.tc : Thread Cert.QBwdIdeal.nD Cert.QBwdIdeal.τ).loc Cert.QBwdIdeal.main_arg3)) (m ((c.tc : Thread Cert.QBwdIdeal.nD Cert.QBwdIdeal.τ).loc Cert.QBwdIdeal.main_arg4))).2.2.2 = (fun _ => 1#1)

def Pre_QBwdRefIdeal (m : (ℓ : Loc Cert.QBwdRefIdeal.nD Cert.QBwdRefIdeal.τ Cert.QBwdRefIdeal.sig) → Buf (Elt Ideal) ℓ) : Prop :=
  True

def Pre_QBwdRefIdeal_finite_q [hPre_finite_q : Cert.Pre_finite_q.Facts] (m : (ℓ : Loc Cert.QBwdRefIdeal.nD Cert.QBwdRefIdeal.τ Cert.QBwdRefIdeal.sig) → Buf (Elt Ideal) ℓ) : Prop :=
  ∀ c : Dev Cert.QBwdRefIdeal.nD,
    (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).1 = (fun _ => 1#1)
    ∧ (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).2.1 = (fun _ => 1#1)
    ∧ (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).2.2.1 = (fun _ => 1#1)
    ∧ (Cert.Pre_finite_q.fn (F := Ideal) (m ((c.tc : Thread Cert.QBwdRefIdeal.nD Cert.QBwdRefIdeal.τ).loc Cert.QBwdRefIdeal.main_arg0)) (m ((c.tc : Thread Cert.QBwdRefIdeal.nD Cert.QBwdRefIdeal.τ).loc Cert.QBwdRefIdeal.main_arg1)) (m ((c.tc : Thread Cert.QBwdRefIdeal.nD Cert.QBwdRefIdeal.τ).loc Cert.QBwdRefIdeal.main_arg2)) (m ((c.tc : Thread Cert.QBwdRefIdeal.nD Cert.QBwdRefIdeal.τ).loc Cert.QBwdRefIdeal.main_arg3)) (m ((c.tc : Thread Cert.QBwdRefIdeal.nD Cert.QBwdRefIdeal.τ).loc Cert.QBwdRefIdeal.main_arg4))).2.2.2 = (fun _ => 1#1)

def Pre_DkvCombine (m : (ℓ : Loc Cert.DkvCombine.nD Cert.DkvCombine.τ Cert.DkvCombine.sig) → Buf (Elt Bits) ℓ) : Prop :=
  True

def Pre_DkvCombineIdeal (m : (ℓ : Loc Cert.DkvCombineIdeal.nD Cert.DkvCombineIdeal.τ Cert.DkvCombineIdeal.sig) → Buf (Elt Ideal) ℓ) : Prop :=
  True

def Pre_DkvCombineRefIdeal (m : (ℓ : Loc Cert.DkvCombineRefIdeal.nD Cert.DkvCombineRefIdeal.τ Cert.DkvCombineRefIdeal.sig) → Buf (Elt Ideal) ℓ) : Prop :=
  True

def Pre_Pw1Bwd (m : (ℓ : Loc Cert.Pw1Bwd.nD Cert.Pw1Bwd.τ Cert.Pw1Bwd.sig) → Buf (Elt Bits) ℓ) : Prop :=
  True

def Pre_Pw1BwdIdeal (m : (ℓ : Loc Cert.Pw1BwdIdeal.nD Cert.Pw1BwdIdeal.τ Cert.Pw1BwdIdeal.sig) → Buf (Elt Ideal) ℓ) : Prop :=
  True

def Pre_Pw1BwdIdeal_finite_pw1 [hPre_finite_pw1 : Cert.Pre_finite_pw1.Facts] (m : (ℓ : Loc Cert.Pw1BwdIdeal.nD Cert.Pw1BwdIdeal.τ Cert.Pw1BwdIdeal.sig) → Buf (Elt Ideal) ℓ) : Prop :=
  ∀ c : Dev Cert.Pw1BwdIdeal.nD,
    (Cert.Pre_finite_pw1.fn (F := Ideal) (m ((c.tc : Thread Cert.Pw1BwdIdeal.nD Cert.Pw1BwdIdeal.τ).loc Cert.Pw1BwdIdeal.main_arg0)) (m ((c.tc : Thread Cert.Pw1BwdIdeal.nD Cert.Pw1BwdIdeal.τ).loc Cert.Pw1BwdIdeal.main_arg1)) (m ((c.tc : Thread Cert.Pw1BwdIdeal.nD Cert.Pw1BwdIdeal.τ).loc Cert.Pw1BwdIdeal.main_arg2)) (m ((c.tc : Thread Cert.Pw1BwdIdeal.nD Cert.Pw1BwdIdeal.τ).loc Cert.Pw1BwdIdeal.main_arg3)) (m ((c.tc : Thread Cert.Pw1BwdIdeal.nD Cert.Pw1BwdIdeal.τ).loc Cert.Pw1BwdIdeal.main_arg4))).1 = (fun _ => 1#1)
    ∧ (Cert.Pre_finite_pw1.fn (F := Ideal) (m ((c.tc : Thread Cert.Pw1BwdIdeal.nD Cert.Pw1BwdIdeal.τ).loc Cert.Pw1BwdIdeal.main_arg0)) (m ((c.tc : Thread Cert.Pw1BwdIdeal.nD Cert.Pw1BwdIdeal.τ).loc Cert.Pw1BwdIdeal.main_arg1)) (m ((c.tc : Thread Cert.Pw1BwdIdeal.nD Cert.Pw1BwdIdeal.τ).loc Cert.Pw1BwdIdeal.main_arg2)) (m ((c.tc : Thread Cert.Pw1BwdIdeal.nD Cert.Pw1BwdIdeal.τ).loc Cert.Pw1BwdIdeal.main_arg3)) (m ((c.tc : Thread Cert.Pw1BwdIdeal.nD Cert.Pw1BwdIdeal.τ).loc Cert.Pw1BwdIdeal.main_arg4))).2.1 = (fun _ => 1#1)
    ∧ (Cert.Pre_finite_pw1.fn (F := Ideal) (m ((c.tc : Thread Cert.Pw1BwdIdeal.nD Cert.Pw1BwdIdeal.τ).loc Cert.Pw1BwdIdeal.main_arg0)) (m ((c.tc : Thread Cert.Pw1BwdIdeal.nD Cert.Pw1BwdIdeal.τ).loc Cert.Pw1BwdIdeal.main_arg1)) (m ((c.tc : Thread Cert.Pw1BwdIdeal.nD Cert.Pw1BwdIdeal.τ).loc Cert.Pw1BwdIdeal.main_arg2)) (m ((c.tc : Thread Cert.Pw1BwdIdeal.nD Cert.Pw1BwdIdeal.τ).loc Cert.Pw1BwdIdeal.main_arg3)) (m ((c.tc : Thread Cert.Pw1BwdIdeal.nD Cert.Pw1BwdIdeal.τ).loc Cert.Pw1BwdIdeal.main_arg4))).2.2.1 = (fun _ => 1#1)
    ∧ (Cert.Pre_finite_pw1.fn (F := Ideal) (m ((c.tc : Thread Cert.Pw1BwdIdeal.nD Cert.Pw1BwdIdeal.τ).loc Cert.Pw1BwdIdeal.main_arg0)) (m ((c.tc : Thread Cert.Pw1BwdIdeal.nD Cert.Pw1BwdIdeal.τ).loc Cert.Pw1BwdIdeal.main_arg1)) (m ((c.tc : Thread Cert.Pw1BwdIdeal.nD Cert.Pw1BwdIdeal.τ).loc Cert.Pw1BwdIdeal.main_arg2)) (m ((c.tc : Thread Cert.Pw1BwdIdeal.nD Cert.Pw1BwdIdeal.τ).loc Cert.Pw1BwdIdeal.main_arg3)) (m ((c.tc : Thread Cert.Pw1BwdIdeal.nD Cert.Pw1BwdIdeal.τ).loc Cert.Pw1BwdIdeal.main_arg4))).2.2.2 = (fun _ => 1#1)

def Pre_Pw1BwdRefIdeal (m : (ℓ : Loc Cert.Pw1BwdRefIdeal.nD Cert.Pw1BwdRefIdeal.τ Cert.Pw1BwdRefIdeal.sig) → Buf (Elt Ideal) ℓ) : Prop :=
  True

def Pre_Pw1BwdRefIdeal_finite_pw1 [hPre_finite_pw1 : Cert.Pre_finite_pw1.Facts] (m : (ℓ : Loc Cert.Pw1BwdRefIdeal.nD Cert.Pw1BwdRefIdeal.τ Cert.Pw1BwdRefIdeal.sig) → Buf (Elt Ideal) ℓ) : Prop :=
  ∀ c : Dev Cert.Pw1BwdRefIdeal.nD,
    (Cert.Pre_finite_pw1.fn (F := Ideal) (m ((c.tc : Thread Cert.Pw1BwdRefIdeal.nD Cert.Pw1BwdRefIdeal.τ).loc Cert.Pw1BwdRefIdeal.main_arg0)) (m ((c.tc : Thread Cert.Pw1BwdRefIdeal.nD Cert.Pw1BwdRefIdeal.τ).loc Cert.Pw1BwdRefIdeal.main_arg1)) (m ((c.tc : Thread Cert.Pw1BwdRefIdeal.nD Cert.Pw1BwdRefIdeal.τ).loc Cert.Pw1BwdRefIdeal.main_arg2)) (m ((c.tc : Thread Cert.Pw1BwdRefIdeal.nD Cert.Pw1BwdRefIdeal.τ).loc Cert.Pw1BwdRefIdeal.main_arg3)) (m ((c.tc : Thread Cert.Pw1BwdRefIdeal.nD Cert.Pw1BwdRefIdeal.τ).loc Cert.Pw1BwdRefIdeal.main_arg4))).1 = (fun _ => 1#1)
    ∧ (Cert.Pre_finite_pw1.fn (F := Ideal) (m ((c.tc : Thread Cert.Pw1BwdRefIdeal.nD Cert.Pw1BwdRefIdeal.τ).loc Cert.Pw1BwdRefIdeal.main_arg0)) (m ((c.tc : Thread Cert.Pw1BwdRefIdeal.nD Cert.Pw1BwdRefIdeal.τ).loc Cert.Pw1BwdRefIdeal.main_arg1)) (m ((c.tc : Thread Cert.Pw1BwdRefIdeal.nD Cert.Pw1BwdRefIdeal.τ).loc Cert.Pw1BwdRefIdeal.main_arg2)) (m ((c.tc : Thread Cert.Pw1BwdRefIdeal.nD Cert.Pw1BwdRefIdeal.τ).loc Cert.Pw1BwdRefIdeal.main_arg3)) (m ((c.tc : Thread Cert.Pw1BwdRefIdeal.nD Cert.Pw1BwdRefIdeal.τ).loc Cert.Pw1BwdRefIdeal.main_arg4))).2.1 = (fun _ => 1#1)
    ∧ (Cert.Pre_finite_pw1.fn (F := Ideal) (m ((c.tc : Thread Cert.Pw1BwdRefIdeal.nD Cert.Pw1BwdRefIdeal.τ).loc Cert.Pw1BwdRefIdeal.main_arg0)) (m ((c.tc : Thread Cert.Pw1BwdRefIdeal.nD Cert.Pw1BwdRefIdeal.τ).loc Cert.Pw1BwdRefIdeal.main_arg1)) (m ((c.tc : Thread Cert.Pw1BwdRefIdeal.nD Cert.Pw1BwdRefIdeal.τ).loc Cert.Pw1BwdRefIdeal.main_arg2)) (m ((c.tc : Thread Cert.Pw1BwdRefIdeal.nD Cert.Pw1BwdRefIdeal.τ).loc Cert.Pw1BwdRefIdeal.main_arg3)) (m ((c.tc : Thread Cert.Pw1BwdRefIdeal.nD Cert.Pw1BwdRefIdeal.τ).loc Cert.Pw1BwdRefIdeal.main_arg4))).2.2.1 = (fun _ => 1#1)
    ∧ (Cert.Pre_finite_pw1.fn (F := Ideal) (m ((c.tc : Thread Cert.Pw1BwdRefIdeal.nD Cert.Pw1BwdRefIdeal.τ).loc Cert.Pw1BwdRefIdeal.main_arg0)) (m ((c.tc : Thread Cert.Pw1BwdRefIdeal.nD Cert.Pw1BwdRefIdeal.τ).loc Cert.Pw1BwdRefIdeal.main_arg1)) (m ((c.tc : Thread Cert.Pw1BwdRefIdeal.nD Cert.Pw1BwdRefIdeal.τ).loc Cert.Pw1BwdRefIdeal.main_arg2)) (m ((c.tc : Thread Cert.Pw1BwdRefIdeal.nD Cert.Pw1BwdRefIdeal.τ).loc Cert.Pw1BwdRefIdeal.main_arg3)) (m ((c.tc : Thread Cert.Pw1BwdRefIdeal.nD Cert.Pw1BwdRefIdeal.τ).loc Cert.Pw1BwdRefIdeal.main_arg4))).2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradRefIdeal (m : (ℓ : Loc Cert.BiasGradRefIdeal.nD Cert.BiasGradRefIdeal.τ Cert.BiasGradRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.1 = (fun _ => 1#1)
    ∧ (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2.2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.2.1 = (fun _ => 1#1)
    ∧ (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2.2.2 = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_Pw2Fwd (m : (ℓ : Loc Cert.Pw2Fwd.nD Cert.Pw2Fwd.τ Cert.Pw2Fwd.sig) → Buf (Elt Bits) ℓ) : Prop :=
  True

def Pre_Pw2FwdIdeal (m : (ℓ : Loc Cert.Pw2FwdIdeal.nD Cert.Pw2FwdIdeal.τ Cert.Pw2FwdIdeal.sig) → Buf (Elt Ideal) ℓ) : Prop :=
  True

def Pre_Pw2FwdRefIdeal (m : (ℓ : Loc Cert.Pw2FwdRefIdeal.nD Cert.Pw2FwdRefIdeal.τ Cert.Pw2FwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Pw1Fwd (m : (ℓ : Loc Cert.Pw1Fwd.nD Cert.Pw1Fwd.τ Cert.Pw1Fwd.sig) → Buf (Elt Bits) ℓ) : Prop :=
  True

def Pre_Pw1FwdIdeal (m : (ℓ : Loc Cert.Pw1FwdIdeal.nD Cert.Pw1FwdIdeal.τ Cert.Pw1FwdIdeal.sig) → Buf (Elt Ideal) ℓ) : Prop :=
  True

def Pre_Pw1FwdRefIdeal (m : (ℓ : Loc Cert.Pw1FwdRefIdeal.nD Cert.Pw1FwdRefIdeal.τ Cert.Pw1FwdRefIdeal.sig) → Buf (Elt Ideal) ℓ) : Prop :=
  True

def Pre_BiasTab (m : (ℓ : Loc Cert.BiasTab.nD Cert.BiasTab.τ Cert.BiasTab.sig) → Buf (Elt Bits) ℓ) : Prop :=
  True

def Pre_BiasTabIdeal (m : (ℓ : Loc Cert.BiasTabIdeal.nD Cert.BiasTabIdeal.τ Cert.BiasTabIdeal.sig) → Buf (Elt Ideal) ℓ) : Prop :=
  True

def Pre_BiasTabRefIdeal (m : (ℓ : Loc Cert.BiasTabRefIdeal.nD Cert.BiasTabRefIdeal.τ Cert.BiasTabRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2)
      ∧ r.2.mem ((c.tc : Thread Cert.QBwd.nD Cert.QBwd.τ).loc Cert.QBwd.main_arg3) = m ((c.tc : Thread Cert.QBwd.nD Cert.QBwd.τ).loc Cert.QBwd.main_arg3)
      ∧ r.2.mem ((c.tc : Thread Cert.QBwd.nD Cert.QBwd.τ).loc Cert.QBwd.main_arg4) = m ((c.tc : Thread Cert.QBwd.nD Cert.QBwd.τ).loc Cert.QBwd.main_arg4))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ r.2.sem = fun _ => 0)

def quiescent_QBwdIdeal_pre_finite_q [hQBwdIdeal : Cert.QBwdIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal_finite_q m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4))
      ∧ r.2.sem = fun _ => 0)

def quiescent_QBwdRefIdeal_pre_finite_q [hQBwdRefIdeal : Cert.QBwdRefIdeal.Facts] [hPre_finite_q : Cert.Pre_finite_q.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal_finite_q m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4))
      ∧ r.2.sem = fun _ => 0)

def quiescent_DkvCombine [hDkvCombine : Cert.DkvCombine.Facts] : Prop :=
  ∀ (m : (ℓ : Loc Cert.DkvCombine.nD Cert.DkvCombine.τ Cert.DkvCombine.sig) → Buf (Elt Bits) ℓ) (g : Dev Cert.DkvCombine.nD → PrngReg), Pre_DkvCombine m →
    θ_run (Cert.DkvCombine.defs (F := Bits)) (onTc (τ := Cert.DkvCombine.τ) (Cert.DkvCombine.main (F := Bits))) ⟨m, fun _ => 0, g⟩ (fun r => (∀ c : Dev Cert.DkvCombine.nD,
      r.2.mem ((c.tc : Thread Cert.DkvCombine.nD Cert.DkvCombine.τ).loc Cert.DkvCombine.main_arg0) = m ((c.tc : Thread Cert.DkvCombine.nD Cert.DkvCombine.τ).loc Cert.DkvCombine.main_arg0)
      ∧ r.2.mem ((c.tc : Thread Cert.DkvCombine.nD Cert.DkvCombine.τ).loc Cert.DkvCombine.main_arg1) = m ((c.tc : Thread Cert.DkvCombine.nD Cert.DkvCombine.τ).loc Cert.DkvCombine.main_arg1))
      ∧ r.2.sem = fun _ => 0)

def quiescent_DkvCombineIdeal [hDkvCombineIdeal : Cert.DkvCombineIdeal.Facts] : Prop :=
  ∀ (m : (ℓ : Loc Cert.DkvCombineIdeal.nD Cert.DkvCombineIdeal.τ Cert.DkvCombineIdeal.sig) → Buf (Elt Ideal) ℓ) (g : Dev Cert.DkvCombineIdeal.nD → PrngReg), Pre_DkvCombineIdeal m →
    θ_run (Cert.DkvCombineIdeal.defs (F := Ideal)) (onTc (τ := Cert.DkvCombineIdeal.τ) (Cert.DkvCombineIdeal.main (F := Ideal))) ⟨m, fun _ => 0, g⟩ (fun r => (∀ c : Dev Cert.DkvCombineIdeal.nD,
      r.2.mem ((c.tc : Thread Cert.DkvCombineIdeal.nD Cert.DkvCombineIdeal.τ).loc Cert.DkvCombineIdeal.main_arg0) = m ((c.tc : Thread Cert.DkvCombineIdeal.nD Cert.DkvCombineIdeal.τ).loc Cert.DkvCombineIdeal.main_arg0)
      ∧ r.2.mem ((c.tc : Thread Cert.DkvCombineIdeal.nD Cert.DkvCombineIdeal.τ).loc Cert.DkvCombineIdeal.main_arg1) = m ((c.tc : Thread Cert.DkvCombineIdeal.nD Cert.DkvCombineIdeal.τ).loc Cert.DkvCombineIdeal.main_arg1))
      ∧ r.2.sem = fun _ => 0)

def quiescent_DkvCombineRefIdeal [hDkvCombineRefIdeal : Cert.DkvCombineRefIdeal.Facts] : Prop :=
  ∀ (m : (ℓ : Loc Cert.DkvCombineRefIdeal.nD Cert.DkvCombineRefIdeal.τ Cert.DkvCombineRefIdeal.sig) → Buf (Elt Ideal) ℓ) (g : Dev Cert.DkvCombineRefIdeal.nD → PrngReg), Pre_DkvCombineRefIdeal m →
    θ_run (Cert.DkvCombineRefIdeal.defs (F := Ideal)) (onTc (τ := Cert.DkvCombineRefIdeal.τ) (Cert.DkvCombineRefIdeal.main (F := Ideal))) ⟨m, fun _ => 0, g⟩ (fun r => (∀ c : Dev Cert.DkvCombineRefIdeal.nD,
      r.2.mem ((c.tc : Thread Cert.DkvCombineRefIdeal.nD Cert.DkvCombineRefIdeal.τ).loc Cert.DkvCombineRefIdeal.main_arg0) = m ((c.tc : Thread Cert.DkvCombineRefIdeal.nD Cert.DkvCombineRefIdeal.τ).loc Cert.DkvCombineRefIdeal.main_arg0)
      ∧ r.2.mem ((c.tc : Thread Cert.DkvCombineRefIdeal.nD Cert.DkvCombineRefIdeal.τ).loc Cert.DkvCombineRefIdeal.main_arg1) = m ((c.tc : Thread Cert.DkvCombineRefIdeal.nD Cert.DkvCombineRefIdeal.τ).loc Cert.DkvCombineRefIdeal.main_arg1))
      ∧ r.2.sem = fun _ => 0)

def quiescent_Pw1Bwd [hPw1Bwd : Cert.Pw1Bwd.Facts] : Prop :=
  ∀ (m : (ℓ : Loc Cert.Pw1Bwd.nD Cert.Pw1Bwd.τ Cert.Pw1Bwd.sig) → Buf (Elt Bits) ℓ) (g : Dev Cert.Pw1Bwd.nD → PrngReg), Pre_Pw1Bwd m →
    θ_run (Cert.Pw1Bwd.defs (F := Bits)) (onTc (τ := Cert.Pw1Bwd.τ) (Cert.Pw1Bwd.main (F := Bits))) ⟨m, fun _ => 0, g⟩ (fun r => (∀ c : Dev Cert.Pw1Bwd.nD,
      r.2.mem ((c.tc : Thread Cert.Pw1Bwd.nD Cert.Pw1Bwd.τ).loc Cert.Pw1Bwd.main_arg0) = m ((c.tc : Thread Cert.Pw1Bwd.nD Cert.Pw1Bwd.τ).loc Cert.Pw1Bwd.main_arg0)
      ∧ r.2.mem ((c.tc : Thread Cert.Pw1Bwd.nD Cert.Pw1Bwd.τ).loc Cert.Pw1Bwd.main_arg1) = m ((c.tc : Thread Cert.Pw1Bwd.nD Cert.Pw1Bwd.τ).loc Cert.Pw1Bwd.main_arg1)
      ∧ r.2.mem ((c.tc : Thread Cert.Pw1Bwd.nD Cert.Pw1Bwd.τ).loc Cert.Pw1Bwd.main_arg2) = m ((c.tc : Thread Cert.Pw1Bwd.nD Cert.Pw1Bwd.τ).loc Cert.Pw1Bwd.main_arg2)
      ∧ r.2.mem ((c.tc : Thread Cert.Pw1Bwd.nD Cert.Pw1Bwd.τ).loc Cert.Pw1Bwd.main_arg3) = m ((c.tc : Thread Cert.Pw1Bwd.nD Cert.Pw1Bwd.τ).loc Cert.Pw1Bwd.main_arg3)
      ∧ r.2.mem ((c.tc : Thread Cert.Pw1Bwd.nD Cert.Pw1Bwd.τ).loc Cert.Pw1Bwd.main_arg4) = m ((c.tc : Thread Cert.Pw1Bwd.nD Cert.Pw1Bwd.τ).loc Cert.Pw1Bwd.main_arg4))
      ∧ r.2.sem = fun _ => 0)

def quiescent_Pw1BwdIdeal [hPw1BwdIdeal : Cert.Pw1BwdIdeal.Facts] : Prop :=
  ∀ (m : (ℓ : Loc Cert.Pw1BwdIdeal.nD Cert.Pw1BwdIdeal.τ Cert.Pw1BwdIdeal.sig) → Buf (Elt Ideal) ℓ) (g : Dev Cert.Pw1BwdIdeal.nD → PrngReg), Pre_Pw1BwdIdeal m →
    θ_run (Cert.Pw1BwdIdeal.defs (F := Ideal)) (onTc (τ := Cert.Pw1BwdIdeal.τ) (Cert.Pw1BwdIdeal.main (F := Ideal))) ⟨m, fun _ => 0, g⟩ (fun r => (∀ c : Dev Cert.Pw1BwdIdeal.nD,
      r.2.mem ((c.tc : Thread Cert.Pw1BwdIdeal.nD Cert.Pw1BwdIdeal.τ).loc Cert.Pw1BwdIdeal.main_arg0) = m ((c.tc : Thread Cert.Pw1BwdIdeal.nD Cert.Pw1BwdIdeal.τ).loc Cert.Pw1BwdIdeal.main_arg0)
      ∧ r.2.mem ((c.tc : Thread Cert.Pw1BwdIdeal.nD Cert.Pw1BwdIdeal.τ).loc Cert.Pw1BwdIdeal.main_arg1) = m ((c.tc : Thread Cert.Pw1BwdIdeal.nD Cert.Pw1BwdIdeal.τ).loc Cert.Pw1BwdIdeal.main_arg1)
      ∧ r.2.mem ((c.tc : Thread Cert.Pw1BwdIdeal.nD Cert.Pw1BwdIdeal.τ).loc Cert.Pw1BwdIdeal.main_arg2) = m ((c.tc : Thread Cert.Pw1BwdIdeal.nD Cert.Pw1BwdIdeal.τ).loc Cert.Pw1BwdIdeal.main_arg2)
      ∧ r.2.mem ((c.tc : Thread Cert.Pw1BwdIdeal.nD Cert.Pw1BwdIdeal.τ).loc Cert.Pw1BwdIdeal.main_arg3) = m ((c.tc : Thread Cert.Pw1BwdIdeal.nD Cert.Pw1BwdIdeal.τ).loc Cert.Pw1BwdIdeal.main_arg3)
      ∧ r.2.mem ((c.tc : Thread Cert.Pw1BwdIdeal.nD Cert.Pw1BwdIdeal.τ).loc Cert.Pw1BwdIdeal.main_arg4) = m ((c.tc : Thread Cert.Pw1BwdIdeal.nD Cert.Pw1BwdIdeal.τ).loc Cert.Pw1BwdIdeal.main_arg4))
      ∧ r.2.sem = fun _ => 0)

def quiescent_Pw1BwdIdeal_pre_finite_pw1 [hPw1BwdIdeal : Cert.Pw1BwdIdeal.Facts] [hPre_finite_pw1 : Cert.Pre_finite_pw1.Facts] : Prop :=
  ∀ (m : (ℓ : Loc Cert.Pw1BwdIdeal.nD Cert.Pw1BwdIdeal.τ Cert.Pw1BwdIdeal.sig) → Buf (Elt Ideal) ℓ) (g : Dev Cert.Pw1BwdIdeal.nD → PrngReg), Pre_Pw1BwdIdeal_finite_pw1 m →
    θ_run (Cert.Pw1BwdIdeal.defs (F := Ideal)) (onTc (τ := Cert.Pw1BwdIdeal.τ) (Cert.Pw1BwdIdeal.main (F := Ideal))) ⟨m, fun _ => 0, g⟩ (fun r => (∀ c : Dev Cert.Pw1BwdIdeal.nD,
      r.2.mem ((c.tc : Thread Cert.Pw1BwdIdeal.nD Cert.Pw1BwdIdeal.τ).loc Cert.Pw1BwdIdeal.main_arg0) = m ((c.tc : Thread Cert.Pw1BwdIdeal.nD Cert.Pw1BwdIdeal.τ).loc Cert.Pw1BwdIdeal.main_arg0)
      ∧ r.2.mem ((c.tc : Thread Cert.Pw1BwdIdeal.nD Cert.Pw1BwdIdeal.τ).loc Cert.Pw1BwdIdeal.main_arg1) = m ((c.tc : Thread Cert.Pw1BwdIdeal.nD Cert.Pw1BwdIdeal.τ).loc Cert.Pw1BwdIdeal.main_arg1)
      ∧ r.2.mem ((c.tc : Thread Cert.Pw1BwdIdeal.nD Cert.Pw1BwdIdeal.τ).loc Cert.Pw1BwdIdeal.main_arg2) = m ((c.tc : Thread Cert.Pw1BwdIdeal.nD Cert.Pw1BwdIdeal.τ).loc Cert.Pw1BwdIdeal.main_arg2)
      ∧ r.2.mem ((c.tc : Thread Cert.Pw1BwdIdeal.nD Cert.Pw1BwdIdeal.τ).loc Cert.Pw1BwdIdeal.main_arg3) = m ((c.tc : Thread Cert.Pw1BwdIdeal.nD Cert.Pw1BwdIdeal.τ).loc Cert.Pw1BwdIdeal.main_arg3)
      ∧ r.2.mem ((c.tc : Thread Cert.Pw1BwdIdeal.nD Cert.Pw1BwdIdeal.τ).loc Cert.Pw1BwdIdeal.main_arg4) = m ((c.tc : Thread Cert.Pw1BwdIdeal.nD Cert.Pw1BwdIdeal.τ).loc Cert.Pw1BwdIdeal.main_arg4))
      ∧ r.2.sem = fun _ => 0)

def quiescent_Pw1BwdRefIdeal [hPw1BwdRefIdeal : Cert.Pw1BwdRefIdeal.Facts] : Prop :=
  ∀ (m : (ℓ : Loc Cert.Pw1BwdRefIdeal.nD Cert.Pw1BwdRefIdeal.τ Cert.Pw1BwdRefIdeal.sig) → Buf (Elt Ideal) ℓ) (g : Dev Cert.Pw1BwdRefIdeal.nD → PrngReg), Pre_Pw1BwdRefIdeal m →
    θ_run (Cert.Pw1BwdRefIdeal.defs (F := Ideal)) (onTc (τ := Cert.Pw1BwdRefIdeal.τ) (Cert.Pw1BwdRefIdeal.main (F := Ideal))) ⟨m, fun _ => 0, g⟩ (fun r => (∀ c : Dev Cert.Pw1BwdRefIdeal.nD,
      r.2.mem ((c.tc : Thread Cert.Pw1BwdRefIdeal.nD Cert.Pw1BwdRefIdeal.τ).loc Cert.Pw1BwdRefIdeal.main_arg0) = m ((c.tc : Thread Cert.Pw1BwdRefIdeal.nD Cert.Pw1BwdRefIdeal.τ).loc Cert.Pw1BwdRefIdeal.main_arg0)
      ∧ r.2.mem ((c.tc : Thread Cert.Pw1BwdRefIdeal.nD Cert.Pw1BwdRefIdeal.τ).loc Cert.Pw1BwdRefIdeal.main_arg1) = m ((c.tc : Thread Cert.Pw1BwdRefIdeal.nD Cert.Pw1BwdRefIdeal.τ).loc Cert.Pw1BwdRefIdeal.main_arg1)
      ∧ r.2.mem ((c.tc : Thread Cert.Pw1BwdRefIdeal.nD Cert.Pw1BwdRefIdeal.τ).loc Cert.Pw1BwdRefIdeal.main_arg2) = m ((c.tc : Thread Cert.Pw1BwdRefIdeal.nD Cert.Pw1BwdRefIdeal.τ).loc Cert.Pw1BwdRefIdeal.main_arg2)
      ∧ r.2.mem ((c.tc : Thread Cert.Pw1BwdRefIdeal.nD Cert.Pw1BwdRefIdeal.τ).loc Cert.Pw1BwdRefIdeal.main_arg3) = m ((c.tc : Thread Cert.Pw1BwdRefIdeal.nD Cert.Pw1BwdRefIdeal.τ).loc Cert.Pw1BwdRefIdeal.main_arg3)
      ∧ r.2.mem ((c.tc : Thread Cert.Pw1BwdRefIdeal.nD Cert.Pw1BwdRefIdeal.τ).loc Cert.Pw1BwdRefIdeal.main_arg4) = m ((c.tc : Thread Cert.Pw1BwdRefIdeal.nD Cert.Pw1BwdRefIdeal.τ).loc Cert.Pw1BwdRefIdeal.main_arg4))
      ∧ r.2.sem = fun _ => 0)

def quiescent_Pw1BwdRefIdeal_pre_finite_pw1 [hPw1BwdRefIdeal : Cert.Pw1BwdRefIdeal.Facts] [hPre_finite_pw1 : Cert.Pre_finite_pw1.Facts] : Prop :=
  ∀ (m : (ℓ : Loc Cert.Pw1BwdRefIdeal.nD Cert.Pw1BwdRefIdeal.τ Cert.Pw1BwdRefIdeal.sig) → Buf (Elt Ideal) ℓ) (g : Dev Cert.Pw1BwdRefIdeal.nD → PrngReg), Pre_Pw1BwdRefIdeal_finite_pw1 m →
    θ_run (Cert.Pw1BwdRefIdeal.defs (F := Ideal)) (onTc (τ := Cert.Pw1BwdRefIdeal.τ) (Cert.Pw1BwdRefIdeal.main (F := Ideal))) ⟨m, fun _ => 0, g⟩ (fun r => (∀ c : Dev Cert.Pw1BwdRefIdeal.nD,
      r.2.mem ((c.tc : Thread Cert.Pw1BwdRefIdeal.nD Cert.Pw1BwdRefIdeal.τ).loc Cert.Pw1BwdRefIdeal.main_arg0) = m ((c.tc : Thread Cert.Pw1BwdRefIdeal.nD Cert.Pw1BwdRefIdeal.τ).loc Cert.Pw1BwdRefIdeal.main_arg0)
      ∧ r.2.mem ((c.tc : Thread Cert.Pw1BwdRefIdeal.nD Cert.Pw1BwdRefIdeal.τ).loc Cert.Pw1BwdRefIdeal.main_arg1) = m ((c.tc : Thread Cert.Pw1BwdRefIdeal.nD Cert.Pw1BwdRefIdeal.τ).loc Cert.Pw1BwdRefIdeal.main_arg1)
      ∧ r.2.mem ((c.tc : Thread Cert.Pw1BwdRefIdeal.nD Cert.Pw1BwdRefIdeal.τ).loc Cert.Pw1BwdRefIdeal.main_arg2) = m ((c.tc : Thread Cert.Pw1BwdRefIdeal.nD Cert.Pw1BwdRefIdeal.τ).loc Cert.Pw1BwdRefIdeal.main_arg2)
      ∧ r.2.mem ((c.tc : Thread Cert.Pw1BwdRefIdeal.nD Cert.Pw1BwdRefIdeal.τ).loc Cert.Pw1BwdRefIdeal.main_arg3) = m ((c.tc : Thread Cert.Pw1BwdRefIdeal.nD Cert.Pw1BwdRefIdeal.τ).loc Cert.Pw1BwdRefIdeal.main_arg3)
      ∧ r.2.mem ((c.tc : Thread Cert.Pw1BwdRefIdeal.nD Cert.Pw1BwdRefIdeal.τ).loc Cert.Pw1BwdRefIdeal.main_arg4) = m ((c.tc : Thread Cert.Pw1BwdRefIdeal.nD Cert.Pw1BwdRefIdeal.τ).loc Cert.Pw1BwdRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0)
      ∧ r.2.mem ((c.tc : Thread Cert.BiasGrad.nD Cert.BiasGrad.τ).loc Cert.BiasGrad.main_arg1) = m ((c.tc : Thread Cert.BiasGrad.nD Cert.BiasGrad.τ).loc Cert.BiasGrad.main_arg1))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0)
      ∧ r.2.mem ((c.tc : Thread Cert.BiasGradRefIdeal.nD Cert.BiasGradRefIdeal.τ).loc Cert.BiasGradRefIdeal.main_arg1) = m ((c.tc : Thread Cert.BiasGradRefIdeal.nD Cert.BiasGradRefIdeal.τ).loc Cert.BiasGradRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_Pw2Fwd [hPw2Fwd : Cert.Pw2Fwd.Facts] : Prop :=
  ∀ (m : (ℓ : Loc Cert.Pw2Fwd.nD Cert.Pw2Fwd.τ Cert.Pw2Fwd.sig) → Buf (Elt Bits) ℓ) (g : Dev Cert.Pw2Fwd.nD → PrngReg), Pre_Pw2Fwd m →
    θ_run (Cert.Pw2Fwd.defs (F := Bits)) (onTc (τ := Cert.Pw2Fwd.τ) (Cert.Pw2Fwd.main (F := Bits))) ⟨m, fun _ => 0, g⟩ (fun r => (∀ c : Dev Cert.Pw2Fwd.nD,
      r.2.mem ((c.tc : Thread Cert.Pw2Fwd.nD Cert.Pw2Fwd.τ).loc Cert.Pw2Fwd.main_arg0) = m ((c.tc : Thread Cert.Pw2Fwd.nD Cert.Pw2Fwd.τ).loc Cert.Pw2Fwd.main_arg0)
      ∧ r.2.mem ((c.tc : Thread Cert.Pw2Fwd.nD Cert.Pw2Fwd.τ).loc Cert.Pw2Fwd.main_arg1) = m ((c.tc : Thread Cert.Pw2Fwd.nD Cert.Pw2Fwd.τ).loc Cert.Pw2Fwd.main_arg1)
      ∧ r.2.mem ((c.tc : Thread Cert.Pw2Fwd.nD Cert.Pw2Fwd.τ).loc Cert.Pw2Fwd.main_arg2) = m ((c.tc : Thread Cert.Pw2Fwd.nD Cert.Pw2Fwd.τ).loc Cert.Pw2Fwd.main_arg2)
      ∧ r.2.mem ((c.tc : Thread Cert.Pw2Fwd.nD Cert.Pw2Fwd.τ).loc Cert.Pw2Fwd.main_arg3) = m ((c.tc : Thread Cert.Pw2Fwd.nD Cert.Pw2Fwd.τ).loc Cert.Pw2Fwd.main_arg3)
      ∧ r.2.mem ((c.tc : Thread Cert.Pw2Fwd.nD Cert.Pw2Fwd.τ).loc Cert.Pw2Fwd.main_arg4) = m ((c.tc : Thread Cert.Pw2Fwd.nD Cert.Pw2Fwd.τ).loc Cert.Pw2Fwd.main_arg4))
      ∧ r.2.sem = fun _ => 0)

def quiescent_Pw2FwdIdeal [hPw2FwdIdeal : Cert.Pw2FwdIdeal.Facts] : Prop :=
  ∀ (m : (ℓ : Loc Cert.Pw2FwdIdeal.nD Cert.Pw2FwdIdeal.τ Cert.Pw2FwdIdeal.sig) → Buf (Elt Ideal) ℓ) (g : Dev Cert.Pw2FwdIdeal.nD → PrngReg), Pre_Pw2FwdIdeal m →
    θ_run (Cert.Pw2FwdIdeal.defs (F := Ideal)) (onTc (τ := Cert.Pw2FwdIdeal.τ) (Cert.Pw2FwdIdeal.main (F := Ideal))) ⟨m, fun _ => 0, g⟩ (fun r => (∀ c : Dev Cert.Pw2FwdIdeal.nD,
      r.2.mem ((c.tc : Thread Cert.Pw2FwdIdeal.nD Cert.Pw2FwdIdeal.τ).loc Cert.Pw2FwdIdeal.main_arg0) = m ((c.tc : Thread Cert.Pw2FwdIdeal.nD Cert.Pw2FwdIdeal.τ).loc Cert.Pw2FwdIdeal.main_arg0)
      ∧ r.2.mem ((c.tc : Thread Cert.Pw2FwdIdeal.nD Cert.Pw2FwdIdeal.τ).loc Cert.Pw2FwdIdeal.main_arg1) = m ((c.tc : Thread Cert.Pw2FwdIdeal.nD Cert.Pw2FwdIdeal.τ).loc Cert.Pw2FwdIdeal.main_arg1)
      ∧ r.2.mem ((c.tc : Thread Cert.Pw2FwdIdeal.nD Cert.Pw2FwdIdeal.τ).loc Cert.Pw2FwdIdeal.main_arg2) = m ((c.tc : Thread Cert.Pw2FwdIdeal.nD Cert.Pw2FwdIdeal.τ).loc Cert.Pw2FwdIdeal.main_arg2)
      ∧ r.2.mem ((c.tc : Thread Cert.Pw2FwdIdeal.nD Cert.Pw2FwdIdeal.τ).loc Cert.Pw2FwdIdeal.main_arg3) = m ((c.tc : Thread Cert.Pw2FwdIdeal.nD Cert.Pw2FwdIdeal.τ).loc Cert.Pw2FwdIdeal.main_arg3)
      ∧ r.2.mem ((c.tc : Thread Cert.Pw2FwdIdeal.nD Cert.Pw2FwdIdeal.τ).loc Cert.Pw2FwdIdeal.main_arg4) = m ((c.tc : Thread Cert.Pw2FwdIdeal.nD Cert.Pw2FwdIdeal.τ).loc Cert.Pw2FwdIdeal.main_arg4))
      ∧ r.2.sem = fun _ => 0)

def quiescent_Pw2FwdRefIdeal [hPw2FwdRefIdeal : Cert.Pw2FwdRefIdeal.Facts] : Prop :=
  ∀ (m : (ℓ : Loc Cert.Pw2FwdRefIdeal.nD Cert.Pw2FwdRefIdeal.τ Cert.Pw2FwdRefIdeal.sig) → Buf (Elt Ideal) ℓ) (g : Dev Cert.Pw2FwdRefIdeal.nD → PrngReg), Pre_Pw2FwdRefIdeal m →
    θ_run (Cert.Pw2FwdRefIdeal.defs (F := Ideal)) (onTc (τ := Cert.Pw2FwdRefIdeal.τ) (Cert.Pw2FwdRefIdeal.main (F := Ideal))) ⟨m, fun _ => 0, g⟩ (fun r => (∀ c : Dev Cert.Pw2FwdRefIdeal.nD,
      r.2.mem ((c.tc : Thread Cert.Pw2FwdRefIdeal.nD Cert.Pw2FwdRefIdeal.τ).loc Cert.Pw2FwdRefIdeal.main_arg0) = m ((c.tc : Thread Cert.Pw2FwdRefIdeal.nD Cert.Pw2FwdRefIdeal.τ).loc Cert.Pw2FwdRefIdeal.main_arg0)
      ∧ r.2.mem ((c.tc : Thread Cert.Pw2FwdRefIdeal.nD Cert.Pw2FwdRefIdeal.τ).loc Cert.Pw2FwdRefIdeal.main_arg1) = m ((c.tc : Thread Cert.Pw2FwdRefIdeal.nD Cert.Pw2FwdRefIdeal.τ).loc Cert.Pw2FwdRefIdeal.main_arg1)
      ∧ r.2.mem ((c.tc : Thread Cert.Pw2FwdRefIdeal.nD Cert.Pw2FwdRefIdeal.τ).loc Cert.Pw2FwdRefIdeal.main_arg2) = m ((c.tc : Thread Cert.Pw2FwdRefIdeal.nD Cert.Pw2FwdRefIdeal.τ).loc Cert.Pw2FwdRefIdeal.main_arg2)
      ∧ r.2.mem ((c.tc : Thread Cert.Pw2FwdRefIdeal.nD Cert.Pw2FwdRefIdeal.τ).loc Cert.Pw2FwdRefIdeal.main_arg3) = m ((c.tc : Thread Cert.Pw2FwdRefIdeal.nD Cert.Pw2FwdRefIdeal.τ).loc Cert.Pw2FwdRefIdeal.main_arg3)
      ∧ r.2.mem ((c.tc : Thread Cert.Pw2FwdRefIdeal.nD Cert.Pw2FwdRefIdeal.τ).loc Cert.Pw2FwdRefIdeal.main_arg4) = m ((c.tc : Thread Cert.Pw2FwdRefIdeal.nD Cert.Pw2FwdRefIdeal.τ).loc Cert.Pw2FwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_Pw1Fwd [hPw1Fwd : Cert.Pw1Fwd.Facts] : Prop :=
  ∀ (m : (ℓ : Loc Cert.Pw1Fwd.nD Cert.Pw1Fwd.τ Cert.Pw1Fwd.sig) → Buf (Elt Bits) ℓ) (g : Dev Cert.Pw1Fwd.nD → PrngReg), Pre_Pw1Fwd m →
    θ_run (Cert.Pw1Fwd.defs (F := Bits)) (onTc (τ := Cert.Pw1Fwd.τ) (Cert.Pw1Fwd.main (F := Bits))) ⟨m, fun _ => 0, g⟩ (fun r => (∀ c : Dev Cert.Pw1Fwd.nD,
      r.2.mem ((c.tc : Thread Cert.Pw1Fwd.nD Cert.Pw1Fwd.τ).loc Cert.Pw1Fwd.main_arg0) = m ((c.tc : Thread Cert.Pw1Fwd.nD Cert.Pw1Fwd.τ).loc Cert.Pw1Fwd.main_arg0)
      ∧ r.2.mem ((c.tc : Thread Cert.Pw1Fwd.nD Cert.Pw1Fwd.τ).loc Cert.Pw1Fwd.main_arg1) = m ((c.tc : Thread Cert.Pw1Fwd.nD Cert.Pw1Fwd.τ).loc Cert.Pw1Fwd.main_arg1)
      ∧ r.2.mem ((c.tc : Thread Cert.Pw1Fwd.nD Cert.Pw1Fwd.τ).loc Cert.Pw1Fwd.main_arg2) = m ((c.tc : Thread Cert.Pw1Fwd.nD Cert.Pw1Fwd.τ).loc Cert.Pw1Fwd.main_arg2))
      ∧ r.2.sem = fun _ => 0)

def quiescent_Pw1FwdIdeal [hPw1FwdIdeal : Cert.Pw1FwdIdeal.Facts] : Prop :=
  ∀ (m : (ℓ : Loc Cert.Pw1FwdIdeal.nD Cert.Pw1FwdIdeal.τ Cert.Pw1FwdIdeal.sig) → Buf (Elt Ideal) ℓ) (g : Dev Cert.Pw1FwdIdeal.nD → PrngReg), Pre_Pw1FwdIdeal m →
    θ_run (Cert.Pw1FwdIdeal.defs (F := Ideal)) (onTc (τ := Cert.Pw1FwdIdeal.τ) (Cert.Pw1FwdIdeal.main (F := Ideal))) ⟨m, fun _ => 0, g⟩ (fun r => (∀ c : Dev Cert.Pw1FwdIdeal.nD,
      r.2.mem ((c.tc : Thread Cert.Pw1FwdIdeal.nD Cert.Pw1FwdIdeal.τ).loc Cert.Pw1FwdIdeal.main_arg0) = m ((c.tc : Thread Cert.Pw1FwdIdeal.nD Cert.Pw1FwdIdeal.τ).loc Cert.Pw1FwdIdeal.main_arg0)
      ∧ r.2.mem ((c.tc : Thread Cert.Pw1FwdIdeal.nD Cert.Pw1FwdIdeal.τ).loc Cert.Pw1FwdIdeal.main_arg1) = m ((c.tc : Thread Cert.Pw1FwdIdeal.nD Cert.Pw1FwdIdeal.τ).loc Cert.Pw1FwdIdeal.main_arg1)
      ∧ r.2.mem ((c.tc : Thread Cert.Pw1FwdIdeal.nD Cert.Pw1FwdIdeal.τ).loc Cert.Pw1FwdIdeal.main_arg2) = m ((c.tc : Thread Cert.Pw1FwdIdeal.nD Cert.Pw1FwdIdeal.τ).loc Cert.Pw1FwdIdeal.main_arg2))
      ∧ r.2.sem = fun _ => 0)

def quiescent_Pw1FwdRefIdeal [hPw1FwdRefIdeal : Cert.Pw1FwdRefIdeal.Facts] : Prop :=
  ∀ (m : (ℓ : Loc Cert.Pw1FwdRefIdeal.nD Cert.Pw1FwdRefIdeal.τ Cert.Pw1FwdRefIdeal.sig) → Buf (Elt Ideal) ℓ) (g : Dev Cert.Pw1FwdRefIdeal.nD → PrngReg), Pre_Pw1FwdRefIdeal m →
    θ_run (Cert.Pw1FwdRefIdeal.defs (F := Ideal)) (onTc (τ := Cert.Pw1FwdRefIdeal.τ) (Cert.Pw1FwdRefIdeal.main (F := Ideal))) ⟨m, fun _ => 0, g⟩ (fun r => (∀ c : Dev Cert.Pw1FwdRefIdeal.nD,
      r.2.mem ((c.tc : Thread Cert.Pw1FwdRefIdeal.nD Cert.Pw1FwdRefIdeal.τ).loc Cert.Pw1FwdRefIdeal.main_arg0) = m ((c.tc : Thread Cert.Pw1FwdRefIdeal.nD Cert.Pw1FwdRefIdeal.τ).loc Cert.Pw1FwdRefIdeal.main_arg0)
      ∧ r.2.mem ((c.tc : Thread Cert.Pw1FwdRefIdeal.nD Cert.Pw1FwdRefIdeal.τ).loc Cert.Pw1FwdRefIdeal.main_arg1) = m ((c.tc : Thread Cert.Pw1FwdRefIdeal.nD Cert.Pw1FwdRefIdeal.τ).loc Cert.Pw1FwdRefIdeal.main_arg1)
      ∧ r.2.mem ((c.tc : Thread Cert.Pw1FwdRefIdeal.nD Cert.Pw1FwdRefIdeal.τ).loc Cert.Pw1FwdRefIdeal.main_arg2) = m ((c.tc : Thread Cert.Pw1FwdRefIdeal.nD Cert.Pw1FwdRefIdeal.τ).loc Cert.Pw1FwdRefIdeal.main_arg2))
      ∧ r.2.sem = fun _ => 0)

def quiescent_BiasTab [hBiasTab : Cert.BiasTab.Facts] : Prop :=
  ∀ (m : (ℓ : Loc Cert.BiasTab.nD Cert.BiasTab.τ Cert.BiasTab.sig) → Buf (Elt Bits) ℓ) (g : Dev Cert.BiasTab.nD → PrngReg), Pre_BiasTab m →
    θ_run (Cert.BiasTab.defs (F := Bits)) (onTc (τ := Cert.BiasTab.τ) (Cert.BiasTab.main (F := Bits))) ⟨m, fun _ => 0, g⟩ (fun r => (∀ c : Dev Cert.BiasTab.nD,
      r.2.mem ((c.tc : Thread Cert.BiasTab.nD Cert.BiasTab.τ).loc Cert.BiasTab.main_arg0) = m ((c.tc : Thread Cert.BiasTab.nD Cert.BiasTab.τ).loc Cert.BiasTab.main_arg0))
      ∧ r.2.sem = fun _ => 0)

def quiescent_BiasTabIdeal [hBiasTabIdeal : Cert.BiasTabIdeal.Facts] : Prop :=
  ∀ (m : (ℓ : Loc Cert.BiasTabIdeal.nD Cert.BiasTabIdeal.τ Cert.BiasTabIdeal.sig) → Buf (Elt Ideal) ℓ) (g : Dev Cert.BiasTabIdeal.nD → PrngReg), Pre_BiasTabIdeal m →
    θ_run (Cert.BiasTabIdeal.defs (F := Ideal)) (onTc (τ := Cert.BiasTabIdeal.τ) (Cert.BiasTabIdeal.main (F := Ideal))) ⟨m, fun _ => 0, g⟩ (fun r => (∀ c : Dev Cert.BiasTabIdeal.nD,
      r.2.mem ((c.tc : Thread Cert.BiasTabIdeal.nD Cert.BiasTabIdeal.τ).loc Cert.BiasTabIdeal.main_arg0) = m ((c.tc : Thread Cert.BiasTabIdeal.nD Cert.BiasTabIdeal.τ).loc Cert.BiasTabIdeal.main_arg0))
      ∧ r.2.sem = fun _ => 0)

def quiescent_BiasTabRefIdeal [hBiasTabRefIdeal : Cert.BiasTabRefIdeal.Facts] : Prop :=
  ∀ (m : (ℓ : Loc Cert.BiasTabRefIdeal.nD Cert.BiasTabRefIdeal.τ Cert.BiasTabRefIdeal.sig) → Buf (Elt Ideal) ℓ) (g : Dev Cert.BiasTabRefIdeal.nD → PrngReg), Pre_BiasTabRefIdeal m →
    θ_run (Cert.BiasTabRefIdeal.defs (F := Ideal)) (onTc (τ := Cert.BiasTabRefIdeal.τ) (Cert.BiasTabRefIdeal.main (F := Ideal))) ⟨m, fun _ => 0, g⟩ (fun r => (∀ c : Dev Cert.BiasTabRefIdeal.nD,
      r.2.mem ((c.tc : Thread Cert.BiasTabRefIdeal.nD Cert.BiasTabRefIdeal.τ).loc Cert.BiasTabRefIdeal.main_arg0) = m ((c.tc : Thread Cert.BiasTabRefIdeal.nD Cert.BiasTabRefIdeal.τ).loc Cert.BiasTabRefIdeal.main_arg0))
      ∧ r.2.sem = fun _ => 0)

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AttnBwd_AttnBwdIdeal : Prop :=
  IdealRules.named_const.Statement Cert.AttnBwdIdeal.κ "mask" .f32 0xF149F2CA#32 ⊥

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)
      ∧ m' ((c.tc : Thread Cert.AttnBwdRefIdeal.nD Cert.AttnBwdRefIdeal.τ).loc Cert.AttnBwdRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v46_0)) (v1 : (c : Dev Cert.AttnBwdIdeal.nD) → Buf (Elt Ideal) ((c.tc : Thread Cert.AttnBwdIdeal.nD Cert.AttnBwdIdeal.τ).loc Cert.AttnBwdIdeal.main_v46_1)) (v2 : (c : Dev Cert.AttnBwdIdeal.nD) → Buf (Elt Ideal) ((c.tc : Thread Cert.AttnBwdIdeal.nD Cert.AttnBwdIdeal.τ).loc Cert.AttnBwdIdeal.main_v46_2)) (v3 : (c : Dev Cert.AttnBwdIdeal.nD) → Buf (Elt Ideal) ((c.tc : Thread Cert.AttnBwdIdeal.nD Cert.AttnBwdIdeal.τ).loc Cert.AttnBwdIdeal.main_v46_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v46_0) = v0 c
          ∧ r.2.mem ((c.tc : Thread Cert.AttnBwdIdeal.nD Cert.AttnBwdIdeal.τ).loc Cert.AttnBwdIdeal.main_v46_1) = v1 c
          ∧ r.2.mem ((c.tc : Thread Cert.AttnBwdIdeal.nD Cert.AttnBwdIdeal.τ).loc Cert.AttnBwdIdeal.main_v46_2) = v2 c
          ∧ r.2.mem ((c.tc : Thread Cert.AttnBwdIdeal.nD Cert.AttnBwdIdeal.τ).loc Cert.AttnBwdIdeal.main_v46_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v186) = v0 c
          ∧ r.2.mem ((c.tc : Thread Cert.AttnBwdRefIdeal.nD Cert.AttnBwdRefIdeal.τ).loc Cert.AttnBwdRefIdeal.main_v187) = v1 c
          ∧ r.2.mem ((c.tc : Thread Cert.AttnBwdRefIdeal.nD Cert.AttnBwdRefIdeal.τ).loc Cert.AttnBwdRefIdeal.main_v181) = v2 c
          ∧ r.2.mem ((c.tc : Thread Cert.AttnBwdRefIdeal.nD Cert.AttnBwdRefIdeal.τ).loc Cert.AttnBwdRefIdeal.main_v190) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4)
          ∧ r.2.mem ((c.tc : Thread Cert.AttnBwdRefIdeal.nD Cert.AttnBwdRefIdeal.τ).loc Cert.AttnBwdRefIdeal.main_arg5) = m' ((c.tc : Thread Cert.AttnBwdRefIdeal.nD Cert.AttnBwdRefIdeal.τ).loc Cert.AttnBwdRefIdeal.main_arg5))

def preserves_QBwd_QBwdIdeal : Prop :=
  True

def algebraic_QBwdIdeal_QBwdRefIdeal_pre_finite_q [hQBwdIdeal : Cert.QBwdIdeal.Facts] [hQBwdRefIdeal : Cert.QBwdRefIdeal.Facts] [hPre_finite_q : Cert.Pre_finite_q.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal_finite_q m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)
      ∧ m' ((c.tc : Thread Cert.QBwdRefIdeal.nD Cert.QBwdRefIdeal.τ).loc Cert.QBwdRefIdeal.main_arg3) = m ((c.tc : Thread Cert.QBwdIdeal.nD Cert.QBwdIdeal.τ).loc Cert.QBwdIdeal.main_arg3)
      ∧ m' ((c.tc : Thread Cert.QBwdRefIdeal.nD Cert.QBwdRefIdeal.τ).loc Cert.QBwdRefIdeal.main_arg4) = m ((c.tc : Thread Cert.QBwdIdeal.nD Cert.QBwdIdeal.τ).loc Cert.QBwdIdeal.main_arg4)) →
    ∃ (v0 : (c : Dev Cert.QBwdIdeal.nD) → Buf (Elt Ideal) ((c.tc : Thread Cert.QBwdIdeal.nD Cert.QBwdIdeal.τ).loc Cert.QBwdIdeal.main_v3_0)) (v1 : (c : Dev Cert.QBwdIdeal.nD) → Buf (Elt Ideal) ((c.tc : Thread Cert.QBwdIdeal.nD Cert.QBwdIdeal.τ).loc Cert.QBwdIdeal.main_v3_1)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v3_0) = v0 c
          ∧ r.2.mem ((c.tc : Thread Cert.QBwdIdeal.nD Cert.QBwdIdeal.τ).loc Cert.QBwdIdeal.main_v3_1) = v1 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
          ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
          ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v39) = v0 c
          ∧ r.2.mem ((c.tc : Thread Cert.QBwdRefIdeal.nD Cert.QBwdRefIdeal.τ).loc Cert.QBwdRefIdeal.main_v40) = v1 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2)
          ∧ r.2.mem ((c.tc : Thread Cert.QBwdRefIdeal.nD Cert.QBwdRefIdeal.τ).loc Cert.QBwdRefIdeal.main_arg3) = m' ((c.tc : Thread Cert.QBwdRefIdeal.nD Cert.QBwdRefIdeal.τ).loc Cert.QBwdRefIdeal.main_arg3)
          ∧ r.2.mem ((c.tc : Thread Cert.QBwdRefIdeal.nD Cert.QBwdRefIdeal.τ).loc Cert.QBwdRefIdeal.main_arg4) = m' ((c.tc : Thread Cert.QBwdRefIdeal.nD Cert.QBwdRefIdeal.τ).loc Cert.QBwdRefIdeal.main_arg4))

def preserves_DkvCombine_DkvCombineIdeal : Prop :=
  True

def algebraic_DkvCombineIdeal_DkvCombineRefIdeal [hDkvCombineIdeal : Cert.DkvCombineIdeal.Facts] [hDkvCombineRefIdeal : Cert.DkvCombineRefIdeal.Facts] : Prop :=
  ∀ (m : (ℓ : Loc Cert.DkvCombineIdeal.nD Cert.DkvCombineIdeal.τ Cert.DkvCombineIdeal.sig) → Buf (Elt Ideal) ℓ) (g : Dev Cert.DkvCombineIdeal.nD → PrngReg)
    (m' : (ℓ : Loc Cert.DkvCombineRefIdeal.nD Cert.DkvCombineRefIdeal.τ Cert.DkvCombineRefIdeal.sig) → Buf (Elt Ideal) ℓ) (g' : Dev Cert.DkvCombineRefIdeal.nD → PrngReg), Pre_DkvCombineIdeal m →
    (∀ c : Dev Cert.DkvCombineIdeal.nD,
      m' ((c.tc : Thread Cert.DkvCombineRefIdeal.nD Cert.DkvCombineRefIdeal.τ).loc Cert.DkvCombineRefIdeal.main_arg0) = m ((c.tc : Thread Cert.DkvCombineIdeal.nD Cert.DkvCombineIdeal.τ).loc Cert.DkvCombineIdeal.main_arg0)
      ∧ m' ((c.tc : Thread Cert.DkvCombineRefIdeal.nD Cert.DkvCombineRefIdeal.τ).loc Cert.DkvCombineRefIdeal.main_arg1) = m ((c.tc : Thread Cert.DkvCombineIdeal.nD Cert.DkvCombineIdeal.τ).loc Cert.DkvCombineIdeal.main_arg1)) →
    ∃ (v0 : (c : Dev Cert.DkvCombineIdeal.nD) → Buf (Elt Ideal) ((c.tc : Thread Cert.DkvCombineIdeal.nD Cert.DkvCombineIdeal.τ).loc Cert.DkvCombineIdeal.main_v2)),
      θ_run (Cert.DkvCombineIdeal.defs (F := Ideal)) (onTc (τ := Cert.DkvCombineIdeal.τ) (Cert.DkvCombineIdeal.main (F := Ideal))) ⟨m, fun _ => 0, g⟩ (fun r => ∀ c : Dev Cert.DkvCombineIdeal.nD,
          r.2.mem ((c.tc : Thread Cert.DkvCombineIdeal.nD Cert.DkvCombineIdeal.τ).loc Cert.DkvCombineIdeal.main_v2) = v0 c
          ∧ r.2.mem ((c.tc : Thread Cert.DkvCombineIdeal.nD Cert.DkvCombineIdeal.τ).loc Cert.DkvCombineIdeal.main_arg0) = m ((c.tc : Thread Cert.DkvCombineIdeal.nD Cert.DkvCombineIdeal.τ).loc Cert.DkvCombineIdeal.main_arg0)
          ∧ r.2.mem ((c.tc : Thread Cert.DkvCombineIdeal.nD Cert.DkvCombineIdeal.τ).loc Cert.DkvCombineIdeal.main_arg1) = m ((c.tc : Thread Cert.DkvCombineIdeal.nD Cert.DkvCombineIdeal.τ).loc Cert.DkvCombineIdeal.main_arg1))
      ∧ θ_run (Cert.DkvCombineRefIdeal.defs (F := Ideal)) (onTc (τ := Cert.DkvCombineRefIdeal.τ) (Cert.DkvCombineRefIdeal.main (F := Ideal))) ⟨m', fun _ => 0, g'⟩ (fun r => ∀ c : Dev Cert.DkvCombineRefIdeal.nD,
          r.2.mem ((c.tc : Thread Cert.DkvCombineRefIdeal.nD Cert.DkvCombineRefIdeal.τ).loc Cert.DkvCombineRefIdeal.main_v17) = v0 c
          ∧ r.2.mem ((c.tc : Thread Cert.DkvCombineRefIdeal.nD Cert.DkvCombineRefIdeal.τ).loc Cert.DkvCombineRefIdeal.main_arg0) = m' ((c.tc : Thread Cert.DkvCombineRefIdeal.nD Cert.DkvCombineRefIdeal.τ).loc Cert.DkvCombineRefIdeal.main_arg0)
          ∧ r.2.mem ((c.tc : Thread Cert.DkvCombineRefIdeal.nD Cert.DkvCombineRefIdeal.τ).loc Cert.DkvCombineRefIdeal.main_arg1) = m' ((c.tc : Thread Cert.DkvCombineRefIdeal.nD Cert.DkvCombineRefIdeal.τ).loc Cert.DkvCombineRefIdeal.main_arg1))

def preserves_Pw1Bwd_Pw1BwdIdeal : Prop :=
  True

def algebraic_Pw1BwdIdeal_Pw1BwdRefIdeal_pre_finite_pw1 [hPw1BwdIdeal : Cert.Pw1BwdIdeal.Facts] [hPw1BwdRefIdeal : Cert.Pw1BwdRefIdeal.Facts] [hPre_finite_pw1 : Cert.Pre_finite_pw1.Facts] : Prop :=
  ∀ (m : (ℓ : Loc Cert.Pw1BwdIdeal.nD Cert.Pw1BwdIdeal.τ Cert.Pw1BwdIdeal.sig) → Buf (Elt Ideal) ℓ) (g : Dev Cert.Pw1BwdIdeal.nD → PrngReg)
    (m' : (ℓ : Loc Cert.Pw1BwdRefIdeal.nD Cert.Pw1BwdRefIdeal.τ Cert.Pw1BwdRefIdeal.sig) → Buf (Elt Ideal) ℓ) (g' : Dev Cert.Pw1BwdRefIdeal.nD → PrngReg), Pre_Pw1BwdIdeal_finite_pw1 m →
    (∀ c : Dev Cert.Pw1BwdIdeal.nD,
      m' ((c.tc : Thread Cert.Pw1BwdRefIdeal.nD Cert.Pw1BwdRefIdeal.τ).loc Cert.Pw1BwdRefIdeal.main_arg0) = m ((c.tc : Thread Cert.Pw1BwdIdeal.nD Cert.Pw1BwdIdeal.τ).loc Cert.Pw1BwdIdeal.main_arg0)
      ∧ m' ((c.tc : Thread Cert.Pw1BwdRefIdeal.nD Cert.Pw1BwdRefIdeal.τ).loc Cert.Pw1BwdRefIdeal.main_arg1) = m ((c.tc : Thread Cert.Pw1BwdIdeal.nD Cert.Pw1BwdIdeal.τ).loc Cert.Pw1BwdIdeal.main_arg1)
      ∧ m' ((c.tc : Thread Cert.Pw1BwdRefIdeal.nD Cert.Pw1BwdRefIdeal.τ).loc Cert.Pw1BwdRefIdeal.main_arg2) = m ((c.tc : Thread Cert.Pw1BwdIdeal.nD Cert.Pw1BwdIdeal.τ).loc Cert.Pw1BwdIdeal.main_arg2)
      ∧ m' ((c.tc : Thread Cert.Pw1BwdRefIdeal.nD Cert.Pw1BwdRefIdeal.τ).loc Cert.Pw1BwdRefIdeal.main_arg3) = m ((c.tc : Thread Cert.Pw1BwdIdeal.nD Cert.Pw1BwdIdeal.τ).loc Cert.Pw1BwdIdeal.main_arg3)
      ∧ m' ((c.tc : Thread Cert.Pw1BwdRefIdeal.nD Cert.Pw1BwdRefIdeal.τ).loc Cert.Pw1BwdRefIdeal.main_arg4) = m ((c.tc : Thread Cert.Pw1BwdIdeal.nD Cert.Pw1BwdIdeal.τ).loc Cert.Pw1BwdIdeal.main_arg4)) →
    ∃ (v0 : (c : Dev Cert.Pw1BwdIdeal.nD) → Buf (Elt Ideal) ((c.tc : Thread Cert.Pw1BwdIdeal.nD Cert.Pw1BwdIdeal.τ).loc Cert.Pw1BwdIdeal.main_v5_0)) (v1 : (c : Dev Cert.Pw1BwdIdeal.nD) → Buf (Elt Ideal) ((c.tc : Thread Cert.Pw1BwdIdeal.nD Cert.Pw1BwdIdeal.τ).loc Cert.Pw1BwdIdeal.main_v5_1)),
      θ_run (Cert.Pw1BwdIdeal.defs (F := Ideal)) (onTc (τ := Cert.Pw1BwdIdeal.τ) (Cert.Pw1BwdIdeal.main (F := Ideal))) ⟨m, fun _ => 0, g⟩ (fun r => ∀ c : Dev Cert.Pw1BwdIdeal.nD,
          r.2.mem ((c.tc : Thread Cert.Pw1BwdIdeal.nD Cert.Pw1BwdIdeal.τ).loc Cert.Pw1BwdIdeal.main_v5_0) = v0 c
          ∧ r.2.mem ((c.tc : Thread Cert.Pw1BwdIdeal.nD Cert.Pw1BwdIdeal.τ).loc Cert.Pw1BwdIdeal.main_v5_1) = v1 c
          ∧ r.2.mem ((c.tc : Thread Cert.Pw1BwdIdeal.nD Cert.Pw1BwdIdeal.τ).loc Cert.Pw1BwdIdeal.main_arg0) = m ((c.tc : Thread Cert.Pw1BwdIdeal.nD Cert.Pw1BwdIdeal.τ).loc Cert.Pw1BwdIdeal.main_arg0)
          ∧ r.2.mem ((c.tc : Thread Cert.Pw1BwdIdeal.nD Cert.Pw1BwdIdeal.τ).loc Cert.Pw1BwdIdeal.main_arg1) = m ((c.tc : Thread Cert.Pw1BwdIdeal.nD Cert.Pw1BwdIdeal.τ).loc Cert.Pw1BwdIdeal.main_arg1)
          ∧ r.2.mem ((c.tc : Thread Cert.Pw1BwdIdeal.nD Cert.Pw1BwdIdeal.τ).loc Cert.Pw1BwdIdeal.main_arg2) = m ((c.tc : Thread Cert.Pw1BwdIdeal.nD Cert.Pw1BwdIdeal.τ).loc Cert.Pw1BwdIdeal.main_arg2)
          ∧ r.2.mem ((c.tc : Thread Cert.Pw1BwdIdeal.nD Cert.Pw1BwdIdeal.τ).loc Cert.Pw1BwdIdeal.main_arg3) = m ((c.tc : Thread Cert.Pw1BwdIdeal.nD Cert.Pw1BwdIdeal.τ).loc Cert.Pw1BwdIdeal.main_arg3)
          ∧ r.2.mem ((c.tc : Thread Cert.Pw1BwdIdeal.nD Cert.Pw1BwdIdeal.τ).loc Cert.Pw1BwdIdeal.main_arg4) = m ((c.tc : Thread Cert.Pw1BwdIdeal.nD Cert.Pw1BwdIdeal.τ).loc Cert.Pw1BwdIdeal.main_arg4))
      ∧ θ_run (Cert.Pw1BwdRefIdeal.defs (F := Ideal)) (onTc (τ := Cert.Pw1BwdRefIdeal.τ) (Cert.Pw1BwdRefIdeal.main (F := Ideal))) ⟨m', fun _ => 0, g'⟩ (fun r => ∀ c : Dev Cert.Pw1BwdRefIdeal.nD,
          r.2.mem ((c.tc : Thread Cert.Pw1BwdRefIdeal.nD Cert.Pw1BwdRefIdeal.τ).loc Cert.Pw1BwdRefIdeal.main_v39) = v0 c
          ∧ r.2.mem ((c.tc : Thread Cert.Pw1BwdRefIdeal.nD Cert.Pw1BwdRefIdeal.τ).loc Cert.Pw1BwdRefIdeal.main_v40) = v1 c
          ∧ r.2.mem ((c.tc : Thread Cert.Pw1BwdRefIdeal.nD Cert.Pw1BwdRefIdeal.τ).loc Cert.Pw1BwdRefIdeal.main_arg0) = m' ((c.tc : Thread Cert.Pw1BwdRefIdeal.nD Cert.Pw1BwdRefIdeal.τ).loc Cert.Pw1BwdRefIdeal.main_arg0)
          ∧ r.2.mem ((c.tc : Thread Cert.Pw1BwdRefIdeal.nD Cert.Pw1BwdRefIdeal.τ).loc Cert.Pw1BwdRefIdeal.main_arg1) = m' ((c.tc : Thread Cert.Pw1BwdRefIdeal.nD Cert.Pw1BwdRefIdeal.τ).loc Cert.Pw1BwdRefIdeal.main_arg1)
          ∧ r.2.mem ((c.tc : Thread Cert.Pw1BwdRefIdeal.nD Cert.Pw1BwdRefIdeal.τ).loc Cert.Pw1BwdRefIdeal.main_arg2) = m' ((c.tc : Thread Cert.Pw1BwdRefIdeal.nD Cert.Pw1BwdRefIdeal.τ).loc Cert.Pw1BwdRefIdeal.main_arg2)
          ∧ r.2.mem ((c.tc : Thread Cert.Pw1BwdRefIdeal.nD Cert.Pw1BwdRefIdeal.τ).loc Cert.Pw1BwdRefIdeal.main_arg3) = m' ((c.tc : Thread Cert.Pw1BwdRefIdeal.nD Cert.Pw1BwdRefIdeal.τ).loc Cert.Pw1BwdRefIdeal.main_arg3)
          ∧ r.2.mem ((c.tc : Thread Cert.Pw1BwdRefIdeal.nD Cert.Pw1BwdRefIdeal.τ).loc Cert.Pw1BwdRefIdeal.main_arg4) = m' ((c.tc : Thread Cert.Pw1BwdRefIdeal.nD Cert.Pw1BwdRefIdeal.τ).loc Cert.Pw1BwdRefIdeal.main_arg4))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v23_0)) (v1 : (c : Dev Cert.FfnBwdIdeal.nD) → Buf (Elt Ideal) ((c.tc : Thread Cert.FfnBwdIdeal.nD Cert.FfnBwdIdeal.τ).loc Cert.FfnBwdIdeal.main_v23_1)) (v2 : (c : Dev Cert.FfnBwdIdeal.nD) → Buf (Elt Ideal) ((c.tc : Thread Cert.FfnBwdIdeal.nD Cert.FfnBwdIdeal.τ).loc Cert.FfnBwdIdeal.main_v23_2)) (v3 : (c : Dev Cert.FfnBwdIdeal.nD) → Buf (Elt Ideal) ((c.tc : Thread Cert.FfnBwdIdeal.nD Cert.FfnBwdIdeal.τ).loc Cert.FfnBwdIdeal.main_v23_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v23_0) = v0 c
          ∧ r.2.mem ((c.tc : Thread Cert.FfnBwdIdeal.nD Cert.FfnBwdIdeal.τ).loc Cert.FfnBwdIdeal.main_v23_1) = v1 c
          ∧ r.2.mem ((c.tc : Thread Cert.FfnBwdIdeal.nD Cert.FfnBwdIdeal.τ).loc Cert.FfnBwdIdeal.main_v23_2) = v2 c
          ∧ r.2.mem ((c.tc : Thread Cert.FfnBwdIdeal.nD Cert.FfnBwdIdeal.τ).loc Cert.FfnBwdIdeal.main_v23_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v48) = v0 c
          ∧ r.2.mem ((c.tc : Thread Cert.FfnBwdRefIdeal.nD Cert.FfnBwdRefIdeal.τ).loc Cert.FfnBwdRefIdeal.main_v49) = v1 c
          ∧ r.2.mem ((c.tc : Thread Cert.FfnBwdRefIdeal.nD Cert.FfnBwdRefIdeal.τ).loc Cert.FfnBwdRefIdeal.main_v52) = v2 c
          ∧ r.2.mem ((c.tc : Thread Cert.FfnBwdRefIdeal.nD Cert.FfnBwdRefIdeal.τ).loc Cert.FfnBwdRefIdeal.main_v55) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_BiasGrad_BiasGradIdeal : Prop :=
  True

def algebraic_BiasGradIdeal_BiasGradRefIdeal [hBiasGradIdeal : Cert.BiasGradIdeal.Facts] [hBiasGradRefIdeal : Cert.BiasGradRefIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)
      ∧ m' ((c.tc : Thread Cert.BiasGradRefIdeal.nD Cert.BiasGradRefIdeal.τ).loc Cert.BiasGradRefIdeal.main_arg1) = m ((c.tc : Thread Cert.BiasGradIdeal.nD Cert.BiasGradIdeal.τ).loc Cert.BiasGradIdeal.main_arg1)) →
    ∃ (v0 : (c : Dev Cert.BiasGradIdeal.nD) → Buf (Elt Ideal) ((c.tc : Thread Cert.BiasGradIdeal.nD Cert.BiasGradIdeal.τ).loc Cert.BiasGradIdeal.main_v0)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v0) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v49) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0)
          ∧ r.2.mem ((c.tc : Thread Cert.BiasGradRefIdeal.nD Cert.BiasGradRefIdeal.τ).loc Cert.BiasGradRefIdeal.main_arg1) = m' ((c.tc : Thread Cert.BiasGradRefIdeal.nD Cert.BiasGradRefIdeal.τ).loc Cert.BiasGradRefIdeal.main_arg1))

def preserves_AttnFwd_AttnFwdIdeal : Prop :=
  IdealRules.named_const.Statement Cert.AttnFwdIdeal.κ "mask" .f32 0xF149F2CA#32 ⊥

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v46)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v46) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v104) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_Pw2Fwd_Pw2FwdIdeal : Prop :=
  True

def algebraic_Pw2FwdIdeal_Pw2FwdRefIdeal [hPw2FwdIdeal : Cert.Pw2FwdIdeal.Facts] [hPw2FwdRefIdeal : Cert.Pw2FwdRefIdeal.Facts] : Prop :=
  ∀ (m : (ℓ : Loc Cert.Pw2FwdIdeal.nD Cert.Pw2FwdIdeal.τ Cert.Pw2FwdIdeal.sig) → Buf (Elt Ideal) ℓ) (g : Dev Cert.Pw2FwdIdeal.nD → PrngReg)
    (m' : (ℓ : Loc Cert.Pw2FwdRefIdeal.nD Cert.Pw2FwdRefIdeal.τ Cert.Pw2FwdRefIdeal.sig) → Buf (Elt Ideal) ℓ) (g' : Dev Cert.Pw2FwdRefIdeal.nD → PrngReg), Pre_Pw2FwdIdeal m →
    (∀ c : Dev Cert.Pw2FwdIdeal.nD,
      m' ((c.tc : Thread Cert.Pw2FwdRefIdeal.nD Cert.Pw2FwdRefIdeal.τ).loc Cert.Pw2FwdRefIdeal.main_arg0) = m ((c.tc : Thread Cert.Pw2FwdIdeal.nD Cert.Pw2FwdIdeal.τ).loc Cert.Pw2FwdIdeal.main_arg0)
      ∧ m' ((c.tc : Thread Cert.Pw2FwdRefIdeal.nD Cert.Pw2FwdRefIdeal.τ).loc Cert.Pw2FwdRefIdeal.main_arg1) = m ((c.tc : Thread Cert.Pw2FwdIdeal.nD Cert.Pw2FwdIdeal.τ).loc Cert.Pw2FwdIdeal.main_arg1)
      ∧ m' ((c.tc : Thread Cert.Pw2FwdRefIdeal.nD Cert.Pw2FwdRefIdeal.τ).loc Cert.Pw2FwdRefIdeal.main_arg2) = m ((c.tc : Thread Cert.Pw2FwdIdeal.nD Cert.Pw2FwdIdeal.τ).loc Cert.Pw2FwdIdeal.main_arg2)
      ∧ m' ((c.tc : Thread Cert.Pw2FwdRefIdeal.nD Cert.Pw2FwdRefIdeal.τ).loc Cert.Pw2FwdRefIdeal.main_arg3) = m ((c.tc : Thread Cert.Pw2FwdIdeal.nD Cert.Pw2FwdIdeal.τ).loc Cert.Pw2FwdIdeal.main_arg3)
      ∧ m' ((c.tc : Thread Cert.Pw2FwdRefIdeal.nD Cert.Pw2FwdRefIdeal.τ).loc Cert.Pw2FwdRefIdeal.main_arg4) = m ((c.tc : Thread Cert.Pw2FwdIdeal.nD Cert.Pw2FwdIdeal.τ).loc Cert.Pw2FwdIdeal.main_arg4)) →
    ∃ (v0 : (c : Dev Cert.Pw2FwdIdeal.nD) → Buf (Elt Ideal) ((c.tc : Thread Cert.Pw2FwdIdeal.nD Cert.Pw2FwdIdeal.τ).loc Cert.Pw2FwdIdeal.main_v4_0)) (v1 : (c : Dev Cert.Pw2FwdIdeal.nD) → Buf (Elt Ideal) ((c.tc : Thread Cert.Pw2FwdIdeal.nD Cert.Pw2FwdIdeal.τ).loc Cert.Pw2FwdIdeal.main_v4_1)),
      θ_run (Cert.Pw2FwdIdeal.defs (F := Ideal)) (onTc (τ := Cert.Pw2FwdIdeal.τ) (Cert.Pw2FwdIdeal.main (F := Ideal))) ⟨m, fun _ => 0, g⟩ (fun r => ∀ c : Dev Cert.Pw2FwdIdeal.nD,
          r.2.mem ((c.tc : Thread Cert.Pw2FwdIdeal.nD Cert.Pw2FwdIdeal.τ).loc Cert.Pw2FwdIdeal.main_v4_0) = v0 c
          ∧ r.2.mem ((c.tc : Thread Cert.Pw2FwdIdeal.nD Cert.Pw2FwdIdeal.τ).loc Cert.Pw2FwdIdeal.main_v4_1) = v1 c
          ∧ r.2.mem ((c.tc : Thread Cert.Pw2FwdIdeal.nD Cert.Pw2FwdIdeal.τ).loc Cert.Pw2FwdIdeal.main_arg0) = m ((c.tc : Thread Cert.Pw2FwdIdeal.nD Cert.Pw2FwdIdeal.τ).loc Cert.Pw2FwdIdeal.main_arg0)
          ∧ r.2.mem ((c.tc : Thread Cert.Pw2FwdIdeal.nD Cert.Pw2FwdIdeal.τ).loc Cert.Pw2FwdIdeal.main_arg1) = m ((c.tc : Thread Cert.Pw2FwdIdeal.nD Cert.Pw2FwdIdeal.τ).loc Cert.Pw2FwdIdeal.main_arg1)
          ∧ r.2.mem ((c.tc : Thread Cert.Pw2FwdIdeal.nD Cert.Pw2FwdIdeal.τ).loc Cert.Pw2FwdIdeal.main_arg2) = m ((c.tc : Thread Cert.Pw2FwdIdeal.nD Cert.Pw2FwdIdeal.τ).loc Cert.Pw2FwdIdeal.main_arg2)
          ∧ r.2.mem ((c.tc : Thread Cert.Pw2FwdIdeal.nD Cert.Pw2FwdIdeal.τ).loc Cert.Pw2FwdIdeal.main_arg3) = m ((c.tc : Thread Cert.Pw2FwdIdeal.nD Cert.Pw2FwdIdeal.τ).loc Cert.Pw2FwdIdeal.main_arg3)
          ∧ r.2.mem ((c.tc : Thread Cert.Pw2FwdIdeal.nD Cert.Pw2FwdIdeal.τ).loc Cert.Pw2FwdIdeal.main_arg4) = m ((c.tc : Thread Cert.Pw2FwdIdeal.nD Cert.Pw2FwdIdeal.τ).loc Cert.Pw2FwdIdeal.main_arg4))
      ∧ θ_run (Cert.Pw2FwdRefIdeal.defs (F := Ideal)) (onTc (τ := Cert.Pw2FwdRefIdeal.τ) (Cert.Pw2FwdRefIdeal.main (F := Ideal))) ⟨m', fun _ => 0, g'⟩ (fun r => ∀ c : Dev Cert.Pw2FwdRefIdeal.nD,
          r.2.mem ((c.tc : Thread Cert.Pw2FwdRefIdeal.nD Cert.Pw2FwdRefIdeal.τ).loc Cert.Pw2FwdRefIdeal.main_v5) = v0 c
          ∧ r.2.mem ((c.tc : Thread Cert.Pw2FwdRefIdeal.nD Cert.Pw2FwdRefIdeal.τ).loc Cert.Pw2FwdRefIdeal.main_v19) = v1 c
          ∧ r.2.mem ((c.tc : Thread Cert.Pw2FwdRefIdeal.nD Cert.Pw2FwdRefIdeal.τ).loc Cert.Pw2FwdRefIdeal.main_arg0) = m' ((c.tc : Thread Cert.Pw2FwdRefIdeal.nD Cert.Pw2FwdRefIdeal.τ).loc Cert.Pw2FwdRefIdeal.main_arg0)
          ∧ r.2.mem ((c.tc : Thread Cert.Pw2FwdRefIdeal.nD Cert.Pw2FwdRefIdeal.τ).loc Cert.Pw2FwdRefIdeal.main_arg1) = m' ((c.tc : Thread Cert.Pw2FwdRefIdeal.nD Cert.Pw2FwdRefIdeal.τ).loc Cert.Pw2FwdRefIdeal.main_arg1)
          ∧ r.2.mem ((c.tc : Thread Cert.Pw2FwdRefIdeal.nD Cert.Pw2FwdRefIdeal.τ).loc Cert.Pw2FwdRefIdeal.main_arg2) = m' ((c.tc : Thread Cert.Pw2FwdRefIdeal.nD Cert.Pw2FwdRefIdeal.τ).loc Cert.Pw2FwdRefIdeal.main_arg2)
          ∧ r.2.mem ((c.tc : Thread Cert.Pw2FwdRefIdeal.nD Cert.Pw2FwdRefIdeal.τ).loc Cert.Pw2FwdRefIdeal.main_arg3) = m' ((c.tc : Thread Cert.Pw2FwdRefIdeal.nD Cert.Pw2FwdRefIdeal.τ).loc Cert.Pw2FwdRefIdeal.main_arg3)
          ∧ r.2.mem ((c.tc : Thread Cert.Pw2FwdRefIdeal.nD Cert.Pw2FwdRefIdeal.τ).loc Cert.Pw2FwdRefIdeal.main_arg4) = m' ((c.tc : Thread Cert.Pw2FwdRefIdeal.nD Cert.Pw2FwdRefIdeal.τ).loc Cert.Pw2FwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v20_0)) (v1 : (c : Dev Cert.FfnFwdIdeal.nD) → Buf (Elt Ideal) ((c.tc : Thread Cert.FfnFwdIdeal.nD Cert.FfnFwdIdeal.τ).loc Cert.FfnFwdIdeal.main_v20_1)) (v2 : (c : Dev Cert.FfnFwdIdeal.nD) → Buf (Elt Ideal) ((c.tc : Thread Cert.FfnFwdIdeal.nD Cert.FfnFwdIdeal.τ).loc Cert.FfnFwdIdeal.main_v20_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v20_0) = v0 c
          ∧ r.2.mem ((c.tc : Thread Cert.FfnFwdIdeal.nD Cert.FfnFwdIdeal.τ).loc Cert.FfnFwdIdeal.main_v20_1) = v1 c
          ∧ r.2.mem ((c.tc : Thread Cert.FfnFwdIdeal.nD Cert.FfnFwdIdeal.τ).loc Cert.FfnFwdIdeal.main_v20_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v19) = v0 c
          ∧ r.2.mem ((c.tc : Thread Cert.FfnFwdRefIdeal.nD Cert.FfnFwdRefIdeal.τ).loc Cert.FfnFwdRefIdeal.main_v22) = v1 c
          ∧ r.2.mem ((c.tc : Thread Cert.FfnFwdRefIdeal.nD Cert.FfnFwdRefIdeal.τ).loc Cert.FfnFwdRefIdeal.main_v36) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_Pw1Fwd_Pw1FwdIdeal : Prop :=
  True

def algebraic_Pw1FwdIdeal_Pw1FwdRefIdeal [hPw1FwdIdeal : Cert.Pw1FwdIdeal.Facts] [hPw1FwdRefIdeal : Cert.Pw1FwdRefIdeal.Facts] : Prop :=
  ∀ (m : (ℓ : Loc Cert.Pw1FwdIdeal.nD Cert.Pw1FwdIdeal.τ Cert.Pw1FwdIdeal.sig) → Buf (Elt Ideal) ℓ) (g : Dev Cert.Pw1FwdIdeal.nD → PrngReg)
    (m' : (ℓ : Loc Cert.Pw1FwdRefIdeal.nD Cert.Pw1FwdRefIdeal.τ Cert.Pw1FwdRefIdeal.sig) → Buf (Elt Ideal) ℓ) (g' : Dev Cert.Pw1FwdRefIdeal.nD → PrngReg), Pre_Pw1FwdIdeal m →
    (∀ c : Dev Cert.Pw1FwdIdeal.nD,
      m' ((c.tc : Thread Cert.Pw1FwdRefIdeal.nD Cert.Pw1FwdRefIdeal.τ).loc Cert.Pw1FwdRefIdeal.main_arg0) = m ((c.tc : Thread Cert.Pw1FwdIdeal.nD Cert.Pw1FwdIdeal.τ).loc Cert.Pw1FwdIdeal.main_arg0)
      ∧ m' ((c.tc : Thread Cert.Pw1FwdRefIdeal.nD Cert.Pw1FwdRefIdeal.τ).loc Cert.Pw1FwdRefIdeal.main_arg1) = m ((c.tc : Thread Cert.Pw1FwdIdeal.nD Cert.Pw1FwdIdeal.τ).loc Cert.Pw1FwdIdeal.main_arg1)
      ∧ m' ((c.tc : Thread Cert.Pw1FwdRefIdeal.nD Cert.Pw1FwdRefIdeal.τ).loc Cert.Pw1FwdRefIdeal.main_arg2) = m ((c.tc : Thread Cert.Pw1FwdIdeal.nD Cert.Pw1FwdIdeal.τ).loc Cert.Pw1FwdIdeal.main_arg2)) →
    ∃ (v0 : (c : Dev Cert.Pw1FwdIdeal.nD) → Buf (Elt Ideal) ((c.tc : Thread Cert.Pw1FwdIdeal.nD Cert.Pw1FwdIdeal.τ).loc Cert.Pw1FwdIdeal.main_v5)),
      θ_run (Cert.Pw1FwdIdeal.defs (F := Ideal)) (onTc (τ := Cert.Pw1FwdIdeal.τ) (Cert.Pw1FwdIdeal.main (F := Ideal))) ⟨m, fun _ => 0, g⟩ (fun r => ∀ c : Dev Cert.Pw1FwdIdeal.nD,
          r.2.mem ((c.tc : Thread Cert.Pw1FwdIdeal.nD Cert.Pw1FwdIdeal.τ).loc Cert.Pw1FwdIdeal.main_v5) = v0 c
          ∧ r.2.mem ((c.tc : Thread Cert.Pw1FwdIdeal.nD Cert.Pw1FwdIdeal.τ).loc Cert.Pw1FwdIdeal.main_arg0) = m ((c.tc : Thread Cert.Pw1FwdIdeal.nD Cert.Pw1FwdIdeal.τ).loc Cert.Pw1FwdIdeal.main_arg0)
          ∧ r.2.mem ((c.tc : Thread Cert.Pw1FwdIdeal.nD Cert.Pw1FwdIdeal.τ).loc Cert.Pw1FwdIdeal.main_arg1) = m ((c.tc : Thread Cert.Pw1FwdIdeal.nD Cert.Pw1FwdIdeal.τ).loc Cert.Pw1FwdIdeal.main_arg1)
          ∧ r.2.mem ((c.tc : Thread Cert.Pw1FwdIdeal.nD Cert.Pw1FwdIdeal.τ).loc Cert.Pw1FwdIdeal.main_arg2) = m ((c.tc : Thread Cert.Pw1FwdIdeal.nD Cert.Pw1FwdIdeal.τ).loc Cert.Pw1FwdIdeal.main_arg2))
      ∧ θ_run (Cert.Pw1FwdRefIdeal.defs (F := Ideal)) (onTc (τ := Cert.Pw1FwdRefIdeal.τ) (Cert.Pw1FwdRefIdeal.main (F := Ideal))) ⟨m', fun _ => 0, g'⟩ (fun r => ∀ c : Dev Cert.Pw1FwdRefIdeal.nD,
          r.2.mem ((c.tc : Thread Cert.Pw1FwdRefIdeal.nD Cert.Pw1FwdRefIdeal.τ).loc Cert.Pw1FwdRefIdeal.main_v5) = v0 c
          ∧ r.2.mem ((c.tc : Thread Cert.Pw1FwdRefIdeal.nD Cert.Pw1FwdRefIdeal.τ).loc Cert.Pw1FwdRefIdeal.main_arg0) = m' ((c.tc : Thread Cert.Pw1FwdRefIdeal.nD Cert.Pw1FwdRefIdeal.τ).loc Cert.Pw1FwdRefIdeal.main_arg0)
          ∧ r.2.mem ((c.tc : Thread Cert.Pw1FwdRefIdeal.nD Cert.Pw1FwdRefIdeal.τ).loc Cert.Pw1FwdRefIdeal.main_arg1) = m' ((c.tc : Thread Cert.Pw1FwdRefIdeal.nD Cert.Pw1FwdRefIdeal.τ).loc Cert.Pw1FwdRefIdeal.main_arg1)
          ∧ r.2.mem ((c.tc : Thread Cert.Pw1FwdRefIdeal.nD Cert.Pw1FwdRefIdeal.τ).loc Cert.Pw1FwdRefIdeal.main_arg2) = m' ((c.tc : Thread Cert.Pw1FwdRefIdeal.nD Cert.Pw1FwdRefIdeal.τ).loc Cert.Pw1FwdRefIdeal.main_arg2))

def preserves_BiasTab_BiasTabIdeal : Prop :=
  True

def algebraic_BiasTabIdeal_BiasTabRefIdeal [hBiasTabIdeal : Cert.BiasTabIdeal.Facts] [hBiasTabRefIdeal : Cert.BiasTabRefIdeal.Facts] : Prop :=
  ∀ (m : (ℓ : Loc Cert.BiasTabIdeal.nD Cert.BiasTabIdeal.τ Cert.BiasTabIdeal.sig) → Buf (Elt Ideal) ℓ) (g : Dev Cert.BiasTabIdeal.nD → PrngReg)
    (m' : (ℓ : Loc Cert.BiasTabRefIdeal.nD Cert.BiasTabRefIdeal.τ Cert.BiasTabRefIdeal.sig) → Buf (Elt Ideal) ℓ) (g' : Dev Cert.BiasTabRefIdeal.nD → PrngReg), Pre_BiasTabIdeal m →
    (∀ c : Dev Cert.BiasTabIdeal.nD,
      m' ((c.tc : Thread Cert.BiasTabRefIdeal.nD Cert.BiasTabRefIdeal.τ).loc Cert.BiasTabRefIdeal.main_arg0) = m ((c.tc : Thread Cert.BiasTabIdeal.nD Cert.BiasTabIdeal.τ).loc Cert.BiasTabIdeal.main_arg0)) →
    ∃ (v0 : (c : Dev Cert.BiasTabIdeal.nD) → Buf (Elt Ideal) ((c.tc : Thread Cert.BiasTabIdeal.nD Cert.BiasTabIdeal.τ).loc Cert.BiasTabIdeal.main_v0)),
      θ_run (Cert.BiasTabIdeal.defs (F := Ideal)) (onTc (τ := Cert.BiasTabIdeal.τ) (Cert.BiasTabIdeal.main (F := Ideal))) ⟨m, fun _ => 0, g⟩ (fun r => ∀ c : Dev Cert.BiasTabIdeal.nD,
          r.2.mem ((c.tc : Thread Cert.BiasTabIdeal.nD Cert.BiasTabIdeal.τ).loc Cert.BiasTabIdeal.main_v0) = v0 c
          ∧ r.2.mem ((c.tc : Thread Cert.BiasTabIdeal.nD Cert.BiasTabIdeal.τ).loc Cert.BiasTabIdeal.main_arg0) = m ((c.tc : Thread Cert.BiasTabIdeal.nD Cert.BiasTabIdeal.τ).loc Cert.BiasTabIdeal.main_arg0))
      ∧ θ_run (Cert.BiasTabRefIdeal.defs (F := Ideal)) (onTc (τ := Cert.BiasTabRefIdeal.τ) (Cert.BiasTabRefIdeal.main (F := Ideal))) ⟨m', fun _ => 0, g'⟩ (fun r => ∀ c : Dev Cert.BiasTabRefIdeal.nD,
          r.2.mem ((c.tc : Thread Cert.BiasTabRefIdeal.nD Cert.BiasTabRefIdeal.τ).loc Cert.BiasTabRefIdeal.main_v43) = v0 c
          ∧ r.2.mem ((c.tc : Thread Cert.BiasTabRefIdeal.nD Cert.BiasTabRefIdeal.τ).loc Cert.BiasTabRefIdeal.main_arg0) = m' ((c.tc : Thread Cert.BiasTabRefIdeal.nD Cert.BiasTabRefIdeal.τ).loc Cert.BiasTabRefIdeal.main_arg0))

def Claim : Prop :=
  ∃ (hLossHead : Cert.LossHead.Facts) (hLossHeadIdeal : Cert.LossHeadIdeal.Facts) (hLossHeadRefIdeal : Cert.LossHeadRefIdeal.Facts) (hAttnBwd : Cert.AttnBwd.Facts) (hAttnBwdIdeal : Cert.AttnBwdIdeal.Facts) (hAttnBwdRefIdeal : Cert.AttnBwdRefIdeal.Facts) (hQBwd : Cert.QBwd.Facts) (hQBwdIdeal : Cert.QBwdIdeal.Facts) (hQBwdRefIdeal : Cert.QBwdRefIdeal.Facts) (hDkvCombine : Cert.DkvCombine.Facts) (hDkvCombineIdeal : Cert.DkvCombineIdeal.Facts) (hDkvCombineRefIdeal : Cert.DkvCombineRefIdeal.Facts) (hPw1Bwd : Cert.Pw1Bwd.Facts) (hPw1BwdIdeal : Cert.Pw1BwdIdeal.Facts) (hPw1BwdRefIdeal : Cert.Pw1BwdRefIdeal.Facts) (hFfnBwd : Cert.FfnBwd.Facts) (hFfnBwdIdeal : Cert.FfnBwdIdeal.Facts) (hFfnBwdRefIdeal : Cert.FfnBwdRefIdeal.Facts) (hBiasGrad : Cert.BiasGrad.Facts) (hBiasGradIdeal : Cert.BiasGradIdeal.Facts) (hBiasGradRefIdeal : Cert.BiasGradRefIdeal.Facts) (hAttnFwd : Cert.AttnFwd.Facts) (hAttnFwdIdeal : Cert.AttnFwdIdeal.Facts) (hAttnFwdRefIdeal : Cert.AttnFwdRefIdeal.Facts) (hRmsFwd : Cert.RmsFwd.Facts) (hRmsFwdIdeal : Cert.RmsFwdIdeal.Facts) (hRmsFwdRefIdeal : Cert.RmsFwdRefIdeal.Facts) (hPw2Fwd : Cert.Pw2Fwd.Facts) (hPw2FwdIdeal : Cert.Pw2FwdIdeal.Facts) (hPw2FwdRefIdeal : Cert.Pw2FwdRefIdeal.Facts) (hFfnFwd : Cert.FfnFwd.Facts) (hFfnFwdIdeal : Cert.FfnFwdIdeal.Facts) (hFfnFwdRefIdeal : Cert.FfnFwdRefIdeal.Facts) (hPw1Fwd : Cert.Pw1Fwd.Facts) (hPw1FwdIdeal : Cert.Pw1FwdIdeal.Facts) (hPw1FwdRefIdeal : Cert.Pw1FwdRefIdeal.Facts) (hBiasTab : Cert.BiasTab.Facts) (hBiasTabIdeal : Cert.BiasTabIdeal.Facts) (hBiasTabRefIdeal : Cert.BiasTabRefIdeal.Facts) (hPre_finite_loss : Cert.Pre_finite_loss.Facts) (hPre_finite_attn : Cert.Pre_finite_attn.Facts) (hPre_finite_q : Cert.Pre_finite_q.Facts) (hPre_finite_pw1 : Cert.Pre_finite_pw1.Facts) (hPre_finite_ffn : Cert.Pre_finite_ffn.Facts) (hPre_finite_attn_fwd : Cert.Pre_finite_attn_fwd.Facts),
    quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_QBwd (hQBwd := hQBwd)
    ∧ quiescent_QBwdIdeal (hQBwdIdeal := hQBwdIdeal)
    ∧ quiescent_QBwdIdeal_pre_finite_q (hQBwdIdeal := hQBwdIdeal) (hPre_finite_q := hPre_finite_q)
    ∧ quiescent_QBwdRefIdeal (hQBwdRefIdeal := hQBwdRefIdeal)
    ∧ quiescent_QBwdRefIdeal_pre_finite_q (hQBwdRefIdeal := hQBwdRefIdeal) (hPre_finite_q := hPre_finite_q)
    ∧ quiescent_DkvCombine (hDkvCombine := hDkvCombine)
    ∧ quiescent_DkvCombineIdeal (hDkvCombineIdeal := hDkvCombineIdeal)
    ∧ quiescent_DkvCombineRefIdeal (hDkvCombineRefIdeal := hDkvCombineRefIdeal)
    ∧ quiescent_Pw1Bwd (hPw1Bwd := hPw1Bwd)
    ∧ quiescent_Pw1BwdIdeal (hPw1BwdIdeal := hPw1BwdIdeal)
    ∧ quiescent_Pw1BwdIdeal_pre_finite_pw1 (hPw1BwdIdeal := hPw1BwdIdeal) (hPre_finite_pw1 := hPre_finite_pw1)
    ∧ quiescent_Pw1BwdRefIdeal (hPw1BwdRefIdeal := hPw1BwdRefIdeal)
    ∧ quiescent_Pw1BwdRefIdeal_pre_finite_pw1 (hPw1BwdRefIdeal := hPw1BwdRefIdeal) (hPre_finite_pw1 := hPre_finite_pw1)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_BiasGrad (hBiasGrad := hBiasGrad)
    ∧ quiescent_BiasGradIdeal (hBiasGradIdeal := hBiasGradIdeal)
    ∧ quiescent_BiasGradRefIdeal (hBiasGradRefIdeal := hBiasGradRefIdeal)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_Pw2Fwd (hPw2Fwd := hPw2Fwd)
    ∧ quiescent_Pw2FwdIdeal (hPw2FwdIdeal := hPw2FwdIdeal)
    ∧ quiescent_Pw2FwdRefIdeal (hPw2FwdRefIdeal := hPw2FwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Pw1Fwd (hPw1Fwd := hPw1Fwd)
    ∧ quiescent_Pw1FwdIdeal (hPw1FwdIdeal := hPw1FwdIdeal)
    ∧ quiescent_Pw1FwdRefIdeal (hPw1FwdRefIdeal := hPw1FwdRefIdeal)
    ∧ quiescent_BiasTab (hBiasTab := hBiasTab)
    ∧ quiescent_BiasTabIdeal (hBiasTabIdeal := hBiasTabIdeal)
    ∧ quiescent_BiasTabRefIdeal (hBiasTabRefIdeal := hBiasTabRefIdeal)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_QBwd_QBwdIdeal
    ∧ algebraic_QBwdIdeal_QBwdRefIdeal_pre_finite_q (hQBwdIdeal := hQBwdIdeal) (hQBwdRefIdeal := hQBwdRefIdeal) (hPre_finite_q := hPre_finite_q)
    ∧ preserves_DkvCombine_DkvCombineIdeal
    ∧ algebraic_DkvCombineIdeal_DkvCombineRefIdeal (hDkvCombineIdeal := hDkvCombineIdeal) (hDkvCombineRefIdeal := hDkvCombineRefIdeal)
    ∧ preserves_Pw1Bwd_Pw1BwdIdeal
    ∧ algebraic_Pw1BwdIdeal_Pw1BwdRefIdeal_pre_finite_pw1 (hPw1BwdIdeal := hPw1BwdIdeal) (hPw1BwdRefIdeal := hPw1BwdRefIdeal) (hPre_finite_pw1 := hPre_finite_pw1)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_BiasGrad_BiasGradIdeal
    ∧ algebraic_BiasGradIdeal_BiasGradRefIdeal (hBiasGradIdeal := hBiasGradIdeal) (hBiasGradRefIdeal := hBiasGradRefIdeal)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_Pw2Fwd_Pw2FwdIdeal
    ∧ algebraic_Pw2FwdIdeal_Pw2FwdRefIdeal (hPw2FwdIdeal := hPw2FwdIdeal) (hPw2FwdRefIdeal := hPw2FwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Pw1Fwd_Pw1FwdIdeal
    ∧ algebraic_Pw1FwdIdeal_Pw1FwdRefIdeal (hPw1FwdIdeal := hPw1FwdIdeal) (hPw1FwdRefIdeal := hPw1FwdRefIdeal)
    ∧ preserves_BiasTab_BiasTabIdeal
    ∧ algebraic_BiasTabIdeal_BiasTabRefIdeal (hBiasTabIdeal := hBiasTabIdeal) (hBiasTabRefIdeal := hBiasTabRefIdeal)
-- ==== Pre_finite_attn.lean ====
abbrev S4096x1024 : Shape := ⟨2, ![4096, 1024]⟩
abbrev S4096x256 : Shape := ⟨2, ![4096, 256]⟩
abbrev S16 : Shape := ⟨1, ![16]⟩
abbrev S32x16 : Shape := ⟨2, ![32, 16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x256 : S_.BroadcastsInDim S4096x256 (![] : Fin 0 → Fin S4096x256.rank)
  bcast_S_S16 : S_.BroadcastsInDim S16 (![] : Fin 0 → Fin S16.rank)
  bcast_S_S32x16 : S_.BroadcastsInDim S32x16 (![] : Fin 0 → Fin S32x16.rank)

variable [Facts]

def fn_part1 {F : FTy → Type} [FloatOps F] (main_v3 : IVec S4096x1024 1) (main_v7 : IVec S4096x256 1) (main_v11 : IVec S4096x256 1) (main_v14 : IVec S16 1) (main_v17 : IVec S32x16 1) (main_v18 : FVec F S4096x1024 .f32) : IVec S4096x1024 1 × IVec S4096x256 1 × IVec S4096x256 1 × IVec S16 1 × IVec S32x16 1 × IVec S4096x1024 1 :=
  let main_v19 : FVec F S4096x1024 .f32 := Host.absf main_v18
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  (main_v3, main_v7, main_v11, main_v14, main_v17, main_v21)

def fn {F : FTy → Type} [FloatOps F] (main_arg0 : FVec F S4096x1024 .bf16) (main_arg1 : FVec F S4096x256 .bf16) (main_arg2 : FVec F S4096x256 .bf16) (main_arg3 : FVec F S16 .f32) (main_arg4 : FVec F S32x16 .f32) (main_arg5 : FVec F S4096x1024 .bf16) : IVec S4096x1024 1 × IVec S4096x256 1 × IVec S4096x256 1 × IVec S16 1 × IVec S32x16 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x256 .f32 := (extf .f32 · bitsLt_bf16_f32) main_arg1
  let main_v5 : FVec F S4096x256 .f32 := Host.absf main_v4
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_v8 : FVec F S4096x256 .f32 := (extf .f32 · bitsLt_bf16_f32) main_arg2
  let main_v9 : FVec F S4096x256 .f32 := Host.absf main_v8
  let main_cst_1 : FVec F S_ .f32 := constant S_ .f32 0x7F800000#32
  let main_v10 : FVec F S4096x256 .f32 := broadcastInDim S4096x256 ![] bcast_S_S4096x256 main_cst_1
  let main_v11 : IVec S4096x256 1 := cmpf .olt main_v9 main_v10
  let main_v12 : FVec F S16 .f32 := Host.absf main_arg3
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_v15 : FVec F S32x16 .f32 := Host.absf main_arg4
  let main_cst_3 : FVec F S_ .f32 := constant S_ .f32 0x7F800000#32
  let main_v16 : FVec F S32x16 .f32 := broadcastInDim S32x16 ![] bcast_S_S32x16 main_cst_3
  let main_v17 : IVec S32x16 1 := cmpf .olt main_v15 main_v16
  let main_v18 : FVec F S4096x1024 .f32 := (extf .f32 · bitsLt_bf16_f32) main_arg5
  fn_part1 (F := F) main_v3 main_v7 main_v11 main_v14 main_v17 main_v18
-- ==== Pre_finite_attn_fwd.lean ====
abbrev S4096x1024 : Shape := ⟨2, ![4096, 1024]⟩
abbrev S4096x256 : Shape := ⟨2, ![4096, 256]⟩
abbrev S16 : Shape := ⟨1, ![16]⟩
abbrev S32x16 : Shape := ⟨2, ![32, 16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x256 : S_.BroadcastsInDim S4096x256 (![] : Fin 0 → Fin S4096x256.rank)
  bcast_S_S16 : S_.BroadcastsInDim S16 (![] : Fin 0 → Fin S16.rank)
  bcast_S_S32x16 : S_.BroadcastsInDim S32x16 (![] : Fin 0 → Fin S32x16.rank)

variable [Facts]

def fn {F : FTy → Type} [FloatOps F] (main_arg0 : FVec F S4096x1024 .bf16) (main_arg1 : FVec F S4096x256 .bf16) (main_arg2 : FVec F S4096x256 .bf16) (main_arg3 : FVec F S16 .f32) (main_arg4 : FVec F S32x16 .f32) : IVec S4096x1024 1 × IVec S4096x256 1 × IVec S4096x256 1 × IVec S16 1 × IVec S32x16 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x256 .f32 := (extf .f32 · bitsLt_bf16_f32) main_arg1
  let main_v5 : FVec F S4096x256 .f32 := Host.absf main_v4
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_v8 : FVec F S4096x256 .f32 := (extf .f32 · bitsLt_bf16_f32) main_arg2
  let main_v9 : FVec F S4096x256 .f32 := Host.absf main_v8
  let main_cst_1 : FVec F S_ .f32 := constant S_ .f32 0x7F800000#32
  let main_v10 : FVec F S4096x256 .f32 := broadcastInDim S4096x256 ![] bcast_S_S4096x256 main_cst_1
  let main_v11 : IVec S4096x256 1 := cmpf .olt main_v9 main_v10
  let main_v12 : FVec F S16 .f32 := Host.absf main_arg3
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_v15 : FVec F S32x16 .f32 := Host.absf main_arg4
  let main_cst_3 : FVec F S_ .f32 := constant S_ .f32 0x7F800000#32
  let main_v16 : FVec F S32x16 .f32 := broadcastInDim S32x16 ![] bcast_S_S32x16 main_cst_3
  let main_v17 : IVec S32x16 1 := cmpf .olt main_v15 main_v16
  (main_v3, main_v7, main_v11, main_v14, main_v17)
-- ==== Pre_finite_ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S4096x1024 1 × IVec S1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite_pw1.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2048 : S_.BroadcastsInDim S1024x2048 (![] : Fin 0 → Fin S1024x2048.rank)
  bitsLt_bf16_f32 : FTy.bits .bf16 < FTy.bits .f32
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S1024 .f32) (main_arg2 : FVec F S1024x2048 .f32) (main_arg3 : FVec F S4096x2048 .bf16) (main_arg4 : FVec F S4096x1024 .f32) : IVec S4096x1024 1 × IVec S1024 1 × IVec S1024x2048 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S4096x2048 .f32 := (extf .f32 · bitsLt_bf16_f32) main_arg3
  let main_v10 : FVec F S4096x2048 .f32 := Host.absf main_v9
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  (main_v2, main_v5, main_v8, main_v12)
-- ==== Pre_finite_q.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x1024 : S_.BroadcastsInDim S1024x1024 (![] : Fin 0 → Fin S1024x1024.rank)
  bitsLt_bf16_f32 : FTy.bits .bf16 < FTy.bits .f32

variable [Facts]

def fn {F : FTy → Type} [FloatOps F] (main_arg0 : FVec F S4096x1024 .f32) (main_arg1 : FVec F S1024 .f32) (main_arg2 : FVec F S1024x1024 .f32) (main_arg3 : FVec F S4096x1024 .bf16) (main_arg4 : FVec F S4096x1024 .f32) : IVec S4096x1024 1 × IVec S1024 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4096x1024 .f32 := (extf .f32 · bitsLt_bf16_f32) main_arg3
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  (main_v2, main_v5, main_v8, main_v12)
-- ==== LossHead.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_18 : BitVec 32 := 0#32
  let v50 : BitVec 1 := Scalar.cmpi .ne v49 c0_i32_18
  v50

def k0_cond2 (i : grid0.Coords) : BitVec 1 :=
  let arg0 : BitVec 32 := BitVec.ofNat 32 (i 0).val
  let c0_i32_19 : BitVec 32 := 0#32
  let v51 : BitVec 1 := Scalar.cmpi .sgt arg0 c0_i32_19
  let v52 : BitVec 32 := Scalar.extui v51
  let c0_i32_20 : BitVec 32 := 0#32
  let v53 : BitVec 1 := Scalar.cmpi .ne v52 c0_i32_20
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AttnBwd.lean ====
abbrev S4096x1024 : Shape := ⟨2, ![4096, 1024]⟩
abbrev S4096x256 : Shape := ⟨2, ![4096, 256]⟩
abbrev S16 : Shape := ⟨1, ![16]⟩
abbrev S32x16 : Shape := ⟨2, ![32, 16]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x128x256 : Shape := ⟨3, ![1, 128, 256]⟩
abbrev S4096x512 : Shape := ⟨2, ![4096, 512]⟩
abbrev S1x16 : Shape := ⟨2, ![1, 16]⟩
abbrev S32x256x512 : Shape := ⟨3, ![32, 256, 512]⟩
abbrev S1x128 : Shape := ⟨2, ![1, 128]⟩
abbrev S128x1024 : Shape := ⟨2, ![128, 1024]⟩
abbrev S128x512 : Shape := ⟨2, ![128, 512]⟩
abbrev S1x256x512 : Shape := ⟨3, ![1, 256, 512]⟩
abbrev S256x512 : Shape := ⟨2, ![256, 512]⟩
abbrev S128x128 : Shape := ⟨2, ![128, 128]⟩
abbrev S256x64 : Shape := ⟨2, ![256, 64]⟩
abbrev S128x64 : Shape := ⟨2, ![128, 64]⟩
abbrev S512x64 : Shape := ⟨2, ![512, 64]⟩
abbrev S4x128x256 : Shape := ⟨3, ![4, 128, 256]⟩
abbrev S512x256 : Shape := ⟨2, ![512, 256]⟩
abbrev S512x1 : Shape := ⟨2, ![512, 1]⟩
abbrev S1x1 : Shape := ⟨2, ![1, 1]⟩
abbrev S512 : Shape := ⟨1, ![512]⟩
abbrev S1x256x64 : Shape := ⟨3, ![1, 256, 64]⟩

abbrev nBuf : Space → Nat
  | .hbm => 73
  | .vmem => 17
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S16, .f32⟩
  | .hbm, ⟨4, _⟩ => ⟨S32x16, .f32⟩
  | .hbm, ⟨5, _⟩ => ⟨S4096x1024, .bf16⟩
  | .hbm, ⟨6, _⟩ => ⟨S128, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i32⟩
  | .hbm, ⟨11, _⟩ => ⟨S256, .i32⟩
  | .hbm, ⟨12, _⟩ => ⟨S1x256, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S128x256, .i1⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S128x256, .i32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S_, .i32⟩
  | .hbm, ⟨55, _⟩ => ⟨S128x256, .i32⟩
  | .hbm, ⟨56, _⟩ => ⟨S128x256, .i32⟩
  | .hbm, ⟨57, _⟩ => ⟨S128x256, .i32⟩
  | .hbm, ⟨58, _⟩ => ⟨S128x256x1, .i32⟩
  | .hbm, ⟨59, _⟩ => ⟨S128x256x16, .f32⟩
  | .hbm, ⟨60, _⟩ => ⟨S16x128x256, .f32⟩
  | .hbm, ⟨61, _⟩ => ⟨S1x128x256, .i1⟩
  | .hbm, ⟨62, _⟩ => ⟨S_, .f32⟩
  | .hbm, ⟨63, _⟩ => ⟨S_, .f32⟩
  | .hbm, ⟨64, _⟩ => ⟨S16x128x256, .i1⟩
  | .hbm, ⟨65, _⟩ => ⟨S16x128x256, .f32⟩
  | .hbm, ⟨66, _⟩ => ⟨S16x128x256, .f32⟩
  | .hbm, ⟨67, _⟩ => ⟨S4096x512, .bf16⟩
  | .hbm, ⟨68, _⟩ => ⟨S1x16, .f32⟩
  | .hbm, ⟨69, _⟩ => ⟨S4096x1024, .bf16⟩
  | .hbm, ⟨70, _⟩ => ⟨S32x256x512, .bf16⟩
  | .hbm, ⟨71, _⟩ => ⟨S16x128x256, .f32⟩
  | .hbm, ⟨72, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S16x128x256, .f32⟩
  | .local _ .vmem, ⟨9, _⟩ => ⟨S128x1024, .bf16⟩
  | .local _ .vmem, ⟨10, _⟩ => ⟨S128x1024, .bf16⟩
  | .local _ .vmem, ⟨11, _⟩ => ⟨S1x256x512, .bf16⟩
  | .local _ .vmem, ⟨12, _⟩ => ⟨S1x256x512, .bf16⟩
  | .local _ .vmem, ⟨13, _⟩ => ⟨S16x128x256, .f32⟩
  | .local _ .vmem, ⟨14, _⟩ => ⟨S1x128, .f32⟩
  | .local _ .vmem, ⟨15, _⟩ => ⟨S256x512, .bf16⟩
  | .local _ .vmem, ⟨16, _⟩ => ⟨S128x128, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46_0 : Ref sig .tc := ⟨.hbm, 69, rfl⟩
abbrev main_v46_1 : Ref sig .tc := ⟨.hbm, 70, rfl⟩
abbrev main_v46_2 : Ref sig .tc := ⟨.hbm, 71, rfl⟩
abbrev main_v46_3 : Ref sig .tc := ⟨.hbm, 72, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v703 : BitVec 1 := Scalar.cmpi .eq arg0 c31_i32
  let v704 : BitVec 32 := Scalar.extui v703
  let c0_i32_361 : BitVec 32 := 0#32
  let v705 : BitVec 1 := Scalar.cmpi .ne v704 c0_i32_361
  v705

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S4096x1024 : Shape := ⟨2, ![4096, 1024]⟩
abbrev S4096x256 : Shape := ⟨2, ![4096, 256]⟩
abbrev S16 : Shape := ⟨1, ![16]⟩
abbrev S32x16 : Shape := ⟨2, ![32, 16]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x4x128x256 : Shape := ⟨4, ![4, 4, 128, 256]⟩
abbrev S32x4x256x128x4 : Shape := ⟨5, ![32, 4, 256, 128, 4]⟩
abbrev S32x4x4x128x256 : Shape := ⟨5, ![32, 4, 4, 128, 256]⟩
abbrev S32x1x1x128x256 : Shape := ⟨5, ![32, 1, 1, 128, 256]⟩
abbrev S1x4x4x128x256 : Shape := ⟨5, ![1, 4, 4, 128, 256]⟩
abbrev S4x4x1x1 : Shape := ⟨4, ![4, 4, 1, 1]⟩
abbrev S32x4x4x128 : Shape := ⟨4, ![32, 4, 4, 128]⟩
abbrev S32x4x4x128x1 : Shape := ⟨5, ![32, 4, 4, 128, 1]⟩
abbrev S1x4x4x1x1 : Shape := ⟨5, ![1, 4, 4, 1, 1]⟩
abbrev S32x4x64x4x128 : Shape := ⟨5, ![32, 4, 64, 4, 128]⟩
abbrev S32x4x64x256 : Shape := ⟨4, ![32, 4, 64, 256]⟩
abbrev S4x4x1 : Shape := ⟨3, ![4, 4, 1]⟩
abbrev S4x4 : Shape := ⟨2, ![4, 4]⟩
abbrev S32x4x128x4x64 : Shape := ⟨5, ![32, 4, 128, 4, 64]⟩
abbrev S32x4x256x64 : Shape := ⟨4, ![32, 4, 256, 64]⟩
abbrev S32x256x256 : Shape := ⟨3, ![32, 256, 256]⟩
abbrev S32x256x512 : Shape := ⟨3, ![32, 256, 512]⟩
abbrev S112 : Shape := ⟨1, ![112]⟩
abbrev S1x128 : Shape := ⟨2, ![1, 128]⟩

abbrev nBuf : Space → Nat
  | .hbm => 245
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x256, .bf16⟩
  | 3 => ⟨S16, .f32⟩
  | 4 => ⟨S32x16, .f32⟩
  | 5 => ⟨S4096x1024, .bf16⟩
  | 6 => ⟨S128, .i32⟩
  | 7 => ⟨S128x1, .i32⟩
  | 8 => ⟨S_, .i32⟩
  | 9 => ⟨S128x1, .i32⟩
  | 10 => ⟨S128x1, .i32⟩
  | 11 => ⟨S256, .i32⟩
  | 12 => ⟨S1x256, .i32⟩
  | 13 => ⟨S128x256, .i32⟩
  | 14 => ⟨S128x256, .i32⟩
  | 15 => ⟨S128x256, .i32⟩
  | 16 => ⟨S_, .i32⟩
  | 17 => ⟨S128x256, .i32⟩
  | 18 => ⟨S128x256, .i1⟩
  | 19 => ⟨S_, .i32⟩
  | 20 => ⟨S128x256, .i32⟩
  | 21 => ⟨S128x256, .i1⟩
  | 22 => ⟨S128x256, .i1⟩
  | 23 => ⟨S_, .i32⟩
  | 24 => ⟨S128x256, .i32⟩
  | 25 => ⟨S128x256, .i32⟩
  | 26 => ⟨S_, .i32⟩
  | 27 => ⟨S128x256, .i32⟩
  | 28 => ⟨S128x256, .i32⟩
  | 29 => ⟨S128x256, .f32⟩
  | 30 => ⟨S_, .f32⟩
  | 31 => ⟨S128x256, .f32⟩
  | 32 => ⟨S128x256, .f32⟩
  | 33 => ⟨S128x256, .f32⟩
  | 34 => ⟨S_, .f32⟩
  | 35 => ⟨S128x256, .f32⟩
  | 36 => ⟨S128x256, .f32⟩
  | 37 => ⟨S_, .f32⟩
  | 38 => ⟨S128x256, .f32⟩
  | 39 => ⟨S128x256, .f32⟩
  | 40 => ⟨S128x256, .i32⟩
  | 41 => ⟨S_, .i32⟩
  | 42 => ⟨S128x256, .i32⟩
  | 43 => ⟨S128x256, .i32⟩
  | 44 => ⟨S_, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S128x256, .i32⟩
  | 51 => ⟨S_, .i32⟩
  | 52 => ⟨S128x256, .i32⟩
  | 53 => ⟨S128x256, .i1⟩
  | 54 => ⟨S_, .i32⟩
  | 55 => ⟨S128x256, .i32⟩
  | 56 => ⟨S128x256, .i32⟩
  | 57 => ⟨S128x256, .i32⟩
  | 58 => ⟨S128x256x1, .i32⟩
  | 59 => ⟨S128x256x16, .f32⟩
  | 60 => ⟨S16x128x256, .f32⟩
  | 61 => ⟨S4096x1024, .f32⟩
  | 62 => ⟨S32x128x4x4x64, .f32⟩
  | 63 => ⟨S4096x256, .f32⟩
  | 64 => ⟨S32x128x4x64, .f32⟩
  | 65 => ⟨S4096x256, .f32⟩
  | 66 => ⟨S32x128x4x64, .f32⟩
  | 67 => ⟨S_, .f32⟩
  | 68 => ⟨S1x128x4x64, .f32⟩
  | 69 => ⟨S31x128x4x64, .f32⟩
  | 70 => ⟨S32x128x4x64, .f32⟩
  | 71 => ⟨S32x256x4x64, .f32⟩
  | 72 => ⟨S31x128x4x64, .f32⟩
  | 73 => ⟨S32x128x4x64, .f32⟩
  | 74 => ⟨S32x256x4x64, .f32⟩
  | 75 => ⟨S256, .i32⟩
  | 76 => ⟨S32, .i32⟩
  | 77 => ⟨S32x1, .i32⟩
  | 78 => ⟨S_, .i32⟩
  | 79 => ⟨S32x1, .i32⟩
  | 80 => ⟨S32x1, .i32⟩
  | 81 => ⟨S_, .i32⟩
  | 82 => ⟨S32x1, .i32⟩
  | 83 => ⟨S32x1, .i32⟩
  | 84 => ⟨S1x256, .i32⟩
  | 85 => ⟨S32x256, .i32⟩
  | 86 => ⟨S32x256, .i32⟩
  | 87 => ⟨S32x256, .i32⟩
  | 88 => ⟨S1x128x256, .i1⟩
  | 89 => ⟨S_, .i32⟩
  | 90 => ⟨S32x256, .i32⟩
  | 91 => ⟨S32x256, .i1⟩
  | 92 => ⟨S32x1x256, .i1⟩
  | 93 => ⟨S32x128x256, .i1⟩
  | 94 => ⟨S32x128x256, .i1⟩
  | 95 => ⟨S32x128x256, .i1⟩
  | 96 => ⟨S4x4x128x256, .f32⟩
  | 97 => ⟨S32x4x256x128x4, .f32⟩
  | 98 => ⟨S32x4x4x128x256, .f32⟩
  | 99 => ⟨S_, .f32⟩
  | 100 => ⟨S32x4x4x128x256, .f32⟩
  | 101 => ⟨S32x4x4x128x256, .f32⟩
  | 102 => ⟨S32x1x1x128x256, .i1⟩
  | 103 => ⟨S1x4x4x128x256, .f32⟩
  | 104 => ⟨S32x4x4x128x256, .f32⟩
  | 105 => ⟨S32x4x4x128x256, .f32⟩
  | 106 => ⟨S_, .f32⟩
  | 107 => ⟨S_, .f32⟩
  | 108 => ⟨S32x4x4x128x256, .i1⟩
  | 109 => ⟨S32x4x4x128x256, .f32⟩
  | 110 => ⟨S32x4x4x128x256, .f32⟩
  | 111 => ⟨S_, .f32⟩
  | 112 => ⟨S32x4x4x128x256, .f32⟩
  | 113 => ⟨S4x4x1x1, .f32⟩
  | 114 => ⟨S_, .f32⟩
  | 115 => ⟨S32x4x4x128, .f32⟩
  | 116 => ⟨S32x4x4x128x1, .f32⟩
  | 117 => ⟨S32x4x4x128x256, .f32⟩
  | 118 => ⟨S32x4x4x128x256, .i1⟩
  | 119 => ⟨S32x4x4x128x256, .f32⟩
  | 120 => ⟨S_, .f32⟩
  | 121 => ⟨S32x4x4x128, .f32⟩
  | 122 => ⟨S32x4x4x128x1, .f32⟩
  | 123 => ⟨S1x4x4x1x1, .f32⟩
  | 124 => ⟨S32x4x4x128x1, .f32⟩
  | 125 => ⟨S32x4x4x128x1, .f32⟩
  | 126 => ⟨S32x4x4x128x1, .f32⟩
  | 127 => ⟨S32x4x4x128x1, .i1⟩
  | _ => ⟨S4096x1024, .bf16⟩

abbrev hbmTy0_1 (i : Nat) : BufTy := match i % 128 with
  | 0 => ⟨S32x4x4x128x1, .f32⟩
  | 1 => ⟨S32x4x4x128x1, .i1⟩
  | 2 => ⟨S_, .f32⟩
  | 3 => ⟨S32x4x4x128x1, .f32⟩
  | 4 => ⟨S_, .f32⟩
  | 5 => ⟨S32x4x4x128x1, .f32⟩
  | 6 => ⟨S_, .f32⟩
  | 7 => ⟨S32x4x4x128x1, .f32⟩
  | 8 => ⟨S32x4x4x128x1, .f32⟩
  | 9 => ⟨S32x4x4x128x1, .f32⟩
  | 10 => ⟨S32x4x4x128x1, .f32⟩
  | 11 => ⟨S32x4x4x128x1, .i1⟩
  | 12 => ⟨S32x4x4x128x1, .f32⟩
  | 13 => ⟨S32x4x4x128x1, .i1⟩
  | 14 => ⟨S_, .f32⟩
  | 15 => ⟨S32x4x4x128x1, .f32⟩
  | 16 => ⟨S_, .f32⟩
  | 17 => ⟨S32x4x4x128x1, .f32⟩
  | 18 => ⟨S_, .f32⟩
  | 19 => ⟨S32x4x4x128x1, .f32⟩
  | 20 => ⟨S32x4x4x128x1, .f32⟩
  | 21 => ⟨S32x4x4x128x1, .f32⟩
  | 22 => ⟨S32x4x4x128x256, .f32⟩
  | 23 => ⟨S32x4x4x128x256, .f32⟩
  | 24 => ⟨S32x4x4x128x256, .f32⟩
  | 25 => ⟨S_, .f32⟩
  | 26 => ⟨S32x4x4x128, .f32⟩
  | 27 => ⟨S32x4x4x128x1, .f32⟩
  | 28 => ⟨S1x4x4x1x1, .f32⟩
  | 29 => ⟨S32x4x4x128x1, .f32⟩
  | 30 => ⟨S32x4x4x128x1, .f32⟩
  | 31 => ⟨S32x4x4x128x1, .f32⟩
  | 32 => ⟨S32x4x4x128x1, .f32⟩
  | 33 => ⟨S32x4x4x128x256, .f32⟩
  | 34 => ⟨S32x4x4x128x256, .f32⟩
  | 35 => ⟨S32x4x4x128x1, .f32⟩
  | 36 => ⟨S_, .f32⟩
  | 37 => ⟨S32x4x4x128x1, .f32⟩
  | 38 => ⟨S32x4x4x128x1, .f32⟩
  | 39 => ⟨S32x4x64x4x128, .f32⟩
  | 40 => ⟨S32x128x4x4x64, .f32⟩
  | 41 => ⟨S4096x1024, .f32⟩
  | 42 => ⟨S32x128x4x4x64, .f32⟩
  | 43 => ⟨S32x4x64x4x128, .f32⟩
  | 44 => ⟨S32x4x4x128x256, .f32⟩
  | 45 => ⟨S32x4x64x256, .f32⟩
  | 46 => ⟨S32x256x4x64, .f32⟩
  | 47 => ⟨S32x4x4x128x256, .f32⟩
  | 48 => ⟨S32x4x4x128x256, .f32⟩
  | 49 => ⟨S32x4x4x128x256, .f32⟩
  | 50 => ⟨S_, .f32⟩
  | 51 => ⟨S32x4x4x128, .f32⟩
  | 52 => ⟨S32x4x4x128x1, .f32⟩
  | 53 => ⟨S32x4x4x128x1, .f32⟩
  | 54 => ⟨S32x4x4x128x256, .f32⟩
  | 55 => ⟨S32x4x4x128x256, .f32⟩
  | 56 => ⟨S32x4x4x128x1, .f32⟩
  | 57 => ⟨S_, .f32⟩
  | 58 => ⟨S4x4x1, .f32⟩
  | 59 => ⟨S1x4x4x1x1, .f32⟩
  | 60 => ⟨S32x4x4x128x1, .f32⟩
  | 61 => ⟨S_, .f32⟩
  | 62 => ⟨S4x4, .f32⟩
  | 63 => ⟨S4x4x1x1, .f32⟩
  | 64 => ⟨S_, .f32⟩
  | 65 => ⟨S32x4x4x128, .f32⟩
  | 66 => ⟨S32x4x4x128x256, .f32⟩
  | 67 => ⟨S32x4x4x128x256, .f32⟩
  | 68 => ⟨S32x4x4x128x256, .f32⟩
  | 69 => ⟨S32x4x4x128x256, .f32⟩
  | 70 => ⟨S_, .f32⟩
  | 71 => ⟨S32x4x4x128, .f32⟩
  | 72 => ⟨S32x4x4x128x1, .f32⟩
  | 73 => ⟨S32x4x4x128x1, .f32⟩
  | 74 => ⟨S32x4x4x128x1, .f32⟩
  | 75 => ⟨S_, .f32⟩
  | 76 => ⟨S4x4x1, .f32⟩
  | 77 => ⟨S1x4x4x1x1, .f32⟩
  | 78 => ⟨S32x4x4x128x1, .f32⟩
  | 79 => ⟨S_, .f32⟩
  | 80 => ⟨S4x4, .f32⟩
  | 81 => ⟨S4x4x1x1, .f32⟩
  | 82 => ⟨S4x4x1x1, .f32⟩
  | 83 => ⟨S_, .f32⟩
  | 84 => ⟨S32x4x4x128, .f32⟩
  | 85 => ⟨S32x4x4x128, .f32⟩
  | 86 => ⟨S32x4x4x128x256, .f32⟩
  | 87 => ⟨S32x4x4x128x256, .f32⟩
  | 88 => ⟨S32x4x4x128x256, .f32⟩
  | 89 => ⟨S16, .f32⟩
  | 90 => ⟨S_, .f32⟩
  | 91 => ⟨S32x4x4x128x256, .f32⟩
  | 92 => ⟨S32x4x4x128x256, .f32⟩
  | 93 => ⟨S_, .f32⟩
  | 94 => ⟨S4x4x128x256, .f32⟩
  | 95 => ⟨S1x4x4x128x256, .f32⟩
  | 96 => ⟨S_, .f32⟩
  | 97 => ⟨S4x4x128x256, .f32⟩
  | 98 => ⟨S_, .f32⟩
  | 99 => ⟨S32x4x4x128x256, .f32⟩
  | 100 => ⟨S32x4x4x128x256, .f32⟩
  | 101 => ⟨S32x4x256x128x4, .f32⟩
  | 102 => ⟨S32x4x128x4x64, .f32⟩
  | 103 => ⟨S32x128x4x4x64, .f32⟩
  | 104 => ⟨S32x4x256x64, .f32⟩
  | 105 => ⟨S32x256x4x64, .f32⟩
  | 106 => ⟨S16x128x256, .f32⟩
  | 107 => ⟨S32x256x256, .f32⟩
  | 108 => ⟨S32x256x256, .f32⟩
  | 109 => ⟨S32x256x512, .f32⟩
  | 110 => ⟨S4096x1024, .f32⟩
  | 111 => ⟨S4096x1024, .bf16⟩
  | 112 => ⟨S32x256x512, .bf16⟩
  | 113 => ⟨S_, .f32⟩
  | 114 => ⟨S112, .f32⟩
  | 115 => ⟨S128, .f32⟩
  | 116 => ⟨S1x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_16 : Ref sig .tc := ⟨.hbm, 106, rfl⟩
abbrev main_call1_v0 : Ref sig .tc := ⟨.hbm, 107, rfl⟩
abbrev main_v82_1 : Ref sig .tc := ⟨.hbm, 108, rfl⟩
abbrev main_call1_v2 : Ref sig .tc := ⟨.hbm, 109, rfl⟩
abbrev main_v82_0 : Ref sig .tc := ⟨.hbm, 110, rfl⟩
abbrev main_call1_cst : Ref sig .tc := ⟨.hbm, 111, rfl⟩
abbrev main_v82_2 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_19 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩
abbrev main_cst_21 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_22 : Ref sig .tc := ⟨.hbm, 142, rfl⟩
abbrev main_v107 : Ref sig .tc := ⟨.hbm, 143, rfl⟩
abbrev main_cst_23 : Ref sig .tc := ⟨.hbm, 144, rfl⟩
abbrev main_v108 : Ref sig .tc := ⟨.hbm, 145, rfl⟩
abbrev main_cst_24 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_25 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_26 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_27 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_28 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_29 : Ref sig .tc := ⟨.hbm, 189, rfl⟩
abbrev main_v147 : Ref sig .tc := ⟨.hbm, 190, rfl⟩
abbrev main_v148 : Ref sig .tc := ⟨.hbm, 191, rfl⟩
abbrev main_cst_30 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_31 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_32 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_33 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_34 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_call2_cst : Ref sig .tc := ⟨.hbm, 218, rfl⟩
abbrev main_call2_v0 : Ref sig .tc := ⟨.hbm, 219, rfl⟩
abbrev main_v170 : Ref sig .tc := ⟨.hbm, 220, rfl⟩
abbrev main_cst_35 : Ref sig .tc := ⟨.hbm, 221, rfl⟩
abbrev main_v171 : Ref sig .tc := ⟨.hbm, 222, rfl⟩
abbrev main_v172 : Ref sig .tc := ⟨.hbm, 223, rfl⟩
abbrev main_cst_36 : Ref sig .tc := ⟨.hbm, 224, rfl⟩
abbrev main_v173 : Ref sig .tc := ⟨.hbm, 225, rfl⟩
abbrev main_cst_37 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_cst_38 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩

abbrev nD : Nat := 1
abbrev τ : Topo := Topo.v7x

variable {F : FTy → Type} [FloatOps F]
-- ==== QBwd.lean ====
abbrev S4096x1024 : Shape := ⟨2, ![4096, 1024]⟩
abbrev S1024 : Shape := ⟨1, ![1024]⟩
abbrev S1024x1024 : Shape := ⟨2, ![1024, 1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S1024x1024, .bf16⟩
  | .hbm, ⟨6, _⟩ => ⟨S1x1024x1024, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== QBwdRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DkvCombine.lean ====
abbrev S32x256x512 : Shape := ⟨3, ![32, 256, 512]⟩
abbrev S64x128x512 : Shape := ⟨3, ![64, 128, 512]⟩
abbrev S4096x512 : Shape := ⟨2, ![4096, 512]⟩
abbrev S1x128x512 : Shape := ⟨3, ![1, 128, 512]⟩
abbrev S128x512 : Shape := ⟨2, ![128, 512]⟩

abbrev nBuf : Space → Nat
  | .hbm => 5
  | .vmem => 10
  | .smem => 0
  | _ => 0

abbrev bufTy : (tb : Table) → Fin (tcTables nBuf tb) → BufTy
  | .hbm, ⟨0, _⟩ => ⟨S32x256x512, .bf16⟩
  | .hbm, ⟨1, _⟩ => ⟨S32x256x512, .bf16⟩
  | .hbm, ⟨2, _⟩ => ⟨S64x128x512, .bf16⟩
  | .hbm, ⟨3, _⟩ => ⟨S64x128x512, .bf16⟩
  | .hbm, ⟨4, _⟩ => ⟨S4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S128x512, .bf16⟩
  | .local _ .vmem, ⟨9, _⟩ => ⟨S128x512, .bf16⟩
  | _, _ => ⟨S32x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c62_i32 : BitVec 32 := 62#32
  let v2 : BitVec 32 := Scalar.minsi v1 c62_i32
  let c0_i32 : BitVec 32 := 0#32
  let c0_i32_1 : BitVec 32 := 0#32
  let c0_i32_2 : BitVec 32 := 0#32
  ![v2.toNat, c0_i32.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c62_i32 : BitVec 32 := 62#32
  let v2 : BitVec 32 := Scalar.minsi v1 c62_i32
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DkvCombineRefIdeal.lean ====
abbrev S32x256x512 : Shape := ⟨3, ![32, 256, 512]⟩
abbrev S_ : Shape := ⟨0, ![]⟩
abbrev S4096x512 : Shape := ⟨2, ![4096, 512]⟩
abbrev S32x128x512 : Shape := ⟨3, ![32, 128, 512]⟩
abbrev S1x128x512 : Shape := ⟨3, ![1, 128, 512]⟩
abbrev S31x128x512 : Shape := ⟨3, ![31, 128, 512]⟩

abbrev nBuf : Space → Nat
  | .hbm => 24
  | .vmem => 0
  | .smem => 0
  | _ => 0

abbrev bufTy : (tb : Table) → Fin (tcTables nBuf tb) → BufTy
  | .hbm, ⟨0, _⟩ => ⟨S32x256x512, .bf16⟩
  | .hbm, ⟨1, _⟩ => ⟨S32x256x512, .bf16⟩
  | .hbm, ⟨2, _⟩ => ⟨S32x256x512, .f32⟩
  | .hbm, ⟨3, _⟩ => ⟨S32x256x512, .f32⟩
  | .hbm, ⟨4, _⟩ => ⟨S32x256x512, .f32⟩
  | .hbm, ⟨5, _⟩ => ⟨S_, .f32⟩
  | .hbm, ⟨6, _⟩ => ⟨S4096x512, .f32⟩
  | .hbm, ⟨7, _⟩ => ⟨S32x128x512, .f32⟩
  | .hbm, ⟨8, _⟩ => ⟨S_, .f32⟩
  | .hbm, ⟨9, _⟩ => ⟨S1x128x512, .f32⟩
  | .hbm, ⟨10, _⟩ => ⟨S31x128x512, .f32⟩
  | .hbm, ⟨11, _⟩ => ⟨S32x128x512, .f32⟩
  | .hbm, ⟨12, _⟩ => ⟨S_, .f32⟩
  | .hbm, ⟨13, _⟩ => ⟨S1x128x512, .f32⟩
  | .hbm, ⟨14, _⟩ => ⟨S32x256x512, .f32⟩
  | .hbm, ⟨15, _⟩ => ⟨S32x128x512, .f32⟩
  | .hbm, ⟨16, _⟩ => ⟨S32x128x512, .f32⟩
  | .hbm, ⟨17, _⟩ => ⟨S1x128x512, .f32⟩
  | .hbm, ⟨18, _⟩ => ⟨S31x128x512, .f32⟩
  | .hbm, ⟨19, _⟩ => ⟨S_, .f32⟩
  | .hbm, ⟨20, _⟩ => ⟨S32x128x512, .f32⟩
  | .hbm, ⟨21, _⟩ => ⟨S32x128x512, .f32⟩
  | .hbm, ⟨22, _⟩ => ⟨S4096x512, .f32⟩
  | .hbm, ⟨23, _⟩ => ⟨S4096x512, .bf16⟩
  | _, _ => ⟨S32x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Pw1Bwd.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S1x8x1024x256 : Shape := ⟨4, ![1, 8, 1024, 256]⟩
abbrev S1x1024 : Shape := ⟨2, ![1, 1024]⟩
abbrev S512x2048 : Shape := ⟨2, ![512, 2048]⟩
abbrev S512x1024 : Shape := ⟨2, ![512, 1024]⟩
abbrev S256x256 : Shape := ⟨2, ![256, 256]⟩
abbrev S1x1x1024x256 : Shape := ⟨4, ![1, 1, 1024, 256]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .bf16⟩
  | .hbm, ⟨4, _⟩ => ⟨S4096x1024, .f32⟩
  | .hbm, ⟨5, _⟩ => ⟨S1024x2048, .bf16⟩
  | .hbm, ⟨6, _⟩ => ⟨S1024x8x256, .bf16⟩
  | .hbm, ⟨7, _⟩ => ⟨S8x1024x256, .bf16⟩
  | .hbm, ⟨8, _⟩ => ⟨S1x8x1024x256, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1x8x1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Pw1BwdRefIdeal.lean ====
abbrev S4096x1024 : Shape := ⟨2, ![4096, 1024]⟩
abbrev S1024 : Shape := ⟨1, ![1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2048, .f32⟩
  | .hbm, ⟨3, _⟩ => ⟨S4096x2048, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnBwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S5632x1024 : Shape := ⟨2, ![5632, 1024]⟩
abbrev S1x2x4x704x1024 : Shape := ⟨5, ![1, 2, 4, 704, 1024]⟩
abbrev S1x4x704x1024 : Shape := ⟨4, ![1, 4, 704, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S4x4096x704 : Shape := ⟨3, ![4, 4096, 704]⟩
abbrev S512x1024 : Shape := ⟨2, ![512, 1024]⟩
abbrev S2x1x512x704 : Shape := ⟨4, ![2, 1, 512, 704]⟩
abbrev S1x2x1x704x1024 : Shape := ⟨5, ![1, 2, 1, 704, 1024]⟩
abbrev S1x1x704x1024 : Shape := ⟨4, ![1, 1, 704, 1024]⟩
abbrev S1x512x704 : Shape := ⟨3, ![1, 512, 704]⟩
abbrev S256x1024 : Shape := ⟨2, ![256, 1024]⟩
abbrev S704x1024 : Shape := ⟨2, ![704, 1024]⟩
abbrev S256x704 : Shape := ⟨2, ![256, 704]⟩
abbrev S1x1x256x704 : Shape := ⟨4, ![1, 1, 256, 704]⟩
abbrev S1x256x704 : Shape := ⟨3, ![1, 256, 704]⟩
abbrev S1x1x1x704x1024 : Shape := ⟨5, ![1, 1, 1, 704, 1024]⟩
abbrev S256 : Shape := ⟨1, ![256]⟩
abbrev S256x1 : Shape := ⟨2, ![256, 1]⟩

abbrev nBuf : Space → Nat
  | .hbm => 35
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S5632x1024, .f32⟩
  | .hbm, ⟨6, _⟩ => ⟨S5632x1024, .bf16⟩
  | .hbm, ⟨7, _⟩ => ⟨S1x2x4x704x1024, .bf16⟩
  | .hbm, ⟨8, _⟩ => ⟨S2816x1024, .bf16⟩
  | .hbm, ⟨9, _⟩ => ⟨S1x4x704x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x5632, .bf16⟩
  | .hbm, ⟨28, _⟩ => ⟨S4096x2x4x704, .bf16⟩
  | .hbm, ⟨29, _⟩ => ⟨S2x4x4096x704, .bf16⟩
  | .hbm, ⟨30, _⟩ => ⟨S1x1024, .f32⟩
  | .hbm, ⟨31, _⟩ => ⟨S4096x1024, .f32⟩
  | .hbm, ⟨32, _⟩ => ⟨S1x1024, .f32⟩
  | .hbm, ⟨33, _⟩ => ⟨S4x4096x704, .bf16⟩
  | .hbm, ⟨34, _⟩ => ⟨S2x4x4096x704, .bf16⟩
  | .local _ .vmem, ⟨0, _⟩ => ⟨S512x1024, .f32⟩
  | .local _ .vmem, ⟨1, _⟩ => ⟨S512x1024, .f32⟩
  | .local _ .vmem, ⟨2, _⟩ => ⟨S2x1x512x704, .bf16⟩
  | .local _ .vmem, ⟨3, _⟩ => ⟨S2x1x512x704, .bf16⟩
  | .local _ .vmem, ⟨4, _⟩ => ⟨S1x2x1x704x1024, .bf16⟩
  | .local _ .vmem, ⟨5, _⟩ => ⟨S1x2x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x512x704, .bf16⟩
  | .local _ .vmem, ⟨15, _⟩ => ⟨S1x512x704, .bf16⟩
  | .local _ .vmem, ⟨16, _⟩ => ⟨S2x1x512x704, .bf16⟩
  | .local _ .vmem, ⟨17, _⟩ => ⟨S2x1x512x704, .bf16⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v23_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v102 : BitVec 1 := Scalar.cmpi .eq arg1 c3_i32
  let v103 : BitVec 32 := Scalar.extui v102
  let c0_i32_88 : BitVec 32 := 0#32
  let v104 : BitVec 1 := Scalar.cmpi .ne v103 c0_i32_88
  v104

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnBwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S4096x2x4x704 : Shape := ⟨4, ![4096, 2, 4, 704]⟩
abbrev S2x4x4096x704 : Shape := ⟨4, ![2, 4, 4096, 704]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x5632, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x4x704, .f32⟩
  | .hbm, ⟨80, _⟩ => ⟨S4x4096x704, .f32⟩
  | .hbm, ⟨81, _⟩ => ⟨S4x4096x704, .bf16⟩
  | .hbm, ⟨82, _⟩ => ⟨S4096x2x4x704, .f32⟩
  | .hbm, ⟨83, _⟩ => ⟨S2x4x4096x704, .f32⟩
  | .hbm, ⟨84, _⟩ => ⟨S2x4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩

abbrev nD : Nat := 1
abbrev τ : Topo := Topo.v7x

variable {F : FTy → Type} [FloatOps F]
-- ==== BiasGrad.lean ====
abbrev S16x128x256 : Shape := ⟨3, ![16, 128, 256]⟩
abbrev S128x256 : Shape := ⟨2, ![128, 256]⟩
abbrev S32x16 : Shape := ⟨2, ![32, 16]⟩
abbrev S1x128x256 : Shape := ⟨3, ![1, 128, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 4
  | .vmem => 3
  | .smem => 1
  | _ => 0

abbrev bufTy : (tb : Table) → Fin (tcTables nBuf tb) → BufTy
  | .hbm, ⟨0, _⟩ => ⟨S16x128x256, .f32⟩
  | .hbm, ⟨1, _⟩ => ⟨S16x128x256, .f32⟩
  | .hbm, ⟨2, _⟩ => ⟨S128x256, .i32⟩
  | .hbm, ⟨3, _⟩ => ⟨S32x16, .f32⟩
  | .local _ .vmem, ⟨0, _⟩ => ⟨S16x128x256, .f32⟩
  | .local _ .vmem, ⟨1, _⟩ => ⟨S16x128x256, .f32⟩
  | .local _ .vmem, ⟨2, _⟩ => ⟨S128x256, .i32⟩
  | .local _ .smem, ⟨0, _⟩ => ⟨S32x16, .f32⟩
  | _, _ => ⟨S16x128x256, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BiasGradRefIdeal.lean ====
abbrev S16x128x256 : Shape := ⟨3, ![16, 128, 256]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S32x16 : Shape := ⟨2, ![32, 16]⟩
abbrev S128x256x1 : Shape := ⟨3, ![128, 256, 1]⟩
abbrev S128x256x16 : Shape := ⟨3, ![128, 256, 16]⟩
abbrev S1x128x256 : Shape := ⟨3, ![1, 128, 256]⟩

abbrev nBuf : Space → Nat
  | .hbm => 75
  | .vmem => 0
  | .smem => 0
  | _ => 0

abbrev bufTy : (tb : Table) → Fin (tcTables nBuf tb) → BufTy
  | .hbm, ⟨0, _⟩ => ⟨S16x128x256, .f32⟩
  | .hbm, ⟨1, _⟩ => ⟨S16x128x256, .f32⟩
  | .hbm, ⟨2, _⟩ => ⟨S128, .i32⟩
  | .hbm, ⟨3, _⟩ => ⟨S128x1, .i32⟩
  | .hbm, ⟨4, _⟩ => ⟨S_, .i32⟩
  | .hbm, ⟨5, _⟩ => ⟨S128x1, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S128x256, .i1⟩
  | .hbm, ⟨19, _⟩ => ⟨S_, .f32⟩
  | .hbm, ⟨20, _⟩ => ⟨S32x16, .f32⟩
  | .hbm, ⟨21, _⟩ => ⟨S_, .i32⟩
  | .hbm, ⟨22, _⟩ => ⟨S128x256, .i32⟩
  | .hbm, ⟨23, _⟩ => ⟨S128x256, .i32⟩
  | .hbm, ⟨24, _⟩ => ⟨S_, .i32⟩
  | .hbm, ⟨25, _⟩ => ⟨S128x256, .i32⟩
  | .hbm, ⟨26, _⟩ => ⟨S128x256, .i32⟩
  | .hbm, ⟨27, _⟩ => ⟨S128x256, .f32⟩
  | .hbm, ⟨28, _⟩ => ⟨S_, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i32⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S_, .i32⟩
  | .hbm, ⟨53, _⟩ => ⟨S128x256, .i32⟩
  | .hbm, ⟨54, _⟩ => ⟨S128x256, .i32⟩
  | .hbm, ⟨55, _⟩ => ⟨S128x256, .i32⟩
  | .hbm, ⟨56, _⟩ => ⟨S128x256x1, .i32⟩
  | .hbm, ⟨57, _⟩ => ⟨S128x256x16, .f32⟩
  | .hbm, ⟨58, _⟩ => ⟨S16x128x256, .f32⟩
  | .hbm, ⟨59, _⟩ => ⟨S1x128x256, .i1⟩
  | .hbm, ⟨60, _⟩ => ⟨S_, .f32⟩
  | .hbm, ⟨61, _⟩ => ⟨S_, .f32⟩
  | .hbm, ⟨62, _⟩ => ⟨S16x128x256, .i1⟩
  | .hbm, ⟨63, _⟩ => ⟨S16x128x256, .f32⟩
  | .hbm, ⟨64, _⟩ => ⟨S16x128x256, .f32⟩
  | .hbm, ⟨65, _⟩ => ⟨S_, .f32⟩
  | .hbm, ⟨66, _⟩ => ⟨S16x128x256, .f32⟩
  | .hbm, ⟨67, _⟩ => ⟨S16x128x256, .f32⟩
  | .hbm, ⟨68, _⟩ => ⟨S_, .f32⟩
  | .hbm, ⟨69, _⟩ => ⟨S16x128x256, .f32⟩
  | .hbm, ⟨70, _⟩ => ⟨S16x128x256, .f32⟩
  | .hbm, ⟨71, _⟩ => ⟨S128x256x16, .f32⟩
  | .hbm, ⟨72, _⟩ => ⟨S_, .f32⟩
  | .hbm, ⟨73, _⟩ => ⟨S32x16, .f32⟩
  | .hbm, ⟨74, _⟩ => ⟨S32x16, .f32⟩
  | _, _ => ⟨S16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_c_8 : Ref sig .tc := ⟨.hbm, 42, rfl⟩
abbrev main_v30 : Ref sig .tc := ⟨.hbm, 43, rfl⟩
abbrev main_v31 : Ref sig .tc := ⟨.hbm, 44, rfl⟩
abbrev main_c_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_10 : Ref sig .tc := ⟨.hbm, 49, rfl⟩
abbrev main_v35 : Ref sig .tc := ⟨.hbm, 50, rfl⟩
abbrev main_v36 : Ref sig .tc := ⟨.hbm, 51, rfl⟩
abbrev main_c_11 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_call1_v0 : Ref sig .tc := ⟨.hbm, 61, rfl⟩
abbrev main_v44_1 : Ref sig .tc := ⟨.hbm, 62, rfl⟩
abbrev main_call1_v2 : Ref sig .tc := ⟨.hbm, 63, rfl⟩
abbrev main_v44_0 : Ref sig .tc := ⟨.hbm, 64, rfl⟩
abbrev main_call1_cst : Ref sig .tc := ⟨.hbm, 65, rfl⟩
abbrev main_v44_2 : Ref sig .tc := ⟨.hbm, 66, rfl⟩
abbrev main_v45 : Ref sig .tc := ⟨.hbm, 67, rfl⟩
abbrev main_call2_cst : Ref sig .tc := ⟨.hbm, 68, rfl⟩
abbrev main_call2_v0 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== AttnFwd.lean ====
abbrev S4096x1024 : Shape := ⟨2, ![4096, 1024]⟩
abbrev S4096x256 : Shape := ⟨2, ![4096, 256]⟩
abbrev S16 : Shape := ⟨1, ![16]⟩
abbrev S32x16 : Shape := ⟨2, ![32, 16]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x128x256 : Shape := ⟨3, ![1, 128, 256]⟩
abbrev S4096x512 : Shape := ⟨2, ![4096, 512]⟩
abbrev S1x16 : Shape := ⟨2, ![1, 16]⟩
abbrev S128x1024 : Shape := ⟨2, ![128, 1024]⟩
abbrev S128x512 : Shape := ⟨2, ![128, 512]⟩
abbrev S256x512 : Shape := ⟨2, ![256, 512]⟩
abbrev S256x64 : Shape := ⟨2, ![256, 64]⟩
abbrev S128x64 : Shape := ⟨2, ![128, 64]⟩
abbrev S512x64 : Shape := ⟨2, ![512, 64]⟩
abbrev S4x128x256 : Shape := ⟨3, ![4, 128, 256]⟩
abbrev S512x256 : Shape := ⟨2, ![512, 256]⟩
abbrev S512x1 : Shape := ⟨2, ![512, 1]⟩
abbrev S1x1 : Shape := ⟨2, ![1, 1]⟩
abbrev S512 : Shape := ⟨1, ![512]⟩

abbrev nBuf : Space → Nat
  | .hbm => 69
  | .vmem => 10
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S16, .f32⟩
  | .hbm, ⟨4, _⟩ => ⟨S32x16, .f32⟩
  | .hbm, ⟨5, _⟩ => ⟨S128, .i32⟩
  | .hbm, ⟨6, _⟩ => ⟨S128x1, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S256, .i32⟩
  | .hbm, ⟨11, _⟩ => ⟨S1x256, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S128x256, .i1⟩
  | .hbm, ⟨22, _⟩ => ⟨S_, .i32⟩
  | .hbm, ⟨23, _⟩ => ⟨S128x256, .i32⟩
  | .hbm, ⟨24, _⟩ => ⟨S128x256, .i32⟩
  | .hbm, ⟨25, _⟩ => ⟨S_, .i32⟩
  | .hbm, ⟨26, _⟩ => ⟨S128x256, .i32⟩
  | .hbm, ⟨27, _⟩ => ⟨S128x256, .i32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256, .f32⟩
  | .hbm, ⟨38, _⟩ => ⟨S128x256, .f32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i32⟩
  | .hbm, ⟨43, _⟩ => ⟨S_, .i32⟩
  | .hbm, ⟨44, _⟩ => ⟨S128x256, .i32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S128x256, .i32⟩
  | .hbm, ⟨55, _⟩ => ⟨S128x256, .i32⟩
  | .hbm, ⟨56, _⟩ => ⟨S128x256, .i32⟩
  | .hbm, ⟨57, _⟩ => ⟨S128x256x1, .i32⟩
  | .hbm, ⟨58, _⟩ => ⟨S128x256x16, .f32⟩
  | .hbm, ⟨59, _⟩ => ⟨S16x128x256, .f32⟩
  | .hbm, ⟨60, _⟩ => ⟨S1x128x256, .i1⟩
  | .hbm, ⟨61, _⟩ => ⟨S_, .f32⟩
  | .hbm, ⟨62, _⟩ => ⟨S_, .f32⟩
  | .hbm, ⟨63, _⟩ => ⟨S16x128x256, .i1⟩
  | .hbm, ⟨64, _⟩ => ⟨S16x128x256, .f32⟩
  | .hbm, ⟨65, _⟩ => ⟨S16x128x256, .f32⟩
  | .hbm, ⟨66, _⟩ => ⟨S4096x512, .bf16⟩
  | .hbm, ⟨67, _⟩ => ⟨S1x16, .f32⟩
  | .hbm, ⟨68, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S16x128x256, .f32⟩
  | .local _ .vmem, ⟨7, _⟩ => ⟨S128x1024, .bf16⟩
  | .local _ .vmem, ⟨8, _⟩ => ⟨S128x1024, .bf16⟩
  | .local _ .vmem, ⟨9, _⟩ => ⟨S256x512, .bf16⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4096x1024 : Shape := ⟨2, ![4096, 1024]⟩
abbrev S4096x256 : Shape := ⟨2, ![4096, 256]⟩
abbrev S16 : Shape := ⟨1, ![16]⟩
abbrev S32x16 : Shape := ⟨2, ![32, 16]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S4x4x128x256 : Shape := ⟨4, ![4, 4, 128, 256]⟩
abbrev S32x4x256x128x4 : Shape := ⟨5, ![32, 4, 256, 128, 4]⟩
abbrev S32x4x4x128x256 : Shape := ⟨5, ![32, 4, 4, 128, 256]⟩
abbrev S32x1x1x128x256 : Shape := ⟨5, ![32, 1, 1, 128, 256]⟩
abbrev S1x4x4x128x256 : Shape := ⟨5, ![1, 4, 4, 128, 256]⟩
abbrev S4x4x1x1 : Shape := ⟨4, ![4, 4, 1, 1]⟩
abbrev S32x4x4x128 : Shape := ⟨4, ![32, 4, 4, 128]⟩
abbrev S32x4x4x128x1 : Shape := ⟨5, ![32, 4, 4, 128, 1]⟩
abbrev S1x4x4x1x1 : Shape := ⟨5, ![1, 4, 4, 1, 1]⟩
abbrev S32x4x64x4x128 : Shape := ⟨5, ![32, 4, 64, 4, 128]⟩

abbrev nBuf : Space → Nat
  | .hbm => 134
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x256, .bf16⟩
  | 3 => ⟨S16, .f32⟩
  | 4 => ⟨S32x16, .f32⟩
  | 5 => ⟨S128, .i32⟩
  | 6 => ⟨S128x1, .i32⟩
  | 7 => ⟨S_, .i32⟩
  | 8 => ⟨S128x1, .i32⟩
  | 9 => ⟨S128x1, .i32⟩
  | 10 => ⟨S256, .i32⟩
  | 11 => ⟨S1x256, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S_, .i32⟩
  | 23 => ⟨S128x256, .i32⟩
  | 24 => ⟨S128x256, .i32⟩
  | 25 => ⟨S_, .i32⟩
  | 26 => ⟨S128x256, .i32⟩
  | 27 => ⟨S128x256, .i32⟩
  | 28 => ⟨S128x256, .f32⟩
  | 29 => ⟨S_, .f32⟩
  | 30 => ⟨S128x256, .f32⟩
  | 31 => ⟨S128x256, .f32⟩
  | 32 => ⟨S128x256, .f32⟩
  | 33 => ⟨S_, .f32⟩
  | 34 => ⟨S128x256, .f32⟩
  | 35 => ⟨S128x256, .f32⟩
  | 36 => ⟨S_, .f32⟩
  | 37 => ⟨S128x256, .f32⟩
  | 38 => ⟨S128x256, .f32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i32⟩
  | 46 => ⟨S_, .i32⟩
  | 47 => ⟨S128x256, .i32⟩
  | 48 => ⟨S128x256, .i1⟩
  | 49 => ⟨S128x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i32⟩
  | 56 => ⟨S128x256, .i32⟩
  | 57 => ⟨S128x256x1, .i32⟩
  | 58 => ⟨S128x256x16, .f32⟩
  | 59 => ⟨S16x128x256, .f32⟩
  | 60 => ⟨S4096x1024, .f32⟩
  | 61 => ⟨S32x128x4x4x64, .f32⟩
  | 62 => ⟨S4096x256, .f32⟩
  | 63 => ⟨S32x128x4x64, .f32⟩
  | 64 => ⟨S4096x256, .f32⟩
  | 65 => ⟨S32x128x4x64, .f32⟩
  | 66 => ⟨S_, .f32⟩
  | 67 => ⟨S1x128x4x64, .f32⟩
  | 68 => ⟨S31x128x4x64, .f32⟩
  | 69 => ⟨S32x128x4x64, .f32⟩
  | 70 => ⟨S32x256x4x64, .f32⟩
  | 71 => ⟨S31x128x4x64, .f32⟩
  | 72 => ⟨S32x128x4x64, .f32⟩
  | 73 => ⟨S32x256x4x64, .f32⟩
  | 74 => ⟨S256, .i32⟩
  | 75 => ⟨S32, .i32⟩
  | 76 => ⟨S32x1, .i32⟩
  | 77 => ⟨S_, .i32⟩
  | 78 => ⟨S32x1, .i32⟩
  | 79 => ⟨S32x1, .i32⟩
  | 80 => ⟨S_, .i32⟩
  | 81 => ⟨S32x1, .i32⟩
  | 82 => ⟨S32x1, .i32⟩
  | 83 => ⟨S1x256, .i32⟩
  | 84 => ⟨S32x256, .i32⟩
  | 85 => ⟨S32x256, .i32⟩
  | 86 => ⟨S32x256, .i32⟩
  | 87 => ⟨S1x128x256, .i1⟩
  | 88 => ⟨S_, .i32⟩
  | 89 => ⟨S32x256, .i32⟩
  | 90 => ⟨S32x256, .i1⟩
  | 91 => ⟨S32x1x256, .i1⟩
  | 92 => ⟨S32x128x256, .i1⟩
  | 93 => ⟨S32x128x256, .i1⟩
  | 94 => ⟨S32x128x256, .i1⟩
  | 95 => ⟨S4x4x128x256, .f32⟩
  | 96 => ⟨S32x4x256x128x4, .f32⟩
  | 97 => ⟨S32x4x4x128x256, .f32⟩
  | 98 => ⟨S_, .f32⟩
  | 99 => ⟨S32x4x4x128x256, .f32⟩
  | 100 => ⟨S32x4x4x128x256, .f32⟩
  | 101 => ⟨S32x1x1x128x256, .i1⟩
  | 102 => ⟨S1x4x4x128x256, .f32⟩
  | 103 => ⟨S32x4x4x128x256, .f32⟩
  | 104 => ⟨S32x4x4x128x256, .f32⟩
  | 105 => ⟨S_, .f32⟩
  | 106 => ⟨S_, .f32⟩
  | 107 => ⟨S32x4x4x128x256, .i1⟩
  | 108 => ⟨S32x4x4x128x256, .f32⟩
  | 109 => ⟨S32x4x4x128x256, .f32⟩
  | 110 => ⟨S4x4x1x1, .f32⟩
  | 111 => ⟨S_, .f32⟩
  | 112 => ⟨S32x4x4x128, .f32⟩
  | 113 => ⟨S32x4x4x128x1, .f32⟩
  | 114 => ⟨S1x4x4x1x1, .f32⟩
  | 115 => ⟨S32x4x4x128x1, .f32⟩
  | 116 => ⟨S32x4x4x128x1, .f32⟩
  | 117 => ⟨S32x4x4x128x256, .f32⟩
  | 118 => ⟨S32x4x4x128x256, .f32⟩
  | 119 => ⟨S32x4x4x128x256, .f32⟩
  | 120 => ⟨S_, .f32⟩
  | 121 => ⟨S32x4x4x128, .f32⟩
  | 122 => ⟨S32x4x4x128x1, .f32⟩
  | 123 => ⟨S1x4x4x1x1, .f32⟩
  | 124 => ⟨S32x4x4x128x1, .f32⟩
  | 125 => ⟨S32x4x4x128x1, .f32⟩
  | 126 => ⟨S32x4x4x128x1, .f32⟩
  | 127 => ⟨S32x4x4x128x1, .f32⟩
  | _ => ⟨S4096x1024, .bf16⟩

abbrev hbmTy0_1 (i : Nat) : BufTy := match i % 128 with
  | 0 => ⟨S32x4x4x128x256, .f32⟩
  | 1 => ⟨S32x4x4x128x256, .f32⟩
  | 2 => ⟨S32x4x64x4x128, .f32⟩
  | 3 => ⟨S32x128x4x4x64, .f32⟩
  | 4 => ⟨S4096x1024, .f32⟩
  | 5 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_c_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_16 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Pw2Fwd.lean ====
abbrev S4096x1024 : Shape := ⟨2, ![4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1x1x1024 : Shape := ⟨3, ![1, 1, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S1024x1024, .bf16⟩
  | .hbm, ⟨6, _⟩ => ⟨S1x1024x1024, .bf16⟩
  | .hbm, ⟨7, _⟩ => ⟨S1x1024, .f32⟩
  | .hbm, ⟨8, _⟩ => ⟨S1x1x1024, .f32⟩
  | .hbm, ⟨9, _⟩ => ⟨S4096x1024, .f32⟩
  | .hbm, ⟨10, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Pw2FwdRefIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== FfnFwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S1x2x4x704x1024 : Shape := ⟨5, ![1, 2, 4, 704, 1024]⟩
abbrev S1x4x704x1024 : Shape := ⟨4, ![1, 4, 704, 1024]⟩
abbrev S2x4x4096x704 : Shape := ⟨4, ![2, 4, 4096, 704]⟩
abbrev S1024x1024 : Shape := ⟨2, ![1024, 1024]⟩
abbrev S1x2x1x704x1024 : Shape := ⟨5, ![1, 2, 1, 704, 1024]⟩
abbrev S1x1x704x1024 : Shape := ⟨4, ![1, 1, 704, 1024]⟩
abbrev S2x1x1024x704 : Shape := ⟨4, ![2, 1, 1024, 704]⟩
abbrev S256x1024 : Shape := ⟨2, ![256, 1024]⟩
abbrev S1x1x1x704x1024 : Shape := ⟨5, ![1, 1, 1, 704, 1024]⟩
abbrev S704x1024 : Shape := ⟨2, ![704, 1024]⟩
abbrev S256x704 : Shape := ⟨2, ![256, 704]⟩
abbrev S1x1x256x704 : Shape := ⟨4, ![1, 1, 256, 704]⟩
abbrev S256 : Shape := ⟨1, ![256]⟩
abbrev S256x1 : Shape := ⟨2, ![256, 1]⟩

abbrev nBuf : Space → Nat
  | .hbm => 31
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S5632x1024, .f32⟩
  | .hbm, ⟨23, _⟩ => ⟨S5632x1024, .bf16⟩
  | .hbm, ⟨24, _⟩ => ⟨S1x2x4x704x1024, .bf16⟩
  | .hbm, ⟨25, _⟩ => ⟨S2816x1024, .bf16⟩
  | .hbm, ⟨26, _⟩ => ⟨S1x4x704x1024, .bf16⟩
  | .hbm, ⟨27, _⟩ => ⟨S1x1024, .f32⟩
  | .hbm, ⟨28, _⟩ => ⟨S4096x1024, .f32⟩
  | .hbm, ⟨29, _⟩ => ⟨S2x4x4096x704, .bf16⟩
  | .hbm, ⟨30, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x2x1x704x1024, .bf16⟩
  | .local _ .vmem, ⟨5, _⟩ => ⟨S1x2x1x704x1024, .bf16⟩
  | .local _ .vmem, ⟨6, _⟩ => ⟨S1x1x704x1024, .bf16⟩
  | .local _ .vmem, ⟨7, _⟩ => ⟨S1x1x704x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S2x1x1024x704, .bf16⟩
  | .local _ .vmem, ⟨12, _⟩ => ⟨S2x1x1024x704, .bf16⟩
  | .local _ .vmem, ⟨13, _⟩ => ⟨S1024x1024, .bf16⟩
  | .local _ .vmem, ⟨14, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v111 : BitVec 1 := Scalar.cmpi .eq arg1 c3_i32
  let v112 : BitVec 32 := Scalar.extui v111
  let c0_i32_119 : BitVec 32 := 0#32
  let v113 : BitVec 1 := Scalar.cmpi .ne v112 c0_i32_119
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg1.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnFwdRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x4x704 : Shape := ⟨4, ![4096, 2, 4, 704]⟩
abbrev S2x4x4096x704 : Shape := ⟨4, ![2, 4, 4096, 704]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x5632, .bf16⟩
  | .hbm, ⟨37, _⟩ => ⟨S4096x2x4x704, .bf16⟩
  | .hbm, ⟨38, _⟩ => ⟨S2x4x4096x704, .bf16⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Pw1Fwd.lean ====
abbrev S4096x1024 : Shape := ⟨2, ![4096, 1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S1x8x1024x256 : Shape := ⟨4, ![1, 8, 1024, 256]⟩
abbrev S1x1x2048 : Shape := ⟨3, ![1, 1, 2048]⟩
abbrev S4096x2048 : Shape := ⟨2, ![4096, 2048]⟩
abbrev S1024x1024 : Shape := ⟨2, ![1024, 1024]⟩
abbrev S256x1024 : Shape := ⟨2, ![256, 1024]⟩
abbrev S1x1x1024x256 : Shape := ⟨4, ![1, 1, 1024, 256]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S1x8x1024x256, .bf16⟩
  | .hbm, ⟨7, _⟩ => ⟨S1x1x2048, .f32⟩
  | .hbm, ⟨8, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x8x1024x256, .bf16⟩
  | .local _ .vmem, ⟨3, _⟩ => ⟨S1x1x2048, .f32⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Pw1FwdRefIdeal.lean ====
abbrev S4096x1024 : Shape := ⟨2, ![4096, 1024]⟩
abbrev S1024x2048 : Shape := ⟨2, ![1024, 2048]⟩
abbrev S2048 : Shape := ⟨1, ![2048]⟩
abbrev S4096x2048 : Shape := ⟨2, ![4096, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .f32⟩
  | .hbm, ⟨2, _⟩ => ⟨S2048, .f32⟩
  | .hbm, ⟨3, _⟩ => ⟨S4096x1024, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BiasTab.lean ====
abbrev S32x16 : Shape := ⟨2, ![32, 16]⟩
abbrev S128x256 : Shape := ⟨2, ![128, 256]⟩
abbrev S16x128x256 : Shape := ⟨3, ![16, 128, 256]⟩
abbrev S1x1 : Shape := ⟨2, ![1, 1]⟩
abbrev S1x128x256 : Shape := ⟨3, ![1, 128, 256]⟩

abbrev nBuf : Space → Nat
  | .hbm => 3
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S128x256, .i32⟩
  | .hbm, ⟨2, _⟩ => ⟨S16x128x256, .f32⟩
  | .local _ .vmem, ⟨0, _⟩ => ⟨S128x256, .i32⟩
  | .local _ .vmem, ⟨1, _⟩ => ⟨S16x128x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasTabRefIdeal.lean ====
abbrev S32x16 : Shape := ⟨2, ![32, 16]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x128x256 : Shape := ⟨3, ![1, 128, 256]⟩

abbrev nBuf : Space → Nat
  | .hbm => 62
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S128, .i32⟩
  | .hbm, ⟨2, _⟩ => ⟨S128x1, .i32⟩
  | .hbm, ⟨3, _⟩ => ⟨S_, .i32⟩
  | .hbm, ⟨4, _⟩ => ⟨S128x1, .i32⟩
  | .hbm, ⟨5, _⟩ => ⟨S128x1, .i32⟩
  | .hbm, ⟨6, _⟩ => ⟨S256, .i32⟩
  | .hbm, ⟨7, _⟩ => ⟨S1x256, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S_, .i32⟩
  | .hbm, ⟨15, _⟩ => ⟨S128x256, .i32⟩
  | .hbm, ⟨16, _⟩ => ⟨S128x256, .i1⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S128x256, .f32⟩
  | .hbm, ⟨34, _⟩ => ⟨S128x256, .f32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S_, .i32⟩
  | .hbm, ⟨50, _⟩ => ⟨S128x256, .i32⟩
  | .hbm, ⟨51, _⟩ => ⟨S128x256, .i32⟩
  | .hbm, ⟨52, _⟩ => ⟨S128x256, .i32⟩
  | .hbm, ⟨53, _⟩ => ⟨S128x256x1, .i32⟩
  | .hbm, ⟨54, _⟩ => ⟨S128x256x16, .f32⟩
  | .hbm, ⟨55, _⟩ => ⟨S16x128x256, .f32⟩
  | .hbm, ⟨56, _⟩ => ⟨S1x128x256, .i1⟩
  | .hbm, ⟨57, _⟩ => ⟨S_, .f32⟩
  | .hbm, ⟨58, _⟩ => ⟨S_, .f32⟩
  | .hbm, ⟨59, _⟩ => ⟨S16x128x256, .i1⟩
  | .hbm, ⟨60, _⟩ => ⟨S16x128x256, .f32⟩
  | .hbm, ⟨61, _⟩ => ⟨S16x128x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_v14 : Ref sig .tc := ⟨.hbm, 19, rfl⟩
abbrev main_v15 : Ref sig .tc := ⟨.hbm, 20, rfl⟩
abbrev main_c_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_9 : Ref sig .tc := ⟨.hbm, 46, rfl⟩
abbrev main_v34 : Ref sig .tc := ⟨.hbm, 47, rfl⟩
abbrev main_v35 : Ref sig .tc := ⟨.hbm, 48, rfl⟩
abbrev main_c_10 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Reals.lean ====
/- Finite extended reals: how the ideal operations act on coerced real numbers, the float constants of the
   programs as reals, and what a precondition `|x| < ∞` gives. -/
module

public import Idealize.ShloMosaic.Lib.Pointwise
public import Idealize.ShloMosaic.PureOps.Ideal

@[expose] public section

noncomputable section

namespace Cert.Reals

open Idealize.ShloMosaic

/-- A finite sum of coerced reals is the coerced sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, the divisor not zero. -/
theorem div_real {y : ℝ} (h : y ≠ 0) (x : ℝ) : Ideal.div (x : EReal) (y : EReal) = ((x / y : ℝ) : EReal) := by
  rw [Ideal.div_coe h, ← EReal.coe_mul, one_div, div_eq_mul_inv]

/-- The ideal reciprocal root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- Zero as a coerced real. -/
theorem zero_coe : (0 : EReal) = ((0 : ℝ) : EReal) := rfl

/-- One as a coerced real. -/
theorem one_coe : (1 : EReal) = ((1 : ℝ) : EReal) := rfl

/-- The constant 1024. -/
theorem bits_1024 : Ideal.ofBits .f32 0x44800000#32 = ((1024 : ℝ) : EReal) := by
  simp [Ideal.ofBits, Ideal.ieee, -EReal.coe_mul]; norm_num

/-- The constant 1/1024. -/
theorem bits_inv_1024 : Ideal.ofBits .f32 0x3A800000#32 = ((1 / 1024 : ℝ) : EReal) := by
  simp [Ideal.ofBits, Ideal.ieee, -EReal.coe_mul]; norm_num

/-- The constant 1/2. -/
theorem bits_half : Ideal.ofBits .f32 0x3F000000#32 = ((1 / 2 : ℝ) : EReal) := by
  simp [Ideal.ofBits, Ideal.ieee, -EReal.coe_mul]; norm_num

/-- The constant −1/2. -/
theorem bits_neg_half : Ideal.ofBits .f32 0xBF000000#32 = ((-(1 / 2) : ℝ) : EReal) := by
  simp [Ideal.ofBits, Ideal.ieee, -EReal.coe_mul]; norm_num

/-- The constant 2. -/
theorem bits_two : Ideal.ofBits .f32 0x40000000#32 = ((2 : ℝ) : EReal) := by
  simp [Ideal.ofBits, Ideal.ieee, -EReal.coe_mul]; norm_num

/-- The norms' epsilon: the rational its float word is. -/
def eps : ℝ := 8796093 / 2 ^ 43

theorem eps_pos : 0 < eps := by unfold eps; norm_num

/-- The constant epsilon. -/
theorem bits_eps : Ideal.ofBits .f32 0x358637BD#32 = ((eps : ℝ) : EReal) := by
  simp [Ideal.ofBits, Ideal.ieee, eps, -EReal.coe_mul]; norm_num

/-- The infinity of a precondition. -/
theorem bits_inf : Ideal.ofBits .f32 0x7F800000#32 = ⊤ := by
  simp [Ideal.ofBits, Ideal.ieee]

/-- An extended real whose absolute value is below infinity is a real. -/
theorem real_of_abs_lt {x : EReal} (h : max x (-x) < ⊤) : ∃ r : ℝ, x = (r : EReal) := by
  induction x with
  | bot => simp at h
  | top => simp at h
  | coe r => exact ⟨r, rfl⟩

/-- What a precondition's comparison with infinity says of one element. -/
theorem lt_of_pre {S : Shape} {v : FVec Ideal S .f32} {hb : (⟨0, ![]⟩ : Shape).BroadcastsInDim S ![]}
    (h : cmpf .olt (Host.absf v) (broadcastInDim S ![] hb (constant ⟨0, ![]⟩ .f32 0x7F800000#32)) = fun _ => 1#1) (i : S.Idx) :
    ∃ r : ℝ, v i = (r : EReal) := by
  refine real_of_abs_lt ?_
  have h1 : Ideal.cmp .olt (max (v i) (-(v i))) (Ideal.ofBits .f32 0x7F800000#32) = 1#1 := congrFun h i
  rw [bits_inf] at h1
  unfold Ideal.cmp at h1
  by_contra hn
  simp [hn] at h1

/-- A vector of reals, as an ideal array. -/
def vec {a : ℕ} (x : Fin a → ℝ) : FVec Ideal ⟨1, ![a]⟩ .f32 := fun i => ((x (i 0) : ℝ) : EReal)

/-- A matrix of reals, as an ideal array. -/
def mat {a b : ℕ} (x : Fin a → Fin b → ℝ) : FVec Ideal ⟨2, ![a, b]⟩ .f32 := fun i => ((x (i 0) (i 1) : ℝ) : EReal)

theorem vec_apply {a : ℕ} (x : Fin a → ℝ) (i : Fin a) : vec x (ix1 i) = ((x i : ℝ) : EReal) := rfl

theorem mat_apply {a b : ℕ} (x : Fin a → Fin b → ℝ) (i : Fin a) (j : Fin b) : mat x (ix2 i j) = ((x i j : ℝ) : EReal) := rfl

/-- The matrix at an index, from the values of its coordinates. -/
theorem mat_at {a b : ℕ} (x : Fin a → Fin b → ℝ) {i : (⟨2, ![a, b]⟩ : Shape).Idx} {r : Fin a} {k : Fin b} (h : i = ix2 r k) :
    ((x r k : ℝ) : EReal) = mat x i := by
  rw [h, mat_apply]

/-- A vector all of whose elements are finite is one of reals. -/
theorem exists_vec {a : ℕ} {v : FVec Ideal ⟨1, ![a]⟩ .f32} (h : ∀ i, ∃ r : ℝ, v i = (r : EReal)) : ∃ x, v = vec x := by
  choose f hf using h
  refine ⟨fun i => f (ix1 i), funext fun i => (hf i).trans ?_⟩
  exact congrArg (fun j => ((f j : ℝ) : EReal)) (funext fun k => by fin_cases k; rfl)

/-- A matrix all of whose elements are finite is one of reals. -/
theorem exists_mat {a b : ℕ} {v : FVec Ideal ⟨2, ![a, b]⟩ .f32} (h : ∀ i, ∃ r : ℝ, v i = (r : EReal)) : ∃ x, v = mat x := by
  choose f hf using h
  refine ⟨fun i j => f (ix2 i j), funext fun i => (hf i).trans ?_⟩
  exact congrArg (fun j => ((f j : ℝ) : EReal)) (funext fun k => by fin_cases k <;> rfl)

/-- Every index of a matrix is a pair of coordinates. -/
theorem exists_ix2 {a b : ℕ} (i : (⟨2, ![a, b]⟩ : Shape).Idx) : ∃ (r : Fin a) (k : Fin b), i = ix2 r k :=
  ⟨i 0, i 1, funext fun k => by fin_cases k <;> rfl⟩

/-- Index `r` of the `t`-th of `T` equal blocks of `B`, in the whole. -/
def blockRow {T B N : ℕ} (h : T * B = N) (t : Fin T) (r : Fin B) : Fin N :=
  ⟨B * t.val + r.val, by
    have := t.isLt; have := r.isLt
    calc B * t.val + r.val < B * t.val + B := by omega
      _ = (t.val + 1) * B := by ring
      _ ≤ T * B := Nat.mul_le_mul_right _ (by omega)
      _ = N := h⟩

/-- A sum over blocks and places in the block is the sum over the whole. -/
theorem sum_blocks {M : Type} [AddCommMonoid M] {T B N : ℕ} (h : T * B = N) (f : Fin N → M) :
    ∑ t : Fin T, ∑ r : Fin B, f (blockRow h t r) = ∑ i, f i := by
  subst h
  rw [← Fintype.sum_prod_type', ← finProdFinEquiv.sum_comp]
  refine Finset.sum_congr rfl fun p _ => congrArg f (Fin.ext ?_)
  simp [blockRow, finProdFinEquiv, add_comm]

end Cert.Reals

end
-- ==== Proof.Rms.lean ====
/- The root-mean-square norm of a row of 1024 reals and its gradient: the two forms the programs write, and that they
   are one function. -/
module

public import proofs.«01_k».proof.Proof.Reals

@[expose] public section

noncomputable section

namespace Cert.Rms

open Idealize.ShloMosaic Cert.Reals

/-- Every index of a box is a triple of coordinates. -/
theorem box_index {a b c : ℕ} (i : (⟨3, ![a, b, c]⟩ : Shape).Idx) : ∃ u r k, i = ix3 u r k :=
  ⟨i 0, i 1, i 2, funext fun n => by fin_cases n <;> rfl⟩

/-- The mean square of a row, plus epsilon. -/
def ms (x : Fin 1024 → ℝ) : ℝ := (∑ k, x k * x k) / 1024 + eps

/-- The reciprocal root of the mean square. -/
def rn (x : Fin 1024 → ℝ) : ℝ := (Real.sqrt (ms x))⁻¹

theorem ms_pos (x : Fin 1024 → ℝ) : 0 < ms x := by
  have h : 0 ≤ ∑ k, x k * x k := Finset.sum_nonneg fun k _ => mul_self_nonneg _
  have := eps_pos
  unfold ms; positivity

theorem ms_ne (x : Fin 1024 → ℝ) : ms x ≠ 0 := (ms_pos x).ne'

/-- The program's mean square plus epsilon, over the extended reals. -/
theorem ms_coe (x : Fin 1024 → ℝ) :
    Ideal.div (∑ k, (x k : EReal) * (x k : EReal)) (Ideal.ofBits .f32 0x44800000#32) + Ideal.ofBits .f32 0x358637BD#32 = ((ms x : ℝ) : EReal) := by
  simp only [← EReal.coe_mul, sum_coe, bits_1024, bits_eps, div_real (show (1024 : ℝ) ≠ 0 by norm_num), ← EReal.coe_add, ms]

theorem rn_coe (x : Fin 1024 → ℝ) : Ideal.rsqrt ((ms x : ℝ) : EReal) = ((rn x : ℝ) : EReal) := rsqrt_real (ms_pos x)

/-- The square of the reciprocal root is the reciprocal. -/
theorem rn_sq (x : Fin 1024 → ℝ) : rn x * rn x = 1 / ms x := by
  unfold rn
  rw [← mul_inv, Real.mul_self_sqrt (ms_pos x).le, one_div]

/-- The gradient of a normalised row in the row, for the cotangent `d` of the normalised row: as the kernels write it. -/
def back (x d : Fin 1024 → ℝ) (j : Fin 1024) : ℝ :=
  rn x * (d j - x j * rn x * ((∑ k, d k * (x k * rn x)) / 1024))

/-- The same gradient by the product rule: through the scaled row, and twice through the square under the mean. -/
theorem back_eq (x d : Fin 1024 → ℝ) (j : Fin 1024) :
    d j * rn x + x j * ((∑ k, x k * d k) * (-(1 / 2) * (rn x / ms x)) / 1024) + (∑ k, x k * d k) * (-(1 / 2) * (rn x / ms x)) / 1024 * x j
      = back x d j := by
  have hs : (∑ k, d k * (x k * rn x)) = rn x * ∑ k, x k * d k := by
    rw [Finset.mul_sum]; exact Finset.sum_congr rfl fun k _ => by ring
  have hr : rn x / ms x = rn x * (rn x * rn x) := by rw [rn_sq]; ring
  unfold back
  rw [hs, hr]
  ring

end Cert.Rms

end
-- ==== Proof.LossRef.lean ====
/- The reference of the loss head: what its three results hold at finite arguments. -/
module

public import proofs.«01_k».proof.Proof.Gen.LossHeadRefIdeal.Read
public import proofs.«01_k».proof.Proof.Rms

@[expose] public section

set_option maxRecDepth 16384

noncomputable section

/-! The reference's operations, read one stage at a time at finite arguments: every value is a coerced real. -/

namespace Cert.LossRef

open Idealize.ShloMosaic Cert.LossHeadRefIdeal Cert.LossHeadRefIdeal.Read Cert.Reals Cert.Rms

variable (x : Fin 4096 → Fin 1024 → ℝ) (g : Fin 1024 → ℝ) (y : Fin 4096 → Fin 1024 → ℝ)

/-- The residual: the scaled normalised row less the target. -/
def err (r : Fin 4096) (j : Fin 1024) : ℝ := x r j * rn (x r) * g j - y r j

/-- The cotangent of the norm's output. -/
def dy (r : Fin 4096) (j : Fin 1024) : ℝ := err x g y r j / 1024

theorem v6 (r : Fin 4096) (u : Fin 1) : val_main_v6 (F := Ideal) (mat x) (ix2 r u) = ((ms (x r) : ℝ) : EReal) := by
  pointwise [val_main_v6, val_main_v5, val_main_v4, val_main_v3, val_main_v2, val_main_v1, val_main_v0, val_main_cst, val_main_cst_0, val_main_cst_1]
  exact ms_coe (x r)
theorem v7 (r : Fin 4096) (u : Fin 1) : val_main_v7 (F := Ideal) (mat x) (ix2 r u) = ((rn (x r) : ℝ) : EReal) := by
  pointwise [val_main_v7]
  rw [v6, rn_coe]
theorem v12 (r : Fin 4096) (u : Fin 1024) : val_main_v12 (F := Ideal) (mat x) (ix2 r u) = ((x r u * rn (x r) : ℝ) : EReal) := by
  pointwise [val_main_v12, val_main_v11]
  rw [v7, mat_apply, ← EReal.coe_mul]
theorem v16 (r : Fin 4096) (j : Fin 1024) : val_main_v16 (F := Ideal) (mat x) (vec g) (mat y) (ix2 r j) = ((err x g y r j : ℝ) : EReal) := by
  pointwise [val_main_v16, val_main_v15, val_main_v14, val_main_v13]
  rw [v12, mat_apply, vec_apply, ← EReal.coe_mul, ← EReal.coe_sub, err]
theorem v30 (r : Fin 4096) (j : Fin 1024) : val_main_v30 (F := Ideal) (mat x) (vec g) (mat y) (ix2 r j) = ((dy x g y r j : ℝ) : EReal) := by
  pointwise [val_main_v30, val_main_v29, val_main_v28, val_main_v27, val_main_v26, val_main_v25, val_main_cst_8, val_main_cst_9, val_main_cst_10, val_main_v19, val_main_v18, val_main_cst_3]
  rw [v16, bits_half, bits_1024, bits_two, div_real (by norm_num), ← EReal.coe_mul, ← EReal.coe_mul]
  congr 1
  unfold dy
  ring

/-- The cotangent of `h`: the norm's gradient at the cotangent of the scaled row. -/
theorem v50 (r : Fin 4096) (j : Fin 1024) :
    val_main_v50 (F := Ideal) (mat x) (vec g) (mat y) (ix2 r j) = ((back (x r) (fun k => dy x g y r k * g k) j : ℝ) : EReal) := by
  pointwise [val_main_v50, val_main_v49, val_main_v48, val_main_v47, val_main_v46, val_main_v45, val_main_v44, val_main_v43, val_main_v42,
    val_main_v41, val_main_v40, val_main_v39, val_main_v38, val_main_v37, val_main_v34, val_main_v35, val_main_v36, val_main_cst_15,
    val_main_cst_13, val_main_cst_14, val_main_v13, val_main_v10, val_main_v9, val_main_v8, val_main_cst_2]
  rw [← back_eq]
  simp only [mat_apply, vec_apply, v30, v7, v6, ← EReal.coe_mul, sum_coe, ← EReal.coe_add, div_real (ms_ne _), bits_neg_half, bits_1024,
    div_real (show (1024 : ℝ) ≠ 0 by norm_num), Finset.univ_unique, Finset.sum_singleton]

/-- The gain's gradient: the column sums of the normalised rows times the output's cotangent. -/
theorem v51 (r : Fin 1) (j : Fin 1024) :
    val_main_v51 (F := Ideal) (mat x) (vec g) (mat y) (ix2 r j) = ((∑ i, x i j * rn (x i) * dy x g y i j : ℝ) : EReal) := by
  pointwise [val_main_v51, val_main_v36, val_main_v32, val_main_v33, val_main_v31, val_main_cst_11, val_main_cst_12]
  simp only [mat_apply, vec_apply, v30, v12, ← EReal.coe_mul, sum_coe, Finset.univ_unique, Finset.sum_singleton]

/-- The loss, in every lane. -/
theorem v52 (r : Fin 1) (j : Fin 128) :
    val_main_v52 (F := Ideal) (mat x) (vec g) (mat y) (ix2 r j) = ((1 / 2 * ∑ i, (∑ k, err x g y i k * err x g y i k) / 1024 : ℝ) : EReal) := by
  pointwise [val_main_v52, val_main_v24, val_main_v23, val_main_v22, val_main_v21, val_main_v20, val_main_v17, val_main_cst_4, val_main_cst_5,
    val_main_cst_6, val_main_cst_7]
  simp only [v16, ← EReal.coe_mul, sum_coe, bits_1024, bits_half, div_real (show (1024 : ℝ) ≠ 0 by norm_num)]

open Idealize.ShloMosaic.TcCoe Idealize.SL.Sem in
/-- The reference's run, its results named by the operations' values. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = val_main_v50 (F := Ideal) (m ((c.tc : Thread nD τ).loc main_arg0)) (m ((c.tc : Thread nD τ).loc main_arg1)) (m ((c.tc : Thread nD τ).loc main_arg2))
      ∧ r.2.mem ((c.tc : Thread nD τ).loc main_v51) = val_main_v51 (F := Ideal) (m ((c.tc : Thread nD τ).loc main_arg0)) (m ((c.tc : Thread nD τ).loc main_arg1)) (m ((c.tc : Thread nD τ).loc main_arg2))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v50_eq m c), (h c).2.1.trans (val_main_v51_eq ..),
    (h c).2.2.1.trans (val_main_v52_eq ..), (h c).2.2.2⟩) (Cert.LossHeadRefIdeal.Value.run m ρ)

end Cert.LossRef

end
-- ==== Proof.LossKernel.lean ====
/- The loss head's kernel: what its three result arrays hold at finite arguments. -/
module

public import proofs.«01_k».proof.Proof.Gen.LossHeadIdeal.Value
public import Idealize.ShloMosaic.Lib.Pipeline.ValueKit
public import proofs.«01_k».proof.Proof.LossRef

@[expose] public section

set_option maxRecDepth 16384

noncomputable section

namespace Cert.LossKernel

open Idealize.ShloMosaic Idealize.ShloMosaic.TcCoe Idealize.SL.Sem
open Cert.LossHeadIdeal Cert.LossHeadIdeal.Gen Cert.LossHeadIdeal.Value Cert.Reals Cert.Rms Cert.LossRef

section block

variable (x y : Fin 512 → Fin 1024 → ℝ) (g : Fin 1024 → ℝ)

theorem p5 (r : Fin 512) (u : Fin 1) : k0_pay5 (F := Ideal) (mat x) (ix2 r u) = ((rn (x r) : ℝ) : EReal) := by
  pointwise [k0_pay5]
  simp only [mat_apply, ms_coe, rn_coe]

theorem p6 (r : Fin 512) (j : Fin 1024) : k0_pay6 (F := Ideal) (mat x) (ix2 r j) = ((x r j * rn (x r) : ℝ) : EReal) := by
  pointwise [k0_pay6]
  rw [p5, mat_apply, ← EReal.coe_mul]

theorem p8 (r : Fin 512) (j : Fin 1024) :
    k0_pay8 (F := Ideal) (mat x) (mat fun _ => g) (mat y) (ix2 r j) = ((x r j * rn (x r) * g j - y r j : ℝ) : EReal) := by
  pointwise [k0_pay8, k0_pay7]
  rw [p6, mat_apply, mat_apply, ← EReal.coe_mul, ← EReal.coe_sub]

theorem p10 (r : Fin 512) (j : Fin 1024) :
    k0_pay10 (F := Ideal) (mat x) (mat fun _ => g) (mat y) (ix2 r j) = (((x r j * rn (x r) * g j - y r j) / 1024 : ℝ) : EReal) := by
  pointwise [k0_pay10]
  rw [p8, bits_inv_1024, ← EReal.coe_mul, mul_one_div]

/-- The stored block of the cotangent of `h`. -/
theorem p1 (r : Fin 512) (j : Fin 1024) :
    k0_pay1 (k0_pay5 (F := Ideal) (mat x)) (k0_pay11 (mat x) (mat fun _ => g) (mat y)) (ix2 r j)
      = ((back (x r) (fun k => (x r k * rn (x r) * g k - y r k) / 1024 * g k) j : ℝ) : EReal) := by
  pointwise [k0_pay1, k0_pay11, k0_pay7]
  simp only [p5, p6, p10, mat_apply, ← EReal.coe_mul, sum_coe, bits_1024, div_real (show (1024 : ℝ) ≠ 0 by norm_num), ← EReal.coe_sub]
  rfl

/-- The block's part of the gain's gradient. -/
theorem p2 (u : Fin 1) (j : Fin 1024) :
    k0_pay2 (k0_pay6 (F := Ideal) (mat x)) (k0_pay10 (mat x) (mat fun _ => g) (mat y)) (ix2 u j)
      = ((∑ r, x r j * rn (x r) * ((x r j * rn (x r) * g j - y r j) / 1024) : ℝ) : EReal) := by
  pointwise [k0_pay2]
  simp only [p6, p10, ← EReal.coe_mul, sum_coe, mul_comm]

/-- The block's part of the loss. -/
theorem p9 (u : Fin 1) (j : Fin 128) :
    k0_pay9 (F := Ideal) (mat x) (mat fun _ => g) (mat y) (ix2 u j)
      = ((1 / 2 * ∑ r, (∑ k, (x r k * rn (x r) * g k - y r k) * (x r k * rn (x r) * g k - y r k)) / 1024 : ℝ) : EReal) := by
  pointwise [k0_pay9]
  simp only [p8, ← EReal.coe_mul, sum_coe, bits_1024, bits_half, div_real (show (1024 : ℝ) ≠ 0 by norm_num), Finset.univ_unique,
    Finset.sum_singleton]

end block

/-- The row of the whole array that is row `r` of point `t`'s block. -/
abbrev row (t : Fin 8) (r : Fin 512) : Fin 4096 := blockRow (by norm_num) t r

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable {m : (ℓ : Loc nD τ sig) → Buf (Elt Ideal) ℓ} {x y : Fin 4096 → Fin 1024 → ℝ} {g : Fin 1024 → ℝ} {c : Dev nD}

/-- Point `t`'s block of `h` is its 512 rows. -/
theorem iblk0 (hx : m ((c.tc : Thread nD τ).loc main_arg0) = mat x) (t : Fin cfg0.N) :
    iblk m c 0 t = mat (fun r k => x (row t r) k) := by
  funext i
  obtain ⟨r, k, rfl⟩ := exists_ix2 i
  rw [mat_apply, ← mat_apply x, ← hx]
  blk_ext! [iblk, V, idx t]
  show _ = 512 * t.val + r.val
  omega

/-- Point `t`'s block of the target is its 512 rows. -/
theorem iblk2 (hy : m ((c.tc : Thread nD τ).loc main_arg2) = mat y) (t : Fin cfg0.N) :
    iblk m c 2 t = mat (fun r k => y (row t r) k) := by
  funext i
  obtain ⟨r, k, rfl⟩ := exists_ix2 i
  rw [mat_apply, ← mat_apply y, ← hy]
  blk_ext! [iblk, V, idx t]
  show _ = 512 * t.val + r.val
  omega

/-- Every point's block of the gain is the gain. -/
theorem iblk1 (hg : m ((c.tc : Thread nD τ).loc main_arg1) = vec g) (t : Fin cfg0.N) :
    iblk m c 1 t = mat (fun _ k => g k) := by
  funext i
  obtain ⟨r, k, rfl⟩ := exists_ix2 i
  rw [mat_apply, ← vec_apply g, ← hg]
  blk_simp [iblk, idx t]; entry_read; pointwise
  blk_ext! [iblk, V, idx t]

/-- The array of `h`'s cotangent after the run. -/
theorem arr3 (hx : m ((c.tc : Thread nD τ).loc main_arg0) = mat x) (hg : m ((c.tc : Thread nD τ).loc main_arg1) = vec g)
    (hy : m ((c.tc : Thread nD τ).loc main_arg2) = mat y) :
    (dats m 0 c).arrAt 3 cfg0.N = mat fun r j => back (x r) (fun k => dy x g y r k * g k) j := by
  refine (dats m 0 c).arrAt_eq_of_covers 3 _ (by decide +kernel) fun t hf i => ?_
  blk_simp
  rw [after0_3]
  obtain ⟨r, k, rfl⟩ := exists_ix2 i
  trans ((back (x (row t r)) (fun k => dy x g y (row t r) k * g k) k : ℝ) : EReal)
  · by_cases h0 : t.val % 8 = 0
    · rw [outsAt0_A m c t h0 (by have : t.val < 8 := t.isLt; omega)]
      frame_out
      rw [iblk0 hx, iblk1 hg, iblk2 hy]
      exact p1 _ _ _ r k
    · rw [outsAt0_B m c t h0 (by omega)]
      frame_out
      rw [iblk0 hx, iblk1 hg, iblk2 hy]
      exact p1 _ _ _ r k
  · refine mat_at (fun r j => back (x r) (fun k => dy x g y r k * g k) j) (r := row t r) ?_
    blk_ext! [idx t]
    show _ = 512 * t.val + r.val
    omega

/-- The array of the gain's gradient after the run. -/
theorem arr4 (hx : m ((c.tc : Thread nD τ).loc main_arg0) = mat x) (hg : m ((c.tc : Thread nD τ).loc main_arg1) = vec g)
    (hy : m ((c.tc : Thread nD τ).loc main_arg2) = mat y) :
    (dats m 0 c).arrAt 4 cfg0.N = mat fun _ j => ∑ i, x i j * rn (x i) * dy x g y i j := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t j => ((∑ r, x (row t r) (j 1) * rn (x (row t r)) * dy x g y (row t r) (j 1) : ℝ) : EReal))
    (fun t h j => by
      rw [outsAt0_A m c t h (by have : t.val < 8 := t.isLt; omega)]
      frame_out
      obtain ⟨u, k, rfl⟩ := exists_ix2 j
      rw [iblk0 hx, iblk1 hg, iblk2 hy, zero_add, p2]
      rfl)
    (fun t h j => by
      rw [outsAt0_B m c t h (by omega)]
      frame_out
      obtain ⟨u, k, rfl⟩ := exists_ix2 j
      rw [iblk0 hx, iblk1 hg, iblk2 hy]
      pointwise [k0_pay3]
      rw [p2]
      rfl) (by decide) t0_7 rfl j, zero_add, sum_coe]
  exact congrArg _ (sum_blocks (T := 8) (B := 512) _ fun i => x i (j 1) * rn (x i) * dy x g y i (j 1))

/-- The array of the loss after the run, the loss in every lane. -/
theorem arr5 (hx : m ((c.tc : Thread nD τ).loc main_arg0) = mat x) (hg : m ((c.tc : Thread nD τ).loc main_arg1) = vec g)
    (hy : m ((c.tc : Thread nD τ).loc main_arg2) = mat y) :
    (dats m 0 c).arrAt 5 cfg0.N = mat fun _ _ => 1 / 2 * ∑ i, (∑ k, err x g y i k * err x g y i k) / 1024 := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun t _ => ((1 / 2 * ∑ r, (∑ k, err x g y (row t r) k * err x g y (row t r) k) / 1024 : ℝ) : EReal))
    (fun t h j => by
      rw [outsAt0_A m c t h (by have : t.val < 8 := t.isLt; omega)]
      frame_out
      obtain ⟨u, k, rfl⟩ := exists_ix2 j
      rw [iblk0 hx, iblk1 hg, iblk2 hy, zero_add, p9]
      rfl)
    (fun t h j => by
      rw [outsAt0_B m c t h (by omega)]
      frame_out
      obtain ⟨u, k, rfl⟩ := exists_ix2 j
      rw [iblk0 hx, iblk1 hg, iblk2 hy]
      pointwise [k0_pay4]
      rw [p9]
      rfl) (by decide) t0_7 rfl j, zero_add, sum_coe, ← Finset.mul_sum]
  exact congrArg (fun s : ℝ => ((1 / 2 * s : ℝ) : EReal)) (sum_blocks (T := 8) (B := 512) _ fun i => (∑ k, err x g y i k * err x g y i k) / 1024)

end Cert.LossKernel

end
-- ==== Proof.Loss.lean ====
/- The loss head: kernel and reference hold the same three results. -/
module

public import proofs.«01_k».proof.Defs
public import proofs.«01_k».proof.Proof.LossKernel
public import proofs.«01_k».proof.Proof.Gen.LossHeadRefIdeal
public import proofs.«01_k».proof.Proof.Gen.Pre_finite_loss
public import Idealize.ShloMosaic.Lib.Claim
public import Idealize.ShloMosaic.Lib.Quiescent

@[expose] public section

set_option maxRecDepth 16384

noncomputable section

namespace Cert.Proof.Loss

open Idealize.ShloMosaic Idealize.ShloMosaic.TcCoe Idealize.SL.Sem Cert.Reals Cert.Rms Cert.LossRef

/-- The three results at finite arguments: the reference's values are the kernel's arrays. -/
theorem equal (m : (ℓ : Loc Cert.LossHeadIdeal.nD Cert.LossHeadIdeal.τ Cert.LossHeadIdeal.sig) → Buf (Elt Ideal) ℓ)
    (hpre : Cert.Pre_LossHeadIdeal_finite_loss m) (c : Dev Cert.LossHeadIdeal.nD) :
    let a0 := m ((c.tc : Thread Cert.LossHeadIdeal.nD Cert.LossHeadIdeal.τ).loc Cert.LossHeadIdeal.main_arg0)
    let a1 := m ((c.tc : Thread Cert.LossHeadIdeal.nD Cert.LossHeadIdeal.τ).loc Cert.LossHeadIdeal.main_arg1)
    let a2 := m ((c.tc : Thread Cert.LossHeadIdeal.nD Cert.LossHeadIdeal.τ).loc Cert.LossHeadIdeal.main_arg2)
    Cert.LossHeadRefIdeal.Read.val_main_v50 (F := Ideal) a0 a1 a2 = (Cert.LossHeadIdeal.Gen.dats m 0 c).arrAt 3 Cert.LossHeadIdeal.cfg0.N
    ∧ Cert.LossHeadRefIdeal.Read.val_main_v51 (F := Ideal) a0 a1 a2 = (Cert.LossHeadIdeal.Gen.dats m 0 c).arrAt 4 Cert.LossHeadIdeal.cfg0.N
    ∧ Cert.LossHeadRefIdeal.Read.val_main_v52 (F := Ideal) a0 a1 a2 = (Cert.LossHeadIdeal.Gen.dats m 0 c).arrAt 5 Cert.LossHeadIdeal.cfg0.N := by
  intro a0 a1 a2
  obtain ⟨x, hx⟩ : ∃ x, a0 = mat x := exists_mat (lt_of_pre (hpre c).1)
  obtain ⟨g, hg⟩ : ∃ g, a1 = vec g := exists_vec (lt_of_pre (hpre c).2.1)
  obtain ⟨y, hy⟩ : ∃ y, a2 = mat y := exists_mat (lt_of_pre (hpre c).2.2)
  refine ⟨?_, ?_, ?_⟩ <;> rw [hx, hg, hy]
  · refine Eq.trans (funext fun i => ?_) (Cert.LossKernel.arr3 hx hg hy).symm
    obtain ⟨r, k, rfl⟩ := exists_ix2 i
    exact v50 x g y r k
  · refine Eq.trans (funext fun i => ?_) (Cert.LossKernel.arr4 hx hg hy).symm
    obtain ⟨r, k, rfl⟩ := exists_ix2 i
    exact v51 x g y r k
  · refine Eq.trans (funext fun i => ?_) (Cert.LossKernel.arr5 hx hg hy).symm
    obtain ⟨r, k, rfl⟩ := exists_ix2 i
    exact v52 x g y r k

/-- The reference leaves its arguments as they were; it has no semaphore. -/
theorem frame_ref : Cert.quiescent_LossHeadRefIdeal := fun m g _ =>
  (θ_run _ _ _).mono (fun _ h => ⟨fun c => (h c).2.2.2, sem_eq_zero_of_no_sems (by decide) _⟩) (Cert.LossRef.run_vals m g)

/-- The loss head computes the loss, the gain's gradient and the cotangent of `h` that the derivative of the plain lines gives. -/
theorem algebraic : Cert.algebraic_LossHeadIdeal_LossHeadRefIdeal_pre_finite_loss := by
  pair_intro
  · run_from Cert.LossHeadIdeal.Value.run_blocks m g
  · refine (θ_run _ _ _).mono (fun _ h c => ?_) (Cert.LossRef.run_vals m' g')
    have e := equal m hpre c
    rw [← (hagree c).1, ← (hagree c).2.1, ← (hagree c).2.2] at e
    exact ⟨(h c).1.trans e.1, (h c).2.1.trans e.2.1, (h c).2.2.1.trans e.2.2, (h c).2.2.2⟩

end Cert.Proof.Loss

end
-- ==== Proof.AttnMath.lean ====
/- The banded attention with a sink, as real functions: one row of scores first, then the blocks and the heads. -/
module

public import proofs.«01_k».proof.Proof.Reals

@[expose] public section

noncomputable section

namespace Cert.Attn

open Idealize.ShloMosaic
open Cert.Reals

/-! One row: its scores `s`, which keys it may see `a`, its sink `σ`, and the cotangents `p'` of its probabilities. -/

/-- The weight of a key: nothing where the mask hides it. -/
def wt (a : Fin 256 → Bool) (s : Fin 256 → ℝ) (j : Fin 256) : ℝ := if a j then Real.exp (s j) else 0

/-- The sum of the weights, the sink's among them. -/
def den (a : Fin 256 → Bool) (s : Fin 256 → ℝ) (σ : ℝ) : ℝ := ∑ j, wt a s j + Real.exp σ

/-- The probability of a key. -/
def pr (a : Fin 256 → Bool) (s : Fin 256 → ℝ) (σ : ℝ) (j : Fin 256) : ℝ := wt a s j / den a s σ

/-- The mean of the cotangents under the probabilities. -/
def del (a : Fin 256 → Bool) (s : Fin 256 → ℝ) (σ : ℝ) (p' : Fin 256 → ℝ) : ℝ := ∑ j, pr a s σ j * p' j

/-- The cotangent of a score. -/
def sc' (a : Fin 256 → Bool) (s : Fin 256 → ℝ) (σ : ℝ) (p' : Fin 256 → ℝ) (j : Fin 256) : ℝ :=
  pr a s σ j * (p' j - del a s σ p')

/-- The row's part of the cotangent of the sink. -/
def snk' (a : Fin 256 → Bool) (s : Fin 256 → ℝ) (σ : ℝ) (p' : Fin 256 → ℝ) : ℝ :=
  -(Real.exp σ / den a s σ) * del a s σ p'

theorem wt_nonneg (a : Fin 256 → Bool) (s : Fin 256 → ℝ) (j : Fin 256) : 0 ≤ wt a s j := by
  unfold wt; split
  · exact (Real.exp_pos _).le
  · exact le_rfl

theorem den_pos (a : Fin 256 → Bool) (s : Fin 256 → ℝ) (σ : ℝ) : 0 < den a s σ :=
  add_pos_of_nonneg_of_pos (Finset.sum_nonneg fun j _ => wt_nonneg a s j) (Real.exp_pos σ)

theorem den_ne (a : Fin 256 → Bool) (s : Fin 256 → ℝ) (σ : ℝ) : den a s σ ≠ 0 := (den_pos a s σ).ne'

/-- The masked score as an extended real: `−∞` where the key is hidden. -/
def msk (a : Fin 256 → Bool) (s : Fin 256 → ℝ) (j : Fin 256) : EReal := if a j then ((s j : ℝ) : EReal) else ⊥

theorem msk_ne_top (a : Fin 256 → Bool) (s : Fin 256 → ℝ) (j : Fin 256) : msk a s j ≠ ⊤ := by
  unfold msk; split
  · exact EReal.coe_ne_top _
  · exact bot_ne_top

/-- Whatever is below `+∞`, the larger of it and a real is a real. -/
theorem max_coe_real {M : EReal} (h : M ≠ ⊤) (σ : ℝ) : ∃ μ : ℝ, max M (σ : EReal) = (μ : EReal) := by
  induction M with
  | bot => exact ⟨σ, by simp⟩
  | top => exact absurd rfl h
  | coe r => exact ⟨max r σ, (EReal.coe_strictMono.monotone.map_max).symm⟩

/-- The exponential of a masked score less a real: the weight, scaled. -/
theorem exp_msk (a : Fin 256 → Bool) (s : Fin 256 → ℝ) (j : Fin 256) (μ : ℝ) :
    Ideal.exp (msk a s j - (μ : EReal)) = ((wt a s j * Real.exp (-μ) : ℝ) : EReal) := by
  unfold msk wt; split
  · rw [← EReal.coe_sub, Ideal.exp_coe, ← Real.exp_add, sub_eq_add_neg]
  · rw [EReal.bot_sub, Ideal.exp_bot, zero_mul]; rfl

theorem exp_snk (σ μ : ℝ) : Ideal.exp ((σ : EReal) - (μ : EReal)) = ((Real.exp σ * Real.exp (-μ) : ℝ) : EReal) := by
  rw [← EReal.coe_sub, Ideal.exp_coe, ← Real.exp_add, sub_eq_add_neg]

/-- The scaled weights add up to the scaled denominator. -/
theorem den_scaled (a : Fin 256 → Bool) (s : Fin 256 → ℝ) (σ c : ℝ) :
    ∑ j, wt a s j * c + Real.exp σ * c = den a s σ * c := by
  rw [den, add_mul, Finset.sum_mul]

theorem pr_scaled (a : Fin 256 → Bool) (s : Fin 256 → ℝ) (σ μ : ℝ) (j : Fin 256) :
    wt a s j * Real.exp (-μ) / (den a s σ * Real.exp (-μ)) = pr a s σ j := by
  rw [pr, mul_div_mul_right _ _ (Real.exp_pos _).ne']

/-- The cotangent of the denominator, summed over the keys: the mean over the denominator. -/
theorem sum_recip (a : Fin 256 → Bool) (s : Fin 256 → ℝ) (σ : ℝ) (p' : Fin 256 → ℝ) {c : ℝ} (hc : c ≠ 0) :
    ∑ j, p' j * (1 / ((den a s σ * c) * (den a s σ * c))) * (wt a s j * c) = del a s σ p' / (den a s σ * c) := by
  rw [del, Finset.sum_div]
  refine Finset.sum_congr rfl fun j _ => ?_
  rw [pr]
  have := den_ne a s σ
  field_simp

/-- A score's cotangent by way of the two cotangents of the quotient. -/
theorem sc_quot (a : Fin 256 → Bool) (s : Fin 256 → ℝ) (σ : ℝ) (p' : Fin 256 → ℝ) (j : Fin 256) {c : ℝ} (hc : c ≠ 0) :
    (p' j / (den a s σ * c) + -(del a s σ p' / (den a s σ * c))) * (wt a s j * c) = sc' a s σ p' j := by
  rw [sc', pr]
  have := den_ne a s σ
  field_simp
  ring

theorem snk_quot (a : Fin 256 → Bool) (s : Fin 256 → ℝ) (σ : ℝ) (p' : Fin 256 → ℝ) {c : ℝ} (hc : c ≠ 0) :
    -(del a s σ p' / (den a s σ * c)) * (Real.exp σ * c) = snk' a s σ p' := by
  rw [snk']
  have := den_ne a s σ
  field_simp

/-- A row's cotangents of scores and sink cancel: nothing flows into what is subtracted before the exponential. -/
theorem sc_snk (a : Fin 256 → Bool) (s : Fin 256 → ℝ) (σ : ℝ) (p' : Fin 256 → ℝ) : -snk' a s σ p' + -∑ j, sc' a s σ p' j = 0 := by
  have hp : ∑ j, pr a s σ j = 1 - Real.exp σ / den a s σ := by
    have h : ∑ j, wt a s j = den a s σ - Real.exp σ := by rw [den]; ring
    simp only [pr]
    rw [← Finset.sum_div, h, sub_div, div_self (den_ne a s σ)]
  have h1 : ∑ j, sc' a s σ p' j = del a s σ p' - (∑ j, pr a s σ j) * del a s σ p' := by
    simp only [sc', mul_sub]
    rw [Finset.sum_sub_distrib, Finset.sum_mul]
    rfl
  rw [h1, hp, snk']
  ring

/-! The heads: queries and cotangents of 16 heads of 64, and the band of 4 heads' keys, then their values. -/

/-- Feature `e` of head `h`. -/
def hd (h : Fin 16) (e : Fin 64) : Fin 1024 := ⟨64 * h.val + e.val, by omega⟩
/-- Feature `e` of the key head that head `h` shares. -/
def kd (h : Fin 4) (e : Fin 64) : Fin 512 := ⟨64 * h.val + e.val, by omega⟩
/-- Feature `e` of the value head that head `h` shares. -/
def vd (h : Fin 4) (e : Fin 64) : Fin 512 := ⟨256 + 64 * h.val + e.val, by omega⟩
/-- The key head of head `h`. -/
def grp (h : Fin 16) : Fin 4 := ⟨h.val / 4, by omega⟩
/-- The `g`-th head that shares key head `h`. -/
def mem (h g : Fin 4) : Fin 16 := ⟨4 * h.val + g.val, by omega⟩

theorem grp_mem (h g : Fin 4) : grp (mem h g) = h := Fin.ext (by simp only [grp, mem]; omega)

/-- What a block of queries needs: the sinks, its queries, the cotangents of its outputs, its band, the biases, and the
    mask. -/
structure Blk where
  S : Fin 16 → ℝ
  Q : Fin 128 → Fin 1024 → ℝ
  O : Fin 128 → Fin 1024 → ℝ
  KV : Fin 256 → Fin 512 → ℝ
  B : Fin 16 → Fin 128 → Fin 256 → ℝ
  A : Fin 128 → Fin 256 → Bool

namespace Blk

variable (b : Blk)

/-- The score of a key. -/
def s (h : Fin 16) (r : Fin 128) (j : Fin 256) : ℝ :=
  (∑ e, b.Q r (hd h e) * b.KV j (kd (grp h) e)) * (1 / 8) + b.B h r j
/-- The cotangent of a probability. -/
def p' (h : Fin 16) (r : Fin 128) (j : Fin 256) : ℝ := ∑ e, b.O r (hd h e) * b.KV j (vd (grp h) e)
/-- The probability of a key. -/
def p (h : Fin 16) (r : Fin 128) (j : Fin 256) : ℝ := pr (b.A r) (b.s h r) (b.S h) j
/-- The cotangent of a score, and of the bias. -/
def ds (h : Fin 16) (r : Fin 128) (j : Fin 256) : ℝ := sc' (b.A r) (b.s h r) (b.S h) (b.p' h r) j
/-- The row's part of the cotangent of the sink. -/
def dσ (h : Fin 16) (r : Fin 128) : ℝ := snk' (b.A r) (b.s h r) (b.S h) (b.p' h r)
/-- The cotangent of a query. -/
def dq (h : Fin 16) (r : Fin 128) (e : Fin 64) : ℝ := (∑ j, b.ds h r j * b.KV j (kd (grp h) e)) * (1 / 8)
/-- The cotangent of a key. -/
def dk (h : Fin 4) (j : Fin 256) (e : Fin 64) : ℝ := (∑ g, ∑ r, b.ds (mem h g) r j * b.Q r (hd (mem h g) e)) * (1 / 8)
/-- The cotangent of a value. -/
def dv (h : Fin 4) (j : Fin 256) (e : Fin 64) : ℝ := ∑ g, ∑ r, b.p (mem h g) r j * b.O r (hd (mem h g) e)

end Blk

end Cert.Attn

end
-- ==== Proof.AttnGroup.lean ====
/- The heads of one key head, in the attention's backward kernel: what it computes of a block for them, as real functions. -/
module

public import proofs.«01_k».proof.Proof.AttnMath
public import proofs.«01_k».proof.Proof.Gen.AttnBwdIdeal.Skeleton
public import Idealize.ShloMosaic.Lib.Pointwise

@[expose] public section

set_option maxRecDepth 16384

noncomputable section

namespace Cert.Attn

open Idealize.ShloMosaic Cert.Reals Cert.AttnBwdIdeal Cert.AttnBwdIdeal.Gen

/-- The constant 1/8. -/
theorem bits_eighth : Ideal.ofBits .f32 0x3E000000#32 = ((1 / 8 : ℝ) : EReal) := by
  simp [Ideal.ofBits, Ideal.ieee, -EReal.coe_mul]; norm_num

/-- The constant −∞. -/
theorem bits_neg_inf : Ideal.ofBits .f32 0xFF800000#32 = ⊥ := by
  simp [Ideal.ofBits, Ideal.ieee]

/-- The row of the `g`-th head's query `r`, where the four heads' queries are stacked. -/
def row (g : Fin 4) (r : Fin 128) : Fin 512 := blockRow (T := 4) rfl g r

theorem row_eq (R : Fin 512) : ∃ g r, R = row g r :=
  ⟨⟨R.val / 128, by omega⟩, ⟨R.val % 128, by omega⟩, Fin.ext (by simp only [row, blockRow]; omega)⟩

theorem sum_row (f : Fin 512 → EReal) : ∑ R, f R = ∑ g, ∑ r, f (row g r) := (sum_blocks (T := 4) (B := 128) rfl f).symm

/-- The larger of a row's greatest score and its sink. -/
def mx (w : FVec Ideal S512x256 .f32) (e : FVec Ideal S512x1 .f32) : FVec Ideal S512x1 .f32 :=
  maximumf (shapeCast S512x1 (multiReduction .maximumf [1] S512 w 0xFF800000#32 reduces_S512x256_S512 (.inl rfl) rfl)
    shapeCasts_S512_S512x1) e

/-- The exponentials of the scores less that. -/
def eW (w : FVec Ideal S512x256 .f32) (e : FVec Ideal S512x1 .f32) : FVec Ideal S512x256 .f32 :=
  Idealize.ShloMosaic.exp (subf w (broadcastTo S512x256 (mx w e) broadcasts_S512x1_S512x256))

/-- The exponential of the sink less that. -/
def eS (w : FVec Ideal S512x256 .f32) (e : FVec Ideal S512x1 .f32) : FVec Ideal S512x1 .f32 :=
  Idealize.ShloMosaic.exp (subf e (mx w e))

/-- The operands of the four heads of key head `h` are those of block `b`: keys, values, queries, cotangents, biases
    (`−∞` outside the window `W`), the mask of the first block, and the sinks. -/
structure Grp (b : Blk) (h : Fin 4) (W : Fin 128 → Fin 256 → Bool) (f : Fin 256 → Bool) (k v : FVec Ideal S256x64 .bf16)
    (q o : FVec Ideal S512x64 .bf16) (bi : FVec Ideal S512x256 .f32) (fr : FVec Ideal S1x256 .f32)
    (sn : FVec Ideal S512x1 .f32) : Prop where
  hk : ∀ j e, k (ix2 j e) = ((b.KV j (kd h e) : ℝ) : EReal)
  hv : ∀ j e, v (ix2 j e) = ((b.KV j (vd h e) : ℝ) : EReal)
  hq : ∀ g r e, q (ix2 (row g r) e) = ((b.Q r (hd (mem h g) e) : ℝ) : EReal)
  ho : ∀ g r e, o (ix2 (row g r) e) = ((b.O r (hd (mem h g) e) : ℝ) : EReal)
  hb : ∀ g r j, bi (ix2 (row g r) j) = if W r j then ((b.B (mem h g) r j : ℝ) : EReal) else ⊥
  hf : ∀ j, fr (ix2 0 j) = if f j then 0 else ⊥
  hs : ∀ g r, sn (ix2 (row g r) 0) = ((b.S (mem h g) : ℝ) : EReal)
  ha : ∀ r j, b.A r j = (W r j && f j)

namespace Grp

variable {b : Blk} {h : Fin 4} {W : Fin 128 → Fin 256 → Bool} {f : Fin 256 → Bool} {k v : FVec Ideal S256x64 .bf16}
  {q o : FVec Ideal S512x64 .bf16} {bi : FVec Ideal S512x256 .f32} {fr : FVec Ideal S1x256 .f32} {sn : FVec Ideal S512x1 .f32}

/-- The scores, masked. -/
theorem score (G : Grp b h W f k v q o bi fr sn) (g : Fin 4) (r : Fin 128) (j : Fin 256) :
    k0_pay82 fr k q bi (ix2 (row g r) j) = msk (b.A r) (b.s (mem h g) r) j := by
  pointwise [k0_pay82]
  simp only [G.hk, G.hq, G.hb, G.hf, msk, G.ha, bits_eighth, ← EReal.coe_mul, sum_coe]
  cases W r j <;> cases f j <;> simp only [Bool.and_false, Bool.and_true, Bool.false_eq_true, if_true, if_false, EReal.add_bot,
    EReal.bot_add, add_zero, Blk.s, grp_mem, EReal.coe_add, EReal.coe_mul]

/-- The larger of the greatest score and the sink is a real. -/
theorem mx_real (G : Grp b h W f k v q o bi fr sn) (g : Fin 4) (r : Fin 128) :
    ∃ μ : ℝ, mx (k0_pay82 fr k q bi) sn (ix2 (row g r) 0) = (μ : EReal) := by
  pointwise [mx]
  rw [G.hs]
  refine max_coe_real ?_ _
  rw [bits_neg_inf]
  refine ne_of_lt ((Finset.fold_max_lt _).mpr ⟨bot_lt_top, fun j _ => ?_⟩)
  rw [G.score]
  exact lt_top_iff_ne_top.mpr (msk_ne_top _ _ _)

/-- The exponentials are the weights, all of a row scaled alike. -/
theorem exps (G : Grp b h W f k v q o bi fr sn) (g : Fin 4) (r : Fin 128) :
    ∃ μ : ℝ, (∀ j, eW (k0_pay82 fr k q bi) sn (ix2 (row g r) j) =
        ((wt (b.A r) (b.s (mem h g) r) j * Real.exp (-μ) : ℝ) : EReal)) ∧
      eS (k0_pay82 fr k q bi) sn (ix2 (row g r) 0) = ((Real.exp (b.S (mem h g)) * Real.exp (-μ) : ℝ) : EReal) := by
  obtain ⟨μ, hμ⟩ := G.mx_real g r
  refine ⟨μ, fun j => ?_, ?_⟩
  · pointwise [eW]
    rw [hμ, G.score, exp_msk]
  · pointwise [eS]
    rw [hμ, G.hs, exp_snk]

/-- The probabilities. -/
theorem prob (G : Grp b h W f k v q o bi fr sn) (g : Fin 4) (r : Fin 128) (j : Fin 256) :
    k0_pay87 (eW (k0_pay82 fr k q bi) sn) (eS (k0_pay82 fr k q bi) sn) (ix2 (row g r) j) = ((b.p (mem h g) r j : ℝ) : EReal) := by
  obtain ⟨μ, hw, he⟩ := G.exps g r
  pointwise [k0_pay87, k0_pay86]
  simp only [hw, he, sum_coe, ← EReal.coe_add, den_scaled, one_coe]
  rw [div_real (mul_pos (den_pos _ _ _) (Real.exp_pos _)).ne', ← EReal.coe_mul, mul_one_div, pr_scaled]; rfl

/-- The sink's probability. -/
theorem prob_sink (G : Grp b h W f k v q o bi fr sn) (g : Fin 4) (r : Fin 128) :
    eS (k0_pay82 fr k q bi) sn (ix2 (row g r) 0) *
        k0_pay86 (eW (k0_pay82 fr k q bi) sn) (eS (k0_pay82 fr k q bi) sn) (ix2 (row g r) 0) =
      ((Real.exp (b.S (mem h g)) / den (b.A r) (b.s (mem h g) r) (b.S (mem h g)) : ℝ) : EReal) := by
  obtain ⟨μ, hw, he⟩ := G.exps g r
  pointwise [k0_pay86]
  simp only [hw, he, sum_coe, ← EReal.coe_add, den_scaled, one_coe]
  rw [div_real (mul_pos (den_pos _ _ _) (Real.exp_pos _)).ne', ← EReal.coe_mul, mul_one_div,
    mul_div_mul_right _ _ (Real.exp_pos _).ne']

/-- The cotangents of the probabilities. -/
theorem probC (G : Grp b h W f k v q o bi fr sn) (g : Fin 4) (r : Fin 128) (j : Fin 256) :
    k0_pay88 v o (ix2 (row g r) j) = ((b.p' (mem h g) r j : ℝ) : EReal) := by
  pointwise [k0_pay88]
  simp only [G.hv, G.ho, ← EReal.coe_mul, sum_coe, Blk.p', grp_mem]

/-- Their mean. -/
theorem delta (G : Grp b h W f k v q o bi fr sn) (g : Fin 4) (r : Fin 128) :
    k0_pay89 v o (eW (k0_pay82 fr k q bi) sn) (eS (k0_pay82 fr k q bi) sn) (ix2 (row g r) 0) =
      ((del (b.A r) (b.s (mem h g) r) (b.S (mem h g)) (b.p' (mem h g) r) : ℝ) : EReal) := by
  pointwise [k0_pay89]
  simp only [G.prob, G.probC, ← EReal.coe_mul, sum_coe]; rfl

/-- The cotangents of the scores. -/
theorem dscore (G : Grp b h W f k v q o bi fr sn) (g : Fin 4) (r : Fin 128) (j : Fin 256) :
    k0_pay90 v o (eW (k0_pay82 fr k q bi) sn) (eS (k0_pay82 fr k q bi) sn) (ix2 (row g r) j) =
      ((b.ds (mem h g) r j : ℝ) : EReal) := by
  pointwise [k0_pay90]
  simp only [G.prob, G.probC, G.delta, ← EReal.coe_mul, ← EReal.coe_sub]; rfl

/-- The rows' parts of the cotangents of the sinks. -/
theorem dsink (G : Grp b h W f k v q o bi fr sn) (g : Fin 4) (r : Fin 128) :
    k0_pay92 v o (eW (k0_pay82 fr k q bi) sn) (eS (k0_pay82 fr k q bi) sn) (ix2 (row g r) 0) =
      ((b.dσ (mem h g) r : ℝ) : EReal) := by
  pointwise [k0_pay92]
  simp only [G.prob_sink, G.delta, zero_coe, ← EReal.coe_mul, ← EReal.coe_sub, zero_sub]; rfl

/-- The cotangents of the queries. -/
theorem dq (G : Grp b h W f k v q o bi fr sn) (g : Fin 4) (r : Fin 128) (e : Fin 64) :
    k0_pay100 k (k0_pay90 v o (eW (k0_pay82 fr k q bi) sn) (eS (k0_pay82 fr k q bi) sn)) (ix2 (row g r) e) =
      ((b.dq (mem h g) r e : ℝ) : EReal) := by
  pointwise [k0_pay100, k0_pay99]
  simp only [G.dscore, G.hk, bits_eighth, ← EReal.coe_mul, sum_coe, Blk.dq, grp_mem]

/-- The cotangents of the keys. -/
theorem dk (G : Grp b h W f k v q o bi fr sn) (j : Fin 256) (e : Fin 64) :
    k0_pay105 q (k0_pay99 (k0_pay90 v o (eW (k0_pay82 fr k q bi) sn) (eS (k0_pay82 fr k q bi) sn))) (ix3 0 j e) =
      ((b.dk h j e : ℝ) : EReal) := by
  pointwise [k0_pay105, k0_pay99]
  rw [sum_row]
  simp only [G.dscore, G.hq, bits_eighth, ← EReal.coe_mul, sum_coe, Blk.dk]

/-- The cotangents of the values. -/
theorem dv (G : Grp b h W f k v q o bi fr sn) (j : Fin 256) (e : Fin 64) :
    k0_pay106 o (k0_pay87 (eW (k0_pay82 fr k q bi) sn) (eS (k0_pay82 fr k q bi) sn)) (ix3 0 j e) =
      ((b.dv h j e : ℝ) : EReal) := by
  pointwise [k0_pay106]
  rw [sum_row]
  simp only [G.prob, G.ho, ← EReal.coe_mul, sum_coe, Blk.dv]

end Grp

end Cert.Attn

end
-- ==== Proof.AttnOperands.lean ====
/- What the attention's backward kernel reads of a block: the heads' rows, the band of keys and values, the biases, the
   sinks and the mask of the first block. -/
module

public import proofs.«01_k».proof.Proof.AttnGroup
public import Idealize.ShloMosaic.Lib.Pipeline.ValueKit
public import Idealize.ShloMosaic.Lib.Pipeline.ReadBack
public import Idealize.ShloMosaic.Lib.Ring

@[expose] public section

set_option maxRecDepth 16384

noncomputable section

namespace Cert.Attn

open Idealize.ShloMosaic Cert.Reals Cert.AttnBwdIdeal Cert.AttnBwdIdeal.Gen

/-- The arrays of a block are those of `b`. -/
structure Ops (b : Blk) (W : Fin 128 → Fin 256 → Bool) (n : Fin 32) (x0 : Vec Ideal S1x16 .f32) (x1 x2 : Vec Ideal S128x1024 .bf16)
    (x3 x4 : Vec Ideal S128x512 .bf16) (x5 : Vec Ideal S16x128x256 .f32) : Prop where
  h0 : ∀ h, x0 (ix2 0 h) = ((b.S h : ℝ) : EReal)
  h1 : ∀ r c, x1 (ix2 r c) = ((b.Q r c : ℝ) : EReal)
  h2 : ∀ r c, x2 (ix2 r c) = ((b.O r c : ℝ) : EReal)
  h3 : ∀ (r : Fin 128) c, x3 (ix2 r c) = ((b.KV ⟨128 + r.val, by omega⟩ c : ℝ) : EReal)
  h4 : ∀ (r : Fin 128) c, x4 (ix2 r c) = ((b.KV ⟨r.val, by omega⟩ c : ℝ) : EReal)
  h5 : ∀ h r j, x5 (ix3 h r j) = if W r j then ((b.B h r j : ℝ) : EReal) else ⊥
  ha : ∀ r j, b.A r j = (W r j && !(decide (j.val < 128) && decide (n.val = 0)))

theorem at2 {a b : ℕ} {M : Type} (x : (⟨2, ![a, b]⟩ : Shape).Idx → M) {r r' : Fin a} {c c' : Fin b} (h : r.val = r'.val) (h' : c.val = c'.val) :
    x (ix2 r c) = x (ix2 r' c') := by
  rw [Fin.ext h, Fin.ext h']

theorem at2f {a b : ℕ} {M : Type} (x : Fin a → Fin b → M) {r r' : Fin a} {c c' : Fin b} (h : r.val = r'.val) (h' : c.val = c'.val) :
    x r c = x r' c' := by
  rw [Fin.ext h, Fin.ext h']

/-- Pieces that are all blocks of `G` hold `G` wherever one of them lies. -/
theorem canon_pieces {S : Shape} {e : EltTy} (G : S.Idx → Elt Ideal e) {L : List (View.Piece (Elt Ideal) S e)} (h : View.PiecesOf G L) {y : S.Idx}
    (hc : ∃ p ∈ L, y ∈ p.1.set) : View.canon L y = G y :=
  View.canon_apply_of_pieces G L h.mem y hc

/-- The mask of the first block's missing keys. -/
theorem first_row (i : grid0.Coords) (j : Fin 256) :
    k0_pay6 (F := Ideal) i (ix2 0 j) = if !(decide (j.val < 128) && decide ((i 0).val = 0)) then 0 else ⊥ := by
  pointwise [k0_pay6]
  have hn : Named.named (F := Ideal) (φ := .f32) κ "mask" 4048155338#32 = (⊥ : EReal) := rfl
  rw [hn]
  have hj : ∀ j : Fin 256, IntOp.cmpi CmpIPredicate.slt (BitVec.ofNat 32 j.val) 128#32 = if j.val < 128 then 1#1 else 0#1 := by
    decide +kernel
  have hi : ∀ n : Fin 32, Scalar.cmpi CmpIPredicate.eq (BitVec.ofNat 32 n.val) 0#32 = if n.val = 0 then 1#1 else 0#1 := by
    decide +kernel
  rw [hj, hi (i 0)]
  by_cases h : j.val < 128 <;> by_cases h' : (i 0).val = 0 <;> simp [h, h', IntOp.andi, Scalar.select]

/-- The head a stacked row belongs to. -/
theorem head_col (s : Fin 4 → EReal) (g : Fin 4) (r : Fin 128) :
    k0_pay81 (F := Ideal) (iota .tc S512x1 32 [0] iota_S512x1_d0_w32) 128#32 k0_pay78 k0_pay79 k0_pay80 (s 0) (s 1) (s 2) (s 3)
      (ix2 (row g r) 0) = s g := by
  pointwise [k0_pay81, k0_pay78, k0_pay79, k0_pay80]
  have hh : ∀ g : Fin 4, ∀ r : Fin 128, (Scalar.select (IntOp.andi (IntOp.cmpi CmpIPredicate.ne
              (IntOp.subi (BitVec.setWidth 32 (IntOp.cmpi CmpIPredicate.sgt (BitVec.ofNat 32 (row g r).val) 0#32))
                (BitVec.setWidth 32 (IntOp.cmpi CmpIPredicate.slt (BitVec.ofNat 32 (row g r).val) 0#32)))
              (Scalar.subi (Scalar.extui (Scalar.cmpi CmpIPredicate.sgt 128#32 0#32))
                (Scalar.extui (Scalar.cmpi CmpIPredicate.slt 128#32 0#32))))
            (IntOp.cmpi CmpIPredicate.ne (IntOp.remsi ArithUnit.vector (BitVec.ofNat 32 (row g r).val) 128#32) 0#32))
          (IntOp.subi (IntOp.divsi ArithUnit.vector (BitVec.ofNat 32 (row g r).val) 128#32) 1#32)
          (IntOp.divsi ArithUnit.vector (BitVec.ofNat 32 (row g r).val) 128#32) : BitVec 32) = BitVec.ofNat 32 g.val := by
    decide +kernel
  rw [hh]
  fin_cases g <;> simp [IntOp.cmpi, Scalar.select]

/-- The rows of key head `h`'s four heads, stacked. -/
theorem stack {x : Vec Ideal S128x1024 .bf16} {X : Fin 128 → Fin 1024 → ℝ} (hx : ∀ r c, x (ix2 r c) = ((X r c : ℝ) : EReal))
    (h : Fin 4) {o0 o1 o2 o3 : ℕ} (e0 : o0 = 64 * (4 * h.val)) (e1 : o1 = 64 * (4 * h.val + 1)) (e2 : o2 = 64 * (4 * h.val + 2))
    (e3 : o3 = 64 * (4 * h.val + 3)) {p0 p1 p2 p3} (g : Fin 4) (r : Fin 128) (e : Fin 64) :
    k0_pay75 (F := Ideal) (View.ld x (Rect.unit ![0, o0] ![128, 64] p0)) (View.ld x (Rect.unit ![0, o1] ![128, 64] p1))
      (View.ld x (Rect.unit ![0, o2] ![128, 64] p2)) (View.ld x (Rect.unit ![0, o3] ![128, 64] p3)) (ix2 (row g r) e) =
      ((X r (hd (mem h g) e) : ℝ) : EReal) := by
  subst e0 e1 e2 e3
  rw [← hx]
  have hr := r.isLt
  have v : (row g r).val = 128 * g.val + r.val := rfl
  pointwise [k0_pay75]
  rcases (by omega : g.val = 0 ∨ g.val = 1 ∨ g.val = 2 ∨ g.val = 3) with hg | hg | hg | hg
  · rw [dif_pos (by omega)]
    exact at2 x (by show (row g r).val = _; omega) (by show 64 * _ + e.val = 64 * (4 * h.val + g.val) + e.val; omega)
  · rw [dif_neg (by omega), dif_pos (by omega)]
    exact at2 x (by show (row g r).val - 128 = _; omega) (by show 64 * _ + e.val = 64 * (4 * h.val + g.val) + e.val; omega)
  · rw [dif_neg (by omega), dif_neg (by omega), dif_pos (by omega)]
    exact at2 x (by show (row g r).val - 128 - 128 = _; omega) (by show 64 * _ + e.val = 64 * (4 * h.val + g.val) + e.val; omega)
  · rw [dif_neg (by omega), dif_neg (by omega), dif_neg (by omega)]
    exact at2 x (by show (row g r).val - 128 - 128 - 128 = _; omega) (by show 64 * _ + e.val = 64 * (4 * h.val + g.val) + e.val; omega)

/-- The biases of key head `h`'s four heads, stacked. -/
theorem stack_bias {x : Vec Ideal S16x128x256 .f32} (h : Fin 4) {o : ℕ} (e : o = 4 * h.val) {p} (g : Fin 4) (r : Fin 128) (j : Fin 256) :
    k0_pay77 (F := Ideal) (View.ld x (Rect.unit ![o, 0, 0] ![4, 128, 256] p)) (ix2 (row g r) j) = x (ix3 (mem h g) r j) := by
  subst e
  have hr := r.isLt
  have v : (row g r).val = 128 * g.val + r.val := rfl
  pointwise [k0_pay77]
  refine congrArg x ?_
  congr 1
  · exact Fin.ext (by show 4 * h.val + (row g r).val / 128 = 4 * h.val + g.val; omega)
  · exact Fin.ext (by show (row g r).val % 128 = r.val; omega)

/-- The band: the block before's keys and values above the block's own. -/
abbrev band (x3 x4 : Vec Ideal S128x512 .bf16) {o : ℕ} (p : ∀ a, ![0, o] a + ![256, 64] a ≤ S256x512.size a) : Vec Ideal S256x64 .bf16 :=
  (View.whole cc0_scratch0).readCov [⟨Rect.unit ![128, 0] ![128, 512] (by decide), k0_pay5 x3⟩, ⟨Rect.unit ![0, 0] ![128, 512] (by decide), k0_pay4 x4⟩]
    (Rect.unit ![0, o] ![256, 64] p).toLoadRect

theorem band_apply {x3 x4 : Vec Ideal S128x512 .bf16} {KV : Fin 256 → Fin 512 → ℝ}
    (h3 : ∀ (r : Fin 128) c, x3 (ix2 r c) = ((KV ⟨128 + r.val, by omega⟩ c : ℝ) : EReal))
    (h4 : ∀ (r : Fin 128) c, x4 (ix2 r c) = ((KV ⟨r.val, by omega⟩ c : ℝ) : EReal)) {o : ℕ}
    (p : ∀ a, ![0, o] a + ![256, 64] a ≤ S256x512.size a) (ho : o + 64 ≤ 512) (j : Fin 256) (e : Fin 64) :
    band x3 x4 p (ix2 j e) = ((KV j ⟨o + e.val, by omega⟩ : ℝ) : EReal) := by
  rw [band, View.readCov_eq_canon']
  trans ((KV ((Rect.unit (s := S256x512) ![0, o] ![256, 64] p).toLoadRect.idx (ix2 j e) 0) ((Rect.unit (s := S256x512) ![0, o] ![256, 64] p).toLoadRect.idx (ix2 j e) 1) : ℝ) : EReal)
  · refine canon_pieces (e := .bf16) (fun i : S256x512.Idx => ((KV (i 0) (i 1) : ℝ) : EReal)) ?_ ?_
    · refine ⟨fun x => ?_, fun x => ?_, trivial⟩
      · obtain ⟨r, c, rfl⟩ := exists_ix2 x
        pointwise [k0_pay5]
        rw [h3]
        exact congrArg (fun r : ℝ => (r : EReal)) (at2f KV (by show 128 + r.val = 128 + 1 * r.val; omega) (by show c.val = 0 + 1 * c.val; omega))
      · obtain ⟨r, c, rfl⟩ := exists_ix2 x
        pointwise [k0_pay4]
        rw [h4]
        exact congrArg (fun r : ℝ => (r : EReal)) (at2f KV (by show r.val = 0 + 1 * r.val; omega) (by show c.val = 0 + 1 * c.val; omega))
    · exact View.cover_of_tiledL _ ![128, 512] (by sl_kernel_rfl) _
  · exact congrArg (fun r : ℝ => (r : EReal)) (at2f KV (by show 0 + 1 * j.val = j.val; omega) (by show o + 1 * e.val = o + e.val; omega))

/-- A sink, as the kernel loads it. -/
abbrev sink (x0 : Vec Ideal S1x16 .f32) {o : ℕ} (p : ∀ a, ![0, o] a + ![1, 1] a ≤ S1x16.size a) : EReal :=
  View.ld x0 (Rect.unit ![0, o] ![1, 1] p) (Shape.Idx.first (show 0 < (⟨2, ![1, 1]⟩ : Shape).numel by decide))

theorem sink_apply {x0 : Vec Ideal S1x16 .f32} {S : Fin 16 → ℝ} (h0 : ∀ h, x0 (ix2 0 h) = ((S h : ℝ) : EReal)) {o : ℕ}
    (p : ∀ a, ![0, o] a + ![1, 1] a ≤ S1x16.size a) (h : Fin 16) (ho : o = h.val) : sink x0 p = ((S h : ℝ) : EReal) := by
  rw [← h0]
  exact congrArg x0 (funext fun a => by fin_cases a <;> exact Fin.ext (by first | rfl | exact ho))

/-- The operands of key head `h` are those of the block. -/
theorem Ops.grp {b : Blk} {W : Fin 128 → Fin 256 → Bool} {n : Fin 32} {x0 : Vec Ideal S1x16 .f32} {x1 x2 : Vec Ideal S128x1024 .bf16}
    {x3 x4 : Vec Ideal S128x512 .bf16} {x5 : Vec Ideal S16x128x256 .f32} (O : Ops b W n x0 x1 x2 x3 x4 x5) {i : grid0.Coords}
    (hi : (i 0).val = n.val) (h : Fin 4) {ok ov o0 o1 o2 o3 ob s0 s1 s2 s3 : ℕ} {pk pv p0 p1 p2 p3 p0' p1' p2' p3' pb r0 r1 r2 r3}
    (ek : ok = 64 * h.val) (ev : ov = 256 + 64 * h.val) (e0 : o0 = 64 * (4 * h.val)) (e1 : o1 = 64 * (4 * h.val + 1))
    (e2 : o2 = 64 * (4 * h.val + 2)) (e3 : o3 = 64 * (4 * h.val + 3)) (eb : ob = 4 * h.val) (f0 : s0 = 4 * h.val) (f1 : s1 = 4 * h.val + 1)
    (f2 : s2 = 4 * h.val + 2) (f3 : s3 = 4 * h.val + 3) :
    Grp b h W (fun j => !(decide (j.val < 128) && decide (n.val = 0))) (band x3 x4 (o := ok) pk) (band x3 x4 (o := ov) pv)
      (k0_pay75 (View.ld x1 (Rect.unit ![0, o0] ![128, 64] p0)) (View.ld x1 (Rect.unit ![0, o1] ![128, 64] p1))
        (View.ld x1 (Rect.unit ![0, o2] ![128, 64] p2)) (View.ld x1 (Rect.unit ![0, o3] ![128, 64] p3)))
      (k0_pay75 (View.ld x2 (Rect.unit ![0, o0] ![128, 64] p0')) (View.ld x2 (Rect.unit ![0, o1] ![128, 64] p1'))
        (View.ld x2 (Rect.unit ![0, o2] ![128, 64] p2')) (View.ld x2 (Rect.unit ![0, o3] ![128, 64] p3')))
      (k0_pay77 (View.ld x5 (Rect.unit ![ob, 0, 0] ![4, 128, 256] pb))) (k0_pay6 i)
      (k0_pay81 (iota .tc S512x1 32 [0] iota_S512x1_d0_w32) 128#32 k0_pay78 k0_pay79 k0_pay80
        (sink x0 (o := s0) r0) (sink x0 (o := s1) r1) (sink x0 (o := s2) r2) (sink x0 (o := s3) r3)) where
  hk j e := by
    rw [band_apply O.h3 O.h4 _ (by omega)]
    exact congrArg (fun r : ℝ => (r : EReal)) (at2f b.KV rfl (by show ok + e.val = 64 * h.val + e.val; omega))
  hv j e := by
    rw [band_apply O.h3 O.h4 _ (by omega)]
    exact congrArg (fun r : ℝ => (r : EReal)) (at2f b.KV rfl (by show ov + e.val = 256 + 64 * h.val + e.val; omega))
  hq g r e := stack O.h1 h e0 e1 e2 e3 g r e
  ho g r e := stack O.h2 h e0 e1 e2 e3 g r e
  hb g r j := by rw [stack_bias h eb, O.h5]
  hf j := by rw [first_row, hi]
  hs g r := by
    rw [sink_apply O.h0 r0 (mem h 0) f0, sink_apply O.h0 r1 (mem h 1) f1, sink_apply O.h0 r2 (mem h 2) f2, sink_apply O.h0 r3 (mem h 3) f3]
    exact head_col (fun g => ((b.S (mem h g) : ℝ) : EReal)) g r
  ha := O.ha

end Cert.Attn

end
-- ==== Proof.AttnPieces.lean ====
/- What the attention's backward kernel stores for the four heads of one key head, piece by piece. -/
module

public import proofs.«01_k».proof.Proof.AttnOperands

@[expose] public section

set_option maxRecDepth 16384

noncomputable section

namespace Cert.Attn

open Idealize.ShloMosaic
open Cert.Reals Cert.AttnBwdIdeal Cert.AttnBwdIdeal.Gen

/-- The cotangents of the scores of the four heads of one key head. -/
abbrev DS (k v : FVec Ideal S256x64 .bf16) (q o : FVec Ideal S512x64 .bf16) (bi : FVec Ideal S512x256 .f32) (fr : FVec Ideal S1x256 .f32)
    (sn : FVec Ideal S512x1 .f32) : FVec Ideal S512x256 .f32 :=
  k0_pay90 v o (eW (k0_pay82 fr k q bi) sn) (eS (k0_pay82 fr k q bi) sn)

section blk

variable {b : Blk} {W : Fin 128 → Fin 256 → Bool} {n : Fin 32} {x0 : Vec Ideal S1x16 .f32} {x1 x2 : Vec Ideal S128x1024 .bf16}
    {x3 x4 : Vec Ideal S128x512 .bf16} {x5 : Vec Ideal S16x128x256 .f32} {i : grid0.Coords}

/-- The heads of one key head. -/
def Ops.grp0 (O : Ops b W n x0 x1 x2 x3 x4 x5) (hi : (i 0).val = n.val) :=
  O.grp hi 0 (ok := 0) (ov := 256) (o0 := 0) (o1 := 64) (o2 := 128) (o3 := 192) (ob := 0) (s0 := 0)
    (s1 := 1) (s2 := 2) (s3 := 3) (pk := by decide) (pv := by decide) (p0 := by decide) (p1 := by decide) (p2 := by decide)
    (p3 := by decide) (p0' := by decide) (p1' := by decide) (p2' := by decide) (p3' := by decide) (pb := by decide) (r0 := by decide)
    (r1 := by decide) (r2 := by decide) (r3 := by decide) rfl rfl rfl rfl rfl rfl rfl rfl rfl rfl rfl

/-- The heads of one key head. -/
def Ops.grp1 (O : Ops b W n x0 x1 x2 x3 x4 x5) (hi : (i 0).val = n.val) :=
  O.grp hi 1 (ok := 64) (ov := 320) (o0 := 256) (o1 := 320) (o2 := 384) (o3 := 448) (ob := 4) (s0 := 4)
    (s1 := 5) (s2 := 6) (s3 := 7) (pk := by decide) (pv := by decide) (p0 := by decide) (p1 := by decide) (p2 := by decide)
    (p3 := by decide) (p0' := by decide) (p1' := by decide) (p2' := by decide) (p3' := by decide) (pb := by decide) (r0 := by decide)
    (r1 := by decide) (r2 := by decide) (r3 := by decide) rfl rfl rfl rfl rfl rfl rfl rfl rfl rfl rfl

/-- The heads of one key head. -/
def Ops.grp2 (O : Ops b W n x0 x1 x2 x3 x4 x5) (hi : (i 0).val = n.val) :=
  O.grp hi 2 (ok := 128) (ov := 384) (o0 := 512) (o1 := 576) (o2 := 640) (o3 := 704) (ob := 8) (s0 := 8)
    (s1 := 9) (s2 := 10) (s3 := 11) (pk := by decide) (pv := by decide) (p0 := by decide) (p1 := by decide) (p2 := by decide)
    (p3 := by decide) (p0' := by decide) (p1' := by decide) (p2' := by decide) (p3' := by decide) (pb := by decide) (r0 := by decide)
    (r1 := by decide) (r2 := by decide) (r3 := by decide) rfl rfl rfl rfl rfl rfl rfl rfl rfl rfl rfl

/-- The heads of one key head. -/
def Ops.grp3 (O : Ops b W n x0 x1 x2 x3 x4 x5) (hi : (i 0).val = n.val) :=
  O.grp hi 3 (ok := 192) (ov := 448) (o0 := 768) (o1 := 832) (o2 := 896) (o3 := 960) (ob := 12) (s0 := 12)
    (s1 := 13) (s2 := 14) (s3 := 15) (pk := by decide) (pv := by decide) (p0 := by decide) (p1 := by decide) (p2 := by decide)
    (p3 := by decide) (p0' := by decide) (p1' := by decide) (p2' := by decide) (p3' := by decide) (pb := by decide) (r0 := by decide)
    (r1 := by decide) (r2 := by decide) (r3 := by decide) rfl rfl rfl rfl rfl rfl rfl rfl rfl rfl rfl

end blk

section piece

variable {b : Blk} {h : Fin 4} {W : Fin 128 → Fin 256 → Bool} {f : Fin 256 → Bool} {k v : FVec Ideal S256x64 .bf16}
    {q o : FVec Ideal S512x64 .bf16} {bi : FVec Ideal S512x256 .f32} {fr : FVec Ideal S1x256 .f32} {sn : FVec Ideal S512x1 .f32}

/-- A slice of the stacked cotangents of the queries is one head's. -/
theorem Grp.dq_piece (G : Grp b h W f k v q o bi fr sn) (g : Fin 4) {u : ℕ} (hu : u = 128 * g.val) {s} (r : Fin 128) (e : Fin 64) :
    extractStridedSlice S128x64 ![u, 0] (k0_pay100 k (DS k v q o bi fr sn)) s (ix2 r e) = ((b.dq (mem h g) r e : ℝ) : EReal) := by
  rw [← G.dq]
  pointwise
  exact at2 _ (by show u + r.val = 128 * g.val + r.val; omega) rfl

/-- The biases' cotangents, with what was there before. -/
theorem Grp.db_piece (G : Grp b h W f k v q o bi fr sn) (a : Vec Ideal S4x128x256 .f32) (g : Fin 4) (r : Fin 128) (j : Fin 256) :
    k0_pay91 v o (eW (k0_pay82 fr k q bi) sn) (eS (k0_pay82 fr k q bi) sn) a (ix3 g r j) = a (ix3 g r j) + ((b.ds (mem h g) r j : ℝ) : EReal) := by
  rw [← G.dscore]
  pointwise [k0_pay91]
  exact congrArg (a (ix3 g r j) + ·) (at2 _ (by show g.val * 128 + r.val = 128 * g.val + r.val; omega) rfl)

/-- One head's rows added into its lane. -/
abbrev addLane (w : BitVec 32) {u : ℕ} (hs : S512x1.Slices ![u, 0] S128x1) (d : FVec Ideal S512x1 .f32) (a : Vec Ideal S128x128 .f32) : FVec Ideal S128x128 .f32 :=
  shapeCast S128x128 (addf a (select (cmpi .eq (iota .tc S128x128 32 [1] iota_S128x128_d1_w32) (broadcast S128x128 w))
    (broadcastTo S128x128 (shapeCast S128x1 (extractStridedSlice S128x1 ![u, 0] d hs) shapeCasts_S128x1_S128x1) broadcasts_S128x1_S128x128)
    (broadcast S128x128 (Scalar.ofBits .f32 0x00000000#32)))) shapeCasts_S128x128_S128x128

theorem Grp.lane_piece (G : Grp b h W f k v q o bi fr sn) (g : Fin 4) {u : ℕ} (hu : u = 128 * g.val) {w : BitVec 32}
    (hw : w = BitVec.ofNat 32 (mem h g).val) {s} {a : Vec Ideal S128x128 .f32} {x : EReal} (r l : Fin 128) (ha : a (ix2 r l) = x) :
    addLane w (u := u) s (k0_pay92 v o (eW (k0_pay82 fr k q bi) sn) (eS (k0_pay82 fr k q bi) sn)) a (ix2 r l) =
      x + if l.val = (mem h g).val then ((b.dσ (mem h g) r : ℝ) : EReal) else 0 := by
  rw [← G.dsink]
  pointwise [addLane]
  have hc : ∀ l : Fin 128, ∀ c : Fin 16, IntOp.cmpi CmpIPredicate.eq (BitVec.ofNat 32 l.val) (BitVec.ofNat 32 c.val) =
      if l.val = c.val then 1#1 else 0#1 := by decide +kernel
  rw [ha, hw, hc]
  by_cases hl : l.val = (mem h g).val
  · rw [if_pos hl, if_pos hl]
    subst hu; rfl
  · rw [if_neg hl, if_neg hl]; rfl

end piece

/-- Point `t`'s cotangents of its queries, as an array. -/
def gq (b : Blk) (i : S128x1024.Idx) : EReal :=
  ((b.dq ⟨(i 1).val / 64, by have := (i 1).isLt; change (i 1).val < 1024 at this; omega⟩ (i 0) ⟨(i 1).val % 64, by omega⟩ : ℝ) : EReal)

theorem gq_apply (b : Blk) (r : Fin 128) (h : Fin 16) (e : Fin 64) : gq b (ix2 r (hd h e)) = ((b.dq h r e : ℝ) : EReal) := by
  refine congrArg₂ (fun h e => ((b.dq h r e : ℝ) : EReal)) (Fin.ext ?_) (Fin.ext ?_)
  · show (64 * h.val + e.val) / 64 = h.val; omega
  · show (64 * h.val + e.val) % 64 = e.val; omega

/-- A block of 64 columns of that array is one head's. -/
theorem gq_piece (b : Blk) (h : Fin 16) {o : ℕ} (ho : o = 64 * h.val) {p} (r : Fin 128) (e : Fin 64) :
    ((b.dq h r e : ℝ) : EReal) = gq b ((Rect.unit (s := S128x1024) ![0, o] ![128, 64] p).emb (ix2 r e)) := by
  rw [← gq_apply]
  refine congrArg (gq b) (funext fun a => ?_)
  fin_cases a
  · exact Fin.ext (by show r.val = 0 + 1 * r.val; omega)
  · exact Fin.ext (by show 64 * h.val + e.val = o + 1 * e.val; omega)

theorem exists_ix3 {a b c : ℕ} (i : (⟨3, ![a, b, c]⟩ : Shape).Idx) : ∃ (x : Fin a) (y : Fin b) (z : Fin c), i = ix3 x y z :=
  ⟨i 0, i 1, i 2, funext fun k => by fin_cases k <;> rfl⟩

/-- Point `t`'s cotangents of its band, as an array: the keys' in the lower columns, the values' in the upper. -/
def gkv (b : Blk) (i : S1x256x512.Idx) : EReal :=
  if (i 2).val < 256 then
    ((b.dk ⟨(i 2).val / 64 % 4, by omega⟩ (i 1) ⟨(i 2).val % 64, by omega⟩ : ℝ) : EReal)
  else ((b.dv ⟨((i 2).val - 256) / 64 % 4, by omega⟩ (i 1) ⟨(i 2).val % 64, by omega⟩ : ℝ) : EReal)

theorem gkv_k (b : Blk) (h : Fin 4) (j : Fin 256) (e : Fin 64) : gkv b (ix3 0 j (kd h e)) = ((b.dk h j e : ℝ) : EReal) := by
  have hv : (kd h e).val = 64 * h.val + e.val := rfl
  rw [gkv, if_pos (by show (kd h e).val < 256; omega)]
  refine congrArg₂ (fun h e => ((b.dk h j e : ℝ) : EReal)) (Fin.ext ?_) (Fin.ext ?_)
  · show (kd h e).val / 64 % 4 = h.val; omega
  · show (kd h e).val % 64 = e.val; omega

theorem gkv_v (b : Blk) (h : Fin 4) (j : Fin 256) (e : Fin 64) : gkv b (ix3 0 j (vd h e)) = ((b.dv h j e : ℝ) : EReal) := by
  have hv : (vd h e).val = 256 + 64 * h.val + e.val := rfl
  rw [gkv, if_neg (by show ¬ (vd h e).val < 256; omega)]
  refine congrArg₂ (fun h e => ((b.dv h j e : ℝ) : EReal)) (Fin.ext ?_) (Fin.ext ?_)
  · show ((vd h e).val - 256) / 64 % 4 = h.val; omega
  · show (vd h e).val % 64 = e.val; omega

/-- A block of 64 columns of that array, from the column's place in the whole. -/
theorem gkv_at (b : Blk) {o : ℕ} (e : Fin 64) (k : Fin 512) (ho : k.val = o + e.val) {p} (j : Fin 256) :
    gkv b (ix3 0 j k) = gkv b ((Rect.unit (s := S1x256x512) ![0, 0, o] ![1, 256, 64] p).emb (ix3 0 j e)) := by
  refine congrArg (gkv b) (funext fun a => ?_)
  fin_cases a
  · exact Fin.ext (by show 0 = 0 + 1 * 0; omega)
  · exact Fin.ext (by show j.val = 0 + 1 * j.val; omega)
  · exact Fin.ext (by show k.val = o + 1 * e.val; omega)

theorem gkv_k_piece (b : Blk) (h : Fin 4) {o : ℕ} (ho : o = 64 * h.val) {p} (j : Fin 256) (e : Fin 64) :
    ((b.dk h j e : ℝ) : EReal) = gkv b ((Rect.unit (s := S1x256x512) ![0, 0, o] ![1, 256, 64] p).emb (ix3 0 j e)) :=
  (gkv_k b h j e).symm.trans (gkv_at b e _ (by show 64 * h.val + e.val = _; omega) j)

theorem gkv_v_piece (b : Blk) (h : Fin 4) {o : ℕ} (ho : o = 256 + 64 * h.val) {p} (j : Fin 256) (e : Fin 64) :
    ((b.dv h j e : ℝ) : EReal) = gkv b ((Rect.unit (s := S1x256x512) ![0, 0, o] ![1, 256, 64] p).emb (ix3 0 j e)) :=
  (gkv_v b h j e).symm.trans (gkv_at b e _ (by show 256 + 64 * h.val + e.val = _; omega) j)

/-- The cotangents of the biases added to an array. -/
def gb (b : Blk) (P : S16x128x256.Idx → EReal) (i : S16x128x256.Idx) : EReal := P i + ((b.ds (i 0) (i 1) (i 2) : ℝ) : EReal)

theorem gb_piece (b : Blk) (P : Vec Ideal S16x128x256 .f32) (h g : Fin 4) {o : ℕ} (ho : o = 4 * h.val) {p} (r : Fin 128) (j : Fin 256) :
    View.ld P (Rect.unit (s := S16x128x256) ![o, 0, 0] ![4, 128, 256] p) (ix3 g r j) + ((b.ds (mem h g) r j : ℝ) : EReal) =
      gb b P ((Rect.unit (s := S16x128x256) ![o, 0, 0] ![4, 128, 256] p).emb (ix3 g r j)) := by
  have he : (Rect.unit (s := S16x128x256) ![o, 0, 0] ![4, 128, 256] p).emb (ix3 g r j) = ix3 (mem h g) r j := funext fun a => by
    fin_cases a
    · exact Fin.ext (by show o + 1 * g.val = 4 * h.val + g.val; omega)
    · exact Fin.ext (by show 0 + 1 * r.val = r.val; omega)
    · exact Fin.ext (by show 0 + 1 * j.val = j.val; omega)
  rw [he]
  exact congrArg (· + ((b.ds (mem h g) r j : ℝ) : EReal)) (congrArg P he)

/-- The heads' rows, each in its lane, and nothing in the lanes above. -/
def lane (b : Blk) (r l : Fin 128) : EReal := if h : l.val < 16 then ((b.dσ ⟨l.val, h⟩ r : ℝ) : EReal) else 0

theorem lane_sum (b : Blk) (r l : Fin 128) : lane b r l = ∑ h : Fin 16, if l.val = h.val then ((b.dσ h r : ℝ) : EReal) else 0 := by
  unfold lane
  split
  · next h =>
    rw [Finset.sum_eq_single (⟨l.val, h⟩ : Fin 16) (fun x _ hx => if_neg fun e => hx (Fin.ext e.symm)) (fun hx => absurd (Finset.mem_univ _) hx), if_pos rfl]
  · next h => exact (Finset.sum_eq_zero fun x _ => if_neg (by have := x.isLt; omega)).symm

end Cert.Attn

end
-- ==== Proof.AttnKernel.lean ====
/- The attention's backward kernel: what its four result arrays hold at finite arguments. -/
module

public import proofs.«01_k».proof.Proof.AttnPieces
public import proofs.«01_k».proof.Proof.Gen.AttnBwdIdeal.Value
import Idealize.ShloMosaic.Lib.Pipeline.ValueKit

@[expose] public section

set_option maxRecDepth 16384

noncomputable section

namespace Cert.Attn

open Idealize.ShloMosaic Idealize.ShloMosaic.TcCoe Idealize.SL.Sem
open Cert.Reals Cert.AttnBwdIdeal Cert.AttnBwdIdeal.Gen Cert.AttnBwdIdeal.Value

theorem coords_val (t : Fin cfg0.N) : (grid0.coords t 0).val = t.val :=
  (by decide +kernel : ∀ t : Fin grid0.N, (grid0.coords t 0).val = t.val) t

variable {m : (ℓ : Loc nD τ sig) → Buf (Elt Ideal) ℓ} {c : Dev nD} {b : Fin 32 → Blk} {W : Fin 128 → Fin 256 → Bool}

/-- Point `t`'s blocks are those of query block `t`. -/
abbrev AllOps (m : (ℓ : Loc nD τ sig) → Buf (Elt Ideal) ℓ) (c : Dev nD) (b : Fin 32 → Blk) (W : Fin 128 → Fin 256 → Bool) : Prop :=
  ∀ t : Fin cfg0.N, Ops (b t) W t (iblk m c 0 t) (iblk m c 1 t) (iblk m c 2 t) (iblk m c 3 t) (iblk m c 4 t) (iblk m c 5 t)

set_option maxHeartbeats 4000000 in
/-- Point `t`'s cotangents of its queries. -/
theorem out6 (H : AllOps m c b W) (t : Fin cfg0.N) : (outsAt0 m c t.val t.isLt).1 = gq (b t) := by
  have G0 := (H t).grp0 (coords_val t)
  have G1 := (H t).grp1 (coords_val t)
  have G2 := (H t).grp2 (coords_val t)
  have G3 := (H t).grp3 (coords_val t)
  funext y
  by_cases h0 : t.val % 32 = 0
  case' pos => rw [outsAt0_A m c t h0 (by omega)]
  case' neg =>
    by_cases h1 : t.val % 32 = 31
    case' pos => rw [outsAt0_C m c t h0 h1]
    case' neg => rw [outsAt0_B m c t h0 h1]
  all_goals
    frame_open
    simp (disch := decide) only [↓ View.readCov_skip, ↓ View.readCov_cons_toLoadRect, ↓ View.readCov_fill]
    frame_out
    refine canon_pieces (e := .bf16) (gq (b t)) ?_ ?_
    · refine ⟨?_, ?_, ?_, ?_, ?_, ?_, ?_, ?_, ?_, ?_, ?_, ?_, ?_, ?_, ?_, ?_, trivial⟩ <;> intro x <;> obtain ⟨r, e, rfl⟩ := exists_ix2 x
      · exact (G3.dq_piece 3 (u := 384) (s := by decide) rfl r e).trans (gq_piece (b t) 15 (o := 960) (p := by decide) rfl r e)
      · exact (G3.dq_piece 2 (u := 256) (s := by decide) rfl r e).trans (gq_piece (b t) 14 (o := 896) (p := by decide) rfl r e)
      · exact (G3.dq_piece 1 (u := 128) (s := by decide) rfl r e).trans (gq_piece (b t) 13 (o := 832) (p := by decide) rfl r e)
      · exact (G3.dq_piece 0 (u := 0) (s := by decide) rfl r e).trans (gq_piece (b t) 12 (o := 768) (p := by decide) rfl r e)
      · exact (G2.dq_piece 3 (u := 384) (s := by decide) rfl r e).trans (gq_piece (b t) 11 (o := 704) (p := by decide) rfl r e)
      · exact (G2.dq_piece 2 (u := 256) (s := by decide) rfl r e).trans (gq_piece (b t) 10 (o := 640) (p := by decide) rfl r e)
      · exact (G2.dq_piece 1 (u := 128) (s := by decide) rfl r e).trans (gq_piece (b t) 9 (o := 576) (p := by decide) rfl r e)
      · exact (G2.dq_piece 0 (u := 0) (s := by decide) rfl r e).trans (gq_piece (b t) 8 (o := 512) (p := by decide) rfl r e)
      · exact (G1.dq_piece 3 (u := 384) (s := by decide) rfl r e).trans (gq_piece (b t) 7 (o := 448) (p := by decide) rfl r e)
      · exact (G1.dq_piece 2 (u := 256) (s := by decide) rfl r e).trans (gq_piece (b t) 6 (o := 384) (p := by decide) rfl r e)
      · exact (G1.dq_piece 1 (u := 128) (s := by decide) rfl r e).trans (gq_piece (b t) 5 (o := 320) (p := by decide) rfl r e)
      · exact (G1.dq_piece 0 (u := 0) (s := by decide) rfl r e).trans (gq_piece (b t) 4 (o := 256) (p := by decide) rfl r e)
      · exact (G0.dq_piece 3 (u := 384) (s := by decide) rfl r e).trans (gq_piece (b t) 3 (o := 192) (p := by decide) rfl r e)
      · exact (G0.dq_piece 2 (u := 256) (s := by decide) rfl r e).trans (gq_piece (b t) 2 (o := 128) (p := by decide) rfl r e)
      · exact (G0.dq_piece 1 (u := 128) (s := by decide) rfl r e).trans (gq_piece (b t) 1 (o := 64) (p := by decide) rfl r e)
      · exact (G0.dq_piece 0 (u := 0) (s := by decide) rfl r e).trans (gq_piece (b t) 0 (o := 0) (p := by decide) rfl r e)
    · exact View.cover_of_tiledL _ ![128, 64] (by sl_kernel_rfl) _

set_option maxHeartbeats 4000000 in
/-- Point `t`'s cotangents of its band. -/
theorem out7 (H : AllOps m c b W) (t : Fin cfg0.N) : (outsAt0 m c t.val t.isLt).2.1 = gkv (b t) := by
  have G0 := (H t).grp0 (coords_val t)
  have G1 := (H t).grp1 (coords_val t)
  have G2 := (H t).grp2 (coords_val t)
  have G3 := (H t).grp3 (coords_val t)
  funext y
  by_cases h0 : t.val % 32 = 0
  case' pos => rw [outsAt0_A m c t h0 (by omega)]
  case' neg =>
    by_cases h1 : t.val % 32 = 31
    case' pos => rw [outsAt0_C m c t h0 h1]
    case' neg => rw [outsAt0_B m c t h0 h1]
  all_goals
    frame_open
    simp (disch := decide) only [↓ View.readCov_skip, ↓ View.readCov_cons_toLoadRect, ↓ View.readCov_fill]
    frame_out
    refine canon_pieces (e := .bf16) (gkv (b t)) ?_ ?_
    · refine ⟨?_, ?_, ?_, ?_, ?_, ?_, ?_, ?_, trivial⟩ <;> intro x <;> obtain ⟨u, j, e, rfl⟩ := exists_ix3 x <;> obtain rfl : u = 0 := Subsingleton.elim _ _
      · exact (G3.dv j e).trans (gkv_v_piece (b t) 3 (o := 448) (p := by decide) rfl j e)
      · exact (G3.dk j e).trans (gkv_k_piece (b t) 3 (o := 192) (p := by decide) rfl j e)
      · exact (G2.dv j e).trans (gkv_v_piece (b t) 2 (o := 384) (p := by decide) rfl j e)
      · exact (G2.dk j e).trans (gkv_k_piece (b t) 2 (o := 128) (p := by decide) rfl j e)
      · exact (G1.dv j e).trans (gkv_v_piece (b t) 1 (o := 320) (p := by decide) rfl j e)
      · exact (G1.dk j e).trans (gkv_k_piece (b t) 1 (o := 64) (p := by decide) rfl j e)
      · exact (G0.dv j e).trans (gkv_v_piece (b t) 0 (o := 256) (p := by decide) rfl j e)
      · exact (G0.dk j e).trans (gkv_k_piece (b t) 0 (o := 0) (p := by decide) rfl j e)
    · exact View.cover_of_tiledL _ ![1, 256, 64] (by sl_kernel_rfl) _

set_option maxHeartbeats 4000000 in
/-- The first point's array of the biases' cotangents. -/
theorem out8_first (H : AllOps m c b W) (t : Fin cfg0.N) (h0 : t.val % 32 = 0) : (outsAt0 m c t.val t.isLt).2.2.1 = gb (b t) (k0_pay7 (F := Ideal)) := by
  have G0 := (H t).grp0 (coords_val t)
  have G1 := (H t).grp1 (coords_val t)
  have G2 := (H t).grp2 (coords_val t)
  have G3 := (H t).grp3 (coords_val t)
  funext y
  rw [outsAt0_A m c t h0 (by omega)]
  frame_open
  simp (disch := decide) only [↓ View.readCov_skip, ↓ View.readCov_cons_toLoadRect, ↓ View.readCov_fill]
  frame_out
  refine View.canon_append_of_piecesOf (e := .f32) (Val := Elt Ideal) (gb (b t) (k0_pay7 (F := Ideal))) [_] [_, _, _, _] ?_ y ?_
  · refine ⟨?_, ?_, ?_, ?_, trivial⟩ <;> intro x <;> obtain ⟨g, r, j, rfl⟩ := exists_ix3 x
    · exact (G3.db_piece _ g r j).trans (gb_piece (b t) (k0_pay7 (F := Ideal)) 3 g (o := 12) (p := by decide) rfl r j)
    · exact (G2.db_piece _ g r j).trans (gb_piece (b t) (k0_pay7 (F := Ideal)) 2 g (o := 8) (p := by decide) rfl r j)
    · exact (G1.db_piece _ g r j).trans (gb_piece (b t) (k0_pay7 (F := Ideal)) 1 g (o := 4) (p := by decide) rfl r j)
    · exact (G0.db_piece _ g r j).trans (gb_piece (b t) (k0_pay7 (F := Ideal)) 0 g (o := 0) (p := by decide) rfl r j)
  · exact View.cover_of_tiledL _ ![4, 128, 256] (by sl_kernel_rfl) _

set_option maxHeartbeats 4000000 in
/-- A later point adds its own to it. -/
theorem out8_next (H : AllOps m c b W) (t : Fin cfg0.N) (h0 : ¬t.val % 32 = 0) : (outsAt0 m c t.val t.isLt).2.2.1 =
    gb (b t) (outsAt0 m c (t.val - 1) (Nat.lt_of_le_of_lt (Nat.sub_le _ _) t.isLt)).2.2.1 := by
  have G0 := (H t).grp0 (coords_val t)
  have G1 := (H t).grp1 (coords_val t)
  have G2 := (H t).grp2 (coords_val t)
  have G3 := (H t).grp3 (coords_val t)
  funext y
  by_cases h1 : t.val % 32 = 31
  case' pos => rw [outsAt0_C m c t h0 h1]
  case' neg => rw [outsAt0_B m c t h0 h1]
  all_goals
    frame_open
    simp (disch := decide) only [↓ View.readCov_skip, ↓ View.readCov_cons_toLoadRect, ↓ View.readCov_fill]
    frame_out
    refine canon_pieces (e := .f32) (gb (b t) _) ?_ ?_
    · refine ⟨?_, ?_, ?_, ?_, trivial⟩ <;> intro x <;> obtain ⟨g, r, j, rfl⟩ := exists_ix3 x
      · exact (G3.db_piece _ g r j).trans (gb_piece (b t) _ 3 g (o := 12) (p := by decide) rfl r j)
      · exact (G2.db_piece _ g r j).trans (gb_piece (b t) _ 2 g (o := 8) (p := by decide) rfl r j)
      · exact (G1.db_piece _ g r j).trans (gb_piece (b t) _ 1 g (o := 4) (p := by decide) rfl r j)
      · exact (G0.db_piece _ g r j).trans (gb_piece (b t) _ 0 g (o := 0) (p := by decide) rfl r j)
    · exact View.cover_of_tiledL _ ![4, 128, 256] (by sl_kernel_rfl) _

/-- The sinks' rows so far, after the heads of one key head. -/
def lanes (b : Blk) (h : Fin 4) (r l : Fin 128) (x : EReal) : EReal :=
  x + (if l.val = (mem h 0).val then ((b.dσ (mem h 0) r : ℝ) : EReal) else 0) + (if l.val = (mem h 1).val then ((b.dσ (mem h 1) r : ℝ) : EReal) else 0)
    + (if l.val = (mem h 2).val then ((b.dσ (mem h 2) r : ℝ) : EReal) else 0) + (if l.val = (mem h 3).val then ((b.dσ (mem h 3) r : ℝ) : EReal) else 0)

theorem lanes_all (b : Blk) (r l : Fin 128) (x : EReal) : lanes b 3 r l (lanes b 2 r l (lanes b 1 r l (lanes b 0 r l x))) = x + lane b r l := by
  rw [lane_sum]
  simp only [Fin.sum_univ_succ, Fin.sum_univ_zero, add_zero, lanes, add_assoc]
  rfl

set_option maxHeartbeats 4000000 in
/-- The sinks' rows after the first point. -/
theorem outS_first (H : AllOps m c b W) (t : Fin cfg0.N) (h0 : t.val % 32 = 0) (r l : Fin 128) :
    (outsAt0 m c t.val t.isLt).2.2.2.2 (ix2 r l) = 0 + lane (b t) r l := by
  have G0 := (H t).grp0 (coords_val t)
  have G1 := (H t).grp1 (coords_val t)
  have G2 := (H t).grp2 (coords_val t)
  have G3 := (H t).grp3 (coords_val t)
  rw [outsAt0_A m c t h0 (by omega), ← lanes_all]
  frame_open
  simp (disch := decide) only [↓ View.readCov_skip, ↓ View.readCov_cons_toLoadRect, ↓ View.readCov_fill]
  frame_out
  have hz : k0_pay8 (F := Ideal) (ix2 r l) = 0 := by pointwise [k0_pay8]
  exact (G3.lane_piece 3 (u := 384) (s := by decide) rfl (by decide) r l (G3.lane_piece 2 (u := 256) (s := by decide) rfl (by decide) r l (G3.lane_piece 1 (u := 128) (s := by decide) rfl (by decide) r l (G3.lane_piece 0 (u := 0) (s := by decide) rfl (by decide) r l
    (G2.lane_piece 3 (u := 384) (s := by decide) rfl (by decide) r l (G2.lane_piece 2 (u := 256) (s := by decide) rfl (by decide) r l (G2.lane_piece 1 (u := 128) (s := by decide) rfl (by decide) r l (G2.lane_piece 0 (u := 0) (s := by decide) rfl (by decide) r l
    (G1.lane_piece 3 (u := 384) (s := by decide) rfl (by decide) r l (G1.lane_piece 2 (u := 256) (s := by decide) rfl (by decide) r l (G1.lane_piece 1 (u := 128) (s := by decide) rfl (by decide) r l (G1.lane_piece 0 (u := 0) (s := by decide) rfl (by decide) r l
    (G0.lane_piece 3 (u := 384) (s := by decide) rfl (by decide) r l (G0.lane_piece 2 (u := 256) (s := by decide) rfl (by decide) r l (G0.lane_piece 1 (u := 128) (s := by decide) rfl (by decide) r l (G0.lane_piece 0 (u := 0) (s := by decide) rfl (by decide) r l hz))))))))))))))))

set_option maxHeartbeats 4000000 in
/-- A later point adds its own. -/
theorem outS_next (H : AllOps m c b W) (t : Fin cfg0.N) (h0 : ¬t.val % 32 = 0) (r l : Fin 128) :
    (outsAt0 m c t.val t.isLt).2.2.2.2 (ix2 r l) =
      (outsAt0 m c (t.val - 1) (Nat.lt_of_le_of_lt (Nat.sub_le _ _) t.isLt)).2.2.2.2 (ix2 r l) + lane (b t) r l := by
  have G0 := (H t).grp0 (coords_val t)
  have G1 := (H t).grp1 (coords_val t)
  have G2 := (H t).grp2 (coords_val t)
  have G3 := (H t).grp3 (coords_val t)
  rw [← lanes_all]
  by_cases h1 : t.val % 32 = 31
  case' pos => rw [outsAt0_C m c t h0 h1]
  case' neg => rw [outsAt0_B m c t h0 h1]
  all_goals
    frame_open
    simp (disch := decide) only [↓ View.readCov_skip, ↓ View.readCov_cons_toLoadRect, ↓ View.readCov_fill]
    frame_out
    exact (G3.lane_piece 3 (u := 384) (s := by decide) rfl (by decide) r l (G3.lane_piece 2 (u := 256) (s := by decide) rfl (by decide) r l (G3.lane_piece 1 (u := 128) (s := by decide) rfl (by decide) r l (G3.lane_piece 0 (u := 0) (s := by decide) rfl (by decide) r l
      (G2.lane_piece 3 (u := 384) (s := by decide) rfl (by decide) r l (G2.lane_piece 2 (u := 256) (s := by decide) rfl (by decide) r l (G2.lane_piece 1 (u := 128) (s := by decide) rfl (by decide) r l (G2.lane_piece 0 (u := 0) (s := by decide) rfl (by decide) r l
      (G1.lane_piece 3 (u := 384) (s := by decide) rfl (by decide) r l (G1.lane_piece 2 (u := 256) (s := by decide) rfl (by decide) r l (G1.lane_piece 1 (u := 128) (s := by decide) rfl (by decide) r l (G1.lane_piece 0 (u := 0) (s := by decide) rfl (by decide) r l
      (G0.lane_piece 3 (u := 384) (s := by decide) rfl (by decide) r l (G0.lane_piece 2 (u := 256) (s := by decide) rfl (by decide) r l (G0.lane_piece 1 (u := 128) (s := by decide) rfl (by decide) r l (G0.lane_piece 0 (u := 0) (s := by decide) rfl (by decide) r l (congrFun (read_unread_whole _ _ _) _)))))))))))))))))

set_option maxHeartbeats 4000000 in
/-- The last point sums the sinks' rows. -/
theorem out9 (t : Fin cfg0.N) (h0 : ¬t.val % 32 = 0) (h1 : t.val % 32 = 31) :
    (outsAt0 m c t.val t.isLt).2.2.2.1 = k0_pay3 (outsAt0 m c t.val t.isLt).2.2.2.2 := by
  rw [outsAt0_C m c t h0 h1]
  frame_open
  simp (disch := decide) only [↓ View.readCov_skip, ↓ View.readCov_cons_toLoadRect, ↓ View.readCov_fill]
  frame_out

/-- The windows' block indices, at every point. -/
theorem idx : ∀ t : Fin cfg0.N, win0_0.index t = ![0, 0] ∧ win0_1.index t = ![t.val, 0] ∧ win0_2.index t = ![t.val, 0] ∧ win0_3.index t = ![t.val, 0]
    ∧ win0_4.index t = ![t.val - 1, 0] ∧ win0_5.index t = ![0, 0, 0] ∧ win0_6.index t = ![t.val, 0] ∧ win0_7.index t = ![t.val, 0, 0]
    ∧ win0_8.index t = ![0, 0, 0] ∧ win0_9.index t = ![0, 0] :=
  (by decide +kernel : ∀ t : Fin grid0.N, _)

/-- The last point. -/
def last : Fin grid0.N := ⟨31, by rw [N_0]; decide⟩

/-- The whole array of the queries' cotangents. -/
def aq (b : Fin 32 → Blk) (i : S4096x1024.Idx) : EReal :=
  gq (b ⟨(i 0).val / 128, by have : (i 0).val < 4096 := (i 0).isLt; omega⟩) (ix2 ⟨(i 0).val % 128, by omega⟩ (i 1))

/-- The whole array of the bands' cotangents. -/
def akv (b : Fin 32 → Blk) (i : S32x256x512.Idx) : EReal := gkv (b (i 0)) (ix3 0 (i 1) (i 2))

/-- The array of the biases' cotangents. -/
def ab (b : Fin 32 → Blk) (i : S16x128x256.Idx) : EReal := ((∑ t, (b t).ds (i 0) (i 1) (i 2) : ℝ) : EReal)

theorem arr6 (H : AllOps m c b W) : (dats m 0 c).arrAt 6 cfg0.N = aq b := by
  refine (dats m 0 c).arrAt_eq_of_covers 6 _ (by decide +kernel) fun t hf i => ?_
  blk_simp
  rw [after0_6, out6 H t]
  obtain ⟨r, k, rfl⟩ := exists_ix2 i
  trans aq b (ix2 (blockRow (T := 32) (B := 128) (N := 4096) rfl t r) k)
  · refine congrArg₂ (fun t r => gq (b t) (ix2 r k)) (Fin.ext ?_) (Fin.ext ?_)
    · show t.val = (128 * t.val + r.val) / 128; omega
    · show r.val = (128 * t.val + r.val) % 128; omega
  · refine congrArg (aq b) ?_
    blk_ext! [idx t]
    show 128 * t.val + r.val = _
    omega

theorem arr7 (H : AllOps m c b W) : (dats m 0 c).arrAt 7 cfg0.N = akv b := by
  refine (dats m 0 c).arrAt_eq_of_covers 7 _ (by decide +kernel) fun t hf i => ?_
  blk_simp
  rw [after0_7, out7 H t]
  obtain ⟨u, j, e, rfl⟩ := exists_ix3 i
  obtain rfl : u = 0 := Subsingleton.elim _ _
  refine congrArg (akv b) (a₁ := ix3 t j e) ?_
  blk_ext! [idx t]

theorem arr8 (H : AllOps m c b W) : (dats m 0 c).arrAt 8 cfg0.N = ab b := by
  refine (dats m 0 c).arrAt_eq_of_after_last 8 last (by decide +kernel) _ fun j => ?_
  blk_simp
  rw [after0_8, Pipeline.eq_sum_fin_of_reset_step_apply_last (fun n h => (outsAt0 m c n h).2.2.1) 32 (fun _ => 0)
    (fun t j => (((b t).ds (j 0) (j 1) (j 2) : ℝ) : EReal))
    (fun t h j => by
      rw [out8_first H t h]
      have hz : k0_pay7 (F := Ideal) j = 0 := by obtain ⟨g, r, k, rfl⟩ := exists_ix3 j; pointwise [k0_pay7]
      rw [gb, hz])
    (fun t h j => by rw [out8_next H t h]; rfl) (by decide) last rfl j, zero_add, sum_coe]
  rfl

/-- The sinks' rows at the last point. -/
theorem outS_last (H : AllOps m c b W) (r l : Fin 128) : (outsAt0 m c last.val last.isLt).2.2.2.2 (ix2 r l) = ∑ t, lane (b t) r l := by
  rw [Pipeline.eq_sum_fin_of_reset_step_apply_last (fun n h => (outsAt0 m c n h).2.2.2.2) 32 (fun _ => 0) (fun t j => lane (b t) (j 0) (j 1))
    (fun t h j => by obtain ⟨r, l, rfl⟩ := exists_ix2 j; exact outS_first H t h r l)
    (fun t h j => by obtain ⟨r, l, rfl⟩ := exists_ix2 j; exact outS_next H t h r l) (by decide) last rfl (ix2 r l), zero_add]
  rfl

/-- The array of the sinks' cotangents, zero beyond the heads. -/
def asn (b : Fin 32 → Blk) (i : S1x128.Idx) : EReal := if h : (i 1).val < 16 then ((∑ r, ∑ t, (b t).dσ ⟨(i 1).val, h⟩ r : ℝ) : EReal) else 0

theorem arr9 (H : AllOps m c b W) : (dats m 0 c).arrAt 9 cfg0.N = asn b := by
  refine (dats m 0 c).arrAt_eq_of_after_last 9 last (by decide +kernel) _ fun j => ?_
  blk_simp
  rw [after0_9, out9 last (by decide) (by decide)]
  obtain ⟨u, l, rfl⟩ := exists_ix2 j
  trans ∑ r, ∑ t, lane (b t) r l
  · pointwise [k0_pay3]
    exact Finset.sum_congr rfl fun r _ => outS_last H r l
  · show _ = if h : l.val < 16 then ((∑ r, ∑ t, (b t).dσ ⟨l.val, h⟩ r : ℝ) : EReal) else 0
    unfold lane
    split
    · simp only [sum_coe]
    · simp only [Finset.sum_const_zero]

end Cert.Attn

end
-- ==== Proof.AttnArgs.lean ====
/- The blocks of the attention, from the whole arrays; the band before the first block is never seen. -/
module

public import proofs.«01_k».proof.Proof.AttnMath

@[expose] public section

noncomputable section

namespace Cert.Attn

open Idealize.ShloMosaic Cert.Reals

namespace Blk

variable (b : Blk) {KV : Fin 256 → Fin 512 → ℝ}

/-- The block with another band. -/
def withBand (KV : Fin 256 → Fin 512 → ℝ) : Blk := { b with KV := KV }

theorem wt_band (h : ∀ r j, b.A r j = true → ∀ c, b.KV j c = KV j c) (i : Fin 16) (r : Fin 128) :
    wt (b.A r) ((b.withBand KV).s i r) = wt (b.A r) (b.s i r) := by
  funext j
  unfold wt
  split
  · next hj => simp only [s, withBand, h r j hj]
  · rfl

theorem pr_band (h : ∀ r j, b.A r j = true → ∀ c, b.KV j c = KV j c) (i : Fin 16) (r : Fin 128) :
    pr (b.A r) ((b.withBand KV).s i r) (b.S i) = pr (b.A r) (b.s i r) (b.S i) := by
  funext j
  simp only [pr, den, b.wt_band h i r]

theorem pr_hidden (i : Fin 16) (r : Fin 128) (j : Fin 256) (hj : ¬b.A r j = true) : pr (b.A r) (b.s i r) (b.S i) j = 0 := by
  rw [pr, wt, if_neg hj, zero_div]

theorem pr_mul_band (h : ∀ r j, b.A r j = true → ∀ c, b.KV j c = KV j c) (i : Fin 16) (r : Fin 128) (j : Fin 256) (d : ℝ) :
    pr (b.A r) (b.s i r) (b.S i) j * ((b.withBand KV).p' i r j - d) = pr (b.A r) (b.s i r) (b.S i) j * (b.p' i r j - d) := by
  by_cases hj : b.A r j = true
  · simp only [p', withBand, h r j hj]
  · rw [b.pr_hidden i r j hj, zero_mul, zero_mul]

theorem del_band (h : ∀ r j, b.A r j = true → ∀ c, b.KV j c = KV j c) (i : Fin 16) (r : Fin 128) :
    del (b.A r) ((b.withBand KV).s i r) (b.S i) ((b.withBand KV).p' i r) = del (b.A r) (b.s i r) (b.S i) (b.p' i r) := by
  unfold del
  refine Finset.sum_congr rfl fun j _ => ?_
  have := b.pr_mul_band h i r j 0
  rw [sub_zero, sub_zero] at this
  rw [b.pr_band h i r, this]

theorem p_band (h : ∀ r j, b.A r j = true → ∀ c, b.KV j c = KV j c) : (b.withBand KV).p = b.p := by
  funext i r j
  exact congrFun (b.pr_band h i r) j

theorem ds_band (h : ∀ r j, b.A r j = true → ∀ c, b.KV j c = KV j c) : (b.withBand KV).ds = b.ds := by
  funext i r j
  show sc' (b.A r) ((b.withBand KV).s i r) (b.S i) ((b.withBand KV).p' i r) j = sc' (b.A r) (b.s i r) (b.S i) (b.p' i r) j
  rw [sc', b.pr_band h i r, b.del_band h i r, b.pr_mul_band h i r, sc']

theorem dσ_band (h : ∀ r j, b.A r j = true → ∀ c, b.KV j c = KV j c) : (b.withBand KV).dσ = b.dσ := by
  funext i r
  show snk' (b.A r) ((b.withBand KV).s i r) (b.S i) ((b.withBand KV).p' i r) = snk' (b.A r) (b.s i r) (b.S i) (b.p' i r)
  rw [snk', snk', b.del_band h i r, den, den, b.wt_band h i r]

theorem dq_band (h : ∀ r j, b.A r j = true → ∀ c, b.KV j c = KV j c) : (b.withBand KV).dq = b.dq := by
  funext i r e
  unfold dq
  rw [b.ds_band h]
  refine congrArg (· * (1 / 8)) (Finset.sum_congr rfl fun j _ => ?_)
  by_cases hj : b.A r j = true
  · rw [h r j hj]; rfl
  · have : b.ds i r j = 0 := by
      show pr (b.A r) (b.s i r) (b.S i) j * _ = 0
      rw [b.pr_hidden i r j hj, zero_mul]
    rw [this, zero_mul, zero_mul]

theorem dk_band (h : ∀ r j, b.A r j = true → ∀ c, b.KV j c = KV j c) : (b.withBand KV).dk = b.dk := by
  funext i r e
  unfold dk
  rw [b.ds_band h]
  rfl

theorem dv_band (h : ∀ r j, b.A r j = true → ∀ c, b.KV j c = KV j c) : (b.withBand KV).dv = b.dv := by
  funext i r e
  unfold dv
  rw [b.p_band h]
  rfl

end Blk

/-- The whole arrays. -/
structure Whole where
  S : Fin 16 → ℝ
  Q : Fin 4096 → Fin 1024 → ℝ
  O : Fin 4096 → Fin 1024 → ℝ
  K : Fin 4096 → Fin 256 → ℝ
  V : Fin 4096 → Fin 256 → ℝ
  B : Fin 16 → Fin 128 → Fin 256 → ℝ
  W : Fin 128 → Fin 256 → Bool

namespace Whole

variable (w : Whole)

/-- Keys and values side by side. -/
def kv (i : Fin 4096) (c : Fin 512) : ℝ := if h : c.val < 256 then w.K i ⟨c.val, h⟩ else w.V i ⟨c.val - 256, by omega⟩

/-- Query block `n`'s band: the keys of block `n − 1`, then its own; before block 0 stands `F`. -/
def band (F : Fin 256 → Fin 512 → ℝ) (n : Fin 32) (j : Fin 256) (c : Fin 512) : ℝ :=
  if 128 ≤ 128 * n.val + j.val then w.kv ⟨128 * n.val + j.val - 128, by omega⟩ c else F j c

theorem band_pos {F : Fin 256 → Fin 512 → ℝ} {n : Fin 32} {j : Fin 256} {i : Fin 4096} (h : i.val + 128 = 128 * n.val + j.val) (c : Fin 512) :
    w.band F n j c = w.kv i c := by
  rw [band, if_pos (by omega)]
  exact congrArg (fun i => w.kv i c) (Fin.ext (by show 128 * n.val + j.val - 128 = i.val; omega))

theorem band_neg {F : Fin 256 → Fin 512 → ℝ} {n : Fin 32} {j : Fin 256} (h : ¬128 ≤ 128 * n.val + j.val) (c : Fin 512) :
    w.band F n j c = F j c := by
  rw [band, if_neg h]

/-- Row `r` of block `n`. -/
def at' (n : Fin 32) (r : Fin 128) : Fin 4096 := ⟨128 * n.val + r.val, by omega⟩

/-- Query block `n`. -/
def blk (F : Fin 256 → Fin 512 → ℝ) (n : Fin 32) : Blk where
  S := w.S
  Q r := w.Q (at' n r)
  O r := w.O (at' n r)
  KV := w.band F n
  B := w.B
  A r j := w.W r j && !(decide (j.val < 128) && decide (n.val = 0))

/-- What stands before block 0 is never seen. -/
theorem seen (F G : Fin 256 → Fin 512 → ℝ) (n : Fin 32) (r : Fin 128) (j : Fin 256) (h : (w.blk F n).A r j = true) (c : Fin 512) :
    (w.blk F n).KV j c = w.band G n j c := by
  have hj : ¬(j.val < 128 ∧ n.val = 0) := by
    simp only [blk, Bool.and_eq_true, Bool.not_eq_true', Bool.and_eq_false_iff, decide_eq_false_iff_not] at h
    omega
  show w.band F n j c = w.band G n j c
  rw [band, band, if_pos (by omega), if_pos (by omega)]

variable (F G : Fin 256 → Fin 512 → ℝ) (n : Fin 32)

theorem ds_fill : (w.blk F n).ds = (w.blk G n).ds := ((w.blk F n).ds_band (w.seen F G n)).symm
theorem dσ_fill : (w.blk F n).dσ = (w.blk G n).dσ := ((w.blk F n).dσ_band (w.seen F G n)).symm
theorem dq_fill : (w.blk F n).dq = (w.blk G n).dq := ((w.blk F n).dq_band (w.seen F G n)).symm
theorem dk_fill : (w.blk F n).dk = (w.blk G n).dk := ((w.blk F n).dk_band (w.seen F G n)).symm
theorem dv_fill : (w.blk F n).dv = (w.blk G n).dv := ((w.blk F n).dv_band (w.seen F G n)).symm

end Whole

end Cert.Attn

end
-- ==== Proof.AttnHost.lean ====
/- What the attention's backward kernel finds in its operands, from the arguments. -/
module

public import proofs.«01_k».proof.Proof.AttnKernel
public import proofs.«01_k».proof.Proof.AttnArgs
public import proofs.«01_k».proof.Proof.Gen.AttnBwdRefIdeal.Read
import Idealize.ShloMosaic.Lib.Claim

@[expose] public section

set_option maxRecDepth 16384

noncomputable section

namespace Cert.Attn

open Idealize.ShloMosaic Idealize.ShloMosaic.TcCoe Idealize.SL.Sem
open Cert.Reals Cert.AttnBwdIdeal Cert.AttnBwdIdeal.Gen Cert.AttnBwdIdeal.Value

variable {m : (ℓ : Loc nD τ sig) → Buf (Elt Ideal) ℓ} {c : Dev nD}

/-- Host lines in two parts run one after the other. -/
theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- What the host lines before the call leave, one part after the other. -/
theorem V_eq (b : Ref sig .tc) : V m c b = StableHlo.after hostOps0_4 (StableHlo.after hostOps0_3 (StableHlo.after hostOps0_2 (StableHlo.after hostOps0_1
    (StableHlo.after hostOps0 fun b => m (c, b))))) (Proc.tc.devRef b) := by
  unfold V
  simp only [List.flatten_cons, List.flatten_nil, List.append_nil, after_app]

/-- Which keys of a band a query's window holds. -/
def win (r : Fin 128) (j : Fin 256) : Bool := decide (AttnBwdRefIdeal.Read.val_main_v13 (F := Ideal) (ix2 r j) = 1#1)

theorem entry45 (h : Fin 16) : V m c main_v45 (ix2 0 h) = m ((c.tc : Thread nD τ).loc main_arg3) (ix1 h) := by
  rw [V_eq]
  entry_read
  pointwise

theorem entry44 (r : Fin 4096) (k : Fin 512) : V m c main_v44 (ix2 r k) =
    if h : k.val < 256 then m ((c.tc : Thread nD τ).loc main_arg1) (ix2 r ⟨k.val, h⟩) else m ((c.tc : Thread nD τ).loc main_arg2) (ix2 r ⟨k.val - 256, by omega⟩) := by
  rw [V_eq]
  entry_read
  pointwise

theorem entry43 (h : Fin 16) (r : Fin 128) (j : Fin 256) : V m c main_v43 (ix3 h r j) =
    Scalar.select (AttnBwdRefIdeal.Read.val_main_v13 (F := Ideal) (ix2 r j))
      (AttnBwdRefIdeal.Read.val_main_v41 (F := Ideal) (m ((c.tc : Thread nD τ).loc main_arg4)) (ix3 h r j)) (Ideal.ofBits .f32 0xFF800000#32) := by
  rw [V_eq]
  entry_read
  simp only [StableHlo.TRef.ofBuf_toBuf]
  simp only [StableHlo.TRef.ofBuf, StableHlo.TRef.toBuf, cast_eq]
  sl_kernel_rfl

/-- The arguments hold the reals of `w`, and its bias and window are those of the table. -/
structure Holds (w : Whole) (q : S4096x1024.Idx → EReal) (k v : S4096x256.Idx → EReal) (s : S16.Idx → EReal) (rb : S32x16.Idx → EReal)
    (o : S4096x1024.Idx → EReal) : Prop where
  hq : ∀ r c, q (ix2 r c) = ((w.Q r c : ℝ) : EReal)
  hk : ∀ r c, k (ix2 r c) = ((w.K r c : ℝ) : EReal)
  hv : ∀ r c, v (ix2 r c) = ((w.V r c : ℝ) : EReal)
  hs : ∀ h, s (ix1 h) = ((w.S h : ℝ) : EReal)
  hb : ∀ h r j, AttnBwdRefIdeal.Read.val_main_v41 (F := Ideal) rb (ix3 h r j) = ((w.B h r j : ℝ) : EReal)
  ho : ∀ r c, o (ix2 r c) = ((w.O r c : ℝ) : EReal)
  hw : w.W = win

/-- What stands before block 0 in the kernel's band: the first block again. -/
def again (w : Whole) (j : Fin 256) (c : Fin 512) : ℝ := w.kv ⟨j.val, by omega⟩ c

theorem entry44_real {w : Whole} (h1 : ∀ r k, m ((c.tc : Thread nD τ).loc main_arg1) (ix2 r k) = ((w.K r k : ℝ) : EReal))
    (h2 : ∀ r k, m ((c.tc : Thread nD τ).loc main_arg2) (ix2 r k) = ((w.V r k : ℝ) : EReal)) (r : Fin 4096) (k : Fin 512) :
    V m c main_v44 (ix2 r k) = ((w.kv r k : ℝ) : EReal) := by
  rw [entry44, Whole.kv]
  split
  · exact h1 _ _
  · exact h2 _ _

theorem blk3 (t : Fin cfg0.N) (r : Fin 128) (k : Fin 512) : iblk m c 3 t (ix2 r k) = V m c main_v44 (ix2 (Whole.at' t r) k) := by
  unfold iblk
  generalize V m c = X
  refine congrArg (X main_v44) ?_
  blk_ext! [idx t]
  show t.val * 128 + r.val = 128 * t.val + r.val
  omega

theorem blk4 (t : Fin cfg0.N) (r : Fin 128) (k : Fin 512) : iblk m c 4 t (ix2 r k) =
    V m c main_v44 (ix2 ⟨128 * (t.val - 1) + r.val, by have : t.val < 32 := t.isLt; omega⟩ k) := by
  unfold iblk
  generalize V m c = X
  refine congrArg (X main_v44) ?_
  blk_ext! [idx t]

theorem blk5 (t : Fin cfg0.N) (h : Fin 16) (r : Fin 128) (j : Fin 256) : iblk m c 5 t (ix3 h r j) = V m c main_v43 (ix3 h r j) := by
  unfold iblk
  generalize V m c = X
  refine congrArg (X main_v43) ?_
  blk_ext! [idx t]

theorem blk0 (t : Fin cfg0.N) (h : Fin 16) : iblk m c 0 t (ix2 0 h) = V m c main_v45 (ix2 0 h) := by
  unfold iblk
  generalize V m c = X
  refine congrArg (X main_v45) ?_
  blk_ext! [idx t]

/-- At finite arguments each point's blocks are the query block's. -/
theorem allOps {w : Whole} (H : Holds w (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))) : AllOps m c (w.blk (again w)) win := fun t => by
  have ht : t.val < 32 := t.isLt
  constructor
  · intro h
    exact (blk0 t h).trans ((entry45 h).trans (H.hs h))
  · intro r k
    refine Eq.trans ?_ (H.hq (Whole.at' t r) k)
    refine congrArg (m ((c.tc : Thread nD τ).loc main_arg0)) ?_
    blk_ext! [idx t]
    show t.val * 128 + r.val = 128 * t.val + r.val
    omega
  · intro r k
    refine Eq.trans ?_ (H.ho (Whole.at' t r) k)
    refine congrArg (m ((c.tc : Thread nD τ).loc main_arg5)) ?_
    blk_ext! [idx t]
    show t.val * 128 + r.val = 128 * t.val + r.val
    omega
  · intro r k
    refine (blk3 t r k).trans ((entry44_real H.hk H.hv _ _).trans (congrArg _ (w.band_pos (n := t) ?_ k).symm))
    show 128 * t.val + r.val + 128 = 128 * t.val + (128 + r.val)
    omega
  · intro r k
    refine (blk4 t r k).trans ((entry44_real H.hk H.hv _ _).trans (congrArg _ ?_))
    by_cases h : t.val = 0
    · refine Eq.trans ?_ (w.band_neg (n := t) (j := ⟨r.val, by omega⟩) ?_ k).symm
      · refine congrArg (fun i => w.kv i k) (Fin.ext ?_)
        show 128 * (t.val - 1) + r.val = r.val
        omega
      · show ¬128 ≤ 128 * t.val + r.val
        omega
    · refine (w.band_pos (n := t) (j := ⟨r.val, by omega⟩) ?_ k).symm
      show 128 * (t.val - 1) + r.val + 128 = 128 * t.val + r.val
      omega
  · intro h r j
    refine (blk5 t h r j).trans ?_
    · rw [entry43, H.hb, bits_neg_inf, win]
      show (if _ = 1#1 then _ else _) = _
      simp only [decide_eq_true_eq]
      rfl
  · intro r j
    show (w.W r j && _) = _
    rw [H.hw]

end Cert.Attn

end
-- ==== Proof.AttnScores.lean ====
/- The scores of the banded attention, as the reference computes them. -/
module

public import proofs.«01_k».proof.Proof.AttnHost

@[expose] public section

set_option maxRecDepth 16384

noncomputable section

namespace Cert.Attn

open Idealize.ShloMosaic
open Cert.Reals Cert.AttnBwdRefIdeal Cert.AttnBwdRefIdeal.Read

variable {w : Whole} {x0 : FVec Ideal S4096x1024 .bf16} {x1 x2 : FVec Ideal S4096x256 .bf16} {x3 : FVec Ideal S16 .f32}
  {x4 : FVec Ideal S32x16 .f32} {x5 : FVec Ideal S4096x1024 .bf16}

/-- What stands before block 0 in the reference's band: zeros. -/
def zeros (_ : Fin 256) (_ : Fin 512) : ℝ := 0

/-- A block of the band, the zeros before block 0 among them. -/
theorem band_of {w : Whole} {x : FVec Ideal S4096x256 .bf16} {n : Fin 32} {j : Fin 256} {o : Fin 256} {k : Fin 512}
    (hx : ∀ r, x (ix2 r o) = ((w.kv r k : ℝ) : EReal)) {A : j.val < 128 → ¬n.val < 1 → Fin 4096} {B : ¬j.val < 128 → Fin 4096}
    (hA : ∀ h h', (A h h').val = (n.val - 1) * 128 + j.val) (hB : ∀ h, (B h).val = n.val * 128 + (j.val - 128)) :
    (if h : j.val < 128 then if h' : n.val < 1 then (0 : EReal) else x (ix2 (A h h') o) else x (ix2 (B h) o)) = (((w.blk zeros n).KV j k : ℝ) : EReal) := by
  show _ = ((w.band zeros n j k : ℝ) : EReal)
  split
  · next h =>
    split
    · rw [w.band_neg (by omega)]
      rfl
    · next h' => rw [hx, w.band_pos (i := A h h') (by have := hA h h'; omega)]
  · next h => rw [hx, w.band_pos (i := B h) (by have := hB h; omega)]

theorem kv_k {w : Whole} {x1 : FVec Ideal S4096x256 .bf16} (hk : ∀ r c, x1 (ix2 r c) = ((w.K r c : ℝ) : EReal)) (g : Fin 4) (e : Fin 64) {o : Fin 256}
    (ho : o.val = g.val * 64 + e.val) (r : Fin 4096) : x1 (ix2 r o) = ((w.kv r (kd g e) : ℝ) : EReal) := by
  have h : (kd g e).val = 64 * g.val + e.val := rfl
  rw [hk, Whole.kv, dif_pos (by omega)]
  exact congrArg (fun i => ((w.K r i : ℝ) : EReal)) (Fin.ext (by show o.val = (kd g e).val; omega))

theorem kv_v {w : Whole} {x2 : FVec Ideal S4096x256 .bf16} (hv : ∀ r c, x2 (ix2 r c) = ((w.V r c : ℝ) : EReal)) (g : Fin 4) (e : Fin 64) {o : Fin 256}
    (ho : o.val = g.val * 64 + e.val) (r : Fin 4096) : x2 (ix2 r o) = ((w.kv r (vd g e) : ℝ) : EReal) := by
  have h : (vd g e).val = 256 + 64 * g.val + e.val := rfl
  rw [hv, Whole.kv, dif_neg (by omega)]
  exact congrArg (fun i => ((w.V r i : ℝ) : EReal)) (Fin.ext (by show o.val = (vd g e).val - 256; omega))

theorem band_k (hk : ∀ r c, x1 (ix2 r c) = ((w.K r c : ℝ) : EReal)) (n : Fin 32) (j : Fin 256) (g : Fin 4) (e : Fin 64) :
    val_main_v51 (F := Ideal) x1 (ix4 n j g e) = (((w.blk zeros n).KV j (kd g e) : ℝ) : EReal) := by
  pointwise [val_main_v51, val_main_v50, val_main_v49, val_main_v48, val_main_v45, val_main_v44, val_main_cst_11]
  exact band_of (kv_k hk g e rfl) (fun _ _ => rfl) (fun _ => rfl)

theorem band_v (hv : ∀ r c, x2 (ix2 r c) = ((w.V r c : ℝ) : EReal)) (n : Fin 32) (j : Fin 256) (g : Fin 4) (e : Fin 64) :
    val_main_v54 (F := Ideal) x2 (ix4 n j g e) = (((w.blk zeros n).KV j (vd g e) : ℝ) : EReal) := by
  pointwise [val_main_v54, val_main_v53, val_main_v52, val_main_v48, val_main_v47, val_main_v46, val_main_cst_11]
  exact band_of (kv_v hv g e rfl) (fun _ _ => rfl) (fun _ => rfl)

theorem qry (hq : ∀ r c, x0 (ix2 r c) = ((w.Q r c : ℝ) : EReal)) (n : Fin 32) (r : Fin 128) (g i : Fin 4) (e : Fin 64) :
    val_main_v43 (F := Ideal) x0 (ix5 n r g i e) = (((w.blk zeros n).Q r (hd (mem g i) e) : ℝ) : EReal) := by
  pointwise [val_main_v43, val_main_v42]
  rw [hq]
  refine congrArg _ (at2f w.Q ?_ ?_)
  · show n.val * 128 + r.val = 128 * n.val + r.val; omega
  · show g.val * 256 + i.val * 64 + e.val = 64 * (4 * g.val + i.val) + e.val; omega

theorem cot (ho : ∀ r c, x5 (ix2 r c) = ((w.O r c : ℝ) : EReal)) (n : Fin 32) (r : Fin 128) (g i : Fin 4) (e : Fin 64) :
    val_main_v131 (F := Ideal) x5 (ix5 n g e i r) = (((w.blk zeros n).O r (hd (mem g i) e) : ℝ) : EReal) := by
  pointwise [val_main_v131, val_main_v130, val_main_v129]
  rw [ho]
  refine congrArg _ (at2f w.O ?_ ?_)
  · show n.val * 128 + r.val = 128 * n.val + r.val; omega
  · show g.val * 256 + i.val * 64 + e.val = 64 * (4 * g.val + i.val) + e.val; omega

/-- A key at or after the sequence's start. -/
theorem pos_ge (n : Fin 32) (j : Fin 256) : IntOp.cmpi CmpIPredicate.sge
    (IntOp.addi (IntOp.muli (IntOp.subi (BitVec.ofNat 32 n.val) 1#32) 128#32) (BitVec.ofNat 32 j.val)) 0#32 =
      if j.val < 128 ∧ n.val = 0 then 0#1 else 1#1 := by
  revert n j
  decide +kernel

theorem seen' (hw : w.W = win) (n : Fin 32) (g i : Fin 4) (r : Fin 128) (j : Fin 256) :
    val_main_v82_1 (F := Ideal) (ix5 n g i r j) = if (w.blk zeros n).A r j then 1#1 else 0#1 := by
  pointwise [val_main_v82_1, val_main_v78, val_main_v72, val_main_v71, val_main_v70, val_main_v69, val_main_v68, val_main_v67, val_main_v66,
    val_main_v65, val_main_v64, val_main_v63, val_main_v62, val_main_v61, val_main_v60, val_main_v59, val_main_v58, val_main_v57, val_main_v56, val_main_v55,
    val_main_c_12, val_main_c_13, val_main_c_14]
  rw [pos_ge]
  show IntOp.andi _ _ = if (w.W r j && _) = true then _ else _
  rw [hw, win]
  generalize val_main_v13 (F := Ideal) (ix2 r j) = b
  obtain rfl | rfl : b = 0#1 ∨ b = 1#1 := by revert b; decide
  · simp [IntOp.andi]
  · by_cases h : j.val < 128 <;> by_cases h' : n.val = 0 <;> simp [IntOp.andi, h, h']

/-- The masked score. -/
theorem score (H : Holds w x0 x1 x2 x3 x4 x5) (n : Fin 32) (g i : Fin 4) (r : Fin 128) (j : Fin 256) :
    val_main_v82_0 (F := Ideal) x0 x1 x4 (ix5 n g i r j) = msk ((w.blk zeros n).A r) ((w.blk zeros n).s (mem g i) r) j := by
  pointwise [val_main_v82_0, val_main_v81, val_main_v80, val_main_v79, val_main_v77, val_main_v76, val_main_v75, val_main_v74, val_main_v73, val_main_call1_v2, val_main_call1_v0, val_main_cst_16, val_main_cst_15]
  simp only [band_k H.hk, qry H.hq]
  rw [seen' H.hw, msk]
  split
  · show _ + _ = _
    have hb : val_main_v41 (F := Ideal) x4 (ix3 ⟨g.val * 4 + i.val, by omega⟩ r j) = ((w.B (mem g i) r j : ℝ) : EReal) :=
      (H.hb _ _ _).trans (congrArg (fun h => ((w.B h r j : ℝ) : EReal)) (Fin.ext (by show g.val * 4 + i.val = 4 * g.val + i.val; omega)))
    rw [hb, bits_eighth]
    simp only [← EReal.coe_mul]
    rw [sum_coe, ← EReal.coe_mul, ← EReal.coe_add, Blk.s, grp_mem]
    refine congrArg (fun x : ℝ => ((x * (1 / 8) + w.B (mem g i) r j : ℝ) : EReal)) (Finset.sum_congr rfl fun e _ => mul_comm _ _)
  · exact bits_neg_inf

/-- What an operation keeps, its fold keeps. -/
theorem fold_keeps {α ι : Type*} {op : α → α → α} [Std.Commutative op] [Std.Associative op] {P : α → Prop} (hop : ∀ x y, P x → P y → P (op x y))
    {S : Finset ι} {b : α} {f : ι → α} (hb : P b) (hf : ∀ i, P (f i)) : P (S.fold op b f) := by
  classical
  induction S using Finset.induction_on with
  | empty => exact hb
  | insert a S ha ih => rw [Finset.fold_insert ha]; exact hop _ _ (hf a) ih

theorem max_ne_top (x y : Ideal .f32) (hx : x ≠ (⊤ : EReal)) (hy : y ≠ (⊤ : EReal)) : FloatOps.maximumf x y ≠ (⊤ : EReal) :=
  ne_of_lt (max_lt (lt_top_iff_ne_top.2 hx) (lt_top_iff_ne_top.2 hy))

theorem score_ne_top (H : Holds w x0 x1 x2 x3 x4 x5) (y : S32x4x4x128x256.Idx) : val_main_v82_0 (F := Ideal) x0 x1 x4 y ≠ ⊤ := by
  have e : y = ix5 (y 0) (y 1) (y 2) (y 3) (y 4) := by funext a; match a with | ⟨0, _⟩ => rfl | ⟨1, _⟩ => rfl | ⟨2, _⟩ => rfl | ⟨3, _⟩ => rfl | ⟨4, _⟩ => rfl
  rw [e]
  exact (score H _ _ _ _ _).symm ▸ msk_ne_top _ _ _

theorem rowmax_ne_top (H : Holds w x0 x1 x2 x3 x4 x5) (k : S32x4x4x128.Idx) : val_main_v84 (F := Ideal) x0 x1 x4 k ≠ ⊤ := by
  have := score_ne_top H
  unfold val_main_v84
  generalize val_main_v82_0 (F := Ideal) x0 x1 x4 = X at this ⊢
  rw [Host.reduce_eq_fold]
  exact fold_keeps (P := fun x : Ideal .f32 => x ≠ (⊤ : EReal)) max_ne_top (bits_neg_inf.trans_ne bot_ne_top) this

end Cert.Attn

end
-- ==== Proof.AttnSoft.lean ====
/- The probabilities and the cotangents of the scores of the banded attention, as the reference computes them. -/
module

public import proofs.«01_k».proof.Proof.AttnScores

@[expose] public section

set_option maxRecDepth 16384

noncomputable section

namespace Cert.Attn

open Idealize.ShloMosaic
open Cert.Reals Cert.AttnBwdRefIdeal Cert.AttnBwdRefIdeal.Read

variable {w : Whole} {x0 : FVec Ideal S4096x1024 .bf16} {x1 x2 : FVec Ideal S4096x256 .bf16} {x3 : FVec Ideal S16 .f32}
  {x4 : FVec Ideal S32x16 .f32} {x5 : FVec Ideal S4096x1024 .bf16}

theorem sink_at (n : Fin 32) (g i : Fin 4) (r : Fin 128) : val_main_v92 (F := Ideal) x3 (ix5 n g i r 0) = x3 (ix1 ⟨g.val * 4 + i.val, by omega⟩) := by
  pointwise [val_main_v92, val_main_v91, val_main_v83]

theorem rowmax_at (n : Fin 32) (g i : Fin 4) (r : Fin 128) :
    val_main_v90 (F := Ideal) x0 x1 x4 (ix5 n g i r 0) = val_main_v84 (F := Ideal) x0 x1 x4 (ix4 n g i r) := by
  rw [val_main_v90_apply]
  refine congrArg _ ?_
  funext a; match a with | ⟨0, _⟩ => rfl | ⟨1, _⟩ => rfl | ⟨2, _⟩ => rfl | ⟨3, _⟩ => rfl

theorem sink_real (H : Holds w x0 x1 x2 x3 x4 x5) (g i : Fin 4) : x3 (ix1 ⟨g.val * 4 + i.val, by omega⟩) = ((w.S (mem g i) : ℝ) : EReal) :=
  (H.hs _).trans (congrArg (fun h => ((w.S h : ℝ) : EReal)) (Fin.ext (by show g.val * 4 + i.val = 4 * g.val + i.val; omega)))

/-- The row maximum, and the sink, stay below `+∞`. -/
theorem top (H : Holds w x0 x1 x2 x3 x4 x5) (n : Fin 32) (g i : Fin 4) (r : Fin 128) :
    ∃ μ : ℝ, val_main_v93 (F := Ideal) x0 x1 x3 x4 (ix5 n g i r 0) = (μ : EReal) := by
  rw [val_main_v93_apply, rowmax_at, sink_at, H.hs]
  exact max_coe_real (rowmax_ne_top H _) _

/-- What the row subtracts before the exponential. -/
def mu (H : Holds w x0 x1 x2 x3 x4 x5) (n : Fin 32) (g i : Fin 4) (r : Fin 128) : ℝ := (top H n g i r).choose

theorem mu_spec (H : Holds w x0 x1 x2 x3 x4 x5) (n : Fin 32) (g i : Fin 4) (r : Fin 128) :
    val_main_v93 (F := Ideal) x0 x1 x3 x4 (ix5 n g i r 0) = ((mu H n g i r : ℝ) : EReal) := (top H n g i r).choose_spec

/-- The factor by which a row's weights are scaled. -/
def cc (H : Holds w x0 x1 x2 x3 x4 x5) (n : Fin 32) (g i : Fin 4) (r : Fin 128) : ℝ := Real.exp (-mu H n g i r)

theorem cc_ne (H : Holds w x0 x1 x2 x3 x4 x5) (n : Fin 32) (g i : Fin 4) (r : Fin 128) : cc H n g i r ≠ 0 := (Real.exp_pos _).ne'

variable (H : Holds w x0 x1 x2 x3 x4 x5) (n : Fin 32) (g i : Fin 4) (r : Fin 128) (j : Fin 256)

include H in
theorem weight : val_main_v114 (F := Ideal) x0 x1 x3 x4 (ix5 n g i r j) =
    ((wt ((w.blk zeros n).A r) ((w.blk zeros n).s (mem g i) r) j * cc H n g i r : ℝ) : EReal) := by
  have h := mu_spec H n g i r
  unfold val_main_v114 val_main_v113 val_main_v112
  generalize val_main_v93 (F := Ideal) x0 x1 x3 x4 = X at h ⊢
  pointwise
  rw [score H, h]
  exact exp_msk _ _ _ _

include H in
theorem sink_weight : val_main_v120 (F := Ideal) x0 x1 x3 x4 (ix5 n g i r 0) = ((Real.exp (w.S (mem g i)) * cc H n g i r : ℝ) : EReal) := by
  have h := mu_spec H n g i r
  unfold val_main_v120 val_main_v119
  generalize val_main_v93 (F := Ideal) x0 x1 x3 x4 = X at h ⊢
  pointwise [val_main_v118, val_main_v117, val_main_v83]
  rw [sink_real H, h]
  exact exp_snk _ _

/-- The row's denominator. -/
abbrev dn (w : Whole) (n : Fin 32) (g i : Fin 4) (r : Fin 128) : ℝ := den ((w.blk zeros n).A r) ((w.blk zeros n).s (mem g i) r) (w.S (mem g i))

include H in
theorem denom : val_main_v121 (F := Ideal) x0 x1 x3 x4 (ix5 n g i r 0) = ((dn w n g i r * cc H n g i r : ℝ) : EReal) := by
  have h := weight H n g i r
  have h' := sink_weight H n g i r
  unfold val_main_v121 val_main_v116 val_main_v115
  generalize val_main_v114 (F := Ideal) x0 x1 x3 x4 = X at h ⊢
  generalize val_main_v120 (F := Ideal) x0 x1 x3 x4 = Y at h' ⊢
  pointwise [val_main_cst_25]
  simp only [h]
  rw [h', sum_coe, ← EReal.coe_add, den_scaled]

theorem dn_ne : dn w n g i r * cc H n g i r ≠ 0 := mul_ne_zero (den_ne _ _ _) (cc_ne H n g i r)

include H in
theorem prob : val_main_v123 (F := Ideal) x0 x1 x3 x4 (ix5 n g i r j) = (((w.blk zeros n).p (mem g i) r j : ℝ) : EReal) := by
  have h := weight H n g i r j
  have h' := denom H n g i r
  unfold val_main_v123 val_main_v122
  generalize val_main_v114 (F := Ideal) x0 x1 x3 x4 = X at h ⊢
  generalize val_main_v121 (F := Ideal) x0 x1 x3 x4 = Y at h' ⊢
  pointwise
  rw [h, h', div_real (dn_ne H n g i r)]
  exact congrArg _ (pr_scaled _ _ _ _ _)

include H in
theorem recip : val_main_v126 (F := Ideal) x0 x1 x3 x4 (ix5 n g i r 0) =
    ((1 / ((dn w n g i r * cc H n g i r) * (dn w n g i r * cc H n g i r)) : ℝ) : EReal) := by
  have h' := denom H n g i r
  unfold val_main_v126 val_main_v124
  generalize val_main_v121 (F := Ideal) x0 x1 x3 x4 = Y at h' ⊢
  pointwise [val_main_v125, val_main_cst_26]
  rw [h', ← EReal.coe_mul, one_coe, div_real (mul_ne_zero (dn_ne H n g i r) (dn_ne H n g i r))]

include H in
theorem prob' : val_main_v132 (F := Ideal) x2 x5 (ix5 n g i r j) = (((w.blk zeros n).p' (mem g i) r j : ℝ) : EReal) := by
  pointwise [val_main_v132]
  simp only [band_v H.hv, cot H.ho]
  simp only [← EReal.coe_mul]
  rw [sum_coe, Blk.p', grp_mem]

end Cert.Attn

end
-- ==== Proof.AttnCot.lean ====
/- The cotangents of the banded attention's scores and sinks, as the reference computes them. -/
module

public import proofs.«01_k».proof.Proof.AttnSoft

@[expose] public section

set_option maxRecDepth 16384

noncomputable section

namespace Cert.Attn

open Idealize.ShloMosaic
open Cert.Reals Cert.AttnBwdRefIdeal Cert.AttnBwdRefIdeal.Read

variable {w : Whole} {x0 : FVec Ideal S4096x1024 .bf16} {x1 x2 : FVec Ideal S4096x256 .bf16} {x3 : FVec Ideal S16 .f32}
  {x4 : FVec Ideal S32x16 .f32} {x5 : FVec Ideal S4096x1024 .bf16}

variable (H : Holds w x0 x1 x2 x3 x4 x5) (n : Fin 32) (g i : Fin 4) (r : Fin 128) (j : Fin 256)

/-- The mean of the row's cotangents. -/
abbrev dl (w : Whole) (n : Fin 32) (g i : Fin 4) (r : Fin 128) : ℝ :=
  del ((w.blk zeros n).A r) ((w.blk zeros n).s (mem g i) r) (w.S (mem g i)) ((w.blk zeros n).p' (mem g i) r)

include H in
theorem den' : val_main_v140 (F := Ideal) x0 x1 x2 x3 x4 x5 (ix5 n g i r 0) = ((-(dl w n g i r / (dn w n g i r * cc H n g i r)) : ℝ) : EReal) := by
  have h1 := weight H n g i r
  have h2 := recip H n g i r
  have h3 := prob' H n g i r
  unfold val_main_v140 val_main_v139 val_main_v138 val_main_v137 val_main_v136 val_main_v135
  generalize val_main_v114 (F := Ideal) x0 x1 x3 x4 = X at h1 ⊢
  generalize val_main_v126 (F := Ideal) x0 x1 x3 x4 = Y at h2 ⊢
  generalize val_main_v132 (F := Ideal) x2 x5 = Z at h3 ⊢
  pointwise [val_main_cst_27]
  simp only [h1, h2, h3, ← EReal.coe_mul]
  rw [sum_coe, sum_recip _ _ _ _ (cc_ne H n g i r), EReal.coe_neg]

include H in
theorem sink' : val_main_v143 (F := Ideal) x0 x1 x2 x3 x4 x5 (ix5 n g i r 0) = (((w.blk zeros n).dσ (mem g i) r : ℝ) : EReal) := by
  rw [val_main_v143_apply, den' H, sink_weight H]
  show _ * _ = _
  rw [← EReal.coe_mul, snk_quot _ _ _ _ (cc_ne H n g i r)]
  rfl

include H in
theorem score_cot : val_main_v152 (F := Ideal) x0 x1 x2 x3 x4 x5 (ix5 n g i r j) = (((w.blk zeros n).ds (mem g i) r j : ℝ) : EReal) := by
  have h1 := weight H n g i r j
  have h2 := denom H n g i r
  have h3 := prob' H n g i r j
  have h4 := den' H n g i r
  unfold val_main_v152 val_main_v151 val_main_v150 val_main_v149 val_main_v142 val_main_v141
  generalize val_main_v114 (F := Ideal) x0 x1 x3 x4 = X at h1 ⊢
  generalize val_main_v121 (F := Ideal) x0 x1 x3 x4 = Y at h2 ⊢
  generalize val_main_v132 (F := Ideal) x2 x5 = Z at h3 ⊢
  generalize val_main_v140 (F := Ideal) x0 x1 x2 x3 x4 x5 = U at h4 ⊢
  pointwise [val_main_cst_30]
  simp only [Fin.sum_univ_one, h1, h2, h3, h4, div_real (dn_ne H n g i r)]
  rw [← EReal.coe_add, ← EReal.coe_mul, sc_quot _ _ _ _ _ (cc_ne H n g i r)]
  rfl

include H in
/-- Nothing flows into the row maximum. -/
theorem max_cot : val_main_v156 (F := Ideal) x0 x1 x2 x3 x4 x5 (ix5 n g i r 0) = 0 := by
  have h1 := score_cot H n g i r
  have h2 := sink' H n g i r
  unfold val_main_v156 val_main_v155 val_main_v154 val_main_v153 val_main_v146
  generalize val_main_v152 (F := Ideal) x0 x1 x2 x3 x4 x5 = X at h1 ⊢
  generalize val_main_v143 (F := Ideal) x0 x1 x2 x3 x4 x5 = Y at h2 ⊢
  pointwise [val_main_cst_31]
  simp only [h1, h2, ← EReal.coe_neg]
  rw [sum_coe, ← EReal.coe_add, Finset.sum_neg_distrib]
  exact congrArg _ (sc_snk _ _ _ _)

/-- A fold of maxima from `−∞` over a nonempty set is one of its values. -/
theorem fold_attained {ι : Type*} {S : Finset ι} (hS : S.Nonempty) (f : ι → Ideal .f32) {b : Ideal .f32} (hb : b = (⊥ : EReal)) :
    ∃ i ∈ S, f i = S.fold FloatOps.maximumf b f := by
  classical
  induction S using Finset.induction_on with
  | empty => exact absurd hS Finset.not_nonempty_empty
  | insert a S ha ih =>
    rw [Finset.fold_insert ha]
    obtain rfl | h := S.eq_empty_or_nonempty
    · refine ⟨a, Finset.mem_insert_self _ _, ?_⟩
      rw [Finset.fold_empty, hb]
      exact (max_bot_right (f a : EReal)).symm
    · obtain ⟨i, hi, e⟩ := ih h
      rw [← e]
      obtain h1 | h1 := max_choice (f a : EReal) (f i)
      · exact ⟨a, Finset.mem_insert_self _ _, h1.symm⟩
      · exact ⟨i, Finset.mem_insert_of_mem hi, h1.symm⟩

/-- The row maximum is one of the row's scores. -/
theorem rowmax_attained : ∃ k, val_main_v82_0 (F := Ideal) x0 x1 x4 (ix5 n g i r k) = val_main_v84 (F := Ideal) x0 x1 x4 (ix4 n g i r) := by
  unfold val_main_v84
  generalize val_main_v82_0 (F := Ideal) x0 x1 x4 = X
  rw [Host.reduce_eq_fold_single _ _ _ _ (by decide)]
  obtain ⟨k, _, e⟩ := fold_attained (Finset.univ_nonempty (α := Fin 256)) (fun k => X (ix5 n g i r k)) (b := Ideal.ofBits .f32 0xFF800000#32) bits_neg_inf
  refine ⟨k, e.trans ?_⟩
  refine congrArg₂ (fun b f => Finset.fold FloatOps.maximumf b f Finset.univ) rfl (funext fun k => congrArg X (funext fun a => Fin.ext ?_))
  match a with | ⟨0, _⟩ => rfl | ⟨1, _⟩ => rfl | ⟨2, _⟩ => rfl | ⟨3, _⟩ => rfl | ⟨4, _⟩ => rfl

/-- The row maximum, spread over the keys. -/
theorem rowmax_spread : val_main_v86 (F := Ideal) x0 x1 x4 (ix5 n g i r j) = val_main_v84 (F := Ideal) x0 x1 x4 (ix4 n g i r) := by
  rw [val_main_v86_apply, val_main_v85_apply]
  refine congrArg _ (funext fun a => Fin.ext ?_)
  match a with
  | ⟨0, _⟩ => show ((((n.val * 4 + g.val) * 4 + i.val) * 128 + r.val) * 1 + 0) / 2048 = n.val; omega
  | ⟨1, _⟩ => show ((((n.val * 4 + g.val) * 4 + i.val) * 128 + r.val) * 1 + 0) / 512 % 4 = g.val; omega
  | ⟨2, _⟩ => show ((((n.val * 4 + g.val) * 4 + i.val) * 128 + r.val) * 1 + 0) / 128 % 4 = i.val; omega
  | ⟨3, _⟩ => show ((((n.val * 4 + g.val) * 4 + i.val) * 128 + r.val) * 1 + 0) % 128 = r.val; omega

/-- How many scores equal the row maximum: not none. -/
theorem count_ne : val_main_v89 (F := Ideal) x0 x1 x4 (ix4 n g i r) ≠ (0 : EReal) := by
  obtain ⟨k, hk⟩ := rowmax_attained (x0 := x0) (x1 := x1) (x4 := x4) n g i r
  have e : ∀ k : Fin 256, idx_main_v89 (ix4 n g i r) k = ix5 n g i r k := fun k =>
    funext fun a => by match a with | ⟨0, _⟩ => rfl | ⟨1, _⟩ => rfl | ⟨2, _⟩ => rfl | ⟨3, _⟩ => rfl | ⟨4, _⟩ => rfl
  rw [val_main_v89_apply]
  simp only [e, val_main_v88_apply, val_main_v87_apply, rowmax_spread]
  rw [← hk]
  generalize val_main_v82_0 (F := Ideal) x0 x1 x4 = X
  show Ideal.ofBits .f32 0x00000000#32 + ∑ l : Fin 256, (((Ideal.cmp .oeq (X (ix5 n g i r l)) (X (ix5 n g i r k))).toNat : ℝ) : EReal) ≠ 0
  rw [Ideal.ofBits_zero, zero_add, sum_coe, zero_coe]
  refine fun h => absurd (EReal.coe_injective h) (ne_of_gt (lt_of_lt_of_le zero_lt_one ?_))
  refine le_trans ?_ (Finset.single_le_sum (f := fun l => ((Ideal.cmp .oeq (X (ix5 n g i r l)) (X (ix5 n g i r k))).toNat : ℝ)) (fun l _ => Nat.cast_nonneg _) (Finset.mem_univ k))
  simp [Ideal.cmp]

include H in
theorem through_max : val_main_v167 (F := Ideal) x0 x1 x2 x3 x4 x5 (ix5 n g i r j) = (0 : EReal) := by
  have e : idx_main_v166 (ix5 n g i r j) = ix4 n g i r := funext fun a => by match a with | ⟨0, _⟩ => rfl | ⟨1, _⟩ => rfl | ⟨2, _⟩ => rfl | ⟨3, _⟩ => rfl
  have e' : idx_main_v164 (ix4 n g i r) 0 = ix5 n g i r 0 :=
    funext fun a => by match a with | ⟨0, _⟩ => rfl | ⟨1, _⟩ => rfl | ⟨2, _⟩ => rfl | ⟨3, _⟩ => rfl | ⟨4, _⟩ => rfl
  have h := max_cot H n g i r
  have h' := count_ne (x0 := x0) (x1 := x1) (x4 := x4) n g i r
  rw [val_main_v167_apply, val_main_v166_apply, e, val_main_v165_apply, val_main_v164_apply, Fin.sum_univ_one, e', val_main_v160_apply, h]
  generalize val_main_v89 (F := Ideal) x0 x1 x4 (ix4 n g i r) = Z at h' ⊢
  show Ideal.div (Ideal.ofBits .f32 0x00000000#32 + 0 * _) Z * _ = 0
  rw [zero_mul, Ideal.ofBits_zero, zero_add, Ideal.div, if_neg h', zero_mul, zero_mul]

include H in
/-- The cotangent of a score, the mask's zeros among them. -/
theorem ds_at : val_main_v170 (F := Ideal) x0 x1 x2 x3 x4 x5 (ix5 n g i r j) = (((w.blk zeros n).ds (mem g i) r j : ℝ) : EReal) := by
  rw [val_main_v170_apply, seen' H.hw, val_main_v168_apply, score_cot H, through_max H]
  split
  · show (_ : EReal) + 0 = _
    rw [add_zero]
  · next hj =>
    have : (w.blk zeros n).ds (mem g i) r j = 0 := by
      show pr _ _ _ j * _ = 0
      rw [(w.blk zeros n).pr_hidden _ r j hj, zero_mul]
    rw [this]
    show Ideal.ofBits .f32 0x00000000#32 = _
    exact Ideal.ofBits_zero .f32

end Cert.Attn

end
-- ==== Proof.AttnGrad.lean ====
/- The gradients of the banded attention, as the reference computes them. -/
module

public import proofs.«01_k».proof.Proof.AttnCot

@[expose] public section

set_option maxRecDepth 16384

noncomputable section

namespace Cert.Attn

open Idealize.ShloMosaic
open Cert.Reals Cert.AttnBwdRefIdeal Cert.AttnBwdRefIdeal.Read

variable {w : Whole} {x0 : FVec Ideal S4096x1024 .bf16} {x1 x2 : FVec Ideal S4096x256 .bf16} {x3 : FVec Ideal S16 .f32}
  {x4 : FVec Ideal S32x16 .f32} {x5 : FVec Ideal S4096x1024 .bf16}

/-- The sum over blocks and rows. -/
theorem red_rows (h : S32x4x4x128x1.ReducesTo [0, 3] S4x4x1) (X : S32x4x4x128x1.Idx → EReal) (z : EReal) (g i : Fin 4) :
    Ideal.hostReduceAdd h X z (ix3 g i 0) = z + ∑ r : Fin 128, ∑ n : Fin 32, X (ix5 n g i r 0) := by
  refine congrArg (z + ·) ?_
  rw [← Fintype.sum_prod_type' (f := fun (r : Fin 128) (n : Fin 32) => X (ix5 n g i r 0))]
  symm
  refine Finset.sum_nbij (fun p : Fin 128 × Fin 32 => (ix5 p.2 g i p.1 0 : S32x4x4x128x1.Idx)) (fun p _ => ?_) (fun p _ q _ e => ?_) (fun y hy => ?_) fun _ _ => rfl
  · refine Finset.mem_filter.2 ⟨Finset.mem_univ _, funext fun b => Fin.ext ?_⟩
    match b with
    | ⟨0, _⟩ => exact h.drop_apply_val_of_eq _ 0 1
    | ⟨1, _⟩ => exact h.drop_apply_val_of_eq _ 1 2
    | ⟨2, _⟩ => exact h.drop_apply_val_of_eq _ 2 4
  · exact Prod.ext (congrFun e 3) (congrFun e 0)
  · have hd := (Finset.mem_filter.1 hy).2
    refine ⟨(y 3, y 0), Finset.mem_coe.2 (Finset.mem_univ _), funext fun b => Fin.ext ?_⟩
    match b with
    | ⟨0, _⟩ => rfl
    | ⟨1, _⟩ => exact (congrArg (fun k => (k 0).val) hd).symm.trans (h.drop_apply_val_of_eq _ 0 1)
    | ⟨2, _⟩ => exact (congrArg (fun k => (k 1).val) hd).symm.trans (h.drop_apply_val_of_eq _ 1 2)
    | ⟨3, _⟩ => rfl
    | ⟨4, _⟩ => exact (congrArg (fun k => (k 2).val) hd).symm.trans (h.drop_apply_val_of_eq _ 2 4)

/-- The sum over axes of one entry. -/
theorem red_ones (h : S1x4x4x1x1.ReducesTo [0, 3, 4] S4x4) (X : S1x4x4x1x1.Idx → EReal) (z : EReal) (g i : Fin 4) :
    Ideal.hostReduceAdd h X z (ix2 g i) = z + X (ix5 0 g i 0 0) := by
  refine congrArg (z + ·) ((congrArg (fun S => ∑ k ∈ S, X k) (?_ : _ = {ix5 0 g i 0 0})).trans (Finset.sum_singleton _ _))
  refine Finset.ext fun y => ⟨fun hy => Finset.mem_singleton.2 (funext fun b => Fin.ext ?_), fun hy => ?_⟩
  · have hd := (Finset.mem_filter.1 hy).2
    match b with
    | ⟨0, _⟩ => have := (y 0).isLt; change (y 0).val < 1 at this; show (y 0).val = 0; omega
    | ⟨1, _⟩ => exact (h.drop_apply_val_of_eq _ 0 1).symm.trans (congrArg (fun k => (k 0).val) hd)
    | ⟨2, _⟩ => exact (h.drop_apply_val_of_eq _ 1 2).symm.trans (congrArg (fun k => (k 1).val) hd)
    | ⟨3, _⟩ => have := (y 3).isLt; change (y 3).val < 1 at this; show (y 3).val = 0; omega
    | ⟨4, _⟩ => have := (y 4).isLt; change (y 4).val < 1 at this; show (y 4).val = 0; omega
  · rw [Finset.mem_singleton.1 hy]
    refine Finset.mem_filter.2 ⟨Finset.mem_univ _, funext fun b => Fin.ext ?_⟩
    match b with
    | ⟨0, _⟩ => exact h.drop_apply_val_of_eq _ 0 1
    | ⟨1, _⟩ => exact h.drop_apply_val_of_eq _ 1 2

theorem mem_split (h : Fin 16) : mem ⟨h.val / 4, by omega⟩ ⟨h.val % 4, by omega⟩ = h := Fin.ext (by show 4 * (h.val / 4) + h.val % 4 = h.val; omega)

variable (H : Holds w x0 x1 x2 x3 x4 x5)

include H in
theorem bias_grad (h : Fin 16) (r : Fin 128) (j : Fin 256) :
    val_main_v181 (F := Ideal) x0 x1 x2 x3 x4 x5 (ix3 h r j) = ((∑ n, (w.blk zeros n).ds h r j : ℝ) : EReal) := by
  have e := fun n g i => ds_at H n g i r j
  unfold val_main_v181 val_main_v173 val_main_v172 val_main_v171
  generalize val_main_v170 (F := Ideal) x0 x1 x2 x3 x4 x5 = X at e ⊢
  pointwise [val_main_cst_36, val_main_cst_35]
  simp only [e, mem_split]
  rw [Fin.sum_univ_one, sum_coe]

/-- A sum over blocks and rows, and then over axes of one entry. -/
theorem red_all (X : FVec Ideal S32x4x4x128x1 .f32) (h h' h'' hu) (g i : Fin 4) :
    Ideal.hostReduceAdd (axes := [0, 3, 4]) (t := S4x4) h (shapeCast S1x4x4x1x1 (Host.reduceAdd (axes := [0, 3]) (t := S4x4x1) (u := S_) X (constant S_ .f32 0#32) h' hu) h'') 0 (ix2 g i) =
      ∑ r : Fin 128, ∑ n : Fin 32, X (ix5 n g i r 0) := by
  rw [red_ones, zero_add]
  have e : shapeCast S1x4x4x1x1 (Host.reduceAdd (axes := [0, 3]) (t := S4x4x1) (u := S_) X (constant S_ .f32 0#32) h' hu) h'' (ix5 0 g i 0 0) =
      Host.reduceAdd (axes := [0, 3]) (t := S4x4x1) (u := S_) X (constant S_ .f32 0#32) h' hu (ix3 g i 0) := by
    generalize Host.reduceAdd (axes := [0, 3]) (t := S4x4x1) (u := S_) X (constant S_ .f32 0#32) h' hu = Y
    pointwise
  rw [e]
  refine (red_rows h' X (Ideal.ofBits .f32 0#32) g i).trans ?_
  rw [Ideal.ofBits_zero_f32, zero_add]

include H in
theorem sink_grad (h : Fin 16) :
    val_main_v169 (F := Ideal) x0 x1 x2 x3 x4 x5 (ix1 h) = ((∑ r, ∑ n, (w.blk zeros n).dσ h r : ℝ) : EReal) := by
  have e := fun n g i r => sink' H n g i r
  have e' := fun n g i r => max_cot H n g i r
  unfold val_main_v169 val_main_v163 val_main_v162 val_main_v161 val_main_v159 val_main_v158 val_main_v157 val_main_v148 val_main_v147 val_main_v145 val_main_v144
  generalize val_main_v143 (F := Ideal) x0 x1 x2 x3 x4 x5 = X at e ⊢
  generalize val_main_v156 (F := Ideal) x0 x1 x2 x3 x4 x5 = Y at e' ⊢
  generalize val_main_v111 (F := Ideal) x0 x1 x3 x4 = Z
  pointwise [val_main_cst_28, val_main_cst_29, val_main_cst_32, val_main_cst_33]
  rw [red_all, red_all]
  pointwise
  simp only [e, e', zero_mul, Finset.sum_const_zero, mem_split, add_zero]
  simp only [sum_coe]

theorem aq_at (b : Fin 32 → Blk) (a : Fin 4096) (k : Fin 1024) :
    aq b (ix2 a k) = (((b ⟨a.val / 128, by omega⟩).dq ⟨k.val / 64, by omega⟩ ⟨a.val % 128, by omega⟩ ⟨k.val % 64, by omega⟩ : ℝ) : EReal) := rfl

theorem akv_k (b : Fin 32 → Blk) (n : Fin 32) (j : Fin 256) (k : Fin 512) (h : k.val < 256) :
    akv b (ix3 n j k) = (((b n).dk ⟨k.val / 64 % 4, by omega⟩ j ⟨k.val % 64, by omega⟩ : ℝ) : EReal) := by
  unfold akv gkv
  exact if_pos h

theorem akv_v (b : Fin 32 → Blk) (n : Fin 32) (j : Fin 256) (k : Fin 512) (h : ¬k.val < 256) :
    akv b (ix3 n j k) = (((b n).dv ⟨(k.val - 256) / 64 % 4, by omega⟩ j ⟨k.val % 64, by omega⟩ : ℝ) : EReal) := by
  unfold akv gkv
  exact if_neg h

theorem dq_sum (b : Blk) {g i : Fin 4} {h : Fin 16} (hm : mem g i = h) (r : Fin 128) (e : Fin 64) :
    ∑ j, ((b.ds (mem g i) r j : ℝ) : EReal) * ((1 / 8 : ℝ) : EReal) * ((b.KV j (kd g e) : ℝ) : EReal) = ((b.dq h r e : ℝ) : EReal) := by
  subst hm
  rw [Blk.dq, grp_mem, Finset.sum_mul]
  simp only [← EReal.coe_mul]
  rw [sum_coe]
  exact congrArg _ (Finset.sum_congr rfl fun j _ => mul_right_comm _ _ _)

theorem dk_sum (b : Blk) {g g' : Fin 4} (hg : g = g') (j : Fin 256) (e : Fin 64) :
    ∑ r, ∑ i, ((b.ds (mem g i) r j : ℝ) : EReal) * ((1 / 8 : ℝ) : EReal) * ((b.Q r (hd (mem g i) e) : ℝ) : EReal) = ((b.dk g' j e : ℝ) : EReal) := by
  subst hg
  simp only [← EReal.coe_mul, sum_coe]
  rw [Blk.dk, Finset.sum_comm, Finset.sum_mul]
  refine congrArg _ (Finset.sum_congr rfl fun i _ => ?_)
  rw [Finset.sum_mul]
  exact Finset.sum_congr rfl fun r _ => mul_right_comm _ _ _

theorem dv_sum (b : Blk) {g g' : Fin 4} (hg : g = g') (j : Fin 256) (e : Fin 64) :
    ∑ i, ∑ r, ((b.O r (hd (mem g i) e) : ℝ) : EReal) * ((b.p (mem g i) r j : ℝ) : EReal) = ((b.dv g' j e : ℝ) : EReal) := by
  subst hg
  simp only [← EReal.coe_mul, sum_coe]
  rw [Blk.dv]
  exact congrArg _ (Finset.sum_congr rfl fun i _ => Finset.sum_congr rfl fun r _ => mul_comm _ _)

include H in
theorem sink_row (k : Fin 128) : val_main_v190 (F := Ideal) x0 x1 x2 x3 x4 x5 (ix2 0 k) = asn (w.blk zeros) (ix2 0 k) := by
  have e := sink_grad H
  unfold val_main_v190 val_main_v189
  generalize val_main_v169 (F := Ideal) x0 x1 x2 x3 x4 x5 = X at e ⊢
  pointwise [val_main_v188, val_main_cst_38]
  show _ = if h : k.val < 16 then ((∑ r, ∑ t, (w.blk zeros t).dσ ⟨k.val, h⟩ r : ℝ) : EReal) else 0
  simp only [e]

include H in
theorem q_grad (a : Fin 4096) (k : Fin 1024) : val_main_v186 (F := Ideal) x0 x1 x2 x3 x4 x5 (ix2 a k) = aq (w.blk zeros) (ix2 a k) := by
  have e := fun n g i r j => ds_at H n g i r j
  unfold val_main_v186 val_main_v185 val_main_v178 val_main_v177 val_main_v176 val_main_v175
  generalize val_main_v170 (F := Ideal) x0 x1 x2 x3 x4 x5 = X at e ⊢
  pointwise [val_main_v174, val_main_cst_37]
  rw [aq_at]
  have hm : mem ⟨k.val / 256, by omega⟩ ⟨k.val / 64 % 4, by omega⟩ = ⟨k.val / 64, by omega⟩ :=
    Fin.ext (by show 4 * (k.val / 256) + k.val / 64 % 4 = k.val / 64; omega)
  refine Eq.trans ?_ (dq_sum (w.blk zeros ⟨a.val / 128, by omega⟩) hm ⟨a.val % 128, by omega⟩ ⟨k.val % 64, by omega⟩)
  refine Finset.sum_congr rfl fun j _ => ?_
  refine congrArg₂ (fun x y : EReal => x * y) (congrArg₂ (fun x y : EReal => x * y) (e _ _ _ _ _) bits_eighth) ?_
  exact band_k H.hk _ _ _ _

include H in
theorem kv_grad (n : Fin 32) (j : Fin 256) (k : Fin 512) : val_main_v187 (F := Ideal) x0 x1 x2 x3 x4 x5 (ix3 n j k) = akv (w.blk zeros) (ix3 n j k) := by
  have e := fun n g i r j => ds_at H n g i r j
  have e' := fun n g i r j => prob H n g i r j
  unfold val_main_v187 val_main_v184 val_main_v183 val_main_v182 val_main_v180 val_main_v179 val_main_v176 val_main_v175 val_main_v134 val_main_v133
  generalize val_main_v170 (F := Ideal) x0 x1 x2 x3 x4 x5 = X at e ⊢
  generalize val_main_v123 (F := Ideal) x0 x1 x3 x4 = Y at e' ⊢
  pointwise [val_main_v174, val_main_cst_37]
  by_cases h : k.val < 256
  · rw [dif_pos h, akv_k _ _ _ _ h]
    refine Eq.trans ?_ (dk_sum (w.blk zeros n) (g := ⟨k.val / 64, by omega⟩) (Fin.ext (by show k.val / 64 = k.val / 64 % 4; omega)) j ⟨k.val % 64, by omega⟩)
    refine Finset.sum_congr rfl fun r _ => Finset.sum_congr rfl fun i _ => ?_
    refine congrArg₂ (fun x y : EReal => x * y) (congrArg₂ (fun x y : EReal => x * y) (e _ _ _ _ _) bits_eighth) ?_
    exact qry H.hq _ _ _ _ _
  · rw [dif_neg h, akv_v _ _ _ _ h]
    have hk : (k.val - 256) % 64 = k.val % 64 := by omega
    refine Eq.trans ?_ (dv_sum (w.blk zeros n) (g := ⟨(k.val - 256) / 64, by omega⟩) (g' := ⟨(k.val - 256) / 64 % 4, by omega⟩) (Fin.ext (by show (k.val - 256) / 64 = (k.val - 256) / 64 % 4; omega)) j ⟨k.val % 64, by omega⟩)
    refine Finset.sum_congr rfl fun i _ => Finset.sum_congr rfl fun r _ => ?_
    refine congrArg₂ (fun x y : EReal => x * y) ?_ (e' _ _ _ _ _)
    refine (cot H.ho _ _ _ _ _).trans ?_
    exact congrArg (fun f => (((w.blk zeros n).O r (hd _ f) : ℝ) : EReal)) (Fin.ext hk)

end Cert.Attn

end
-- ==== Proof.Attn.lean ====
/- The banded attention's gradients: kernel and reference hold the same four results. -/
module

public import proofs.«01_k».proof.Defs
public import proofs.«01_k».proof.Proof.AttnGrad
public import proofs.«01_k».proof.Proof.Gen.AttnBwdIdeal
public import proofs.«01_k».proof.Proof.Gen.AttnBwdRefIdeal
public import proofs.«01_k».proof.Proof.Gen.Pre_finite_attn
public import Idealize.ShloMosaic.Lib.Claim
public import Idealize.ShloMosaic.Lib.Quiescent

@[expose] public section

set_option maxRecDepth 16384

noncomputable section

namespace Cert.Proof.Attn

open Idealize.ShloMosaic Idealize.ShloMosaic.TcCoe Idealize.SL.Sem Cert.Reals Cert.Attn

section Reference

open Cert.AttnBwdRefIdeal Cert.AttnBwdRefIdeal.Read

/-- A value of the reference on the arguments a memory holds. -/
abbrev on {α : Type} (m : (ℓ : Loc nD τ sig) → Buf (Elt Ideal) ℓ) (c : Dev nD)
    (f : FVec Ideal S4096x1024 .bf16 → FVec Ideal S4096x256 .bf16 → FVec Ideal S4096x256 .bf16 → FVec Ideal S16 .f32 →
      FVec Ideal S32x16 .f32 → FVec Ideal S4096x1024 .bf16 → α) : α :=
  f (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The reference's run, its results named by the operations' values. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v186) = on m c (val_main_v186 (F := Ideal))
      ∧ r.2.mem ((c.tc : Thread nD τ).loc main_v187) = on m c (val_main_v187 (F := Ideal))
      ∧ r.2.mem ((c.tc : Thread nD τ).loc main_v181) = on m c (val_main_v181 (F := Ideal))
      ∧ r.2.mem ((c.tc : Thread nD τ).loc main_v190) = on m c (val_main_v190 (F := Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v186_eq ..), (h c).2.1.trans (val_main_v187_eq ..),
    (h c).2.2.1.trans (val_main_v181_eq ..), (h c).2.2.2.1.trans (val_main_v190_eq ..), (h c).2.2.2.2⟩) (Cert.AttnBwdRefIdeal.Value.run m ρ)

/-- The bias table holds entries of the relative bias. -/
theorem bias_real {rb : FVec Ideal S32x16 .f32} (h : ∀ i, ∃ r : ℝ, rb i = (r : EReal)) (i : S16x128x256.Idx) :
    ∃ r : ℝ, val_main_v41 (F := Ideal) rb i = (r : EReal) := by
  rw [val_main_v41_apply]
  unfold val_main_v40
  exact h _

end Reference

/-- The reference leaves its arguments as they were; it has no semaphore. -/
theorem frame_ref : Cert.quiescent_AttnBwdRefIdeal := fun m g _ =>
  (θ_run _ _ _).mono (fun _ h => ⟨fun c => (h c).2.2.2.2, sem_eq_zero_of_no_sems (by decide) _⟩) (run_vals m g)

open Cert.AttnBwdIdeal Cert.AttnBwdIdeal.Gen

/-- At finite arguments there are the reals the arguments hold. -/
theorem reals (m : (ℓ : Loc nD τ sig) → Buf (Elt Ideal) ℓ) (hpre : Cert.Pre_AttnBwdIdeal_finite_attn m) (c : Dev nD) :
    ∃ w : Whole, Holds w (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  obtain ⟨p0, p1, p2, p3, p4, p5⟩ := hpre c
  have q0 := fun i => lt_of_pre p0 i
  have q1 := fun i => lt_of_pre p1 i
  have q2 := fun i => lt_of_pre p2 i
  have q3 := fun i => lt_of_pre p3 i
  have q4 := bias_real fun i => lt_of_pre p4 i
  have q5 := fun i => lt_of_pre p5 i
  choose Q hQ using q0
  choose K hK using q1
  choose V hV using q2
  choose S hS using q3
  choose B hB using q4
  choose O hO using q5
  exact ⟨⟨fun h => S (ix1 h), fun r k => Q (ix2 r k), fun r k => O (ix2 r k), fun r k => K (ix2 r k), fun r k => V (ix2 r k),
    fun h r j => B (ix3 h r j), win⟩, fun r k => hQ (ix2 r k), fun r k => hK (ix2 r k), fun r k => hV (ix2 r k), fun h => hS (ix1 h),
    fun h r j => hB (ix3 h r j), fun r k => hO (ix2 r k), rfl⟩

/-- What stands outside the sequence changes none of the four results. -/
theorem fill (w : Whole) (F G) : aq (w.blk F) = aq (w.blk G) ∧ akv (w.blk F) = akv (w.blk G) ∧ ab (w.blk F) = ab (w.blk G) ∧ asn (w.blk F) = asn (w.blk G) := by
  refine ⟨funext fun i => ?_, funext fun i => ?_, funext fun i => ?_, funext fun i => ?_⟩
  · unfold aq gq; simp only [w.dq_fill F G]
  · unfold akv gkv; rw [w.dk_fill F G (i 0), w.dv_fill F G (i 0)]
  · unfold ab; simp only [w.ds_fill F G]
  · unfold asn; simp only [w.dσ_fill F G]

/-- The four results at finite arguments: the reference's values are the kernel's arrays. -/
theorem equal (m : (ℓ : Loc nD τ sig) → Buf (Elt Ideal) ℓ) (hpre : Cert.Pre_AttnBwdIdeal_finite_attn m) (c : Dev nD) :
    let on := fun {α : Type} (f : FVec Ideal AttnBwdRefIdeal.S4096x1024 .bf16 → FVec Ideal AttnBwdRefIdeal.S4096x256 .bf16 →
        FVec Ideal AttnBwdRefIdeal.S4096x256 .bf16 → FVec Ideal AttnBwdRefIdeal.S16 .f32 → FVec Ideal AttnBwdRefIdeal.S32x16 .f32 →
        FVec Ideal AttnBwdRefIdeal.S4096x1024 .bf16 → α) =>
      f (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
    on (AttnBwdRefIdeal.Read.val_main_v186 (F := Ideal)) = (dats m 0 c).arrAt 6 cfg0.N
    ∧ on (AttnBwdRefIdeal.Read.val_main_v187 (F := Ideal)) = (dats m 0 c).arrAt 7 cfg0.N
    ∧ on (AttnBwdRefIdeal.Read.val_main_v181 (F := Ideal)) = (dats m 0 c).arrAt 8 cfg0.N
    ∧ on (AttnBwdRefIdeal.Read.val_main_v190 (F := Ideal)) = (dats m 0 c).arrAt 9 cfg0.N := by
  intro on
  obtain ⟨w, H⟩ := reals m hpre c
  obtain ⟨f6, f7, f8, f9⟩ := fill w zeros (again w)
  refine ⟨?_, ?_, ?_, ?_⟩
  · refine Eq.trans (funext fun i => ?_) (f6.trans (arr6 (allOps H)).symm)
    obtain ⟨r, k, rfl⟩ := exists_ix2 i
    exact q_grad H r k
  · refine Eq.trans (funext fun i => ?_) (f7.trans (arr7 (allOps H)).symm)
    obtain ⟨n, j, k, rfl⟩ := exists_ix3 i
    exact kv_grad H n j k
  · refine Eq.trans (funext fun i => ?_) (f8.trans (arr8 (allOps H)).symm)
    obtain ⟨h, r, j, rfl⟩ := exists_ix3 i
    exact bias_grad H h r j
  · refine Eq.trans (funext fun i => ?_) (f9.trans (arr9 (allOps H)).symm)
    obtain ⟨u, k, rfl⟩ := exists_ix2 i
    obtain rfl : u = 0 := Subsingleton.elim _ _
    exact sink_row H k

/-- The backward call computes the gradients of queries, keys and values, bias table and sinks that the derivative of the plain lines gives. -/
theorem algebraic : Cert.algebraic_AttnBwdIdeal_AttnBwdRefIdeal_pre_finite_attn := by
  pair_intro
  · run_from Cert.AttnBwdIdeal.Value.run_blocks m g
  · refine (θ_run _ _ _).mono (fun _ h c => ?_) (run_vals m' g')
    have e := equal m hpre c
    rw [← (hagree c).1, ← (hagree c).2.1, ← (hagree c).2.2.1, ← (hagree c).2.2.2.1, ← (hagree c).2.2.2.2.1, ← (hagree c).2.2.2.2.2] at e
    exact ⟨(h c).1.trans e.1, (h c).2.1.trans e.2.1, (h c).2.2.1.trans e.2.2.1, (h c).2.2.2.1.trans e.2.2.2, (h c).2.2.2.2⟩

end Cert.Proof.Attn

end
-- ==== Proof.QBwd.lean ====
/- The query projection's input gradient with the RMS norm's gradient: kernel and reference hold the same two results. -/
module

public import proofs.«01_k».proof.Defs
public import proofs.«01_k».proof.Proof.Rms
public import proofs.«01_k».proof.Proof.Gen.QBwdIdeal.Value
public import proofs.«01_k».proof.Proof.Gen.QBwdRefIdeal.Run
public import proofs.«01_k».proof.Proof.Gen.QBwdRefIdeal.Read
public import proofs.«01_k».proof.Proof.Gen.QBwdRefIdeal
public import proofs.«01_k».proof.Proof.Gen.Pre_finite_q
public import Idealize.ShloMosaic.Lib.Claim
public import Idealize.ShloMosaic.Lib.Quiescent
import Idealize.ShloMosaic.Lib.Pipeline.ValueKit

@[expose] public section

set_option maxRecDepth 16384

noncomputable section

namespace Cert.Proof.QBwd

open Idealize.ShloMosaic Idealize.ShloMosaic.TcCoe Idealize.SL.Sem Cert.Reals Cert.Rms

/-- The norm's output's cotangent: the product with the transposed weight. -/
def du {R : ℕ} (w : Fin 1024 → Fin 1024 → ℝ) (a : Fin R → Fin 1024 → ℝ) (r : Fin R) (j : Fin 1024) : ℝ := ∑ k, a r k * w j k

section Reference

open Cert.QBwdRefIdeal Cert.QBwdRefIdeal.Read

variable (x a : Fin 4096 → Fin 1024 → ℝ) (g : Fin 1024 → ℝ) (w : Fin 1024 → Fin 1024 → ℝ)

theorem v6 (r : Fin 4096) (u : Fin 1) : val_main_v6 (F := Ideal) (mat x) (ix2 r u) = ((ms (x r) : ℝ) : EReal) := by
  pointwise [val_main_v6, val_main_v5, val_main_v4, val_main_v3, val_main_v2, val_main_v1, val_main_v0, val_main_cst, val_main_cst_0, val_main_cst_1]
  exact ms_coe (x r)

theorem v7 (r : Fin 4096) (u : Fin 1) : val_main_v7 (F := Ideal) (mat x) (ix2 r u) = ((rn (x r) : ℝ) : EReal) := by
  pointwise [val_main_v7]
  rw [v6, rn_coe]

theorem v12 (r : Fin 4096) (u : Fin 1024) : val_main_v12 (F := Ideal) (mat x) (ix2 r u) = ((x r u * rn (x r) : ℝ) : EReal) := by
  pointwise [val_main_v12, val_main_v11]
  rw [v7, mat_apply, ← EReal.coe_mul]

theorem v18 (r : Fin 4096) (j : Fin 1024) : val_main_v18 (F := Ideal) (mat w) (mat a) (ix2 r j) = ((du w a r j : ℝ) : EReal) := by
  pointwise [val_main_v18, val_main_v17]
  simp only [mat_apply, ← EReal.coe_mul, sum_coe, du]

/-- The reference's cotangent of `h`. -/
theorem v39 (d : FVec Ideal S4096x1024 .f32) (r : Fin 4096) (j : Fin 1024) : val_main_v39 (F := Ideal) (mat x) (vec g) (mat w) (mat a) d (ix2 r j)
    = d (ix2 r j) + ((back (x r) (fun k => du w a r k * g k) j : ℝ) : EReal) := by
  pointwise [val_main_v39, val_main_v38, val_main_v37, val_main_v36, val_main_v35, val_main_v34, val_main_v33, val_main_v32, val_main_v31, val_main_v30,
    val_main_v29, val_main_v28, val_main_v27, val_main_v26, val_main_v25, val_main_v23, val_main_v22, val_main_v13, val_main_v10, val_main_v9,
    val_main_v8, val_main_cst_2, val_main_cst_5, val_main_cst_6, val_main_cst_7]
  rw [← back_eq]
  simp only [mat_apply, vec_apply, v18, v7, v6, ← EReal.coe_mul, sum_coe, ← EReal.coe_add, div_real (ms_ne _), bits_neg_half, bits_1024,
    div_real (show (1024 : ℝ) ≠ 0 by norm_num), Finset.univ_unique, Finset.sum_singleton, add_assoc]

/-- The reference's gain gradient. -/
theorem v40 (u : Fin 1) (j : Fin 1024) : val_main_v40 (F := Ideal) (mat x) (mat w) (mat a) (ix2 u j)
    = ((∑ i, x i j * rn (x i) * du w a i j : ℝ) : EReal) := by
  pointwise [val_main_v40, val_main_v24, val_main_v21, val_main_v20, val_main_v19, val_main_cst_3, val_main_cst_4]
  simp only [v18, v12, ← EReal.coe_mul, sum_coe, Finset.univ_unique, Finset.sum_singleton]

/-- The reference's run, its results named by the operations' values. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v40) = val_main_v40 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v39_eq m c), (h c).2.1.trans (val_main_v40_eq ..), (h c).2.2⟩)
    (Cert.QBwdRefIdeal.Value.run m ρ)

end Reference

/-- The reference leaves its arguments as they were; it has no semaphore. -/
theorem frame_ref : Cert.quiescent_QBwdRefIdeal := fun m g _ =>
  (θ_run _ _ _).mono (fun _ h => ⟨fun c => (h c).2.2, sem_eq_zero_of_no_sems (by decide) _⟩) (run_vals m g)

open Cert.QBwdIdeal Cert.QBwdIdeal.Gen Cert.QBwdIdeal.Value

section Block

variable (x a : Fin 1024 → Fin 1024 → ℝ) (g : Fin 1024 → ℝ) (w : Fin 1024 → Fin 1024 → ℝ)

/-- The weight as the call takes it, with a leading axis of one. -/
def one (w : Fin 1024 → Fin 1024 → ℝ) : FVec Ideal S1x1024x1024 .bf16 := fun i => ((w (i 1) (i 2) : ℝ) : EReal)

theorem p3 (r j : Fin 1024) : k0_pay3 (F := Ideal) (mat a) (one w) (ix2 r j) = ((du w a r j : ℝ) : EReal) := by
  pointwise [k0_pay3]
  simp only [mat_apply, one, ← EReal.coe_mul, sum_coe, du]
  rfl

theorem p4 (r : Fin 1024) (u : Fin 1) : k0_pay4 (F := Ideal) (mat x) (ix2 r u) = ((rn (x r) : ℝ) : EReal) := by
  pointwise [k0_pay4]
  simp only [mat_apply, ms_coe, rn_coe]

theorem p5 (r j : Fin 1024) : k0_pay5 (F := Ideal) (mat x) (ix2 r j) = ((x r j * rn (x r) : ℝ) : EReal) := by
  pointwise [k0_pay5]
  rw [p4, mat_apply, ← EReal.coe_mul]

/-- The stored block of the cotangent of `h`. -/
theorem p6 (d : FVec Ideal S1024x1024 .f32) (r j : Fin 1024) : k0_pay6 (F := Ideal) (mat a) (one w) (mat x) (mat fun _ => g) d (ix2 r j)
    = d (ix2 r j) + ((back (x r) (fun k => du w a r k * g k) j : ℝ) : EReal) := by
  pointwise [k0_pay6]
  simp only [p3, p4, p5, mat_apply, ← EReal.coe_mul, sum_coe, bits_1024, div_real (show (1024 : ℝ) ≠ 0 by norm_num), ← EReal.coe_sub]
  rfl

/-- The block's part of the gain's gradient. -/
theorem p7 (u : Fin 1) (j : Fin 1024) : k0_pay7 (F := Ideal) (mat a) (one w) (mat x) (ix2 u j)
    = ((∑ i, x i j * rn (x i) * du w a i j : ℝ) : EReal) := by
  pointwise [k0_pay7]
  simp only [p3, p5, ← EReal.coe_mul, sum_coe]
  exact congrArg _ (Finset.sum_congr rfl fun i _ => mul_comm _ _)

end Block

/-- The row of the whole array that is row `r` of point `t`'s block. -/
abbrev row (t : Fin 4) (r : Fin 1024) : Fin 4096 := blockRow (by norm_num) t r

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] :=
  (by decide +kernel : ∀ t : Fin grid0.N, _)

variable {m : (ℓ : Loc nD τ sig) → Buf (Elt Ideal) ℓ} {x a : Fin 4096 → Fin 1024 → ℝ} {g : Fin 1024 → ℝ} {w : Fin 1024 → Fin 1024 → ℝ}
  {d : FVec Ideal S4096x1024 .f32} {c : Dev nD}

/-- Point `t`'s block of the projection's cotangent is its rows. -/
theorem iblk0 (ha : m ((c.tc : Thread nD τ).loc main_arg3) = mat a) (t : Fin cfg0.N) : iblk m c 0 t = mat (fun r k => a (row t r) k) := by
  funext i
  obtain ⟨r, k, rfl⟩ := exists_ix2 i
  rw [mat_apply, ← mat_apply a, ← ha]
  blk_ext! [iblk, V, idx t]
  show _ = 1024 * t.val + r.val
  omega

/-- Point `t`'s block of `h` is its rows. -/
theorem iblk2 (hx : m ((c.tc : Thread nD τ).loc main_arg0) = mat x) (t : Fin cfg0.N) : iblk m c 2 t = mat (fun r k => x (row t r) k) := by
  funext i
  obtain ⟨r, k, rfl⟩ := exists_ix2 i
  rw [mat_apply, ← mat_apply x, ← hx]
  blk_ext! [iblk, V, idx t]
  show _ = 1024 * t.val + r.val
  omega

/-- Point `t`'s block of the cotangent passed on is its rows. -/
theorem iblk4 (hd : m ((c.tc : Thread nD τ).loc main_arg4) = d) (t : Fin cfg0.N) (r k : Fin 1024) : iblk m c 4 t (ix2 r k) = d (ix2 (row t r) k) := by
  rw [← hd]
  blk_ext! [iblk, V, idx t]
  show _ = 1024 * t.val + r.val
  omega

/-- Every point's block of the gain is the gain. -/
theorem iblk3 (hg : m ((c.tc : Thread nD τ).loc main_arg1) = vec g) (t : Fin cfg0.N) : iblk m c 3 t = mat (fun _ k => g k) := by
  funext i
  obtain ⟨r, k, rfl⟩ := exists_ix2 i
  rw [mat_apply, ← vec_apply g, ← hg]
  blk_simp [iblk, idx t]; entry_read; pointwise
  blk_ext! [iblk, V, idx t]

/-- Every point's block of the weight is the weight. -/
theorem iblk1 (hw : m ((c.tc : Thread nD τ).loc main_arg2) = mat w) (t : Fin cfg0.N) : iblk m c 1 t = one w := by
  funext i
  obtain ⟨u, r, k, rfl⟩ := box_index i
  refine Eq.trans ?_ (mat_apply w r k)
  rw [← hw]
  blk_simp [iblk, idx t]; entry_read; pointwise
  blk_ext! [iblk, V, idx t]

/-- The array of `h`'s cotangent after the run. -/
theorem arr5 (hx : m ((c.tc : Thread nD τ).loc main_arg0) = mat x) (hg : m ((c.tc : Thread nD τ).loc main_arg1) = vec g)
    (hw : m ((c.tc : Thread nD τ).loc main_arg2) = mat w) (ha : m ((c.tc : Thread nD τ).loc main_arg3) = mat a)
    (hd : m ((c.tc : Thread nD τ).loc main_arg4) = d) :
    (dats m 0 c).arrAt 5 cfg0.N = fun i => d i + mat (fun r j => back (x r) (fun k => du w a r k * g k) j) i := by
  refine (dats m 0 c).arrAt_eq_of_covers 5 _ (by decide +kernel) fun t hf i => ?_
  blk_simp
  rw [after0_5]
  obtain ⟨r, k, rfl⟩ := exists_ix2 i
  trans d (ix2 (row t r) k) + ((back (x (row t r)) (fun k => du w a (row t r) k * g k) k : ℝ) : EReal)
  · rw [← iblk4 hd]
    by_cases h0 : t.val % 4 = 0
    · rw [outsAt0_A m c t h0]
      frame_out
      rw [iblk0 ha, iblk1 hw, iblk2 hx, iblk3 hg]
      exact p6 _ _ _ _ _ r k
    · rw [outsAt0_B m c t h0]
      frame_out
      rw [iblk0 ha, iblk1 hw, iblk2 hx, iblk3 hg]
      exact p6 _ _ _ _ _ r k
  · refine congrArg (fun i => d i + mat (fun r j => back (x r) (fun k => du w a r k * g k) j) i)
      (a₁ := ix2 (row t r) k) ?_
    blk_ext! [idx t]
    show 1024 * t.val + r.val = _
    omega

/-- The array of the gain's gradient after the run. -/
theorem arr6 (hx : m ((c.tc : Thread nD τ).loc main_arg0) = mat x) (hg : m ((c.tc : Thread nD τ).loc main_arg1) = vec g)
    (hw : m ((c.tc : Thread nD τ).loc main_arg2) = mat w) (ha : m ((c.tc : Thread nD τ).loc main_arg3) = mat a) :
    (dats m 0 c).arrAt 6 cfg0.N = mat fun _ j => ∑ i, x i j * rn (x i) * du w a i j := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0)
    (fun t j => ((∑ r, x (row t r) (j 1) * rn (x (row t r)) * du w a (row t r) (j 1) : ℝ) : EReal))
    (fun t h j => by
      rw [outsAt0_A m c t h]
      frame_open
      frame_out
      obtain ⟨u, k, rfl⟩ := exists_ix2 j
      rw [iblk0 ha, iblk1 hw, iblk2 hx]
      pointwise [k0_pay1, k0_pay2]
      rw [p7]
      rfl)
    (fun t h j => by
      rw [outsAt0_B m c t h]
      frame_out
      obtain ⟨u, k, rfl⟩ := exists_ix2 j
      rw [iblk0 ha, iblk1 hw, iblk2 hx]
      pointwise [k0_pay1]
      rw [p7]
      rfl) (by decide) t0_3 rfl j, zero_add, sum_coe]
  exact congrArg _ (sum_blocks (T := 4) (B := 1024) _ fun i => x i (j 1) * rn (x i) * du w a i (j 1))

/-- The call computes the cotangent of `h` and the gain's gradient that the derivative of the plain lines gives. -/
theorem algebraic : Cert.algebraic_QBwdIdeal_QBwdRefIdeal_pre_finite_q := by
  pair_intro
  · run_from Cert.QBwdIdeal.Value.run_blocks m g
  · refine (θ_run _ _ _).mono (fun _ h c => ?_) (run_vals m' g')
    obtain ⟨p0, p1, p2, p3⟩ := hpre c
    obtain ⟨x, hx⟩ := exists_mat (lt_of_pre p0)
    obtain ⟨g, hg⟩ := exists_vec (lt_of_pre p1)
    obtain ⟨w, hw⟩ := exists_mat (lt_of_pre p2)
    obtain ⟨a, ha⟩ : ∃ a, m ((c.tc : Thread nD τ).loc main_arg3) = mat a := exists_mat (fun i => lt_of_pre p3 i)
    have H := h c
    rw [(hagree c).1, (hagree c).2.1, (hagree c).2.2.1, (hagree c).2.2.2.1, (hagree c).2.2.2.2, hx, hg, hw, ha] at H
    refine ⟨H.1.trans ((funext fun i => ?_).trans (arr5 hx hg hw ha rfl).symm), H.2.1.trans ((funext fun i => ?_).trans (arr6 hx hg hw ha).symm), (h c).2.2⟩
    · obtain ⟨r, k, rfl⟩ := exists_ix2 i
      exact v39 _ _ _ _ _ r k
    · obtain ⟨u, k, rfl⟩ := exists_ix2 i
      exact v40 _ _ _ u k

end Cert.Proof.QBwd

end
-- ==== Proof.Dkv.lean ====
/- The adjoint of the key/value band: kernel and reference hold the same array. -/
module

public import proofs.«01_k».proof.Defs
public import proofs.«01_k».proof.Proof.Rms
public import proofs.«01_k».proof.Proof.Gen.DkvCombineIdeal.Value
public import proofs.«01_k».proof.Proof.Gen.DkvCombineRefIdeal.Run
public import proofs.«01_k».proof.Proof.Gen.DkvCombineRefIdeal.Read
public import proofs.«01_k».proof.Proof.Gen.DkvCombineRefIdeal
public import Idealize.ShloMosaic.Lib.Claim
public import Idealize.ShloMosaic.Lib.Quiescent
import Idealize.ShloMosaic.Lib.Pipeline.ValueKit

@[expose] public section

set_option maxRecDepth 16384

noncomputable section

namespace Cert.Proof.Dkv

open Idealize.ShloMosaic Idealize.ShloMosaic.TcCoe Idealize.SL.Sem Cert.Reals Cert.Rms

/-- Row `r` of block `n` of the sum of both parts: the upper half of the block's band, and the lower half of the next one's. -/
def both (A B : Fin 32 → Fin 256 → Fin 512 → EReal) (n : Fin 32) (r : Fin 128) (k : Fin 512) : EReal :=
  A n ⟨128 + r.val, by omega⟩ k + B n ⟨128 + r.val, by omega⟩ k
    + if h : n.val < 31 then A ⟨1 + n.val, by omega⟩ ⟨r.val, by omega⟩ k + B ⟨1 + n.val, by omega⟩ ⟨r.val, by omega⟩ k else 0

/-- An array of three axes by its coordinates. -/
abbrev at3 {a b c : ℕ} (X : (⟨3, ![a, b, c]⟩ : Shape).Idx → EReal) (n : Fin a) (r : Fin b) (k : Fin c) : EReal := X (ix3 n r k)

section Reference

open Cert.DkvCombineRefIdeal Cert.DkvCombineRefIdeal.Read

/-- The reference's result, by the block of its row. -/
theorem v17 (X Y : FVec Ideal S32x256x512 .bf16) (n : Fin 32) (r : Fin 128) (k : Fin 512) :
    val_main_v17 (F := Ideal) X Y (ix2 (blockRow (T := 32) (B := 128) (N := 4096) rfl n r) k) = both (at3 X) (at3 Y) n r k := by
  have e : idx_main_v16 (ix2 (blockRow (T := 32) (B := 128) (N := 4096) rfl n r) k) = ix3 n r k := by
    funext a
    have := n.isLt; have := r.isLt; have := k.isLt
    match a with
    | ⟨0, _⟩ => exact Fin.ext (by show ((128 * n.val + r.val) * 512 + k.val) / 65536 = n.val; omega)
    | ⟨1, _⟩ => exact Fin.ext (by show ((128 * n.val + r.val) * 512 + k.val) / 512 % 128 = r.val; omega)
    | ⟨2, _⟩ => exact Fin.ext (by show ((128 * n.val + r.val) * 512 + k.val) % 512 = k.val; omega)
  refine (val_main_v16_apply (F := Ideal) X Y _).trans ?_
  rw [e]
  pointwise [val_main_v15, val_main_v14, val_main_v13, val_main_v11, val_main_v10, val_main_v2, val_main_v1, val_main_v0, val_main_cst_2]
  rfl

/-- The reference's run, its result named by the last operation's value. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = val_main_v17 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v17_eq ..), (h c).2⟩) (Cert.DkvCombineRefIdeal.Value.run m ρ)

end Reference

/-- The reference leaves its arguments as they were; it has no semaphore. -/
theorem frame_ref : Cert.quiescent_DkvCombineRefIdeal := fun m g _ =>
  (θ_run _ _ _).mono (fun _ h => ⟨fun c => (h c).2, sem_eq_zero_of_no_sems (by decide) _⟩) (run_vals m g)

open Cert.DkvCombineIdeal Cert.DkvCombineIdeal.Gen Cert.DkvCombineIdeal.Value

variable {m : (ℓ : Loc nD τ sig) → Buf (Elt Ideal) ℓ} {c : Dev nD} {X Y : FVec Ideal S32x256x512 .bf16}

/-- The last point alone takes nothing from a next band. -/
theorem last_iff : ∀ t : Fin cfg0.N, Scalar.cmpi .eq (BitVec.ofNat 32 (grid0.coords t 0).val) 31#32 = if t.val < 31 then 0#1 else 1#1 :=
  (by decide +kernel : ∀ t : Fin grid0.N, _)

/-- The stored block. -/
theorem p1 (t : Fin cfg0.N) (a b d e : FVec Ideal S1x128x512 .bf16) (r : Fin 128) (k : Fin 512) :
    k0_pay1 (F := Ideal) (grid0.coords t) a b d e (ix2 r k)
      = d (ix3 0 r k) + e (ix3 0 r k) + if t.val < 31 then a (ix3 0 r k) + b (ix3 0 r k) else 0 := by
  pointwise [k0_pay1]
  rw [last_iff]
  split <;> rfl

theorem idx : ∀ t : Fin cfg0.N, win0_0.index t = ![2 * t.val + 1, 0, 0] ∧ win0_1.index t = ![min (2 * t.val + 2) 62, 0, 0]
    ∧ win0_2.index t = ![2 * t.val + 1, 0, 0] ∧ win0_3.index t = ![min (2 * t.val + 2) 62, 0, 0] ∧ win0_4.index t = ![t.val, 0] :=
  (by decide +kernel : ∀ t : Fin grid0.N, _)

/-- Half `p` of the bands as an array of half bands. -/
def halves (X : FVec Ideal S32x256x512 .bf16) (p : Fin 64) (r : Fin 128) (k : Fin 512) : EReal :=
  X (ix3 (⟨p.val / 2, by omega⟩ : Fin 32) (⟨p.val % 2 * 128 + r.val, by omega⟩ : Fin 256) k)

theorem entry0 (hX : m ((c.tc : Thread nD τ).loc main_arg0) = X) (p : Fin 64) (r : Fin 128) (k : Fin 512) :
    V m c main_v0 (ix3 p r k) = halves X p r k := by
  subst hX
  entry_read
  pointwise
  rfl

theorem entry1 (hY : m ((c.tc : Thread nD τ).loc main_arg1) = Y) (p : Fin 64) (r : Fin 128) (k : Fin 512) :
    V m c main_v1 (ix3 p r k) = halves Y p r k := by
  subst hY
  entry_read
  pointwise
  rfl

/-- The half band that point `t` takes of its own band. -/
abbrev own (t : Fin 32) : Fin 64 := ⟨2 * t.val + 1, by omega⟩

/-- The half band that point `t` takes of the next band. -/
abbrev next (t : Fin 32) : Fin 64 := ⟨min (2 * t.val + 2) 62, by omega⟩

theorem iblk0 (hX : m ((c.tc : Thread nD τ).loc main_arg0) = X) (t : Fin cfg0.N) (r : Fin 128) (k : Fin 512) :
    iblk m c 0 t (ix3 0 r k) = halves X (own t) r k := by
  rw [← entry0 hX]
  unfold iblk; generalize V m c = Z
  refine congrArg (Z main_v0) ?_
  blk_ext! [idx t]

theorem iblk1 (hX : m ((c.tc : Thread nD τ).loc main_arg0) = X) (t : Fin cfg0.N) (r : Fin 128) (k : Fin 512) :
    iblk m c 1 t (ix3 0 r k) = halves X (next t) r k := by
  rw [← entry0 hX]
  unfold iblk; generalize V m c = Z
  refine congrArg (Z main_v0) ?_
  blk_ext! [idx t]

theorem iblk2 (hY : m ((c.tc : Thread nD τ).loc main_arg1) = Y) (t : Fin cfg0.N) (r : Fin 128) (k : Fin 512) :
    iblk m c 2 t (ix3 0 r k) = halves Y (own t) r k := by
  rw [← entry1 hY]
  unfold iblk; generalize V m c = Z
  refine congrArg (Z main_v1) ?_
  blk_ext! [idx t]

theorem iblk3 (hY : m ((c.tc : Thread nD τ).loc main_arg1) = Y) (t : Fin cfg0.N) (r : Fin 128) (k : Fin 512) :
    iblk m c 3 t (ix3 0 r k) = halves Y (next t) r k := by
  rw [← entry1 hY]
  unfold iblk; generalize V m c = Z
  refine congrArg (Z main_v1) ?_
  blk_ext! [idx t]

/-- Half `2 n + 1` is the upper half of band `n`. -/
theorem halves_own (X : FVec Ideal S32x256x512 .bf16) (t : Fin 32) (r : Fin 128) (k : Fin 512) :
    halves X (own t) r k = at3 X t ⟨128 + r.val, by omega⟩ k := by
  unfold halves at3
  congr 1
  refine congrArg₂ (fun a b => ix3 a b k) (Fin.ext ?_) (Fin.ext ?_)
  · show (2 * t.val + 1) / 2 = t.val; omega
  · show (2 * t.val + 1) % 2 * 128 + r.val = 128 + r.val; omega

/-- Half `2 (n + 1)` is the lower half of band `n + 1`. -/
theorem halves_next (X : FVec Ideal S32x256x512 .bf16) (t : Fin 32) (h : t.val < 31) (r : Fin 128) (k : Fin 512) :
    halves X (next t) r k = at3 X ⟨1 + t.val, by omega⟩ ⟨r.val, by omega⟩ k := by
  unfold halves at3
  congr 1
  refine congrArg₂ (fun a b => ix3 a b k) (Fin.ext ?_) (Fin.ext ?_)
  · show min (2 * t.val + 2) 62 / 2 = 1 + t.val; omega
  · show min (2 * t.val + 2) 62 % 2 * 128 + r.val = r.val; omega

/-- What the body stores is the sum of both parts. -/
theorem stored (X Y : FVec Ideal S32x256x512 .bf16) (t : Fin 32) (r : Fin 128) (k : Fin 512) :
    halves X (own t) r k + halves Y (own t) r k + (if t.val < 31 then halves X (next t) r k + halves Y (next t) r k else 0)
      = both (at3 X) (at3 Y) t r k := by
  rw [halves_own, halves_own]
  unfold both
  by_cases h : t.val < 31
  · rw [if_pos h, dif_pos h, halves_next _ _ h, halves_next _ _ h]
  · rw [if_neg h, dif_neg h]

/-- The result after the run, read at the rows of block `t`. -/
theorem arr4 (hX : m ((c.tc : Thread nD τ).loc main_arg0) = X) (hY : m ((c.tc : Thread nD τ).loc main_arg1) = Y) :
    (dats m 0 c).arrAt 4 cfg0.N = Cert.DkvCombineRefIdeal.Read.val_main_v17 (F := Ideal) X Y := by
  refine (dats m 0 c).arrAt_eq_of_covers 4 _ (by decide +kernel) fun t hf i => ?_
  blk_simp
  rw [after0_4]
  obtain ⟨r, k, rfl⟩ := exists_ix2 i
  refine Eq.trans (?_ : _ = both (at3 X) (at3 Y) (show Fin 32 from t) r k) ?_
  · frame_open
    frame_out
    refine (p1 t _ _ _ _ r k).trans ?_
    rw [iblk0 hX, iblk1 hX, iblk2 hY, iblk3 hY]
    exact stored X Y t r k
  · refine (v17 X Y t r k).symm.trans ?_
    generalize Cert.DkvCombineRefIdeal.Read.val_main_v17 (F := Ideal) X Y = Z
    refine congrArg Z ?_
    blk_ext! [idx t]
    show 128 * t.val + r.val = _
    omega

/-- The call adds the two halves of the overlapping bands as the reference does. -/
theorem algebraic : Cert.algebraic_DkvCombineIdeal_DkvCombineRefIdeal := by
  pair_intro
  · run_from Cert.DkvCombineIdeal.Value.run_blocks m g
  · refine (θ_run _ _ _).mono (fun _ h c => ?_) (run_vals m' g')
    have H := h c
    rw [(hagree c).1, (hagree c).2] at H
    exact ⟨H.1.trans (arr4 rfl rfl).symm, (h c).2⟩

end Cert.Proof.Dkv

end
-- ==== Proof.Pw1Block.lean ====
/- One tile of the pointwise convolution's backward call: the eight partial products of each half, and the norm's gradient over them. -/
module

public import proofs.«01_k».proof.Defs
public import proofs.«01_k».proof.Proof.Rms
public import proofs.«01_k».proof.Proof.Gen.Pw1BwdIdeal.Value
import Idealize.ShloMosaic.Lib.Pipeline.ValueKit
import Idealize.ShloMosaic.Lib.Pipeline.ReadBack

@[expose] public section

set_option maxRecDepth 16384

noncomputable section

namespace Cert.Proof.Pw1

open Idealize.ShloMosaic Idealize.ShloMosaic.TcCoe Idealize.SL.Sem Cert.Reals Cert.Rms

/-- The norm's output's cotangent: the product with the transposed weight. -/
def du {R : ℕ} (w : Fin 1024 → Fin 2048 → ℝ) (a : Fin R → Fin 2048 → ℝ) (r : Fin R) (j : Fin 1024) : ℝ := ∑ k, a r k * w j k

open Cert.Pw1BwdIdeal Cert.Pw1BwdIdeal.Gen Cert.Pw1BwdIdeal.Value

/-- One of the eight column blocks of the weight. -/
def chunk (W : Fin 1024 → Fin 256 → ℝ) : FVec Ideal S1x1x1024x256 .bf16 := fun i => ((W (i 2) (i 3) : ℝ) : EReal)

/-- The weight as the call takes it: its eight column blocks. -/
def blocks (w : Fin 1024 → Fin 2048 → ℝ) : FVec Ideal S1x8x1024x256 .bf16 := fun i => ((w (i 2) (blockRow (T := 8) (B := 256) rfl (i 1) (i 3)) : ℝ) : EReal)

section Loads

variable {R C R' C' o p : ℕ} (a : Fin R → Fin C → ℝ) (inb : ∀ i, (![o, p] : Fin 2 → ℕ) i + (![R', C'] : Fin 2 → ℕ) i ≤ (⟨2, ![R, C]⟩ : Shape).size i)

/-- The place in the whole of an index of a part. -/
theorem emb_part (r : Fin R') (k : Fin C') : (Rect.unit (s := ⟨2, ![R, C]⟩) ![o, p] ![R', C'] inb).emb (ix2 r k)
    = ix2 ⟨o + r.val, lt_of_lt_of_le (Nat.add_lt_add_left r.isLt o) (inb 0)⟩ ⟨p + k.val, lt_of_lt_of_le (Nat.add_lt_add_left k.isLt p) (inb 1)⟩ := by
  funext i
  match i with
  | ⟨0, _⟩ => exact Fin.ext (by show o + 1 * r.val = o + r.val; omega)
  | ⟨1, _⟩ => exact Fin.ext (by show p + 1 * k.val = p + k.val; omega)

end Loads

/-- The part of a tile from row `o` and column `p` on. -/
def part (a : Fin 512 → Fin 2048 → ℝ) (o p : ℕ) (r k : Fin 256) : ℝ := a (Fin.ofNat 512 (o + r.val)) (Fin.ofNat 2048 (p + k.val))

/-- Column block `p` of the weight. -/
def wpart (w : Fin 1024 → Fin 2048 → ℝ) (p : ℕ) (j : Fin 1024) (k : Fin 256) : ℝ := w j (Fin.ofNat 2048 (256 * p + k.val))

/-- A load of a part of a tile is that part. -/
theorem ld_part (a : Fin 512 → Fin 2048 → ℝ) {o p : ℕ} (inb : ∀ i, (![o, p] : Fin 2 → ℕ) i + (![256, 256] : Fin 2 → ℕ) i ≤ S512x2048.size i) :
    (View.ld (Val := Elt Ideal) (e' := .bf16) (mat a) (Rect.unit ![o, p] ![256, 256] inb) : FVec Ideal S256x256 .bf16) = mat (part a o p) := by
  have h0 : o + 256 ≤ 512 := inb 0
  have h1 : p + 256 ≤ 2048 := inb 1
  funext i
  obtain ⟨r, k, rfl⟩ := exists_ix2 i
  have := r.isLt; have := k.isLt
  refine (mat_at a ((emb_part inb r k).trans (congrArg₂ ix2 (Fin.ext ?_) (Fin.ext ?_)))).symm
  · exact (Nat.mod_eq_of_lt (show o + r.val < 512 by omega)).symm
  · exact (Nat.mod_eq_of_lt (show p + k.val < 2048 by omega)).symm

/-- A load of one column block of the weight is that block. -/
theorem ld_blocks (w : Fin 1024 → Fin 2048 → ℝ) {p : ℕ} (inb : ∀ i, (![0, p, 0, 0] : Fin 4 → ℕ) i + (![1, 1, 1024, 256] : Fin 4 → ℕ) i ≤ S1x8x1024x256.size i) :
    (View.ld (Val := Elt Ideal) (e' := .bf16) (blocks w) (Rect.unit ![0, p, 0, 0] ![1, 1, 1024, 256] inb) : FVec Ideal S1x1x1024x256 .bf16) = chunk (wpart w p) := by
  have h1 : p + 1 ≤ 8 := inb 1
  funext i
  have := Fin.isLt (show Fin 1 from i 1); have := Fin.isLt (show Fin 256 from i 3)
  refine congrArg Real.toEReal (congrArg₂ w (Fin.ext ?_) (Fin.ext ?_))
  · show 0 + 1 * (i 2).val = (i 2).val
    omega
  · show 256 * (p + 1 * (show Fin 1 from i 1).val) + (0 + 1 * (show Fin 256 from i 3).val) = (256 * p + (show Fin 256 from i 3).val) % 2048
    omega

/-- Row `r` of half `p` of a tile. -/
abbrev hrow (p : Fin 2) (r : Fin 256) : Fin 512 := blockRow (T := 2) (B := 256) rfl p r

/-- Rows `o` to `o + 255` of a tile. -/
def rows (x : Fin 512 → Fin 1024 → ℝ) (o : ℕ) (r : Fin 256) (k : Fin 1024) : ℝ := x (Fin.ofNat 512 (o + r.val)) k

/-- A load of half of a tile's rows is those rows. -/
theorem ld_rows (x : Fin 512 → Fin 1024 → ℝ) {o : ℕ} (inb : ∀ i, (![o, 0] : Fin 2 → ℕ) i + (![256, 1024] : Fin 2 → ℕ) i ≤ S512x1024.size i) :
    (View.ld (Val := Elt Ideal) (e' := .f32) (mat x) (Rect.unit ![o, 0] ![256, 1024] inb) : FVec Ideal S256x1024 .f32) = mat (rows x o) := by
  have h0 : o + 256 ≤ 512 := inb 0
  funext i
  obtain ⟨r, k, rfl⟩ := exists_ix2 i
  have := r.isLt
  refine (mat_at x ((emb_part inb r k).trans (congrArg₂ ix2 (Fin.ext ?_) (Fin.ext ?_)))).symm
  · exact (Nat.mod_eq_of_lt (show o + r.val < 512 by omega)).symm
  · exact Nat.zero_add k.val

/-- Rows from `256 p` on are the rows of half `p`. -/
theorem rows_eq (x : Fin 512 → Fin 1024 → ℝ) (p : Fin 2) (r : Fin 256) : rows x (256 * p.val) r = x (hrow p r) := by
  have := p.isLt; have := r.isLt
  exact congrArg x (Fin.ext (Nat.mod_eq_of_lt (show 256 * p.val + r.val < 512 by omega)))

section Products

variable (a : Fin 512 → Fin 2048 → ℝ) (w : Fin 1024 → Fin 2048 → ℝ)

/-- The product as the sum of eight partial products. -/
theorem eight (p : Fin 2) (r : Fin 256) (j : Fin 1024) : du w a (hrow p r) j = ∑ q : Fin 8, ∑ k, part a (256 * p.val) (256 * q.val) r k * wpart w q.val j k := by
  refine (sum_blocks (T := 8) (B := 256) rfl fun k => a (hrow p r) k * w j k).symm.trans (Finset.sum_congr rfl fun q _ => Finset.sum_congr rfl fun k _ => ?_)
  have := p.isLt; have := r.isLt; have := q.isLt; have := k.isLt
  refine congrArg₂ (· * ·) (congrArg₂ a (Fin.ext ?_) (Fin.ext ?_)) (congrArg (w j) (Fin.ext ?_))
  · exact (Nat.mod_eq_of_lt (by omega)).symm
  all_goals exact (Nat.mod_eq_of_lt (by omega)).symm

theorem first_half : k0_pay4 (F := Ideal) (k0_pay3 (mat (part a 0 0)) (chunk (wpart w 0)) (mat (part a 0 256)) (chunk (wpart w 1)) (mat (part a 0 512)) (chunk (wpart w 2))
    (mat (part a 0 768)) (chunk (wpart w 3))) (mat (part a 0 1024)) (chunk (wpart w 4)) (mat (part a 0 1280)) (chunk (wpart w 5)) (mat (part a 0 1536)) (chunk (wpart w 6))
    (mat (part a 0 1792)) (chunk (wpart w 7)) = mat fun r => du w a (hrow 0 r) := by
  funext i
  obtain ⟨r, k, rfl⟩ := exists_ix2 i
  pointwise [k0_pay4, k0_pay3]
  simp only [mat_apply, chunk, ← EReal.coe_mul, sum_coe, ← EReal.coe_add, eight, Fin.sum_univ_eight]
  rfl

theorem second_half : k0_pay13 (F := Ideal) (k0_pay12 (k0_pay11 (mat (part a 256 0)) (chunk (wpart w 0)) (mat (part a 256 256)) (chunk (wpart w 1)))
    (mat (part a 256 512)) (chunk (wpart w 2)) (mat (part a 256 768)) (chunk (wpart w 3)) (mat (part a 256 1024)) (chunk (wpart w 4)) (mat (part a 256 1280)) (chunk (wpart w 5))
    (mat (part a 256 1536)) (chunk (wpart w 6))) (mat (part a 256 1792)) (chunk (wpart w 7)) = mat fun r => du w a (hrow 1 r) := by
  funext i
  obtain ⟨r, k, rfl⟩ := exists_ix2 i
  pointwise [k0_pay13, k0_pay12, k0_pay11]
  simp only [mat_apply, chunk, ← EReal.coe_mul, sum_coe, ← EReal.coe_add, eight, Fin.sum_univ_eight]
  rfl

end Products

section Norm

variable (x u : Fin 256 → Fin 1024 → ℝ) (g : Fin 1024 → ℝ)

/-- The scale added to the mean square in the first half. -/
abbrev eps : EReal := Ideal.ofBits FTy.f32 897988541#32

theorem p7 (r : Fin 256) (o : Fin 1) : k0_pay7 (F := Ideal) (k0_pay6 (mat x)) eps (ix2 r o) = ((rn (x r) : ℝ) : EReal) := by
  pointwise [k0_pay7, k0_pay6]
  simp only [mat_apply, ms_coe, rn_coe]

theorem p8 (r : Fin 256) (j : Fin 1024) : k0_pay8 (F := Ideal) (mat x) (k0_pay6 (mat x)) eps (ix2 r j) = ((x r j * rn (x r) : ℝ) : EReal) := by
  pointwise [k0_pay8]
  rw [p7, mat_apply, ← EReal.coe_mul]

/-- The first half's stored cotangent of `h`. -/
theorem p9 {U : FVec Ideal S256x1024 .f32} (h : U = mat u) (d : FVec Ideal S256x1024 .f32) (r : Fin 256) (j : Fin 1024) :
    k0_pay9 (F := Ideal) U (mat x) (k0_pay5 (mat fun _ => g)) d (k0_pay6 (mat x)) (FloatOps.ofBits FTy.f32 897988541#32) (ix2 r j)
      = d (ix2 r j) + ((back (x r) (fun k => u r k * g k) j : ℝ) : EReal) := by
  subst h
  pointwise [k0_pay9, k0_pay5]
  simp only [p7, p8, mat_apply, ← EReal.coe_mul, sum_coe, bits_1024, div_real (show (1024 : ℝ) ≠ 0 by norm_num), ← EReal.coe_sub]
  rfl

/-- The first half's part of the gain's gradient. -/
theorem p10 {U : FVec Ideal S256x1024 .f32} (h : U = mat u) (v : FVec Ideal S1x1024 .f32) (o : Fin 1) (j : Fin 1024) : k0_pay10 (F := Ideal) U (mat x) (k0_pay6 (mat x)) (FloatOps.ofBits FTy.f32 897988541#32) v (ix2 o j)
    = v (ix2 o j) + ((∑ i, x i j * rn (x i) * u i j : ℝ) : EReal) := by
  subst h
  pointwise [k0_pay10]
  simp only [p8, mat_apply, ← EReal.coe_mul, sum_coe, mul_comm (u _ _)]

theorem p14 (r : Fin 256) (o : Fin 1) : k0_pay14 (F := Ideal) (mat x) (ix2 r o) = ((rn (x r) : ℝ) : EReal) := by
  pointwise [k0_pay14]
  simp only [mat_apply, ms_coe, rn_coe]

theorem p15 (r : Fin 256) (j : Fin 1024) : k0_pay15 (F := Ideal) (mat x) (ix2 r j) = ((x r j * rn (x r) : ℝ) : EReal) := by
  pointwise [k0_pay15]
  rw [p14, mat_apply, ← EReal.coe_mul]

variable {x u}
variable {a : FVec Ideal S256x1024 .f32} {b : FVec Ideal S256x256 .bf16} {e : FVec Ideal S1x1x1024x256 .bf16}

/-- The second half's stored cotangent of `h`. -/
theorem p16 (h : k0_pay13 (F := Ideal) a b e = mat u) (d : FVec Ideal S256x1024 .f32) (r : Fin 256) (j : Fin 1024) :
    k0_pay16 (F := Ideal) a b e (mat x) (mat fun _ => g) d (ix2 r j) = d (ix2 r j) + ((back (x r) (fun k => u r k * g k) j : ℝ) : EReal) := by
  pointwise [k0_pay16]
  simp only [h, p14, p15, mat_apply, ← EReal.coe_mul, sum_coe, bits_1024, div_real (show (1024 : ℝ) ≠ 0 by norm_num), ← EReal.coe_sub]
  rfl

/-- The second half's part of the gain's gradient. -/
theorem p17 (h : k0_pay13 (F := Ideal) a b e = mat u) (o : Fin 1) (j : Fin 1024) : k0_pay17 (F := Ideal) a b e (mat x) (ix2 o j)
    = ((∑ i, x i j * rn (x i) * u i j : ℝ) : EReal) := by
  pointwise [k0_pay17]
  simp only [h, p15, mat_apply, ← EReal.coe_mul, sum_coe, mul_comm (u _ _)]

end Norm

section Tile

variable {m : (ℓ : Loc nD τ sig) → Buf (Elt Ideal) ℓ} {c : Dev nD} {x : Fin 512 → Fin 1024 → ℝ} {a : Fin 512 → Fin 2048 → ℝ} {g : Fin 1024 → ℝ}
  {w : Fin 1024 → Fin 2048 → ℝ} {t : Fin cfg0.N} {d : FVec Ideal S512x1024 .f32}

/-- An array at the place of an index of half `p` of its rows. -/
theorem stored_at {p : Fin 2} {o : ℕ} (ho : 256 * p.val = o) (inb : ∀ i, (![o, 0] : Fin 2 → ℕ) i + (![256, 1024] : Fin 2 → ℕ) i ≤ S512x1024.size i)
    (f : Fin 512 → Fin 1024 → ℝ) (r : Fin 256) (k : Fin 1024) :
    View.ld (Val := Elt Ideal) (e' := .f32) d (Rect.unit ![o, 0] ![256, 1024] inb) (ix2 r k) + ((f (hrow p r) k : ℝ) : EReal)
      = d ((Rect.unit (s := S512x1024) ![o, 0] ![256, 1024] inb).emb (ix2 r k)) + mat f ((Rect.unit (s := S512x1024) ![o, 0] ![256, 1024] inb).emb (ix2 r k)) := by
  subst ho
  refine congrArg _ (mat_at f ?_)
  exact (emb_part inb r k).trans (congrArg (ix2 _) (Fin.ext (Nat.zero_add k.val)))

set_option maxHeartbeats 400000 in
/-- The tile's cotangent of `h`. -/
theorem tile5 (H0 : iblk m c 0 t = mat a) (H1 : iblk m c 1 t = blocks w) (H2 : iblk m c 2 t = mat x) (H3 : iblk m c 3 t = mat fun _ => g)
    (H4 : iblk m c 4 t = d) : (outsAt0 m c t.val t.isLt).1 = fun i => d i + mat (fun r => back (x r) fun k => du w a r k * g k) i := by
  funext i
  by_cases h0 : t.val % 8 = 0
  case' pos => rw [outsAt0_A m c t h0]
  case' neg => rw [outsAt0_B m c t h0]
  all_goals
    frame_open
    simp (disch := decide) only [↓ View.readCov_skip, ↓ View.readCov_cons_toLoadRect, ↓ View.readCov_fill]
    frame_out
    rw [H0, H1, H2, H3, H4]
    simp only [ld_part, ld_blocks, ld_rows]
    refine View.canon_apply_of_pieces (Val := Elt Ideal) (S := S512x1024) (e := .f32) (fun i => d i + mat (fun r => back (x r) fun k => du w a r k * g k) i) _ (fun p hp => ?_) i
      (View.cover_of_tiledL (s := S512x1024) _ S256x1024.size (by sl_kernel_rfl) i)
    simp only [List.mem_cons, List.not_mem_nil, or_false] at hp
    rcases hp with rfl | rfl
    all_goals
      intro y
      obtain ⟨r, k, rfl⟩ := exists_ix2 (a := 256) (b := 1024) y
    · dsimp only
      rw [p16 g (second_half a w), show rows x 256 r = _ from rows_eq x 1 r]
      exact stored_at (by decide) _ (fun r => back (x r) fun k => du w a r k * g k) r k
    · dsimp only
      rw [p9 _ _ g (first_half a w), show rows x 0 r = _ from rows_eq x 0 r]
      exact stored_at (by decide) _ (fun r => back (x r) fun k => du w a r k * g k) r k

/-- The tile's part of the gain's gradient at one feature. -/
abbrev part6 (x : Fin 512 → Fin 1024 → ℝ) (a : Fin 512 → Fin 2048 → ℝ) (w : Fin 1024 → Fin 2048 → ℝ) (k : Fin 1024) : ℝ := ∑ i, x i k * rn (x i) * du w a i k

/-- Both halves' parts added to what the array held are the tile's part added. -/
theorem both_halves (v : FVec Ideal S1x1024 .f32) (u : Fin 1) (k : Fin 1024) :
    k0_pay1 (F := Ideal) (k0_pay17 (F := Ideal) (k0_pay12 (k0_pay11 (mat (part a 256 0)) (chunk (wpart w 0)) (mat (part a 256 256)) (chunk (wpart w 1)))
      (mat (part a 256 512)) (chunk (wpart w 2)) (mat (part a 256 768)) (chunk (wpart w 3)) (mat (part a 256 1024)) (chunk (wpart w 4)) (mat (part a 256 1280)) (chunk (wpart w 5))
      (mat (part a 256 1536)) (chunk (wpart w 6))) (mat (part a 256 1792)) (chunk (wpart w 7)) (mat (rows x 256)))
      (k0_pay10 (F := Ideal) (k0_pay4 (k0_pay3 (mat (part a 0 0)) (chunk (wpart w 0)) (mat (part a 0 256)) (chunk (wpart w 1)) (mat (part a 0 512)) (chunk (wpart w 2))
        (mat (part a 0 768)) (chunk (wpart w 3))) (mat (part a 0 1024)) (chunk (wpart w 4)) (mat (part a 0 1280)) (chunk (wpart w 5)) (mat (part a 0 1536)) (chunk (wpart w 6))
        (mat (part a 0 1792)) (chunk (wpart w 7))) (mat (rows x 0)) (k0_pay6 (mat (rows x 0))) (FloatOps.ofBits FTy.f32 897988541#32) v) (ix2 u k)
      = v (ix2 u k) + ((part6 x a w k : ℝ) : EReal) := by
  pointwise [k0_pay1]
  rw [p17 (second_half a w)]
  erw [p10 _ _ (first_half a w)]
  rw [add_assoc, ← EReal.coe_add]
  refine congrArg (fun z : ℝ => v (ix2 u k) + (z : EReal)) ?_
  refine Eq.trans ?_ (sum_blocks (T := 2) (B := 256) rfl fun i => x i k * rn (x i) * du w a i k)
  rw [Fin.sum_univ_two]
  refine congrArg₂ (· + ·) (Finset.sum_congr rfl fun i _ => ?_) (Finset.sum_congr rfl fun i _ => ?_)
  · rw [show rows x 0 i = _ from rows_eq x 0 i]
  · rw [show rows x 256 i = _ from rows_eq x 1 i]

/-- The first tile's array of the gain's gradient. -/
theorem tile6_first (h0 : t.val % 8 = 0) (H0 : iblk m c 0 t = mat a) (H1 : iblk m c 1 t = blocks w) (H2 : iblk m c 2 t = mat x) (u : Fin 1) (k : Fin 1024) :
    (outsAt0 m c t.val t.isLt).2 (ix2 u k) = 0 + ((part6 x a w k : ℝ) : EReal) := by
  rw [outsAt0_A m c t h0]
  frame_open
  simp (disch := decide) only [↓ View.readCov_skip, ↓ View.readCov_cons_toLoadRect, ↓ View.readCov_fill]
  frame_out
  rw [H0, H1, H2]
  simp only [ld_part, ld_blocks, ld_rows]
  rw [both_halves]
  pointwise [k0_pay2]

/-- A later tile's array of the gain's gradient is the one before's with the tile's part added. -/
theorem tile6_next (h0 : ¬t.val % 8 = 0) (H0 : iblk m c 0 t = mat a) (H1 : iblk m c 1 t = blocks w) (H2 : iblk m c 2 t = mat x) (u : Fin 1) (k : Fin 1024) :
    (outsAt0 m c t.val t.isLt).2 (ix2 u k)
      = (outsAt0 m c (t.val - 1) (Nat.lt_of_le_of_lt (Nat.sub_le _ _) t.isLt)).2 (ix2 u k) + ((part6 x a w k : ℝ) : EReal) := by
  rw [outsAt0_B m c t h0]
  frame_open
  simp (disch := decide) only [↓ View.readCov_skip, ↓ View.readCov_cons_toLoadRect, ↓ View.readCov_fill]
  frame_out
  rw [H0, H1, H2]
  simp only [ld_part, ld_blocks, ld_rows]
  exact both_halves _ u k

end Tile

end Cert.Proof.Pw1

end
-- ==== Proof.Pw1.lean ====
/- The gated pointwise convolution's input gradient with the RMS norm's gradient: kernel and reference hold the same two results. -/
module

public import proofs.«01_k».proof.Defs
public import proofs.«01_k».proof.Proof.Rms
public import proofs.«01_k».proof.Proof.Pw1Block
public import proofs.«01_k».proof.Proof.Gen.Pw1BwdRefIdeal.Run
public import proofs.«01_k».proof.Proof.Gen.Pw1BwdRefIdeal.Read
public import proofs.«01_k».proof.Proof.Gen.Pw1BwdRefIdeal
public import proofs.«01_k».proof.Proof.Gen.Pre_finite_pw1
public import Idealize.ShloMosaic.Lib.Claim
public import Idealize.ShloMosaic.Lib.Quiescent
import Idealize.ShloMosaic.Lib.Pipeline.ValueKit

@[expose] public section

set_option maxRecDepth 16384

noncomputable section

namespace Cert.Proof.Pw1

open Idealize.ShloMosaic Idealize.ShloMosaic.TcCoe Idealize.SL.Sem Cert.Reals Cert.Rms

section Reference

open Cert.Pw1BwdRefIdeal Cert.Pw1BwdRefIdeal.Read

variable (x : Fin 4096 → Fin 1024 → ℝ) (a : Fin 4096 → Fin 2048 → ℝ) (g : Fin 1024 → ℝ) (w : Fin 1024 → Fin 2048 → ℝ)

theorem v6 (r : Fin 4096) (u : Fin 1) : val_main_v6 (F := Ideal) (mat x) (ix2 r u) = ((ms (x r) : ℝ) : EReal) := by
  pointwise [val_main_v6, val_main_v5, val_main_v4, val_main_v3, val_main_v2, val_main_v1, val_main_v0, val_main_cst, val_main_cst_0, val_main_cst_1]
  exact ms_coe (x r)

theorem v7 (r : Fin 4096) (u : Fin 1) : val_main_v7 (F := Ideal) (mat x) (ix2 r u) = ((rn (x r) : ℝ) : EReal) := by
  pointwise [val_main_v7]
  rw [v6, rn_coe]

theorem v12 (r : Fin 4096) (u : Fin 1024) : val_main_v12 (F := Ideal) (mat x) (ix2 r u) = ((x r u * rn (x r) : ℝ) : EReal) := by
  pointwise [val_main_v12, val_main_v11]
  rw [v7, mat_apply, ← EReal.coe_mul]

theorem v18 (r : Fin 4096) (j : Fin 1024) : val_main_v18 (F := Ideal) (mat w) (mat a) (ix2 r j) = ((du w a r j : ℝ) : EReal) := by
  pointwise [val_main_v18, val_main_v17]
  simp only [mat_apply, ← EReal.coe_mul, sum_coe, du]

/-- The reference's cotangent of `h`. -/
theorem v39 (d : FVec Ideal S4096x1024 .f32) (r : Fin 4096) (j : Fin 1024) : val_main_v39 (F := Ideal) (mat x) (vec g) (mat w) (mat a) d (ix2 r j)
    = d (ix2 r j) + ((back (x r) (fun k => du w a r k * g k) j : ℝ) : EReal) := by
  pointwise [val_main_v39, val_main_v38, val_main_v37, val_main_v36, val_main_v35, val_main_v34, val_main_v33, val_main_v32, val_main_v31, val_main_v30,
    val_main_v29, val_main_v28, val_main_v27, val_main_v26, val_main_v25, val_main_v23, val_main_v22, val_main_v13, val_main_v10, val_main_v9,
    val_main_v8, val_main_cst_2, val_main_cst_5, val_main_cst_6, val_main_cst_7]
  rw [← back_eq]
  simp only [mat_apply, vec_apply, v18, v7, v6, ← EReal.coe_mul, sum_coe, ← EReal.coe_add, div_real (ms_ne _), bits_neg_half, bits_1024,
    div_real (show (1024 : ℝ) ≠ 0 by norm_num), Finset.univ_unique, Finset.sum_singleton, add_assoc]

/-- The reference's gain gradient. -/
theorem v40 (u : Fin 1) (j : Fin 1024) : val_main_v40 (F := Ideal) (mat x) (mat w) (mat a) (ix2 u j)
    = ((∑ i, x i j * rn (x i) * du w a i j : ℝ) : EReal) := by
  pointwise [val_main_v40, val_main_v24, val_main_v21, val_main_v20, val_main_v19, val_main_cst_3, val_main_cst_4]
  simp only [v18, v12, ← EReal.coe_mul, sum_coe, Finset.univ_unique, Finset.sum_singleton]

/-- The reference's run, its results named by the operations' values. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v40) = val_main_v40 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v39_eq m c), (h c).2.1.trans (val_main_v40_eq ..), (h c).2.2⟩)
    (Cert.Pw1BwdRefIdeal.Value.run m ρ)

end Reference

/-- The reference leaves its arguments as they were; it has no semaphore. -/
theorem frame_ref : Cert.quiescent_Pw1BwdRefIdeal := fun m g _ =>
  (θ_run _ _ _).mono (fun _ h => ⟨fun c => (h c).2.2, sem_eq_zero_of_no_sems (by decide) _⟩) (run_vals m g)

open Cert.Pw1BwdIdeal Cert.Pw1BwdIdeal.Gen Cert.Pw1BwdIdeal.Value

/-- The row of the whole array that is row `r` of point `t`'s block. -/
abbrev row (t : Fin 8) (r : Fin 512) : Fin 4096 := blockRow (by norm_num) t r

theorem idx : ∀ t : Fin cfg0.N, win0_0.index t = ![t.val, 0] ∧ win0_1.index t = ![0, 0, 0, 0] ∧ win0_2.index t = ![t.val, 0] ∧ win0_3.index t = ![0, 0]
    ∧ win0_4.index t = ![t.val, 0] ∧ win0_5.index t = ![t.val, 0] :=
  (by decide +kernel : ∀ t : Fin grid0.N, _)

variable {m : (ℓ : Loc nD τ sig) → Buf (Elt Ideal) ℓ} {x : Fin 4096 → Fin 1024 → ℝ} {a : Fin 4096 → Fin 2048 → ℝ} {g : Fin 1024 → ℝ} {w : Fin 1024 → Fin 2048 → ℝ}
  {d : FVec Ideal S4096x1024 .f32} {c : Dev nD}

/-- Point `t`'s block of the projection's cotangent is its rows. -/
theorem iblk0 (ha : m ((c.tc : Thread nD τ).loc main_arg3) = mat a) (t : Fin cfg0.N) : iblk m c 0 t = mat (fun r k => a (row t r) k) := by
  funext i
  obtain ⟨r, k, rfl⟩ := exists_ix2 i
  rw [mat_apply, ← mat_apply a, ← ha]
  blk_ext! [iblk, V, idx t]
  show _ = 512 * t.val + r.val
  omega

/-- Point `t`'s block of `h` is its rows. -/
theorem iblk2 (hx : m ((c.tc : Thread nD τ).loc main_arg0) = mat x) (t : Fin cfg0.N) : iblk m c 2 t = mat (fun r k => x (row t r) k) := by
  funext i
  obtain ⟨r, k, rfl⟩ := exists_ix2 i
  rw [mat_apply, ← mat_apply x, ← hx]
  blk_ext! [iblk, V, idx t]
  show _ = 512 * t.val + r.val
  omega

/-- Point `t`'s block of the cotangent passed on is its rows. -/
theorem iblk4 (hd : m ((c.tc : Thread nD τ).loc main_arg4) = d) (t : Fin cfg0.N) : iblk m c 4 t = fun i => d (ix2 (row t (i 0)) (i 1)) := by
  funext i
  obtain ⟨r, k, rfl⟩ := exists_ix2 i
  rw [← hd]
  blk_ext! [iblk, V, idx t]
  show _ = 512 * t.val + r.val
  omega

/-- Every point's block of the gain is the gain. -/
theorem iblk3 (hg : m ((c.tc : Thread nD τ).loc main_arg1) = vec g) (t : Fin cfg0.N) : iblk m c 3 t = mat (fun _ k => g k) := by
  funext i
  obtain ⟨r, k, rfl⟩ := exists_ix2 i
  rw [mat_apply, ← vec_apply g, ← hg]
  blk_simp [iblk, idx t]; entry_read; pointwise
  blk_ext! [iblk, V, idx t]

/-- Every point's block of the weight is the weight's eight column blocks. -/
theorem iblk1 (hw : m ((c.tc : Thread nD τ).loc main_arg2) = mat w) (t : Fin cfg0.N) : iblk m c 1 t = blocks w := by
  funext i
  obtain ⟨u, q, r, k, rfl⟩ : ∃ (u : Fin 1) (q : Fin 8) (r : Fin 1024) (k : Fin 256), i = ix4 u q r k := ⟨i 0, i 1, i 2, i 3, by funext a; match a with | ⟨0, _⟩ => rfl | ⟨1, _⟩ => rfl | ⟨2, _⟩ => rfl | ⟨3, _⟩ => rfl⟩
  refine Eq.trans ?_ (mat_apply w r (blockRow (T := 8) (B := 256) rfl q k))
  rw [← hw]
  blk_simp [iblk, idx t]; entry_read; pointwise
  blk_ext! [iblk, V, idx t]
  simp [blockRow, Nat.mul_comm, Nat.add_comm]

/-- The array of `h`'s cotangent after the run. -/
theorem arr5 (hx : m ((c.tc : Thread nD τ).loc main_arg0) = mat x) (hg : m ((c.tc : Thread nD τ).loc main_arg1) = vec g)
    (hw : m ((c.tc : Thread nD τ).loc main_arg2) = mat w) (ha : m ((c.tc : Thread nD τ).loc main_arg3) = mat a)
    (hd : m ((c.tc : Thread nD τ).loc main_arg4) = d) :
    (dats m 0 c).arrAt 5 cfg0.N = fun i => d i + mat (fun r j => back (x r) (fun k => du w a r k * g k) j) i := by
  refine (dats m 0 c).arrAt_eq_of_covers 5 _ (by decide +kernel) fun t hf i => ?_
  blk_simp
  rw [after0_5, tile5 (iblk0 ha t) (iblk1 hw t) (iblk2 hx t) (iblk3 hg t) (iblk4 hd t)]
  obtain ⟨r, k, rfl⟩ := exists_ix2 i
  refine congrArg (fun i => d i + mat (fun r j => back (x r) (fun k => du w a r k * g k) j) i) (a₁ := ix2 (row t r) k) ?_
  blk_ext! [idx t]
  show 512 * t.val + r.val = _
  omega

/-- The array of the gain's gradient after the run. -/
theorem arr6 (hx : m ((c.tc : Thread nD τ).loc main_arg0) = mat x)
    (hw : m ((c.tc : Thread nD τ).loc main_arg2) = mat w) (ha : m ((c.tc : Thread nD τ).loc main_arg3) = mat a) :
    (dats m 0 c).arrAt 6 cfg0.N = mat fun _ j => ∑ i, x i j * rn (x i) * du w a i j := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => 0)
    (fun t j => ((part6 (fun r => x (row t r)) (fun r => a (row t r)) w (j 1) : ℝ) : EReal))
    (fun t h j => by
      obtain ⟨u, k, rfl⟩ := exists_ix2 j
      exact tile6_first h (iblk0 ha t) (iblk1 hw t) (iblk2 hx t) u k)
    (fun t h j => by
      obtain ⟨u, k, rfl⟩ := exists_ix2 j
      exact tile6_next h (iblk0 ha t) (iblk1 hw t) (iblk2 hx t) u k) (by decide) t0_7 rfl j, zero_add, sum_coe]
  exact congrArg _ (sum_blocks (T := 8) (B := 512) _ fun i => x i (j 1) * rn (x i) * du w a i (j 1))

/-- The pointwise convolution's backward call computes the cotangent of `h` and the gain's gradient that the derivative of the plain lines gives. -/
theorem algebraic : Cert.algebraic_Pw1BwdIdeal_Pw1BwdRefIdeal_pre_finite_pw1 := by
  pair_intro
  · run_from Cert.Pw1BwdIdeal.Value.run_blocks m g
  · refine (θ_run _ _ _).mono (fun _ h c => ?_) (run_vals m' g')
    obtain ⟨p0, p1, p2, p3⟩ := hpre c
    obtain ⟨x, hx⟩ := exists_mat (lt_of_pre p0)
    obtain ⟨g, hg⟩ := exists_vec (lt_of_pre p1)
    obtain ⟨w, hw⟩ := exists_mat (lt_of_pre p2)
    obtain ⟨a, ha⟩ : ∃ a, m ((c.tc : Thread nD τ).loc main_arg3) = mat a := exists_mat (fun i => lt_of_pre p3 i)
    have H := h c
    rw [(hagree c).1, (hagree c).2.1, (hagree c).2.2.1, (hagree c).2.2.2.1, (hagree c).2.2.2.2, hx, hg, hw, ha] at H
    refine ⟨H.1.trans ((funext fun i => ?_).trans (arr5 hx hg hw ha rfl).symm), H.2.1.trans ((funext fun i => ?_).trans (arr6 hx hw ha).symm), (h c).2.2⟩
    · obtain ⟨r, k, rfl⟩ := exists_ix2 i
      exact v39 _ _ _ _ _ r k
    · obtain ⟨u, k, rfl⟩ := exists_ix2 i
      exact v40 _ _ _ u k

end Cert.Proof.Pw1

end
-- ==== Proof.FfnBlock.lean ====
/- One tile of the feed-forward block's backward call: the gates' gradients of one chunk, the running cotangent of the
   normalised input, and the norm's gradient at the last chunk. -/
module

public import proofs.«01_k».proof.Defs
public import proofs.«01_k».proof.Proof.Rms
public import proofs.«01_k».proof.Proof.Pw1Block
public import proofs.«01_k».proof.Proof.Gen.FfnBwdIdeal.Value
import Idealize.ShloMosaic.Lib.Pipeline.ValueKit
import Idealize.ShloMosaic.Lib.Pipeline.ReadBack
import Idealize.ShloMosaic.Lib.Pipeline.CanonAppend

@[expose] public section

set_option maxRecDepth 16384

noncomputable section

namespace Cert.Proof.Ffn

open Idealize.ShloMosaic Idealize.ShloMosaic.TcCoe Idealize.SL.Sem Cert.Reals Cert.Rms
open Cert.Proof.Pw1 (rows ld_rows)

/-- The logistic function. -/
def lgs (z : ℝ) : ℝ := 1 / (1 + Real.exp (-z))

theorem lgs_coe (z : ℝ) : Ideal.logistic (z : EReal) = ((lgs z : ℝ) : EReal) := by
  have h : (1 + Real.exp (-z)) ≠ 0 := by have := Real.exp_pos (-z); positivity
  rw [Ideal.logistic, ← EReal.coe_neg, Ideal.exp_coe, one_coe, ← EReal.coe_add, div_real h, lgs]

/-- The gated product. -/
def actv (z p : ℝ) : ℝ := z * lgs z * p

/-- The gradient in the gate's input, for the cotangent `v` of the gated product. -/
def dgv (z p v : ℝ) : ℝ := v * p * (lgs z * (1 + z * (1 - lgs z)))

/-- The gradient in the other factor. -/
def dpv (z v : ℝ) : ℝ := v * (z * lgs z)

/-- The cotangent of the gated product: the product with a weight's rows. -/
def dact {R K : ℕ} (d : Fin R → Fin 1024 → ℝ) (dn : Fin K → Fin 1024 → ℝ) (r : Fin R) (k : Fin K) : ℝ := ∑ e, d r e * dn k e

/-- The two gates' gradients. -/
def dgu {R K : ℕ} (d : Fin R → Fin 1024 → ℝ) (gu : Fin 2 → Fin R → Fin K → ℝ) (dn : Fin K → Fin 1024 → ℝ) (q : Fin 2) (r : Fin R) (k : Fin K) : ℝ :=
  if q = 0 then dgv (gu 0 r k) (gu 1 r k) (dact d dn r k) else dpv (gu 0 r k) (dact d dn r k)

/-- One chunk's part of the cotangent of the normalised input. -/
def dpart {R K : ℕ} (d : Fin R → Fin 1024 → ℝ) (gu : Fin 2 → Fin R → Fin K → ℝ) (dn : Fin K → Fin 1024 → ℝ) (up : Fin 2 → Fin K → Fin 1024 → ℝ)
    (r : Fin R) (e : Fin 1024) : ℝ := (∑ k, dgu d gu dn 0 r k * up 0 k e) + ∑ k, dgu d gu dn 1 r k * up 1 k e

open Cert.FfnBwdIdeal Cert.FfnBwdIdeal.Gen Cert.FfnBwdIdeal.Value

/-- A tile of the two gates' inputs as the call takes it. -/
def box (gu : Fin 2 → Fin 512 → Fin 704 → ℝ) : FVec Ideal S2x1x512x704 .bf16 := fun i => ((gu (i 0) (i 2) (i 3) : ℝ) : EReal)

/-- One gate's half tile. -/
def half (g : Fin 256 → Fin 704 → ℝ) : FVec Ideal S1x1x256x704 .bf16 := fun i => ((g (i 2) (i 3) : ℝ) : EReal)

/-- A chunk of the up weight as the call takes it. -/
def ups (up : Fin 2 → Fin 704 → Fin 1024 → ℝ) : FVec Ideal S1x2x1x704x1024 .bf16 := fun i => ((up (i 1) (i 3) (i 4) : ℝ) : EReal)

/-- One gate's part of the chunk of the up weight. -/
def up1 (u : Fin 704 → Fin 1024 → ℝ) : FVec Ideal S1x1x1x704x1024 .bf16 := fun i => ((u (i 3) (i 4) : ℝ) : EReal)

/-- A chunk of the down weight as the call takes it. -/
def downs (dn : Fin 704 → Fin 1024 → ℝ) : FVec Ideal S1x1x704x1024 .bf16 := fun i => ((dn (i 2) (i 3) : ℝ) : EReal)

/-- The rows of a half of gate `q`'s tile. -/
def grow (gu : Fin 2 → Fin 512 → Fin 704 → ℝ) (q o : ℕ) (r : Fin 256) (k : Fin 704) : ℝ := gu (Fin.ofNat 2 q) (Fin.ofNat 512 (o + r.val)) k

/-- A load of half of one gate's tile. -/
theorem ld_box (gu : Fin 2 → Fin 512 → Fin 704 → ℝ) {q o : ℕ} (inb : ∀ i, (![q, 0, o, 0] : Fin 4 → ℕ) i + (![1, 1, 256, 704] : Fin 4 → ℕ) i ≤ S2x1x512x704.size i) :
    (View.ld (Val := Elt Ideal) (e' := .bf16) (box gu) (Rect.unit ![q, 0, o, 0] ![1, 1, 256, 704] inb) : FVec Ideal S1x1x256x704 .bf16) = half (grow gu q o) := by
  have h0 : q + 1 ≤ 2 := inb 0
  have h1 : o + 256 ≤ 512 := inb 2
  funext i
  have := Fin.isLt (show Fin 1 from i 0); have := Fin.isLt (show Fin 256 from i 2)
  refine congrArg Real.toEReal (congr (congrArg₂ gu (Fin.ext ?_) (Fin.ext ?_)) (Fin.ext ?_))
  · show q + 1 * (show Fin 1 from i 0).val = q % 2
    omega
  · show o + 1 * (show Fin 256 from i 2).val = (o + (show Fin 256 from i 2).val) % 512
    omega
  · show 0 + 1 * (i 3).val = (i 3).val
    omega

/-- A load of one gate's part of the chunk of the up weight. -/
theorem ld_ups (up : Fin 2 → Fin 704 → Fin 1024 → ℝ) {q : ℕ} (inb : ∀ i, (![0, q, 0, 0, 0] : Fin 5 → ℕ) i + (![1, 1, 1, 704, 1024] : Fin 5 → ℕ) i ≤ S1x2x1x704x1024.size i) :
    (View.ld (Val := Elt Ideal) (e' := .bf16) (ups up) (Rect.unit ![0, q, 0, 0, 0] ![1, 1, 1, 704, 1024] inb) : FVec Ideal S1x1x1x704x1024 .bf16) = up1 (up (Fin.ofNat 2 q)) := by
  have h0 : q + 1 ≤ 2 := inb 1
  funext i
  have := Fin.isLt (show Fin 1 from i 1)
  refine congrArg Real.toEReal (congr (congrArg₂ up (Fin.ext ?_) (Fin.ext ?_)) (Fin.ext ?_))
  · show q + 1 * (show Fin 1 from i 1).val = q % 2
    omega
  · show 0 + 1 * (i 3).val = (i 3).val
    omega
  · show 0 + 1 * (i 4).val = (i 4).val
    omega

section Gates

variable (d : Fin 256 → Fin 1024 → ℝ) (g p : Fin 256 → Fin 704 → ℝ) (dn : Fin 704 → Fin 1024 → ℝ) (u0 u1 : Fin 704 → Fin 1024 → ℝ)

theorem p12 (r : Fin 256) (k : Fin 704) : k0_pay12 (F := Ideal) (mat d) (downs dn) (ix2 r k) = ((dact d dn r k : ℝ) : EReal) := by
  pointwise [k0_pay12]
  simp only [mat_apply, downs, ← EReal.coe_mul, sum_coe]
  rfl

theorem p13 (r : Fin 256) (k : Fin 704) : k0_pay13 (F := Ideal) (half g) (ix2 r k) = ((g r k : ℝ) : EReal) := by
  pointwise [k0_pay13]
  rfl

theorem p14 (r : Fin 256) (k : Fin 704) : k0_pay14 (F := Ideal) (half g) (ix2 r k) = ((g r k : ℝ) : EReal) := by
  pointwise [k0_pay14]
  rfl

theorem p15 (r : Fin 256) (k : Fin 704) : k0_pay15 (F := Ideal) (half g) (ix2 r k) = ((lgs (g r k) : ℝ) : EReal) := by
  pointwise [k0_pay15]
  rw [p13, lgs_coe]

theorem p16 (r : Fin 256) (k : Fin 704) : k0_pay16 (F := Ideal) (half g) (ix2 r k) = ((g r k * lgs (g r k) : ℝ) : EReal) := by
  pointwise [k0_pay16]
  rw [p13, p15, ← EReal.coe_mul]

/-- The first half's gated product. -/
theorem p17 (u : Fin 1) (r : Fin 256) (k : Fin 704) : k0_pay17 (F := Ideal) (half g) (half p) (ix3 u r k) = ((actv (g r k) (p r k) : ℝ) : EReal) := by
  pointwise [k0_pay17]
  rw [p16, p14, ← EReal.coe_mul, actv]

/-- The first half's gradient in the factor. -/
theorem p18 : k0_pay18 (F := Ideal) (mat d) (downs dn) (half g) = mat fun r k => dpv (g r k) (dact d dn r k) := by
  funext i
  obtain ⟨r, k, rfl⟩ := exists_ix2 i
  pointwise [k0_pay18]
  rw [p16, p12, ← EReal.coe_mul, mat_apply, dpv]

/-- The first half's gradient in the gate. -/
theorem p21 : k0_pay21 (F := Ideal) (k0_pay13 (half g)) (k0_pay15 (half g)) (k0_pay19 (mat d) (downs dn) (half p)) (k0_pay20 (half g))
    = mat fun r k => dgv (g r k) (p r k) (dact d dn r k) := by
  funext i
  obtain ⟨r, k, rfl⟩ := exists_ix2 i
  pointwise [k0_pay21, k0_pay19, k0_pay20]
  simp only [p12, p13, p14, p15, one_coe, ← EReal.coe_mul, ← EReal.coe_sub, ← EReal.coe_add, mat_apply, dgv]

/-- The first half's running cotangent. -/
theorem p24 (v : FVec Ideal S256x1024 .f32) (r : Fin 256) (e : Fin 1024) :
    k0_pay24 (F := Ideal) (k0_pay13 (half g)) (k0_pay15 (half g)) (k0_pay18 (mat d) (downs dn) (half g)) (k0_pay19 (mat d) (downs dn) (half p)) (k0_pay20 (half g))
      v (up1 u0) (up1 u1) (ix2 r e)
      = v (ix2 r e) + (((∑ k, dgv (g r k) (p r k) (dact d dn r k) * u0 k e) + ∑ k, dpv (g r k) (dact d dn r k) * u1 k e : ℝ) : EReal) := by
  pointwise [k0_pay24]
  rw [p21, p18]
  simp only [mat_apply, up1, ← EReal.coe_mul, sum_coe, ← EReal.coe_add]
  rfl

theorem p26 (r : Fin 256) (k : Fin 704) : k0_pay26 (F := Ideal) (k0_pay25 (mat d)) (downs dn) (ix2 r k) = ((dact d dn r k : ℝ) : EReal) := by
  pointwise [k0_pay26, k0_pay25]
  simp only [mat_apply, downs, ← EReal.coe_mul, sum_coe]
  rfl

theorem p27 (r : Fin 256) (k : Fin 704) : k0_pay27 (F := Ideal) (half g) (ix2 r k) = ((g r k : ℝ) : EReal) := by
  pointwise [k0_pay27]
  rfl

theorem p28 (r : Fin 256) (k : Fin 704) : k0_pay28 (F := Ideal) (half g) (ix2 r k) = ((g r k : ℝ) : EReal) := by
  pointwise [k0_pay28]
  rfl

theorem p29 (r : Fin 256) (k : Fin 704) : k0_pay29 (F := Ideal) (half g) (ix2 r k) = ((lgs (g r k) : ℝ) : EReal) := by
  pointwise [k0_pay29]
  rw [p27, lgs_coe]

theorem p30 (r : Fin 256) (k : Fin 704) : k0_pay30 (F := Ideal) (half g) (ix2 r k) = ((g r k * lgs (g r k) : ℝ) : EReal) := by
  pointwise [k0_pay30]
  rw [p27, p29, ← EReal.coe_mul]

/-- The second half's gated product. -/
theorem p31 (u : Fin 1) (r : Fin 256) (k : Fin 704) : k0_pay31 (F := Ideal) (half g) (half p) (ix3 u r k) = ((actv (g r k) (p r k) : ℝ) : EReal) := by
  pointwise [k0_pay31]
  rw [p30, p28, ← EReal.coe_mul, actv]

/-- The second half's gradient in the factor. -/
theorem p32 : k0_pay32 (F := Ideal) (k0_pay25 (mat d)) (downs dn) (half g) = mat fun r k => dpv (g r k) (dact d dn r k) := by
  funext i
  obtain ⟨r, k, rfl⟩ := exists_ix2 i
  pointwise [k0_pay32]
  rw [p30, p26, ← EReal.coe_mul, mat_apply, dpv]

/-- The second half's gradient in the gate. -/
theorem p33 : k0_pay33 (F := Ideal) (k0_pay25 (mat d)) (downs dn) (half g) (half p) = mat fun r k => dgv (g r k) (p r k) (dact d dn r k) := by
  funext i
  obtain ⟨r, k, rfl⟩ := exists_ix2 i
  pointwise [k0_pay33]
  simp only [p26, p27, p28, p29, one_coe, ← EReal.coe_mul, ← EReal.coe_sub, ← EReal.coe_add, mat_apply, dgv]

/-- The second half's running cotangent. -/
theorem p1 (v : FVec Ideal S256x1024 .f32) (r : Fin 256) (e : Fin 1024) :
    k0_pay1 (F := Ideal) (k0_pay32 (k0_pay25 (mat d)) (downs dn) (half g)) (k0_pay33 (k0_pay25 (mat d)) (downs dn) (half g) (half p)) v (up1 u0) (up1 u1) (ix2 r e)
      = v (ix2 r e) + (((∑ k, dgv (g r k) (p r k) (dact d dn r k) * u0 k e) + ∑ k, dpv (g r k) (dact d dn r k) * u1 k e : ℝ) : EReal) := by
  pointwise [k0_pay1]
  rw [p32, p33]
  simp only [mat_apply, up1, ← EReal.coe_mul, sum_coe, ← EReal.coe_add]
  rfl

end Gates

section Norm

variable (x u d : Fin 256 → Fin 1024 → ℝ) (g : Fin 1024 → ℝ)

theorem p6 (r : Fin 256) (o : Fin 1) : k0_pay6 (F := Ideal) (mat x) (ix2 r o) = ((rn (x r) : ℝ) : EReal) := by
  pointwise [k0_pay6]
  simp only [mat_apply, ms_coe, rn_coe]

theorem p7 (r : Fin 256) (j : Fin 1024) : k0_pay7 (F := Ideal) (mat x) (ix2 r j) = ((x r j * rn (x r) : ℝ) : EReal) := by
  pointwise [k0_pay7]
  rw [p6, mat_apply, ← EReal.coe_mul]

/-- The first half's stored cotangent of the input. -/
theorem p8 (r : Fin 256) (j : Fin 1024) :
    k0_pay8 (F := Ideal) (mat x) (mat fun _ => g) (mat u) (mat d) (ix2 r j) = ((d r j + back (x r) (fun k => u r k * g k) j : ℝ) : EReal) := by
  pointwise [k0_pay8]
  simp only [p6, p7, mat_apply, ← EReal.coe_mul, sum_coe, bits_1024, div_real (show (1024 : ℝ) ≠ 0 by norm_num), ← EReal.coe_sub, ← EReal.coe_add]
  rfl

/-- The first half's part of the gain's gradient. -/
theorem p9 (v : FVec Ideal S1x1024 .f32) (o : Fin 1) (j : Fin 1024) :
    k0_pay9 (F := Ideal) (mat x) (mat u) v (ix2 o j) = v (ix2 o j) + ((∑ i, x i j * rn (x i) * u i j : ℝ) : EReal) := by
  pointwise [k0_pay9]
  simp only [p7, mat_apply, ← EReal.coe_mul, sum_coe, mul_comm (u _ _)]

theorem p2 (r : Fin 256) (o : Fin 1) : k0_pay2 (F := Ideal) (mat x) (ix2 r o) = ((rn (x r) : ℝ) : EReal) := by
  pointwise [k0_pay2]
  simp only [mat_apply, ms_coe, rn_coe]

theorem p3 (r : Fin 256) (j : Fin 1024) : k0_pay3 (F := Ideal) (mat x) (ix2 r j) = ((x r j * rn (x r) : ℝ) : EReal) := by
  pointwise [k0_pay3]
  rw [p2, mat_apply, ← EReal.coe_mul]

/-- The second half's stored cotangent of the input. -/
theorem p4 (r : Fin 256) (j : Fin 1024) :
    k0_pay4 (F := Ideal) (mat x) (mat fun _ => g) (mat u) (mat d) (ix2 r j) = ((d r j + back (x r) (fun k => u r k * g k) j : ℝ) : EReal) := by
  pointwise [k0_pay4]
  simp only [p2, p3, mat_apply, ← EReal.coe_mul, sum_coe, bits_1024, div_real (show (1024 : ℝ) ≠ 0 by norm_num), ← EReal.coe_sub, ← EReal.coe_add]
  rfl

/-- The second half's part of the gain's gradient. -/
theorem p5 (v : FVec Ideal S1x1024 .f32) (o : Fin 1) (j : Fin 1024) :
    k0_pay5 (F := Ideal) (mat x) (mat u) v (ix2 o j) = v (ix2 o j) + ((∑ i, x i j * rn (x i) * u i j : ℝ) : EReal) := by
  pointwise [k0_pay5]
  simp only [p3, mat_apply, ← EReal.coe_mul, sum_coe, mul_comm (u _ _)]

end Norm

section Tile

open Cert.Proof.Pw1 (hrow rows_eq stored_at)

variable {m : (ℓ : Loc nD τ sig) → Buf (Elt Ideal) ℓ} {c : Dev nD} {t : Fin cfg0.N}
  {d x : Fin 512 → Fin 1024 → ℝ} {gu : Fin 2 → Fin 512 → Fin 704 → ℝ} {up : Fin 2 → Fin 704 → Fin 1024 → ℝ} {dn : Fin 704 → Fin 1024 → ℝ} {g : Fin 1024 → ℝ}

/-- Rows from `256 p` on of a gate's tile are the rows of half `p`. -/
theorem grow_eq (gu : Fin 2 → Fin 512 → Fin 704 → ℝ) (q p : Fin 2) (r : Fin 256) : grow gu q.val (256 * p.val) r = gu q (hrow p r) := by
  have := p.isLt; have := r.isLt; have := q.isLt
  exact congrArg₂ gu (Fin.ext (Nat.mod_eq_of_lt q.isLt)) (Fin.ext (Nat.mod_eq_of_lt (show 256 * p.val + r.val < 512 by omega)))

theorem gates_half {p : Fin 2} {o : ℕ} (ho : 256 * p.val = o) (r : Fin 256) (k : Fin 704) :
    dgv (grow gu 0 o r k) (grow gu 1 o r k) (dact (rows d o) dn r k) = dgu d gu dn 0 (hrow p r) k ∧ dpv (grow gu 0 o r k) (dact (rows d o) dn r k) = dgu d gu dn 1 (hrow p r) k := by
  subst ho
  rw [show grow gu 0 _ r = gu 0 (hrow p r) from grow_eq gu 0 p r, show grow gu 1 _ r = gu 1 (hrow p r) from grow_eq gu 1 p r]
  unfold dact dgu
  rw [rows_eq d p r]
  exact ⟨rfl, rfl⟩

/-- A half's part of the running cotangent is the tile's at the half's rows. -/
theorem part_half {p : Fin 2} {o : ℕ} (ho : 256 * p.val = o) (r : Fin 256) (e : Fin 1024) :
    (∑ k, dgv (grow gu 0 o r k) (grow gu 1 o r k) (dact (rows d o) dn r k) * up (Fin.ofNat 2 0) k e)
      + ∑ k, dpv (grow gu 0 o r k) (dact (rows d o) dn r k) * up (Fin.ofNat 2 1) k e = dpart d gu dn up (hrow p r) e := by
  refine congrArg₂ (· + ·) (Finset.sum_congr rfl fun k _ => congrArg (· * _) ?_) (Finset.sum_congr rfl fun k _ => congrArg (· * _) ?_)
  · exact (gates_half ho r k).1
  · exact (gates_half ho r k).2

variable (m c) in
/-- The running cotangent before point `t`. -/
abbrev prev (t : Fin cfg0.N) : FVec Ideal S512x1024 .f32 := (outsAt0 m c (t.val - 1) (Nat.lt_of_le_of_lt (Nat.sub_le _ _) t.isLt)).2.2.2.2

/-- Both halves' stores of the running cotangent hold what was there with the chunk's part added. -/
theorem du_pieces (v : FVec Ideal S512x1024 .f32) (i1 : ∀ i, (![256, 0] : Fin 2 → ℕ) i + (![256, 1024] : Fin 2 → ℕ) i ≤ S512x1024.size i)
    (i0 : ∀ i, (![0, 0] : Fin 2 → ℕ) i + (![256, 1024] : Fin 2 → ℕ) i ≤ S512x1024.size i) :
    ∀ p ∈ [(⟨Rect.unit ![256, 0] ![256, 1024] i1, k0_pay1 (F := Ideal) (k0_pay32 (k0_pay25 (mat (rows d 256))) (downs dn) (half (grow gu 0 256)))
        (k0_pay33 (k0_pay25 (mat (rows d 256))) (downs dn) (half (grow gu 0 256)) (half (grow gu 1 256))) (View.ld (Val := Elt Ideal) (e' := .f32) v (Rect.unit ![256, 0] ![256, 1024] i1))
        (up1 (up (Fin.ofNat 2 0))) (up1 (up (Fin.ofNat 2 1)))⟩ : View.Piece (Elt Ideal) S512x1024 .f32),
      ⟨Rect.unit ![0, 0] ![256, 1024] i0, k0_pay24 (F := Ideal) (k0_pay13 (half (grow gu 0 0))) (k0_pay15 (half (grow gu 0 0)))
        (k0_pay18 (mat (rows d 0)) (downs dn) (half (grow gu 0 0))) (k0_pay19 (mat (rows d 0)) (downs dn) (half (grow gu 1 0))) (k0_pay20 (half (grow gu 0 0)))
        (View.ld (Val := Elt Ideal) (e' := .f32) v (Rect.unit ![0, 0] ![256, 1024] i0)) (up1 (up (Fin.ofNat 2 0))) (up1 (up (Fin.ofNat 2 1)))⟩],
      ∀ y : p.1.shape.Idx, p.2 y = (fun i => v i + mat (dpart d gu dn up) i) (p.1.emb y) := by
  intro p hp
  simp only [List.mem_cons, List.not_mem_nil, or_false] at hp
  rcases hp with rfl | rfl
  all_goals
    intro y
    obtain ⟨r, k, rfl⟩ := exists_ix2 (a := 256) (b := 1024) y
    dsimp only
  · rw [p1, part_half (p := 1) (o := 256) rfl]
    exact stored_at (p := 1) (o := 256) rfl _ (dpart d gu dn up) r k
  · rw [p24, part_half (p := 0) (o := 0) rfl]
    exact stored_at (p := 0) (o := 0) rfl _ (dpart d gu dn up) r k

/-- The running cotangent after a later chunk is the one before with the chunk's part added. -/
theorem du_next (h0 : ¬t.val % 4 = 0) (H0 : iblk m c 0 t = mat d) (H1 : iblk m c 1 t = box gu) (H2 : iblk m c 2 t = ups up) (H3 : iblk m c 3 t = downs dn) :
    (outsAt0 m c t.val t.isLt).2.2.2.2 = fun i => prev m c t i + mat (dpart d gu dn up) i := by
  have h1 : ¬t.val % 32 = 0 := fun h => h0 (by omega)
  funext i
  by_cases h2 : t.val % 4 = 3
  case' pos => rw [outsAt0_C m c t h0 h1 h2]
  case' neg => rw [outsAt0_B m c t h0 h1 h2]
  all_goals
    frame_open
    simp (disch := decide) only [↓ View.readCov_skip, ↓ View.readCov_cons_toLoadRect, ↓ View.readCov_fill]
    frame_out
    rw [H0, H1, H2, H3]
    simp only [ld_rows, ld_box, ld_ups, read_unread_whole]
    exact View.canon_apply_of_pieces (Val := Elt Ideal) (S := S512x1024) (e := .f32) (fun i => prev m c t i + mat (dpart d gu dn up) i) _ (du_pieces _ _ _) i (View.cover_of_tiledL (s := S512x1024) _ S256x1024.size (by sl_kernel_rfl) i)

/-- The running cotangent after a row block's first chunk is the chunk's part. -/
theorem du_first (h0 : t.val % 4 = 0) (H0 : iblk m c 0 t = mat d) (H1 : iblk m c 1 t = box gu) (H2 : iblk m c 2 t = ups up) (H3 : iblk m c 3 t = downs dn) :
    (outsAt0 m c t.val t.isLt).2.2.2.2 = fun i => 0 + mat (dpart d gu dn up) i := by
  have h2 : ¬t.val % 4 = 3 := by omega
  funext i
  by_cases h1 : t.val % 32 = 0
  case' pos => rw [outsAt0_A m c t h0 h1 h2]
  case' neg => rw [outsAt0_D m c t h0 h1 h2]
  all_goals
    frame_open
    simp (disch := decide) only [↓ View.readCov_skip, ↓ View.readCov_cons_toLoadRect, ↓ View.readCov_fill]
    frame_out
    rw [H0, H1, H2, H3]
    simp only [ld_rows, ld_box, ld_ups]
    refine (View.canon_append_of_pieces (Val := Elt Ideal) (S := S512x1024) (e := .f32) (fun i => k0_pay10 (F := Ideal) i + mat (dpart d gu dn up) i) [_] _ (du_pieces _ _ _) i (View.cover_of_tiledL (s := S512x1024) _ S256x1024.size (by sl_kernel_rfl) i)).trans ?_
    obtain ⟨r, k, rfl⟩ := exists_ix2 i
    pointwise [k0_pay10]

/-- The place in the tile of the gated product of an index of a half. -/
theorem emb3 {p : Fin 2} {o : ℕ} (ho : 256 * p.val = o) (inb : ∀ i, (![0, o, 0] : Fin 3 → ℕ) i + (![1, 256, 704] : Fin 3 → ℕ) i ≤ S1x512x704.size i) (u : Fin 1) (r : Fin 256) (k : Fin 704) :
    (Rect.unit (s := S1x512x704) ![0, o, 0] ![1, 256, 704] inb).emb (ix3 u r k) = ix3 0 (hrow p r) k := by
  subst ho
  have := u.isLt
  funext n
  match n with
  | ⟨0, _⟩ => exact Fin.ext (show 0 + 1 * u.val = 0 by omega)
  | ⟨1, _⟩ => exact Fin.ext (show 256 * p.val + 1 * r.val = 256 * p.val + r.val by omega)
  | ⟨2, _⟩ => exact Fin.ext (show 0 + 1 * k.val = k.val by omega)

/-- The place in the tile of the gates' gradients of an index of a half of one gate's. -/
theorem emb4 {q p : Fin 2} {n o : ℕ} (hn : q.val = n) (ho : 256 * p.val = o) (inb : ∀ i, (![n, 0, o, 0] : Fin 4 → ℕ) i + (![1, 1, 256, 704] : Fin 4 → ℕ) i ≤ S2x1x512x704.size i)
    (u v : Fin 1) (r : Fin 256) (k : Fin 704) :
    (Rect.unit (s := S2x1x512x704) ![n, 0, o, 0] ![1, 1, 256, 704] inb).emb (ix4 u v r k) = ix4 q 0 (hrow p r) k := by
  subst ho hn
  have := u.isLt; have := v.isLt
  funext n
  match n with
  | ⟨0, _⟩ => exact Fin.ext (show q.val + 1 * u.val = q.val by omega)
  | ⟨1, _⟩ => exact Fin.ext (show 0 + 1 * v.val = 0 by omega)
  | ⟨2, _⟩ => exact Fin.ext (show 256 * p.val + 1 * r.val = 256 * p.val + r.val by omega)
  | ⟨3, _⟩ => exact Fin.ext (show 0 + 1 * k.val = k.val by omega)

/-- Every point's case of the body. -/
theorem cases (t : Fin cfg0.N) : (t.val % 4 = 0 ∧ t.val % 32 = 0 ∧ ¬t.val % 4 = 3) ∨ (¬t.val % 4 = 0 ∧ ¬t.val % 32 = 0 ∧ ¬t.val % 4 = 3)
    ∨ (¬t.val % 4 = 0 ∧ ¬t.val % 32 = 0 ∧ t.val % 4 = 3) ∨ t.val % 4 = 0 ∧ ¬t.val % 32 = 0 ∧ ¬t.val % 4 = 3 := by omega

/-- The chunk's tile of the gated product. -/
theorem act_tile (H1 : iblk m c 1 t = box gu) :
    (outsAt0 m c t.val t.isLt).2.2.1 = fun i => ((actv (gu 0 (i 1) (i 2)) (gu 1 (i 1) (i 2)) : ℝ) : EReal) := by
  funext i
  rcases cases t with ⟨h0, h1, h2⟩ | ⟨h0, h1, h2⟩ | ⟨h0, h1, h2⟩ | ⟨h0, h1, h2⟩
  case' inl => rw [outsAt0_A m c t h0 h1 h2]
  case' inr.inl => rw [outsAt0_B m c t h0 h1 h2]
  case' inr.inr.inl => rw [outsAt0_C m c t h0 h1 h2]
  case' inr.inr.inr => rw [outsAt0_D m c t h0 h1 h2]
  all_goals
    frame_open
    try simp (disch := decide) only [↓ View.readCov_skip, ↓ View.readCov_cons_toLoadRect, ↓ View.readCov_fill]
    frame_out
    rw [H1]
    simp only [ld_box]
    refine View.canon_apply_of_pieces (Val := Elt Ideal) (S := S1x512x704) (e := .bf16) (fun i => ((actv (gu 0 (i 1) (i 2)) (gu 1 (i 1) (i 2)) : ℝ) : EReal)) _ (fun p hp => ?_) i
      (View.cover_of_tiledL (s := S1x512x704) _ S1x256x704.size (by sl_kernel_rfl) i)
    simp only [List.mem_cons, List.not_mem_nil, or_false] at hp
    rcases hp with rfl | rfl
    all_goals
      intro y
      obtain ⟨u, r, k, rfl⟩ := box_index (a := 1) (b := 256) (c := 704) y
      dsimp only
    · rw [p31, emb3 (p := 1) (o := 256) rfl, show grow gu 0 256 r = _ from grow_eq gu 0 1 r, show grow gu 1 256 r = _ from grow_eq gu 1 1 r]
      rfl
    · rw [p17, emb3 (p := 0) (o := 0) rfl, show grow gu 0 0 r = _ from grow_eq gu 0 0 r, show grow gu 1 0 r = _ from grow_eq gu 1 0 r]
      rfl

/-- Every index of a four-dimensional box is four coordinates. -/
theorem box4_index {a b c d : ℕ} (i : (⟨4, ![a, b, c, d]⟩ : Shape).Idx) : ∃ u v r k, i = ix4 u v r k :=
  ⟨i 0, i 1, i 2, i 3, funext fun n => by fin_cases n <;> rfl⟩

/-- The chunk's tile of the gates' gradients. -/
theorem dgu_tile (H0 : iblk m c 0 t = mat d) (H1 : iblk m c 1 t = box gu) (H3 : iblk m c 3 t = downs dn) :
    (outsAt0 m c t.val t.isLt).2.2.2.1 = fun i => ((dgu d gu dn (i 0) (i 2) (i 3) : ℝ) : EReal) := by
  funext i
  rcases cases t with ⟨h0, h1, h2⟩ | ⟨h0, h1, h2⟩ | ⟨h0, h1, h2⟩ | ⟨h0, h1, h2⟩
  case' inl => rw [outsAt0_A m c t h0 h1 h2]
  case' inr.inl => rw [outsAt0_B m c t h0 h1 h2]
  case' inr.inr.inl => rw [outsAt0_C m c t h0 h1 h2]
  case' inr.inr.inr => rw [outsAt0_D m c t h0 h1 h2]
  all_goals
    frame_open
    try simp (disch := decide) only [↓ View.readCov_skip, ↓ View.readCov_cons_toLoadRect, ↓ View.readCov_fill]
    frame_out
    rw [H0, H1, H3]
    simp only [ld_rows, ld_box]
    refine View.canon_apply_of_pieces (Val := Elt Ideal) (S := S2x1x512x704) (e := .bf16) (fun i => ((dgu d gu dn (i 0) (i 2) (i 3) : ℝ) : EReal)) _ (fun p hp => ?_) i
      (View.cover_of_tiledL (s := S2x1x512x704) _ S1x1x256x704.size (by sl_kernel_rfl) i)
    simp only [List.mem_cons, List.not_mem_nil, or_false] at hp
    rcases hp with rfl | rfl | rfl | rfl
    all_goals
      intro y
      obtain ⟨u, v, r, k, rfl⟩ := box4_index (a := 1) (b := 1) (c := 256) (d := 704) y
      dsimp only
    · rw [emb4 (q := 1) (n := 1) (p := 1) (o := 256) rfl rfl]
      pointwise [k0_pay35]
      rw [p32, mat_apply, (gates_half (p := 1) (o := 256) rfl r k).2]
    · rw [emb4 (q := 0) (n := 0) (p := 1) (o := 256) rfl rfl]
      pointwise [k0_pay34]
      rw [p33, mat_apply, (gates_half (p := 1) (o := 256) rfl r k).1]
    · rw [emb4 (q := 1) (n := 1) (p := 0) (o := 0) rfl rfl]
      pointwise [k0_pay23]
      rw [p18, mat_apply, (gates_half (p := 0) (o := 0) rfl r k).2]
    · rw [emb4 (q := 0) (n := 0) (p := 0) (o := 0) rfl rfl]
      pointwise [k0_pay22]
      rw [p21, mat_apply, (gates_half (p := 0) (o := 0) rfl r k).1]

section Last

variable {S : Fin 512 → Fin 1024 → ℝ}

/-- The running cotangent with the chunk's part added. -/
abbrev tot (S : Fin 512 → Fin 1024 → ℝ) (d : Fin 512 → Fin 1024 → ℝ) (gu : Fin 2 → Fin 512 → Fin 704 → ℝ) (dn : Fin 704 → Fin 1024 → ℝ) (up : Fin 2 → Fin 704 → Fin 1024 → ℝ)
    (r : Fin 512) (e : Fin 1024) : ℝ := S r e + dpart d gu dn up r e

/-- The second half's running cotangent after the chunk. -/
theorem tot_second : k0_pay1 (F := Ideal) (k0_pay32 (k0_pay25 (mat (rows d 256))) (downs dn) (half (grow gu 0 256)))
      (k0_pay33 (k0_pay25 (mat (rows d 256))) (downs dn) (half (grow gu 0 256)) (half (grow gu 1 256))) (mat (rows S 256)) (up1 (up (Fin.ofNat 2 0))) (up1 (up (Fin.ofNat 2 1)))
      = mat (rows (tot S d gu dn up) 256) := by
  funext i
  obtain ⟨r, k, rfl⟩ := exists_ix2 i
  rw [p1, part_half (p := 1) (o := 256) rfl, mat_apply, mat_apply, show rows S 256 r = _ from rows_eq S 1 r, show rows (tot S d gu dn up) 256 r = _ from rows_eq _ 1 r, ← EReal.coe_add]

/-- The first half's running cotangent after the chunk. -/
theorem tot_first : k0_pay24 (F := Ideal) (k0_pay13 (half (grow gu 0 0))) (k0_pay15 (half (grow gu 0 0)))
      (k0_pay18 (mat (rows d 0)) (downs dn) (half (grow gu 0 0))) (k0_pay19 (mat (rows d 0)) (downs dn) (half (grow gu 1 0))) (k0_pay20 (half (grow gu 0 0)))
      (mat (rows S 0)) (up1 (up (Fin.ofNat 2 0))) (up1 (up (Fin.ofNat 2 1))) = mat (rows (tot S d gu dn up) 0) := by
  funext i
  obtain ⟨r, k, rfl⟩ := exists_ix2 i
  rw [p24, part_half (p := 0) (o := 0) rfl, mat_apply, mat_apply, show rows S 0 r = _ from rows_eq S 0 r, show rows (tot S d gu dn up) 0 r = _ from rows_eq _ 0 r, ← EReal.coe_add]

/-- A half's array at the place of one of its indices. -/
theorem at_half {p : Fin 2} {o : ℕ} (ho : 256 * p.val = o) (inb : ∀ i, (![o, 0] : Fin 2 → ℕ) i + (![256, 1024] : Fin 2 → ℕ) i ≤ S512x1024.size i)
    (f : Fin 512 → Fin 1024 → ℝ) (r : Fin 256) (k : Fin 1024) :
    ((f (hrow p r) k : ℝ) : EReal) = mat f ((Rect.unit (s := S512x1024) ![o, 0] ![256, 1024] inb).emb (ix2 r k)) := by
  subst ho
  exact mat_at f ((Cert.Proof.Pw1.emb_part inb r k).trans (congrArg (ix2 _) (Fin.ext (Nat.zero_add k.val))))

/-- The last chunk's stored cotangent of the input. -/
theorem dho_last (h2 : t.val % 4 = 3) (HS : prev m c t = mat S) (H0 : iblk m c 0 t = mat d) (H1 : iblk m c 1 t = box gu) (H2 : iblk m c 2 t = ups up) (H3 : iblk m c 3 t = downs dn)
    (H4 : iblk m c 4 t = mat x) (H5 : iblk m c 5 t = mat fun _ => g) :
    (outsAt0 m c t.val t.isLt).1 = mat fun r j => d r j + back (x r) (fun k => tot S d gu dn up r k * g k) j := by
  have h0 : ¬t.val % 4 = 0 := by omega
  have h1 : ¬t.val % 32 = 0 := by omega
  funext i
  rw [outsAt0_C m c t h0 h1 h2]
  frame_open
  simp (disch := decide) only [↓ View.readCov_skip, ↓ View.readCov_cons_toLoadRect, ↓ View.readCov_fill]
  frame_out
  rw [H0, H1, H2, H3, H4, H5]
  simp only [read_unread_whole, HS]
  simp only [ld_rows, ld_box, ld_ups]
  refine View.canon_apply_of_pieces (Val := Elt Ideal) (S := S512x1024) (e := .f32) (mat fun r j => d r j + back (x r) (fun k => tot S d gu dn up r k * g k) j) _ (fun p hp => ?_) i
    (View.cover_of_tiledL (s := S512x1024) _ S256x1024.size (by sl_kernel_rfl) i)
  simp only [List.mem_cons, List.not_mem_nil, or_false] at hp
  rcases hp with rfl | rfl
  all_goals
    intro y
    obtain ⟨r, k, rfl⟩ := exists_ix2 (a := 256) (b := 1024) y
    dsimp only
  · rw [tot_second, p4, show rows x 256 r = _ from rows_eq x 1 r, show rows d 256 r = _ from rows_eq d 1 r, show rows (tot S d gu dn up) 256 r = _ from rows_eq _ 1 r]
    exact at_half (p := 1) (o := 256) rfl _ (fun r j => d r j + back (x r) (fun k => tot S d gu dn up r k * g k) j) r k
  · rw [tot_first, p8, show rows x 0 r = _ from rows_eq x 0 r, show rows d 0 r = _ from rows_eq d 0 r, show rows (tot S d gu dn up) 0 r = _ from rows_eq _ 0 r]
    exact at_half (p := 0) (o := 0) rfl _ (fun r j => d r j + back (x r) (fun k => tot S d gu dn up r k * g k) j) r k

/-- The last chunk's array of the gain's gradient is the one before with the row block's part added. -/
theorem dgain_last (h2 : t.val % 4 = 3) (HS : prev m c t = mat S) (H0 : iblk m c 0 t = mat d) (H1 : iblk m c 1 t = box gu) (H2 : iblk m c 2 t = ups up) (H3 : iblk m c 3 t = downs dn)
    (H4 : iblk m c 4 t = mat x) (u : Fin 1) (k : Fin 1024) :
    (outsAt0 m c t.val t.isLt).2.1 (ix2 u k) = (outsAt0 m c (t.val - 1) (Nat.lt_of_le_of_lt (Nat.sub_le _ _) t.isLt)).2.1 (ix2 u k)
      + ((∑ i, x i k * rn (x i) * tot S d gu dn up i k : ℝ) : EReal) := by
  have h0 : ¬t.val % 4 = 0 := by omega
  have h1 : ¬t.val % 32 = 0 := by omega
  rw [outsAt0_C m c t h0 h1 h2]
  frame_open
  simp (disch := decide) only [↓ View.readCov_skip, ↓ View.readCov_cons_toLoadRect, ↓ View.readCov_fill]
  frame_out
  rw [H0, H1, H2, H3, H4]
  simp only [read_unread_whole, HS]
  simp only [ld_rows, ld_box, ld_ups]
  rw [tot_second, tot_first, p5, p9, add_assoc, ← EReal.coe_add]
  refine congrArg (fun z : ℝ => _ + (z : EReal)) ?_
  refine Eq.trans ?_ (sum_blocks (T := 2) (B := 256) rfl fun i => x i k * rn (x i) * tot S d gu dn up i k)
  rw [Fin.sum_univ_two]
  refine congrArg₂ (· + ·) (Finset.sum_congr rfl fun i _ => ?_) (Finset.sum_congr rfl fun i _ => ?_)
  · rw [show rows x 0 i = _ from rows_eq x 0 i, show rows (tot S d gu dn up) 0 i = _ from rows_eq _ 0 i]
  · rw [show rows x 256 i = _ from rows_eq x 1 i, show rows (tot S d gu dn up) 256 i = _ from rows_eq _ 1 i]

/-- The first point's array of the gain's gradient is zero. -/
theorem dgain_first (h1 : t.val % 32 = 0) (u : Fin 1) (k : Fin 1024) : (outsAt0 m c t.val t.isLt).2.1 (ix2 u k) = 0 := by
  rw [outsAt0_A m c t (by omega) h1 (by omega)]
  frame_open
  try simp (disch := decide) only [↓ View.readCov_skip, ↓ View.readCov_cons_toLoadRect, ↓ View.readCov_fill]
  frame_out
  pointwise [k0_pay11]

/-- A point that ends no row block leaves the gain's gradient as it was. -/
theorem dgain_keep (h1 : ¬t.val % 32 = 0) (h2 : ¬t.val % 4 = 3) :
    (outsAt0 m c t.val t.isLt).2.1 = (outsAt0 m c (t.val - 1) (Nat.lt_of_le_of_lt (Nat.sub_le _ _) t.isLt)).2.1 := by
  by_cases h0 : t.val % 4 = 0
  case' pos => rw [outsAt0_D m c t h0 h1 h2]
  case' neg => rw [outsAt0_B m c t h0 h1 h2]
  all_goals rfl

end Last

end Tile

end Cert.Proof.Ffn

end
-- ==== Proof.Ffn.lean ====
/- The feed-forward block's backward call: kernel and reference hold the same four results. -/
module

public import proofs.«01_k».proof.Defs
public import proofs.«01_k».proof.Proof.Rms
public import proofs.«01_k».proof.Proof.FfnBlock
public import proofs.«01_k».proof.Proof.Gen.FfnBwdRefIdeal.Run
public import proofs.«01_k».proof.Proof.Gen.FfnBwdRefIdeal.Read
public import proofs.«01_k».proof.Proof.Gen.FfnBwdRefIdeal
public import proofs.«01_k».proof.Proof.Gen.Pre_finite_ffn
public import Idealize.ShloMosaic.Lib.Claim
public import Idealize.ShloMosaic.Lib.Quiescent
import Idealize.ShloMosaic.Lib.Pipeline.ValueKit

@[expose] public section

set_option maxRecDepth 16384

noncomputable section

namespace Cert.Proof.Ffn

open Idealize.ShloMosaic Idealize.ShloMosaic.TcCoe Idealize.SL.Sem Cert.Reals Cert.Rms

/-- Column `q` of the two, `k` of its 2816. -/
abbrev col (q : Fin 2) (k : Fin 2816) : Fin 5632 := blockRow (T := 2) (B := 2816) rfl q k

/-- The gates' inputs: the normalised rows times the up weight, its two halves apart. -/
def gates (x : Fin 4096 → Fin 1024 → ℝ) (g : Fin 1024 → ℝ) (wu : Fin 1024 → Fin 5632 → ℝ) (q : Fin 2) (r : Fin 4096) (k : Fin 2816) : ℝ :=
  ∑ e, x r e * rn (x r) * g e * wu e (col q k)

/-- The up weight by gate and feature. -/
def upw (wu : Fin 1024 → Fin 5632 → ℝ) (q : Fin 2) (k : Fin 2816) (e : Fin 1024) : ℝ := wu e (col q k)

section Whole

variable (x : Fin 4096 → Fin 1024 → ℝ) (g : Fin 1024 → ℝ) (wu : Fin 1024 → Fin 5632 → ℝ) (wd : Fin 2816 → Fin 1024 → ℝ) (d : Fin 4096 → Fin 1024 → ℝ)

/-- The gates' gradients over the whole arrays. -/
def dgates (q : Fin 2) (r : Fin 4096) (k : Fin 2816) : ℝ := dgu d (gates x g wu) wd q r k

/-- The cotangent of the normalised input, whole. -/
def du (r : Fin 4096) (e : Fin 1024) : ℝ := dpart d (gates x g wu) wd (upw wu) r e

end Whole

section Reference

open Cert.FfnBwdRefIdeal Cert.FfnBwdRefIdeal.Read

variable (x : Fin 4096 → Fin 1024 → ℝ) (g : Fin 1024 → ℝ) (wu : Fin 1024 → Fin 5632 → ℝ) (wd : Fin 2816 → Fin 1024 → ℝ) (d : Fin 4096 → Fin 1024 → ℝ)

theorem v6 (r : Fin 4096) (u : Fin 1) : val_main_v6 (F := Ideal) (mat x) (ix2 r u) = ((ms (x r) : ℝ) : EReal) := by
  pointwise [val_main_v6, val_main_v5, val_main_v4, val_main_v3, val_main_v2, val_main_v1, val_main_v0, val_main_cst, val_main_cst_0, val_main_cst_1]
  exact ms_coe (x r)

theorem v7 (r : Fin 4096) (u : Fin 1) : val_main_v7 (F := Ideal) (mat x) (ix2 r u) = ((rn (x r) : ℝ) : EReal) := by
  pointwise [val_main_v7]
  rw [v6, rn_coe]

theorem v12 (r : Fin 4096) (u : Fin 1024) : val_main_v12 (F := Ideal) (mat x) (ix2 r u) = ((x r u * rn (x r) : ℝ) : EReal) := by
  pointwise [val_main_v12, val_main_v11]
  rw [v7, mat_apply, ← EReal.coe_mul]

theorem v16 (q : Fin 2) (r : Fin 4096) (k : Fin 2816) : val_main_v16 (F := Ideal) (mat x) (vec g) (mat wu) (ix2 r (col q k)) = ((gates x g wu q r k : ℝ) : EReal) := by
  pointwise [val_main_v16, val_main_v15, val_main_v14, val_main_v13]
  simp only [v12, vec_apply, mat_apply, ← EReal.coe_mul, sum_coe]
  rfl

theorem v17 (r : Fin 4096) (k : Fin 2816) : val_main_v17 (F := Ideal) (mat x) (vec g) (mat wu) (ix2 r k) = ((gates x g wu 0 r k : ℝ) : EReal) := by
  pointwise [val_main_v17]
  refine Eq.trans (congrArg (val_main_v16 (F := Ideal) (mat x) (vec g) (mat wu)) (congrArg (ix2 r) (Fin.ext ?_))) (v16 x g wu 0 r k)
  simp [blockRow]

theorem v18 (r : Fin 4096) (k : Fin 2816) : val_main_v18 (F := Ideal) (mat x) (vec g) (mat wu) (ix2 r k) = ((gates x g wu 1 r k : ℝ) : EReal) := by
  pointwise [val_main_v18]
  refine Eq.trans (congrArg (val_main_v16 (F := Ideal) (mat x) (vec g) (mat wu)) (congrArg (ix2 r) (Fin.ext ?_))) (v16 x g wu 1 r k)
  simp [blockRow]

theorem v19_2 (r : Fin 4096) (k : Fin 2816) : val_main_v19_2 (F := Ideal) (mat x) (vec g) (mat wu) (ix2 r k) = ((lgs (gates x g wu 0 r k) : ℝ) : EReal) := by
  pointwise [val_main_v19_2, val_main_call0_v4, val_main_call0_cst_0, val_main_call0_v3, val_main_call0_v2, val_main_call0_cst, val_main_call0_v1, val_main_call0_v0]
  rw [v17]
  exact lgs_coe _

theorem v19_0 (r : Fin 4096) (k : Fin 2816) : val_main_v19_0 (F := Ideal) (mat x) (vec g) (mat wu) (ix2 r k)
    = ((gates x g wu 0 r k * lgs (gates x g wu 0 r k) : ℝ) : EReal) := by
  pointwise [val_main_v19_0]
  rw [v17, v19_2, ← EReal.coe_mul]

theorem v20 (r : Fin 4096) (k : Fin 2816) : val_main_v20 (F := Ideal) (mat x) (vec g) (mat wu) (ix2 r k)
    = ((actv (gates x g wu 0 r k) (gates x g wu 1 r k) : ℝ) : EReal) := by
  pointwise [val_main_v20]
  rw [v19_0, v18, ← EReal.coe_mul, actv]

theorem v22 (r : Fin 4096) (k : Fin 2816) : val_main_v22 (F := Ideal) (mat wd) (mat d) (ix2 r k) = ((dact d wd r k : ℝ) : EReal) := by
  pointwise [val_main_v22]
  simp only [mat_apply, ← EReal.coe_mul, sum_coe, dact]

theorem v23 (r : Fin 4096) (k : Fin 2816) : val_main_v23 (F := Ideal) (mat x) (vec g) (mat wu) (mat wd) (mat d) (ix2 r k) = ((dgates x g wu wd d 1 r k : ℝ) : EReal) := by
  pointwise [val_main_v23]
  rw [v19_0, v22, ← EReal.coe_mul, mul_comm]
  rfl

theorem v25 (r : Fin 4096) (k : Fin 2816) : val_main_v25 (F := Ideal) (mat x) (vec g) (mat wu) (mat wd) (mat d) (ix2 r k) = ((dgates x g wu wd d 0 r k : ℝ) : EReal) := by
  pointwise [val_main_v25, val_main_call1_v2, val_main_call1_v1, val_main_call1_v0, val_main_v24, val_main_v19_1, val_main_call0_v7, val_main_call0_v6, val_main_call0_cst_1]
  simp only [v17, v18, v19_2, v22, one_coe, ← EReal.coe_mul, ← EReal.coe_sub, ← EReal.coe_add]
  refine congrArg Real.toEReal ?_
  simp only [dgates, dgu, dgv, if_true]
  ring

theorem v26 (q : Fin 2) (r : Fin 4096) (k : Fin 2816) : val_main_v26 (F := Ideal) (mat x) (vec g) (mat wu) (mat wd) (mat d) (ix2 r (col q k)) = ((dgates x g wu wd d q r k : ℝ) : EReal) := by
  have := k.isLt
  match q with
  | 0 =>
    rw [← v25 x g wu wd d r k]
    pointwise [val_main_v26]
    simp [blockRow]
  | 1 =>
    rw [← v23 x g wu wd d r k]
    pointwise [val_main_v26]
    simp [blockRow]

theorem v27 (r : Fin 4096) (e : Fin 1024) : val_main_v27 (F := Ideal) (mat x) (vec g) (mat wu) (mat wd) (mat d) (ix2 r e) = ((du x g wu wd d r e : ℝ) : EReal) := by
  pointwise [val_main_v27]
  rw [← sum_blocks (T := 2) (B := 2816) rfl, Fin.sum_univ_two]
  simp only [v26, mat_apply, ← EReal.coe_mul, sum_coe, ← EReal.coe_add]
  rfl

/-- The reference's cotangent of the input. -/
theorem v48 (r : Fin 4096) (j : Fin 1024) : val_main_v48 (F := Ideal) (mat x) (vec g) (mat wu) (mat wd) (mat d) (ix2 r j)
    = ((d r j + back (x r) (fun k => du x g wu wd d r k * g k) j : ℝ) : EReal) := by
  pointwise [val_main_v48, val_main_v47, val_main_v46, val_main_v45, val_main_v44, val_main_v43, val_main_v42, val_main_v41, val_main_v40, val_main_v39, val_main_v38,
    val_main_v37, val_main_v36, val_main_v35, val_main_v34, val_main_v32, val_main_v31, val_main_v13, val_main_v10, val_main_v9,
    val_main_v8, val_main_cst_2, val_main_cst_5, val_main_cst_6, val_main_cst_7]
  rw [← back_eq]
  simp only [mat_apply, vec_apply, v27, v7, v6, ← EReal.coe_mul, sum_coe, ← EReal.coe_add, div_real (ms_ne _), bits_neg_half, bits_1024,
    div_real (show (1024 : ℝ) ≠ 0 by norm_num), Finset.univ_unique, Finset.sum_singleton, add_assoc]

/-- The reference's gain gradient. -/
theorem v49 (u : Fin 1) (j : Fin 1024) : val_main_v49 (F := Ideal) (mat x) (vec g) (mat wu) (mat wd) (mat d) (ix2 u j)
    = ((∑ i, x i j * rn (x i) * du x g wu wd d i j : ℝ) : EReal) := by
  pointwise [val_main_v49, val_main_v33, val_main_v30, val_main_v29, val_main_v28, val_main_cst_3, val_main_cst_4]
  simp only [v27, v12, ← EReal.coe_mul, sum_coe, Finset.univ_unique, Finset.sum_singleton]

/-- Chunk `j`'s feature `k`. -/
abbrev feat (j : Fin 4) (k : Fin 704) : Fin 2816 := blockRow (T := 4) (B := 704) rfl j k

/-- The reference's gated product, chunk by chunk. -/
theorem v52 (j : Fin 4) (r : Fin 4096) (k : Fin 704) : val_main_v52 (F := Ideal) (mat x) (vec g) (mat wu) (ix3 j r k)
    = ((actv (gates x g wu 0 r (feat j k)) (gates x g wu 1 r (feat j k)) : ℝ) : EReal) := by
  pointwise [val_main_v52, val_main_v51, val_main_v50]
  refine Eq.trans (congrArg (val_main_v20 (F := Ideal) (mat x) (vec g) (mat wu)) (congrArg (ix2 r) (Fin.ext ?_))) (v20 x g wu r (feat j k))
  simp [blockRow, Nat.mul_comm, Nat.add_comm]

/-- The reference's gates' gradients, chunk by chunk. -/
theorem v55 (q : Fin 2) (j : Fin 4) (r : Fin 4096) (k : Fin 704) : val_main_v55 (F := Ideal) (mat x) (vec g) (mat wu) (mat wd) (mat d) (ix4 q j r k)
    = ((dgates x g wu wd d q r (feat j k) : ℝ) : EReal) := by
  pointwise [val_main_v55, val_main_v54, val_main_v53]
  refine Eq.trans (congrArg (val_main_v26 (F := Ideal) (mat x) (vec g) (mat wu) (mat wd) (mat d)) (congrArg (ix2 r) (Fin.ext ?_))) (v26 x g wu wd d q r (feat j k))
  simp only [blockRow]
  omega

/-- The reference's run, its results named by the operations' values. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2))
      ∧ r.2.mem ((c.tc : Thread nD τ).loc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v48_eq m c), (h c).2.1.trans (val_main_v49_eq m c), (h c).2.2.1.trans (val_main_v52_eq ..),
      (h c).2.2.2.1.trans (val_main_v55_eq m c), (h c).2.2.2.2⟩)
    (Cert.FfnBwdRefIdeal.Value.run m ρ)

end Reference

/-- The reference leaves its arguments as they were; it has no semaphore. -/
theorem frame_ref : Cert.quiescent_FfnBwdRefIdeal := fun m g _ =>
  (θ_run _ _ _).mono (fun _ h => ⟨fun c => (h c).2.2.2.2, sem_eq_zero_of_no_sems (by decide) _⟩) (run_vals m g)

open Cert.FfnBwdIdeal Cert.FfnBwdIdeal.Gen Cert.FfnBwdIdeal.Value

theorem idx : ∀ t : Fin cfg0.N, win0_0.index t = ![t.val / 4, 0] ∧ win0_1.index t = ![0, t.val % 4, t.val / 4, 0] ∧ win0_2.index t = ![0, 0, t.val % 4, 0, 0]
    ∧ win0_3.index t = ![0, t.val % 4, 0, 0] ∧ win0_4.index t = ![t.val / 4, 0] ∧ win0_5.index t = ![0, 0] ∧ win0_6.index t = ![t.val / 4, 0]
    ∧ win0_7.index t = ![0, 0] ∧ win0_8.index t = ![t.val % 4, t.val / 4, 0] ∧ win0_9.index t = ![0, t.val % 4, t.val / 4, 0] :=
  (by decide +kernel : ∀ t : Fin grid0.N, _)

/-- Row `r` of row block `i`. -/
abbrev trow (i : ℕ) (r : Fin 512) : Fin 4096 := blockRow (T := 8) (B := 512) rfl (Fin.ofNat 8 i) r

/-- Feature `k` of chunk `j`. -/
abbrev tch (j : ℕ) (k : Fin 704) : Fin 2816 := feat (Fin.ofNat 4 j) k

variable {m : (ℓ : Loc nD τ sig) → Buf (Elt Ideal) ℓ} {c : Dev nD} {x d : Fin 4096 → Fin 1024 → ℝ} {g : Fin 1024 → ℝ} {wu : Fin 1024 → Fin 5632 → ℝ} {wd : Fin 2816 → Fin 1024 → ℝ}

theorem div_lt (t : Fin cfg0.N) : t.val / 4 < 8 := by
  have : t.val < 32 := t.isLt
  omega

/-- Point `t`'s block of the cotangent is its rows. -/
theorem iblk0 (hd : m ((c.tc : Thread nD τ).loc main_arg4) = mat d) (t : Fin cfg0.N) : iblk m c 0 t = mat (fun r k => d (trow (t.val / 4) r) k) := by
  funext i
  obtain ⟨r, k, rfl⟩ := exists_ix2 i
  rw [mat_apply, ← mat_apply d, ← hd]
  blk_ext! [iblk, V, idx t]
  have := div_lt t
  show _ = 512 * (t.val / 4 % 8) + r.val
  omega

/-- Point `t`'s block of the input is its rows. -/
theorem iblk4 (hx : m ((c.tc : Thread nD τ).loc main_arg0) = mat x) (t : Fin cfg0.N) : iblk m c 4 t = mat (fun r k => x (trow (t.val / 4) r) k) := by
  funext i
  obtain ⟨r, k, rfl⟩ := exists_ix2 i
  rw [mat_apply, ← mat_apply x, ← hx]
  blk_ext! [iblk, V, idx t]
  have := div_lt t
  show _ = 512 * (t.val / 4 % 8) + r.val
  omega

/-- Every point's block of the gain is the gain. -/
theorem iblk5 (hg : m ((c.tc : Thread nD τ).loc main_arg1) = vec g) (t : Fin cfg0.N) : iblk m c 5 t = mat (fun _ k => g k) := by
  funext i
  obtain ⟨r, k, rfl⟩ := exists_ix2 i
  rw [mat_apply, ← vec_apply g, ← hg]
  blk_simp [iblk, idx t]; entry_read; pointwise
  blk_ext! [iblk, V, idx t]

/-- The host lines' gates' inputs. -/
theorem host_gu (hx : m ((c.tc : Thread nD τ).loc main_arg0) = mat x) (hg : m ((c.tc : Thread nD τ).loc main_arg1) = vec g) (hw : m ((c.tc : Thread nD τ).loc main_arg2) = mat wu)
    (q : Fin 2) (j : Fin 4) (r : Fin 4096) (k : Fin 704) : V m c main_v21 (ix4 q j r k) = ((gates x g wu q r (feat j k) : ℝ) : EReal) := by
  have hx' : m (c, Proc.tc.devRef main_arg0) = mat x := hx
  have hg' : m (c, Proc.tc.devRef main_arg1) = vec g := hg
  have hw' : m (c, Proc.tc.devRef main_arg2) = mat wu := hw
  unfold V
  entry_read; pointwise
  rw [hx', hg', hw']
  simp only [mat_apply, vec_apply, ms_coe, rn_coe]
  simp only [← EReal.coe_mul, sum_coe]
  refine congrArg Real.toEReal (Finset.sum_congr rfl fun e _ => congrArg (fun i => x r e * rn (x r) * g e * wu e i) (Fin.ext ?_))
  show q.val * 2816 + j.val * 704 + k.val = 2816 * q.val + (704 * j.val + k.val)
  omega

/-- Point `t`'s block of the gates' inputs. -/
theorem iblk1 (hx : m ((c.tc : Thread nD τ).loc main_arg0) = mat x) (hg : m ((c.tc : Thread nD τ).loc main_arg1) = vec g) (hw : m ((c.tc : Thread nD τ).loc main_arg2) = mat wu)
    (t : Fin cfg0.N) : iblk m c 1 t = box fun q r k => gates x g wu q (trow (t.val / 4) r) (tch (t.val % 4) k) := by
  funext i
  obtain ⟨q, u, r, k, rfl⟩ := box4_index i
  refine Eq.trans ?_ (host_gu hx hg hw q (Fin.ofNat 4 (t.val % 4)) (trow (t.val / 4) r) k)
  have := div_lt t
  unfold iblk
  generalize V m c = Z
  refine congrArg (Z main_v21) ?_
  blk_ext! [idx t]
  · show t.val % 4 = t.val % 4 % 4
    omega
  · show _ = 512 * (t.val / 4 % 8) + r.val
    omega

theorem iblk2 (hw : m ((c.tc : Thread nD τ).loc main_arg2) = mat wu) (t : Fin cfg0.N) : iblk m c 2 t = ups fun q k e => upw wu q (tch (t.val % 4) k) e := by
  funext i
  obtain ⟨u, q, w, k, e, rfl⟩ : ∃ u q w k e, i = ix5 u q w k e := ⟨i 0, i 1, i 2, i 3, i 4, funext fun n => by fin_cases n <;> rfl⟩
  have hw' : m (c, Proc.tc.devRef main_arg2) = mat wu := hw
  blk_simp [iblk, idx t]; entry_read; pointwise
  rw [hw']
  refine (mat_at wu ?_).symm
  blk_ext! [idx t]
  show _ = 2816 * q.val + (704 * (t.val % 4 % 4) + k.val)
  omega

theorem iblk3 (hw : m ((c.tc : Thread nD τ).loc main_arg3) = mat wd) (t : Fin cfg0.N) : iblk m c 3 t = downs fun k e => wd (tch (t.val % 4) k) e := by
  funext i
  obtain ⟨u, v, k, e, rfl⟩ := box4_index i
  have hw' : m (c, Proc.tc.devRef main_arg3) = mat wd := hw
  blk_simp [iblk, idx t]; entry_read; pointwise
  rw [hw']
  refine (mat_at wd ?_).symm
  blk_ext! [idx t]
  show _ = 704 * (t.val % 4 % 4) + k.val
  omega

section Blocks

variable (x d g wu wd)

/-- Chunk `j`'s part of the cotangent of the normalised input, for row block `i`. -/
abbrev piece (i j : ℕ) : Fin 512 → Fin 1024 → ℝ :=
  dpart (fun r k => d (trow i r) k) (fun q r k => gates x g wu q (trow i r) (tch j k)) (fun k e => wd (tch j k) e) (fun q k e => upw wu q (tch j k) e)

/-- The four chunks' parts are the whole. -/
theorem pieces_sum (i : ℕ) (r : Fin 512) (e : Fin 1024) : ∑ j ∈ Finset.range 4, piece x d g wu wd i j r e = du x g wu wd d (trow i r) e := by
  rw [Finset.sum_range, du, dpart, ← sum_blocks (T := 4) (B := 704) rfl, ← sum_blocks (T := 4) (B := 704) rfl, ← Finset.sum_add_distrib]
  refine Finset.sum_congr rfl fun j _ => ?_
  have : (Fin.ofNat 4 j.val : Fin 4) = j := Fin.ext (Nat.mod_eq_of_lt j.isLt)
  unfold piece tch
  rw [this]
  rfl

end Blocks

/-- The running cotangent after point `n`: the row block's chunks so far. -/
theorem du_at (hx : m ((c.tc : Thread nD τ).loc main_arg0) = mat x) (hg : m ((c.tc : Thread nD τ).loc main_arg1) = vec g)
    (hwu : m ((c.tc : Thread nD τ).loc main_arg2) = mat wu) (hwd : m ((c.tc : Thread nD τ).loc main_arg3) = mat wd)
    (hd : m ((c.tc : Thread nD τ).loc main_arg4) = mat d) : ∀ (n : ℕ) (hn : n < cfg0.N),
    (outsAt0 m c n hn).2.2.2.2 = mat fun r e => ∑ j ∈ Finset.range (n % 4 + 1), piece x d g wu wd (n / 4) j r e := by
  intro n
  induction n with
  | zero =>
    intro hn
    refine (du_first (t := ⟨0, hn⟩) rfl (iblk0 hd _) (iblk1 hx hg hwu _) (iblk2 hwu _) (iblk3 hwd _)).trans (funext fun i => ?_)
    obtain ⟨r, e, rfl⟩ := exists_ix2 i
    rw [zero_add, mat_apply, mat_apply, Finset.sum_range_one]
    rfl
  | succ n ih =>
    intro hn
    by_cases h0 : (n + 1) % 4 = 0
    · refine (du_first (t := ⟨n + 1, hn⟩) h0 (iblk0 hd _) (iblk1 hx hg hwu _) (iblk2 hwu _) (iblk3 hwd _)).trans (funext fun i => ?_)
      obtain ⟨r, e, rfl⟩ := exists_ix2 i
      rw [zero_add, mat_apply, mat_apply, h0, Finset.sum_range_one]
    · refine (du_next (t := ⟨n + 1, hn⟩) h0 (iblk0 hd _) (iblk1 hx hg hwu _) (iblk2 hwu _) (iblk3 hwd _)).trans (funext fun i => ?_)
      have hp : prev m c ⟨n + 1, hn⟩ = _ := ih (Nat.lt_of_succ_lt hn)
      obtain ⟨r, e, rfl⟩ := exists_ix2 i
      have e1 : (n + 1) % 4 = n % 4 + 1 := by omega
      have e2 : (n + 1) / 4 = n / 4 := by omega
      rw [hp, mat_apply, mat_apply, mat_apply, ← EReal.coe_add]
      refine congrArg Real.toEReal ?_
      show (_ : ℝ) + piece x d g wu wd ((n + 1) / 4) ((n + 1) % 4) r e = _
      rw [e1, e2]
      exact (Finset.sum_range_succ (fun j => piece x d g wu wd (n / 4) j r e) _).symm

/-- At a row block's last chunk the running cotangent becomes the whole. -/
theorem last (hx : m ((c.tc : Thread nD τ).loc main_arg0) = mat x) (hg : m ((c.tc : Thread nD τ).loc main_arg1) = vec g)
    (hwu : m ((c.tc : Thread nD τ).loc main_arg2) = mat wu) (hwd : m ((c.tc : Thread nD τ).loc main_arg3) = mat wd)
    (hd : m ((c.tc : Thread nD τ).loc main_arg4) = mat d) (t : Fin cfg0.N) (h : t.val % 4 = 3) :
    ∃ S, prev m c t = mat S ∧ ∀ r e, S r e + piece x d g wu wd (t.val / 4) (t.val % 4) r e = du x g wu wd d (trow (t.val / 4) r) e := by
  refine ⟨_, du_at hx hg hwu hwd hd _ _, fun r e => ?_⟩
  rw [← pieces_sum, show (t.val - 1) % 4 + 1 = 3 by omega, h, show (t.val - 1) / 4 = t.val / 4 by omega, Finset.sum_range_succ _ 3]

/-- The array of the input's cotangent after the run. -/
theorem arr6 (hx : m ((c.tc : Thread nD τ).loc main_arg0) = mat x) (hg : m ((c.tc : Thread nD τ).loc main_arg1) = vec g)
    (hwu : m ((c.tc : Thread nD τ).loc main_arg2) = mat wu) (hwd : m ((c.tc : Thread nD τ).loc main_arg3) = mat wd)
    (hd : m ((c.tc : Thread nD τ).loc main_arg4) = mat d) :
    (dats m 0 c).arrAt 6 cfg0.N = mat fun r j => d r j + back (x r) (fun k => du x g wu wd d r k * g k) j := by
  refine (dats m 0 c).arrAt_eq_of_covers 6 _ (by decide +kernel) fun t hf i => ?_
  have h3 : t.val % 4 = 3 := (by decide +kernel : ∀ t : Fin cfg0.N, (cfg0.win 6).flush t = true → t.val % 4 = 3) t hf
  obtain ⟨S, hS, hT⟩ := last hx hg hwu hwd hd t h3
  have hT' : tot S (fun r k => d (trow (t.val / 4) r) k) (fun q r k => gates x g wu q (trow (t.val / 4) r) (tch (t.val % 4) k))
      (fun k e => wd (tch (t.val % 4) k) e) (fun q k e => upw wu q (tch (t.val % 4) k) e) = fun r e => du x g wu wd d (trow (t.val / 4) r) e :=
    funext fun r => funext fun e => hT r e
  blk_simp
  rw [after0_6, dho_last h3 hS (iblk0 hd t) (iblk1 hx hg hwu t) (iblk2 hwu t) (iblk3 hwd t) (iblk4 hx t) (iblk5 hg t), hT']
  obtain ⟨r, k, rfl⟩ := exists_ix2 i
  rw [mat_apply]
  refine mat_at (fun r j => d r j + back (x r) (fun k => du x g wu wd d r k * g k) j) (r := trow (t.val / 4) r) (k := k) ?_
  have := div_lt t
  blk_ext! [idx t]
  show _ = 512 * (t.val / 4 % 8) + r.val
  omega

section Gain

variable (x d g wu wd)

/-- Row block `i`'s part of the gain's gradient. -/
def gpart (i : ℕ) (k : Fin 1024) : ℝ := ∑ r, x (trow i r) k * rn (x (trow i r)) * du x g wu wd d (trow i r) k

end Gain

/-- The gain's gradient after point `n`: the row blocks ended so far. -/
theorem gain_at (hx : m ((c.tc : Thread nD τ).loc main_arg0) = mat x) (hg : m ((c.tc : Thread nD τ).loc main_arg1) = vec g)
    (hwu : m ((c.tc : Thread nD τ).loc main_arg2) = mat wu) (hwd : m ((c.tc : Thread nD τ).loc main_arg3) = mat wd)
    (hd : m ((c.tc : Thread nD τ).loc main_arg4) = mat d) (u : Fin 1) (k : Fin 1024) : ∀ (n : ℕ) (hn : n < cfg0.N),
    (outsAt0 m c n hn).2.1 (ix2 u k) = ((∑ i ∈ Finset.range ((n + 1) / 4), gpart x d g wu wd i k : ℝ) : EReal) := by
  intro n
  induction n with
  | zero =>
    intro hn
    refine (dgain_first (t := ⟨0, hn⟩) rfl u k).trans ?_
    simp
  | succ n ih =>
    intro hn
    have h1 : ¬(n + 1) % 32 = 0 := by
      have : n + 1 < 32 := hn
      omega
    by_cases h2 : (n + 1) % 4 = 3
    · obtain ⟨S, hS, hT⟩ := last hx hg hwu hwd hd ⟨n + 1, hn⟩ h2
      refine (dgain_last (t := ⟨n + 1, hn⟩) h2 hS (iblk0 hd _) (iblk1 hx hg hwu _) (iblk2 hwu _) (iblk3 hwd _) (iblk4 hx _) u k).trans ?_
      refine (congrArg₂ (· + ·) (ih (Nat.lt_of_succ_lt hn)) (congrArg Real.toEReal (Finset.sum_congr rfl fun r _ => congrArg (_ * ·) (hT r k)))).trans ?_
      rw [← EReal.coe_add, show (n + 1 + 1) / 4 = (n + 1) / 4 + 1 by omega, Finset.sum_range_succ]
      rfl
    · refine (congrFun (dgain_keep (t := ⟨n + 1, hn⟩) h1 h2) (ix2 u k)).trans ((ih (Nat.lt_of_succ_lt hn)).trans ?_)
      rw [show (n + 1 + 1) / 4 = (n + 1) / 4 by omega]

/-- The last point. -/
abbrev endPt : Fin cfg0.N := ⟨31, by decide⟩

/-- The array of the gain's gradient after the run. -/
theorem arr7 (hx : m ((c.tc : Thread nD τ).loc main_arg0) = mat x) (hg : m ((c.tc : Thread nD τ).loc main_arg1) = vec g)
    (hwu : m ((c.tc : Thread nD τ).loc main_arg2) = mat wu) (hwd : m ((c.tc : Thread nD τ).loc main_arg3) = mat wd)
    (hd : m ((c.tc : Thread nD τ).loc main_arg4) = mat d) :
    (dats m 0 c).arrAt 7 cfg0.N = mat fun _ j => ∑ i, x i j * rn (x i) * du x g wu wd d i j := by
  refine (dats m 0 c).arrAt_eq_of_after_last 7 endPt (by decide +kernel) _ fun j => ?_
  obtain ⟨u, k, rfl⟩ := exists_ix2 j
  blk_simp
  rw [after0_7]
  refine (gain_at hx hg hwu hwd hd u k 31 endPt.isLt).trans (congrArg Real.toEReal ?_)
  refine Eq.trans (Finset.sum_range _) (Eq.trans (Finset.sum_congr rfl fun i _ => ?_) (sum_blocks (T := 8) (B := 512) rfl fun i => x i k * rn (x i) * du x g wu wd d i k))
  show gpart x d g wu wd i.val k = _
  have : (Fin.ofNat 8 i.val : Fin 8) = i := Fin.ext (Nat.mod_eq_of_lt i.isLt)
  unfold gpart trow
  rw [this]

/-- The array of the gated product after the run. -/
theorem arr8 (hx : m ((c.tc : Thread nD τ).loc main_arg0) = mat x) (hg : m ((c.tc : Thread nD τ).loc main_arg1) = vec g)
    (hwu : m ((c.tc : Thread nD τ).loc main_arg2) = mat wu) :
    (dats m 0 c).arrAt 8 cfg0.N = fun i => ((actv (gates x g wu 0 (i 1) (feat (i 0) (i 2))) (gates x g wu 1 (i 1) (feat (i 0) (i 2))) : ℝ) : EReal) := by
  refine (dats m 0 c).arrAt_eq_of_covers 8 _ (by decide +kernel) fun t hf i => ?_
  blk_simp
  rw [after0_8, act_tile (iblk1 hx hg hwu t)]
  obtain ⟨u, r, k, rfl⟩ := box_index i
  refine congrArg (fun i : S4x4096x704.Idx => ((actv (gates x g wu 0 (i 1) (feat (i 0) (i 2))) (gates x g wu 1 (i 1) (feat (i 0) (i 2))) : ℝ) : EReal)) (a₁ := ix3 (Fin.ofNat 4 (t.val % 4)) (trow (t.val / 4) r) k) ?_
  have := div_lt t
  blk_ext! [idx t]
  · show t.val % 4 % 4 = t.val % 4
    omega
  · show 512 * (t.val / 4 % 8) + r.val = _
    omega

/-- The array of the gates' gradients after the run. -/
theorem arr9 (hx : m ((c.tc : Thread nD τ).loc main_arg0) = mat x) (hg : m ((c.tc : Thread nD τ).loc main_arg1) = vec g)
    (hwu : m ((c.tc : Thread nD τ).loc main_arg2) = mat wu) (hwd : m ((c.tc : Thread nD τ).loc main_arg3) = mat wd)
    (hd : m ((c.tc : Thread nD τ).loc main_arg4) = mat d) :
    (dats m 0 c).arrAt 9 cfg0.N = fun i => ((dgates x g wu wd d (i 0) (i 2) (feat (i 1) (i 3)) : ℝ) : EReal) := by
  refine (dats m 0 c).arrAt_eq_of_covers 9 _ (by decide +kernel) fun t hf i => ?_
  blk_simp
  rw [after0_9, dgu_tile (iblk0 hd t) (iblk1 hx hg hwu t) (iblk3 hwd t)]
  obtain ⟨q, u, r, k, rfl⟩ := box4_index i
  refine congrArg (fun i : S2x4x4096x704.Idx => ((dgates x g wu wd d (i 0) (i 2) (feat (i 1) (i 3)) : ℝ) : EReal)) (a₁ := ix4 q (Fin.ofNat 4 (t.val % 4)) (trow (t.val / 4) r) k) ?_
  have := div_lt t
  blk_ext! [idx t]
  · show t.val % 4 % 4 = t.val % 4
    omega
  · show 512 * (t.val / 4 % 8) + r.val = _
    omega

/-- The feed-forward block's backward call computes the input's cotangent, the gain's gradient, the gated product and the gates' gradients that the
    derivative of the plain lines gives. -/
theorem algebraic : Cert.algebraic_FfnBwdIdeal_FfnBwdRefIdeal_pre_finite_ffn := by
  pair_intro
  · run_from Cert.FfnBwdIdeal.Value.run_blocks m g
  · refine (θ_run _ _ _).mono (fun _ h c => ?_) (run_vals m' g')
    obtain ⟨p0, p1, p2, p3, p4⟩ := hpre c
    obtain ⟨x, hx⟩ := exists_mat (lt_of_pre p0)
    obtain ⟨g, hg⟩ := exists_vec (lt_of_pre p1)
    obtain ⟨wu, hwu⟩ := exists_mat (lt_of_pre p2)
    obtain ⟨wd, hwd⟩ := exists_mat (lt_of_pre p3)
    obtain ⟨d, hd⟩ := exists_mat (lt_of_pre p4)
    have H := h c
    rw [(hagree c).1, (hagree c).2.1, (hagree c).2.2.1, (hagree c).2.2.2.1, (hagree c).2.2.2.2, hx, hg, hwu, hwd, hd] at H
    refine ⟨H.1.trans ((funext fun i => ?_).trans (arr6 hx hg hwu hwd hd).symm), H.2.1.trans ((funext fun i => ?_).trans (arr7 hx hg hwu hwd hd).symm),
      H.2.2.1.trans ((funext fun i => ?_).trans (arr8 hx hg hwu).symm), H.2.2.2.1.trans ((funext fun i => ?_).trans (arr9 hx hg hwu hwd hd).symm), (h c).2.2.2.2⟩
    · obtain ⟨r, k, rfl⟩ := exists_ix2 i
      exact v48 _ _ _ _ _ r k
    · obtain ⟨u, k, rfl⟩ := exists_ix2 i
      exact v49 _ _ _ _ _ u k
    · obtain ⟨j, r, k, rfl⟩ := box_index i
      exact v52 _ _ _ j r k
    · obtain ⟨q, j, r, k, rfl⟩ := box4_index i
      exact v55 _ _ _ _ _ q j r k

end Cert.Proof.Ffn

end
-- ==== Proof.BiasBucket.lean ====
/- The buckets of the relative position biases: a distance's bucket over the reals, and the one an exact integer rule gives. -/
module

public import proofs.«01_k».proof.Proof.Reals
public import proofs.«01_k».proof.Proof.Gen.BiasGradRefIdeal.Read
import Idealize.ShloMosaic.Lib.Pointwise

@[expose] public section

set_option maxRecDepth 16384

noncomputable section

namespace Cert.Bias

open Idealize.ShloMosaic Cert.Reals Cert.BiasGradRefIdeal Cert.BiasGradRefIdeal.Read

/-- A distance's bucket: itself below 16, and from there on one more at each sixteenth of the way from 16 to 128, in logarithms. -/
def bk (d : ℕ) : ℕ := if d < 16 then d else 16 + ((List.range 15).filter fun k => 8 ^ (k + 1) * 16 ^ 16 ≤ d ^ 16).length

/-- The number the logarithm is divided by. -/
def cc : ℝ := 4360905 / 2097152

theorem bits_cc : Ideal.ofBits .f32 0x40051592#32 = ((cc : ℝ) : EReal) := by
  show Ideal.ofBits .f32 0x40051592#32 = ((4360905 / 2097152 : ℝ) : EReal)
  simp [Ideal.ofBits, Ideal.ieee, -EReal.coe_mul]; norm_num

theorem bits_16 : Ideal.ofBits .f32 0x41800000#32 = ((16 : ℝ) : EReal) := by
  simp [Ideal.ofBits, Ideal.ieee, -EReal.coe_mul]; norm_num

/-- A third of it is nearly the logarithm of two. -/
theorem exp_cc3 : 1.99999999 ≤ Real.exp (cc / 3) ∧ Real.exp (cc / 3) ≤ 2.0000001 := by
  have h0 : (0 : ℝ) ≤ cc / 3 := by unfold cc; norm_num
  have h1 : cc / 3 ≤ 1 := by unfold cc; norm_num
  constructor
  · refine le_trans ?_ (Real.sum_le_exp_of_nonneg h0 13)
    simp only [Finset.sum_range_succ, Finset.sum_range_zero, Nat.factorial, cc]; norm_num
  · refine le_trans (Real.exp_bound' h0 h1 (n := 13) (by norm_num)) ?_
    simp only [Finset.sum_range_succ, Finset.sum_range_zero, Nat.factorial, cc]; norm_num

theorem exp_cc : 7.9999 ≤ Real.exp cc ∧ Real.exp cc ≤ 8.0001 := by
  have e : Real.exp cc = Real.exp (cc / 3) ^ 3 := by rw [← Real.exp_nat_mul]; congr 1; push_cast; ring
  rw [e]
  constructor
  · exact le_trans (by norm_num) (pow_le_pow_left₀ (by norm_num) exp_cc3.1 3)
  · exact le_trans (pow_le_pow_left₀ (Real.exp_pos _).le exp_cc3.2 3) (by norm_num)

/-- Where a distance's logarithm falls. -/
theorem floor_of {d k : ℕ} (hd : 0 < d) (h1 : (8.0001 : ℝ) ^ k ≤ ((d : ℝ) / 16) ^ 16) (h2 : ((d : ℝ) / 16) ^ 16 < 7.9999 ^ (k + 1)) :
    ⌊Real.log ((d : ℝ) / 16) / cc * 16⌋ = (k : ℤ) := by
  have hc : 0 < cc := by unfold cc; norm_num
  have hx : 0 < (d : ℝ) / 16 := by positivity
  have e : Real.log ((d : ℝ) / 16) / cc * 16 = Real.log (((d : ℝ) / 16) ^ 16) / cc := by
    rw [Real.log_pow]; push_cast; ring
  rw [Int.floor_eq_iff, e]
  constructor
  · rw [le_div_iff₀ hc, Real.le_log_iff_exp_le (by positivity)]
    refine le_trans ?_ h1
    push_cast
    rw [Real.exp_nat_mul]
    exact pow_le_pow_left₀ (Real.exp_pos _).le exp_cc.2 k
  · rw [div_lt_iff₀ hc, Real.log_lt_iff_lt_exp (by positivity)]
    refine lt_of_lt_of_le h2 ?_
    have : ((k : ℤ) + 1 : ℝ) = ((k + 1 : ℕ) : ℝ) := by push_cast; ring
    rw [this, Real.exp_nat_mul]
    exact pow_le_pow_left₀ (by norm_num) exp_cc.1 _

/-- The bounds of every distance's bucket, in whole numbers. -/
theorem bounds : ∀ d : Fin 128, 16 ≤ d.val → ∃ k : Fin 16, bk d.val = 16 + k.val ∧
    80001 ^ k.val * 16 ^ 16 ≤ d.val ^ 16 * 10000 ^ k.val ∧ d.val ^ 16 * 10000 ^ (k.val + 1) < 79999 ^ (k.val + 1) * 16 ^ 16 := by
  decide +kernel

/-- The bucket over the reals is the exact one. -/
theorem bucket (d : ℕ) (h : 16 ≤ d) (h' : d < 128) : ⌊Real.log ((d : ℝ) / 16) / cc * 16⌋ = (bk d : ℤ) - 16 := by
  obtain ⟨k, hk, h1, h2⟩ := bounds ⟨d, h'⟩ h
  change bk d = _ at hk
  rw [hk, floor_of (k := k.val) (by omega)]
  · push_cast; ring
  · change 80001 ^ k.val * 16 ^ 16 ≤ d ^ 16 * 10000 ^ k.val at h1
    have h1' : (80001 : ℝ) ^ k.val * 16 ^ 16 ≤ (d : ℝ) ^ 16 * 10000 ^ k.val := by exact_mod_cast h1
    rw [div_pow, le_div_iff₀ (by positivity), show (8.0001 : ℝ) = 80001 / 10000 by norm_num, div_pow, div_mul_eq_mul_div,
      div_le_iff₀ (by positivity)]
    exact h1'
  · change d ^ 16 * 10000 ^ (k.val + 1) < 79999 ^ (k.val + 1) * 16 ^ 16 at h2
    have h2' : (d : ℝ) ^ 16 * 10000 ^ (k.val + 1) < 79999 ^ (k.val + 1) * 16 ^ 16 := by exact_mod_cast h2
    rw [div_pow, div_lt_iff₀ (by positivity), show (7.9999 : ℝ) = 79999 / 10000 by norm_num, div_pow, div_mul_eq_mul_div,
      lt_div_iff₀ (by positivity)]
    exact h2'

theorem sel_one {M : Type} (x y : M) : Scalar.select 1#1 x y = x := rfl
theorem sel_zero {M : Type} (x y : M) : Scalar.select 0#1 x y = y := rfl

/-- The bucket the reference computes of a distance's word. -/
def rb (w : BitVec 32) : BitVec 32 :=
  let x := IntOp.maxsi w 0#32
  let y := Scalar.select (IntOp.cmpi CmpIPredicate.slt x 16#32) x (IntOp.minsi (IntOp.addi 16#32 (Ideal.fptosi 32
    (Ideal.div (Ideal.log (Ideal.div (FloatOps.sitofp (F := Ideal) .f32 (IntOp.maxsi x 1#32)) (Ideal.ofBits .f32 0x41800000#32)))
      (Ideal.ofBits .f32 0x40051592#32) * Ideal.ofBits .f32 0x41800000#32))) 31#32)
  Scalar.select (IntOp.cmpi CmpIPredicate.slt y 0#32) (IntOp.addi y 32#32) y

/-- Inside the window it is the exact one. -/
theorem rb_eq (d : ℕ) (hd : d < 128) : rb (BitVec.ofNat 32 d) = BitVec.ofNat 32 (bk d) := by
  have h0 : ∀ d : Fin 128, IntOp.maxsi (BitVec.ofNat 32 d.val) 0#32 = BitVec.ofNat 32 d.val := by decide +kernel
  have h1 : ∀ d : Fin 128, IntOp.cmpi CmpIPredicate.slt (BitVec.ofNat 32 d.val) 16#32 = if d.val < 16 then 1#1 else 0#1 := by decide +kernel
  have h2 : ∀ d : Fin 128, IntOp.cmpi CmpIPredicate.slt (BitVec.ofNat 32 d.val) 0#32 = 0#1 := by decide +kernel
  have h3 : ∀ d : Fin 128, 16 ≤ d.val → IntOp.maxsi (BitVec.ofNat 32 d.val) 1#32 = BitVec.ofNat 32 d.val := by decide +kernel
  have h4 : ∀ d : Fin 128, 16 ≤ d.val → (bk d.val < 32 ∧ 16 ≤ bk d.val) ∧ IntOp.minsi (IntOp.addi 16#32 (BitVec.ofInt 32 ((bk d.val : ℤ) - 16))) 31#32 = BitVec.ofNat 32 (bk d.val) := by
    decide +kernel
  have h5 : ∀ d : Fin 128, (BitVec.ofNat 32 d.val).toInt = d.val := by decide +kernel
  have H0 : IntOp.maxsi (BitVec.ofNat 32 d) 0#32 = BitVec.ofNat 32 d := h0 ⟨d, hd⟩
  have H1 : IntOp.cmpi CmpIPredicate.slt (BitVec.ofNat 32 d) 16#32 = if d < 16 then 1#1 else 0#1 := h1 ⟨d, hd⟩
  simp only [rb, H0, H1]
  by_cases h : d < 16
  · have e : bk d = d := if_pos h
    have H2 : IntOp.cmpi CmpIPredicate.slt (BitVec.ofNat 32 d) 0#32 = 0#1 := h2 ⟨d, hd⟩
    rw [if_pos h, sel_one, H2, sel_zero, e]
  · have h' : 16 ≤ d := by omega
    have H3 : IntOp.maxsi (BitVec.ofNat 32 d) 1#32 = BitVec.ofNat 32 d := h3 ⟨d, hd⟩ h'
    obtain ⟨⟨hb, hb'⟩, H4⟩ := h4 ⟨d, hd⟩ h'
    change bk d < 32 at hb
    change 16 ≤ bk d at hb'
    change IntOp.minsi (IntOp.addi 16#32 (BitVec.ofInt 32 ((bk d : ℤ) - 16))) 31#32 = BitVec.ofNat 32 (bk d) at H4
    have H5 : (BitVec.ofNat 32 d).toInt = d := h5 ⟨d, hd⟩
    have H6 : FloatOps.sitofp (F := Ideal) .f32 (BitVec.ofNat 32 d) = ((d : ℝ) : EReal) := by
      show (((BitVec.ofNat 32 d).toInt : ℝ) : EReal) = _
      rw [H5]; rfl
    have hx : 0 < (d : ℝ) / 16 := by have : (16 : ℝ) ≤ d := by exact_mod_cast h'
                                     positivity
    have H7 : Ideal.log (((d : ℝ) / 16 : ℝ) : EReal) = ((Real.log ((d : ℝ) / 16) : ℝ) : EReal) := if_neg (not_le.mpr hx)
    have hc : cc ≠ 0 := by unfold cc; norm_num
    have hf := bucket d h' hd
    have hn : 0 ≤ Real.log ((d : ℝ) / 16) / cc * 16 := by
      by_contra hneg
      have := Int.floor_lt.mpr (by push_cast; exact not_le.mp hneg : Real.log ((d : ℝ) / 16) / cc * 16 < ((0 : ℤ) : ℝ))
      omega
    have H8 : Ideal.fptosi 32 ((Real.log ((d : ℝ) / 16) / cc * 16 : ℝ) : EReal) = BitVec.ofInt 32 ((bk d : ℤ) - 16) := by
      rw [Ideal.fptosi, Ideal.toIntClamped_coe, if_pos hn, hf]
      congr 1
      rw [min_eq_right (by norm_num; omega), max_eq_right (by norm_num; omega)]
    rw [if_neg h, sel_zero, H3, H6, bits_16, bits_cc, div_real (by norm_num), H7, div_real hc, ← EReal.coe_mul, H8, H4]
    have H2 : IntOp.cmpi CmpIPredicate.slt (BitVec.ofNat 32 (bk d)) 0#32 = 0#1 := h2 ⟨bk d, by omega⟩
    rw [H2, sel_zero]

/-- A query's distance from a key, as a word. -/
theorem dist (r : Fin 128) (j : Fin 256) : val_main_v8 (F := Ideal) (ix2 r j) =
    IntOp.subi (IntOp.addi (BitVec.ofNat 32 r.val) 128#32) (BitVec.ofNat 32 j.val) := by
  pointwise [val_main_v8, val_main_v7, val_main_v6, val_main_v5, val_main_v4, val_main_v3, val_main_v2, val_main_v1, val_main_v0, val_main_c]

/-- Inside the window it is the distance. -/
theorem dist_in (r : Fin 128) (j : Fin 256) (hj : r.val < j.val) (hj' : j.val ≤ r.val + 128) :
    IntOp.subi (IntOp.addi (BitVec.ofNat 32 r.val) 128#32) (BitVec.ofNat 32 j.val) = BitVec.ofNat 32 (r.val + 128 - j.val) := by
  show BitVec.ofNat 32 r.val + 128#32 - BitVec.ofNat 32 j.val = _
  apply BitVec.eq_of_toNat_eq
  simp only [BitVec.toNat_sub, BitVec.toNat_add, BitVec.toNat_ofNat]
  omega

/-- The reference's indices are the buckets of the distances. -/
theorem ref_index (r : Fin 128) (j : Fin 256) : val_main_v40 (F := Ideal) (ix3 r j 0) = rb (val_main_v8 (F := Ideal) (ix2 r j)) := by
  unfold val_main_v40 val_main_v39 val_main_v38 val_main_v37 val_main_v36 val_main_v35 val_main_v34 val_main_v33 val_main_v31 val_main_v29
   val_main_v27 val_main_v26 val_main_v24 val_main_v22 val_main_v21 val_main_v19 val_main_v18 val_main_v16
  pointwise [val_main_v17, val_main_v20, val_main_v23, val_main_v25, val_main_v28, val_main_v30, val_main_v32, val_main_v15,
    val_main_c_2, val_main_c_9, val_main_c_7, val_main_c_3, val_main_c_8, val_main_c_10, val_main_c_11, val_main_cst_4, val_main_cst_5,
    val_main_cst_6]
  rfl

/-- Inside the window the reference's bucket is the exact one. -/
theorem ref_bucket (r : Fin 128) (j : Fin 256) (hj : r.val < j.val) (hj' : j.val ≤ r.val + 128) :
    val_main_v40 (F := Ideal) (ix3 r j 0) = BitVec.ofNat 32 (bk (r.val + 128 - j.val)) := by
  rw [ref_index, dist, dist_in r j hj hj', rb_eq _ (by omega)]

/-- Whether a key is inside a query's window. -/
abbrev inw (r : Fin 128) (j : Fin 256) : Prop := r.val < j.val ∧ j.val ≤ r.val + 128

theorem ref_window (r : Fin 128) (j : Fin 256) : val_main_v13 (F := Ideal) (ix2 r j) = if inw r j then 1#1 else 0#1 := by
  have h := dist r j
  unfold val_main_v13 val_main_v12 val_main_v10
  generalize val_main_v8 (F := Ideal) = X at h ⊢
  pointwise [val_main_v11, val_main_v9, val_main_c_0, val_main_c_1]
  rw [h]
  have hr : ∀ r : Fin 128, ∀ j : Fin 256, IntOp.andi (IntOp.cmpi CmpIPredicate.sge (IntOp.subi (IntOp.addi (BitVec.ofNat 32 r.val) 128#32) (BitVec.ofNat 32 j.val)) 0#32)
      (IntOp.cmpi CmpIPredicate.slt (IntOp.subi (IntOp.addi (BitVec.ofNat 32 r.val) 128#32) (BitVec.ofNat 32 j.val)) 128#32) = if inw r j then 1#1 else 0#1 := by
    decide +kernel
  exact hr r j

/-- What the reference scatters: the cotangents inside the window, zeros elsewhere. -/
theorem ref_upd (x y : FVec Ideal S16x128x256 .f32) (r : Fin 128) (j : Fin 256) (h : Fin 16) :
    val_main_v47 (F := Ideal) x y (ix3 r j h) = if inw r j then x (ix3 h r j) + y (ix3 h r j) else 0 := by
  have hw := ref_window r j
  unfold val_main_v47 val_main_v46 val_main_v44_1 val_main_v43
  generalize val_main_v13 (F := Ideal) = X at hw ⊢
  pointwise [val_main_v45, val_main_call2_v0, val_main_call2_cst]
  rw [hw]
  by_cases hi : inw r j
  · rw [if_pos hi, if_pos hi]; rfl
  · rw [if_neg hi, if_neg hi]; rfl

/-- Where an update lands: in the row its index names, when there is one. -/
theorem lands (I : IVec S128x256x1 32) (r : Fin 128) (j : Fin 256) (h : Fin 16) :
    scatter_S32x16_S128x256x1_S128x256x16_2_0_0_2.resultIdx? (ix3 r j h) I =
      if p : 0 ≤ (I (ix3 r j 0)).toInt ∧ (I (ix3 r j 0)).toInt < 32 then some (ix2 ⟨(I (ix3 r j 0)).toInt.toNat, by omega⟩ h) else none := by
  have e0 : scatter_S32x16_S128x256x1_S128x256x16_2_0_0_2.start (ix3 r j h) I 0 + scatter_S32x16_S128x256x1_S128x256x16_2_0_0_2.window (ix3 r j h) 0 =
      (I (ix3 r j 0)).toInt := by
    rw [show scatter_S32x16_S128x256x1_S128x256x16_2_0_0_2.window (ix3 r j h) 0 = 0 from rfl, ScatterDims.start, dif_pos (by decide)]
    simp only [Nat.cast_zero, add_zero]
    refine congrArg (fun i => (I i).toInt) (funext fun a => ?_)
    fin_cases a <;> rfl
  have e1 : scatter_S32x16_S128x256x1_S128x256x16_2_0_0_2.start (ix3 r j h) I 1 + scatter_S32x16_S128x256x1_S128x256x16_2_0_0_2.window (ix3 r j h) 1 =
      (h.val : ℤ) := by
    rw [show scatter_S32x16_S128x256x1_S128x256x16_2_0_0_2.window (ix3 r j h) 1 = h.val from rfl, ScatterDims.start, dif_neg (by decide), zero_add]
  unfold ScatterDims.resultIdx?
  by_cases p : 0 ≤ (I (ix3 r j 0)).toInt ∧ (I (ix3 r j 0)).toInt < 32
  · rw [dif_pos p, dif_pos (fun a => by
      fin_cases a
      · exact ⟨e0.symm ▸ p.1, e0.symm ▸ p.2⟩
      · exact ⟨e1.symm ▸ Int.natCast_nonneg _, e1.symm ▸ (by have := h.isLt; show (h.val : ℤ) < (16 : ℕ); omega)⟩)]
    refine congrArg some (funext fun a => ?_)
    fin_cases a
    · exact Fin.ext (congrArg Int.toNat e0)
    · exact Fin.ext ((congrArg Int.toNat e1).trans (Int.toNat_natCast _))
  · rw [dif_neg p, dif_neg fun q => p ⟨e0 ▸ (q 0).1, e0 ▸ (q 0).2⟩]

/-- The gradient of the table's entry: the sum of what its bucket gathers. -/
def total (D : Fin 16 → Fin 128 → Fin 256 → EReal) (b : Fin 32) (h : Fin 16) : EReal :=
  ∑ r, ∑ j, if inw r j ∧ bk (r.val + 128 - j.val) = b.val then D h r j else 0

/-- The reference's gradient. -/
theorem ref_value (x y : FVec Ideal S16x128x256 .f32) (b : Fin 32) (h : Fin 16) :
    val_main_v49 (F := Ideal) x y (ix2 b h) = total (fun h r j => x (ix3 h r j) + y (ix3 h r j)) b h := by
  have hz : val_main_v48 (F := Ideal) (ix2 b h) = 0 := by pointwise [val_main_v48, val_main_cst_13]
  have hu := ref_upd x y
  have hb := ref_bucket
  unfold val_main_v49
  generalize val_main_v48 (F := Ideal) = Z at hz ⊢
  generalize val_main_v47 (F := Ideal) x y = U at hu ⊢
  generalize val_main_v40 (F := Ideal) = I at hb ⊢
  show Z (ix2 b h) + ∑ i ∈ Finset.univ.filter (fun i => scatter_S32x16_S128x256x1_S128x256x16_2_0_0_2.resultIdx? i I = some (ix2 b h)), U i = _
  rw [hz, zero_add, Finset.sum_filter, sum_idx3]
  refine Finset.sum_congr rfl fun r _ => Finset.sum_congr rfl fun j _ => ?_
  simp only [hu]
  by_cases w : inw r j
  · have e := hb r j w.1 w.2
    have hB : bk (r.val + 128 - j.val) < 32 := by
      have : ∀ d : Fin 128, bk d.val < 32 := by decide +kernel
      exact this ⟨r.val + 128 - j.val, by omega⟩
    have e' : (I (ix3 r j 0)).toInt = bk (r.val + 128 - j.val) := by
      rw [e]
      have : ∀ d : Fin 32, (BitVec.ofNat 32 d.val).toInt = d.val := by decide +kernel
      exact this ⟨_, hB⟩
    have L : ∀ k : Fin 16, (scatter_S32x16_S128x256x1_S128x256x16_2_0_0_2.resultIdx? (ix3 r j k) I = some (ix2 b h)) ↔
        (bk (r.val + 128 - j.val) = b.val ∧ k = h) := by
      intro k
      rw [lands, dif_pos ⟨by omega, by omega⟩, Option.some.injEq, ix2_inj]
      constructor
      · rintro ⟨h1, h2⟩
        have := congrArg Fin.val h1
        simp only [e', Int.toNat_natCast] at this
        exact ⟨this, h2⟩
      · rintro ⟨h1, h2⟩
        exact ⟨Fin.ext (by simp only [e', Int.toNat_natCast]; exact h1), h2⟩
    simp only [L, if_pos w]
    by_cases hk : bk (r.val + 128 - j.val) = b.val
    · rw [if_pos ⟨w, hk⟩, Finset.sum_eq_single h (fun k _ hk' => if_neg fun q => hk' q.2) (fun q => absurd (Finset.mem_univ h) q), if_pos ⟨hk, rfl⟩]
    · rw [if_neg fun q => hk q.2]
      exact Finset.sum_eq_zero fun k _ => if_neg fun q => hk q.1
  · rw [if_neg fun q => w q.1]
    refine Finset.sum_eq_zero fun k _ => ?_
    rw [if_neg w]
    exact ite_self _

end Cert.Bias

end
-- ==== Proof.BiasTable.lean ====
/- The host's table of buckets, entry by entry. -/
module

public import proofs.«01_k».proof.Proof.BiasBucket
public import proofs.«01_k».proof.BiasGradIdeal
import Idealize.ShloMosaic.Lib.Pointwise

@[expose] public section

set_option maxRecDepth 16384

noncomputable section

namespace Cert.Bias

open Idealize.ShloMosaic

/-- The table's entry: the bucket inside the window, -1 outside. -/
def entry (r : Fin 128) (j : Fin 256) : BitVec 32 :=
  if inw r j then BitVec.ofNat 32 (bk (r.val + 128 - j.val)) else 4294967295#32

/-- A row of the table holds what it should. -/
abbrev rowOk (r : Fin 128) : Prop := ∀ j : Fin 256, Cert.BiasGradIdeal.lit0 ⟨256 * r.val + j.val, by omega⟩ = entry r j

set_option maxHeartbeats 4000000 in
/-- Every row does. -/
theorem rows_ok : ∀ r : Fin 128, rowOk r := by
  intro r
  fin_cases r <;> decide +kernel

end Cert.Bias

end
-- ==== Proof.BiasPieces.lean ====
/- The bias gradient's kernel: the 512 sums it stores, as one rule over buckets and heads. -/
module

public import proofs.«01_k».proof.Proof.BiasBucket
public import proofs.«01_k».proof.Proof.Gen.BiasGradIdeal.Value
public import Idealize.ShloMosaic.Lib.Pipeline.ValueKit
public import Idealize.ShloMosaic.Lib.Pipeline.ReadBack

@[expose] public section

set_option maxRecDepth 16384

noncomputable section

namespace Cert.Bias

open Idealize.ShloMosaic Cert.Reals Cert.BiasGradIdeal Cert.BiasGradIdeal.Gen Cert.BiasGradIdeal.Value

variable (c : Dev nD) (arg0 : Memref sig .tc .vmem S16x128x256 .f32) (harg0 : arg0.IsWhole) (arg1 : Memref sig .tc .vmem S16x128x256 .f32) (harg1 : arg1.IsWhole)
  (arg2 : Memref sig .tc .vmem S128x256 .i32) (harg2 : arg2.IsWhole) (arg3 : Memref sig .tc .smem S32x16 .f32) (harg3 : arg3.IsWhole)
  (x0 x1 : Vec Ideal S16x128x256 .f32) (x2 : Vec Ideal S128x256 .i32)

theorem inb_head (h : Fin 16) : ∀ a, ![h.val, 0, 0] a + ![1, 128, 256] a ≤ S16x128x256.size a := by
  revert h
  decide

theorem inb_cell (b : Fin 32) (h : Fin 16) : ∀ a, ![b.val, h.val] a + ![1, 1] a ≤ S32x16.size a := by
  revert b h
  decide

/-- Head `h` of an operand, as the kernel loads it. -/
abbrev headOf (arg : Memref sig .tc .vmem S16x128x256 .f32) (harg : arg.IsWhole) (x : Vec Ideal S16x128x256 .f32) (h : Fin 16) : Vec Ideal S1x128x256 .f32 :=
  View.readAt (Elt Ideal) arg.view (Rect.unit (s := S16x128x256) ![h.val, 0, 0] ![1, 128, 256] (inb_head h)).toLoadRect (harg.unread x)

/-- The sum the kernel stores for bucket `b` and head `h`. -/
def cell (b : Fin 32) (h : Fin 16) : Ideal .f32 :=
  k0_pay6 (View.readAt (Elt Ideal) arg2.view (Rect.unit (s := S128x256) ![0, 0] ![128, 256] inb_S128x256_S128x256_0_0).toLoadRect (harg2.unread x2))
    (k0_pay2 (headOf arg0 harg0 x0 h) (headOf arg1 harg1 x1 h)) (BitVec.ofNat 32 b.val)

/-- Its store. -/
def piece (b : Fin 32) (h : Fin 16) : View.Piece (Elt Ideal) S32x16 .f32 :=
  ⟨Rect.unit (s := S32x16) ![b.val, h.val] ![1, 1] (inb_cell b h), fun _ => cell arg0 harg0 arg1 harg1 arg2 harg2 x0 x1 x2 b h⟩

/-- The kernel's stores are these, the last one first. -/
theorem pieces_eq : (kernelRun0_A c arg0 harg0 arg1 harg1 arg2 harg2 arg3 harg3 x0 x1 x2).1
    = List.ofFn fun k : Fin 512 => piece arg0 harg0 arg1 harg1 arg2 harg2 x0 x1 x2 ⟨(511 - k.val) % 32, by omega⟩ ⟨(511 - k.val) / 32, by omega⟩ := by
  sl_kernel_rfl

/-- What the kernel's buffer holds at bucket `b` and head `h`. -/
theorem out_apply (b : Fin 32) (h : Fin 16) : out0_A_3 c arg0 harg0 arg1 harg1 arg2 harg2 arg3 harg3 x0 x1 x2 (ix2 b h)
    = cell arg0 harg0 arg1 harg1 arg2 harg2 x0 x1 x2 b h := by
  unfold out0_A_3
  rw [View.read_writes_junk_apply_eq_canon]
  refine View.canon_apply_of_pieces (Val := Elt Ideal) (e := .f32) (fun i : S32x16.Idx => cell arg0 harg0 arg1 harg1 arg2 harg2 x0 x1 x2 (i 0) (i 1)) _ ?_ _ (cover0_A_3 c _ _ _ _ _ _ _ _ _ _ _ _)
  rw [pieces_eq]
  intro p hp
  obtain ⟨k, rfl⟩ := List.mem_ofFn.1 hp
  intro x
  have h0 : (x 0).val < 1 := (x 0).isLt
  have h1 : (x 1).val < 1 := (x 1).isLt
  refine congrArg₂ (cell arg0 harg0 arg1 harg1 arg2 harg2 x0 x1 x2) (Fin.ext ?_) (Fin.ext ?_)
  · show (511 - k.val) % 32 = (511 - k.val) % 32 + 1 * (x 0).val
    omega
  · show (511 - k.val) / 32 = (511 - k.val) / 32 + 1 * (x 1).val
    omega

theorem eq_word (u v : BitVec 32) : IntOp.cmpi CmpIPredicate.eq u v = if u = v then 1#1 else 0#1 := by
  by_cases h : u = v
  · subst h
    simp [IntOp.cmpi]
  · rw [if_neg h]
    show BitVec.ofBool (u == v) = 0#1
    rw [beq_eq_false_iff_ne.2 h]
    rfl

theorem headOf_apply (arg : Memref sig .tc .vmem S16x128x256 .f32) (harg : arg.IsWhole) (x : Vec Ideal S16x128x256 .f32) (h : Fin 16) (r : Fin 128) (j : Fin 256) :
    headOf arg harg x h (ix3 0 r j) = x (ix3 h r j) := by
  refine (congrFun (harg.read_unread x) _).trans (congrArg x (funext fun a => Fin.ext ?_))
  fin_cases a
  · show h.val + 1 * 0 = h.val
    omega
  · show 0 + 1 * r.val = r.val
    omega
  · show 0 + 1 * j.val = j.val
    omega

/-- The sum for a bucket and a head: over all queries and keys whose table entry is the bucket. -/
theorem cell_eq (b : Fin 32) (h : Fin 16) : cell arg0 harg0 arg1 harg1 arg2 harg2 x0 x1 x2 b h
    = ∑ r : Fin 128, ∑ j : Fin 256, if x2 (ix2 r j) = BitVec.ofNat 32 b.val then x0 (ix3 h r j) + x1 (ix3 h r j) else 0 := by
  have ht : ∀ (r : Fin 128) (j : Fin 256), View.readAt (Elt Ideal) arg2.view (Rect.unit (s := S128x256) ![0, 0] ![128, 256] inb_S128x256_S128x256_0_0).toLoadRect (harg2.unread x2) (ix2 r j)
      = x2 (ix2 r j) := by
    intro r j
    refine (congrFun (harg2.read_unread x2) _).trans (congrArg x2 (funext fun a => Fin.ext ?_))
    fin_cases a
    · show 0 + 1 * r.val = r.val
      omega
    · show 0 + 1 * j.val = j.val
      omega
  unfold cell
  generalize View.readAt (Elt Ideal) arg2.view (Rect.unit (s := S128x256) ![0, 0] ![128, 256] inb_S128x256_S128x256_0_0).toLoadRect (harg2.unread x2) = T at ht ⊢
  have h0 := headOf_apply arg0 harg0 x0 h
  have h1 := headOf_apply arg1 harg1 x1 h
  generalize headOf arg0 harg0 x0 h = D at h0 ⊢
  generalize headOf arg1 harg1 x1 h = E at h1 ⊢
  pointwise [k0_pay6, k0_pay2]
  refine Finset.sum_congr rfl fun r _ => Finset.sum_congr rfl fun j _ => ?_
  rw [ht, h0, h1, eq_word]
  by_cases e : x2 (ix2 r j) = BitVec.ofNat 32 b.val
  · rw [if_pos e, if_pos e, sel_one]
  · rw [if_neg e, if_neg e, sel_zero]

end Cert.Bias
-- ==== Proof.Bias.lean ====
/- The relative position biases' gradient: kernel and reference sum the same scores for each bucket and head. -/
module

public import proofs.«01_k».proof.Defs
public import proofs.«01_k».proof.Proof.BiasTable
public import proofs.«01_k».proof.Proof.BiasPieces
public import proofs.«01_k».proof.Proof.Rms
public import proofs.«01_k».proof.Proof.Gen.BiasGradRefIdeal.Run
public import proofs.«01_k».proof.Proof.Gen.BiasGradRefIdeal
public import Idealize.ShloMosaic.Lib.Claim
public import Idealize.ShloMosaic.Lib.Quiescent
import Idealize.ShloMosaic.Lib.Pipeline.ValueKit

@[expose] public section

set_option maxRecDepth 16384

noncomputable section

namespace Cert.Proof.Bias

open Idealize.ShloMosaic Idealize.ShloMosaic.TcCoe Idealize.SL.Sem Cert.Reals Cert.Rms Cert.Bias

section Reference

open Cert.BiasGradRefIdeal Cert.BiasGradRefIdeal.Read

/-- The reference's run: its result is the function of the arguments that was read above. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49) = val_main_v49 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v49_eq ..), (h c).2⟩) (Cert.BiasGradRefIdeal.Value.run m ρ)

end Reference

/-- The reference leaves its arguments as they were; it has no semaphore. -/
theorem frame_ref : Cert.quiescent_BiasGradRefIdeal := fun m g _ =>
  (θ_run _ _ _).mono (fun _ h => ⟨fun c => (h c).2, sem_eq_zero_of_no_sems (by decide) _⟩) (run_vals m g)

open Cert.BiasGradIdeal Cert.BiasGradIdeal.Gen Cert.BiasGradIdeal.Value

theorem idx : ∀ t : Fin cfg0.N, win0_0.index t = ![0, 0, 0] ∧ win0_1.index t = ![0, 0, 0] ∧ win0_2.index t = ![0, 0] ∧ win0_3.index t = ![0, 0] :=
  (by decide +kernel : ∀ t : Fin grid0.N, _)

variable {m : (ℓ : Loc nD τ sig) → Buf (Elt Ideal) ℓ} {c : Dev nD}

theorem iblk0 (t : Fin cfg0.N) : iblk m c 0 t = m ((c.tc : Thread nD τ).loc main_arg0) := by
  funext i
  obtain ⟨h, r, j, rfl⟩ := box_index i
  blk_ext! [iblk, V, idx t]

theorem iblk1 (t : Fin cfg0.N) : iblk m c 1 t = m ((c.tc : Thread nD τ).loc main_arg1) := by
  funext i
  obtain ⟨h, r, j, rfl⟩ := box_index i
  blk_ext! [iblk, V, idx t]

/-- The table the kernel reads. -/
theorem V_table (r : Fin 128) (j : Fin 256) : V m c main_c (ix2 r j) = entry r j := by
  unfold V
  entry_read
  rw [← rows_ok r j]
  refine congrArg lit0 (Fin.ext ?_)
  rw [Shape.rowMajor_val_two]
  show r.val * 256 + j.val = 256 * r.val + j.val
  omega

theorem iblk2 (t : Fin cfg0.N) (r : Fin 128) (j : Fin 256) : iblk m c 2 t (ix2 r j) = entry r j := by
  rw [← V_table (m := m) (c := c) r j]
  unfold iblk
  generalize V m c = Z
  refine congrArg (Z main_c) ?_
  blk_ext! [idx t]

/-- A table entry is a bucket exactly at the pairs of the window with that bucket. -/
theorem entry_eq (r : Fin 128) (j : Fin 256) (b : Fin 32) : entry r j = BitVec.ofNat 32 b.val ↔ inw r j ∧ bk (r.val + 128 - j.val) = b.val := by
  have hb : ∀ n : ℕ, bk n < 4294967296 := by
    intro n
    unfold bk
    have := List.length_filter_le (fun k => decide (8 ^ (k + 1) * 16 ^ 16 ≤ n ^ 16)) (List.range 15)
    rw [List.length_range] at this
    split <;> omega
  have hl := b.isLt
  unfold entry
  by_cases h : inw r j
  · rw [if_pos h]
    constructor
    · intro e
      have := congrArg BitVec.toNat e
      rw [BitVec.toNat_ofNat, BitVec.toNat_ofNat, Nat.mod_eq_of_lt (hb _), Nat.mod_eq_of_lt (by omega)] at this
      exact ⟨h, this⟩
    · rintro ⟨_, e⟩
      rw [e]
  · rw [if_neg h]
    constructor
    · intro e
      exact absurd e ((by decide : ∀ b : Fin 32, 4294967295#32 ≠ BitVec.ofNat 32 b.val) b)
    · exact fun e => absurd e.1 h

/-- One stored sum, of operands `x` and `y` and the table. -/
theorem cell_total (arg0 : Memref sig .tc .vmem S16x128x256 .f32) (harg0 : arg0.IsWhole) (arg1 : Memref sig .tc .vmem S16x128x256 .f32) (harg1 : arg1.IsWhole)
    (arg2 : Memref sig .tc .vmem S128x256 .i32) (harg2 : arg2.IsWhole) (x y : S16x128x256.Idx → EReal) {T : Vec Ideal S128x256 .i32} (hT : ∀ r j, T (ix2 r j) = entry r j)
    (b : Fin 32) (h : Fin 16) : cell arg0 harg0 arg1 harg1 arg2 harg2 x y T b h = total (fun h r j => x (ix3 h r j) + y (ix3 h r j)) b h := by
  rw [cell_eq]
  refine Finset.sum_congr rfl fun r _ => Finset.sum_congr rfl fun j _ => ?_
  rw [hT]
  exact if_congr (entry_eq r j b) rfl rfl

/-- The array of sums, of operands `x` and `y`. -/
def sums (x y : S16x128x256.Idx → EReal) (i : S32x16.Idx) : EReal := total (fun h r j => x (ix3 h r j) + y (ix3 h r j)) (i 0) (i 1)

/-- The kernel's array after the run. -/
theorem arr3 : (dats m 0 c).arrAt 3 cfg0.N = sums (m ((c.tc : Thread nD τ).loc main_arg0)) (m ((c.tc : Thread nD τ).loc main_arg1)) := by
  refine (dats m 0 c).arrAt_eq_of_covers 3 _ (by decide +kernel) fun t hf i => ?_
  blk_simp
  rw [after0_3]
  obtain ⟨b, h, rfl⟩ := exists_ix2 i
  unfold outsAt0
  rw [out_apply, iblk0, iblk1]
  refine (cell_total _ _ _ _ _ _ _ _ (iblk2 t) b h).trans ?_
  refine congrArg (sums _ _) (?_ : ix2 b h = _)
  blk_ext! [idx t]

theorem algebraic : Cert.algebraic_BiasGradIdeal_BiasGradRefIdeal := by
  pair_intro
  · run_from Cert.BiasGradIdeal.Value.run_blocks m g
  · refine (θ_run _ _ _).mono (fun _ h c => ?_) (run_vals m' g')
    have H := h c
    rw [(hagree c).1, (hagree c).2] at H
    refine ⟨H.1.trans ((funext fun i => ?_).trans arr3.symm), (h c).2⟩
    obtain ⟨b, h, rfl⟩ := exists_ix2 i
    exact ref_value _ _ b h

end Cert.Proof.Bias

end
-- ==== Proof.AttnOut.lean ====
/- The attention's output: the probabilities times the values, block by block and in the whole array. -/
module

public import proofs.«01_k».proof.Proof.AttnPieces
public import proofs.«01_k».proof.Proof.AttnArgs

@[expose] public section

set_option maxRecDepth 16384

noncomputable section

namespace Cert.Attn

open Idealize.ShloMosaic Cert.Reals Cert.AttnBwdIdeal Cert.AttnBwdIdeal.Gen

/-- Head `i`'s output at query `r`. -/
def Blk.out (b : Blk) (i : Fin 16) (r : Fin 128) (e : Fin 64) : ℝ := ∑ j, b.p i r j * b.KV j (vd (grp i) e)

theorem Blk.out_band (b : Blk) {KV : Fin 256 → Fin 512 → ℝ} (h : ∀ r j, b.A r j = true → ∀ c, b.KV j c = KV j c) :
    (b.withBand KV).out = b.out := by
  funext i r e
  unfold Blk.out
  rw [b.p_band h]
  refine Finset.sum_congr rfl fun j _ => ?_
  by_cases hj : b.A r j = true
  · rw [h r j hj]; rfl
  · have : b.p i r j = 0 := b.pr_hidden i r j hj
    rw [this, zero_mul, zero_mul]

theorem Whole.out_fill (w : Whole) (F G) (n : Fin 32) : (w.blk F n).out = (w.blk G n).out := ((w.blk F n).out_band (w.seen F G n)).symm

/-- The stacked outputs of the four heads of one key head. -/
def stackOut (k v : FVec Ideal S256x64 .bf16) (q : FVec Ideal S512x64 .bf16) (bi : FVec Ideal S512x256 .f32) (fr : FVec Ideal S1x256 .f32)
    (sn : FVec Ideal S512x1 .f32) : FVec Ideal S512x64 .bf16 :=
  truncf .bf16 (matmul dot_S512x256_S256x64_S512x64_1_0_0_1_n_n none
    (truncf .bf16 (k0_pay87 (eW (k0_pay82 fr k q bi) sn) (eS (k0_pay82 fr k q bi) sn)) bitsLt_bf16_f32) v
    (constant S512x64 .f32 0x00000000#32)) bitsLt_bf16_f32

section piece

variable {b : Blk} {h : Fin 4} {W : Fin 128 → Fin 256 → Bool} {f : Fin 256 → Bool} {k v : FVec Ideal S256x64 .bf16}
    {q o : FVec Ideal S512x64 .bf16} {bi : FVec Ideal S512x256 .f32} {fr : FVec Ideal S1x256 .f32} {sn : FVec Ideal S512x1 .f32}

theorem Grp.out (G : Grp b h W f k v q o bi fr sn) (g : Fin 4) (r : Fin 128) (e : Fin 64) :
    stackOut k v q bi fr sn (ix2 (row g r) e) = ((b.out (mem h g) r e : ℝ) : EReal) := by
  pointwise [stackOut]
  simp only [G.prob, G.hv, ← EReal.coe_mul, sum_coe, Blk.out, grp_mem]

/-- The same operands with the mask written another way. -/
theorem Grp.withRow (G : Grp b h W f k v q o bi fr sn) {fr' : FVec Ideal S1x256 .f32} (hf : ∀ j, fr' (ix2 0 j) = if f j then 0 else ⊥) :
    Grp b h W f k v q o bi fr' sn := { G with hf := hf }

/-- A slice of the stacked outputs is one head's. -/
theorem Grp.out_piece (G : Grp b h W f k v q o bi fr sn) (g : Fin 4) {u : ℕ} (hu : u = 128 * g.val) {s} (r : Fin 128) (e : Fin 64) :
    extractStridedSlice S128x64 ![u, 0] (stackOut k v q bi fr sn) s (ix2 r e) = ((b.out (mem h g) r e : ℝ) : EReal) := by
  rw [← G.out]
  pointwise
  exact at2 _ (by show u + r.val = 128 * g.val + r.val; omega) rfl

end piece

/-- Point `t`'s outputs, as an array. -/
def go (b : Blk) (i : S128x1024.Idx) : EReal :=
  ((b.out ⟨(i 1).val / 64, by have := (i 1).isLt; change (i 1).val < 1024 at this; omega⟩ (i 0) ⟨(i 1).val % 64, by omega⟩ : ℝ) : EReal)

/-- A block of 64 columns of that array is one head's. -/
theorem go_piece (b : Blk) (h : Fin 16) {o : ℕ} (ho : o = 64 * h.val) {p} (r : Fin 128) (e : Fin 64) :
    ((b.out h r e : ℝ) : EReal) = go b ((Rect.unit (s := S128x1024) ![0, o] ![128, 64] p).emb (ix2 r e)) := by
  unfold go
  congr 2
  · exact Fin.ext (by show h.val = (o + 1 * e.val) / 64; omega)
  · exact Fin.ext (by show r.val = 0 + 1 * r.val; omega)
  · exact Fin.ext (by show e.val = (o + 1 * e.val) % 64; omega)

/-- The whole array of the outputs. -/
def ao (b : Fin 32 → Blk) (i : S4096x1024.Idx) : EReal :=
  go (b ⟨(i 0).val / 128, by have : (i 0).val < 4096 := (i 0).isLt; omega⟩) (ix2 ⟨(i 0).val % 128, by omega⟩ (i 1))

theorem ao_at (b : Fin 32 → Blk) (a : Fin 4096) (k : Fin 1024) :
    ao b (ix2 a k) = (((b ⟨a.val / 128, by omega⟩).out ⟨k.val / 64, by omega⟩ ⟨a.val % 128, by omega⟩ ⟨k.val % 64, by omega⟩ : ℝ) : EReal) := rfl

theorem ao_fill (w : Whole) (F G) : ao (w.blk F) = ao (w.blk G) := by
  funext i; unfold ao go; simp only [w.out_fill F G]

end Cert.Attn

end
-- ==== Proof.AttnFwdPieces.lean ====
/- What the attention's forward kernel computes for the four heads of one key head, in the terms of `stackOut`. -/
module

public import proofs.«01_k».proof.Proof.AttnOut
public import proofs.«01_k».proof.Proof.Gen.AttnFwdIdeal.Skeleton

@[expose] public section

set_option maxRecDepth 16384

noncomputable section

namespace Cert.AttnF

open Idealize.ShloMosaic
open Cert.Reals Cert.Attn Cert.AttnFwdIdeal Cert.AttnFwdIdeal.Gen

/-- The band, read from the forward kernel's scratch. -/
abbrev bandF (x2 x3 : Vec Ideal S128x512 .bf16) {o : ℕ} (p : ∀ a, ![0, o] a + ![256, 64] a ≤ S256x512.size a) : Vec Ideal S256x64 .bf16 :=
  (View.whole cc0_scratch0).readCov [⟨Rect.unit ![128, 0] ![128, 512] (by decide), k0_pay7 x2⟩, ⟨Rect.unit ![0, 0] ![128, 512] (by decide), k0_pay6 x3⟩]
    (Rect.unit ![0, o] ![256, 64] p).toLoadRect

theorem band_eq (x2 x3 : Vec Ideal S128x512 .bf16) {o : ℕ} (p : ∀ a, ![0, o] a + ![256, 64] a ≤ S256x512.size a) : bandF x2 x3 p = band x2 x3 p := by
  rw [bandF, View.readCov_eq_canon', band, View.readCov_eq_canon']
  rfl

/-- Operands read from the forward kernel's scratch. -/
theorem withKV {b : Blk} {h : Fin 4} {W : Fin 128 → Fin 256 → Bool} {f : Fin 256 → Bool} {q o : FVec Ideal S512x64 .bf16}
    {bi : FVec Ideal S512x256 .f32} {fr : FVec Ideal S1x256 .f32} {sn : FVec Ideal S512x1 .f32} {x2 x3 : Vec Ideal S128x512 .bf16} {ok ov : ℕ}
    {pk : ∀ a, ![0, ok] a + ![256, 64] a ≤ S256x512.size a} {pv : ∀ a, ![0, ov] a + ![256, 64] a ≤ S256x512.size a}
    (G : Grp b h W f (band x2 x3 pk) (band x2 x3 pv) q o bi fr sn) : Grp b h W f (bandF x2 x3 pk) (bandF x2 x3 pv) q o bi fr sn := by
  rw [band_eq, band_eq]
  exact G

/-- The column of the sinks of four heads. -/
abbrev snk (s0 s1 s2 s3 : EReal) : FVec Ideal S512x1 .f32 :=
  AttnBwdIdeal.Gen.k0_pay81 (iota .tc S512x1 32 [0] iota_S512x1_d0_w32) 128#32 AttnBwdIdeal.Gen.k0_pay78 AttnBwdIdeal.Gen.k0_pay79
    AttnBwdIdeal.Gen.k0_pay80 s0 s1 s2 s3

section sinks

variable (s0 s1 s2 s3 : Elt Ideal .f32)

theorem sinks0 : select (k0_pay13 (iota .tc S512x1 32 [0] iota_S512x1_d0_w32)) (broadcast S512x1 s3)
    (k0_pay12 (iota .tc S512x1 32 [0] iota_S512x1_d0_w32) s0 s1 s2) = snk s0 s1 s2 s3 := rfl
theorem sinks3 : k0_pay48 (iota .tc S512x1 32 [0] iota_S512x1_d0_w32) 128#32 k0_pay46 k0_pay47 s0 s1 s2 s3 = snk s0 s1 s2 s3 := rfl
theorem sinks2 : k0_pay34 k0_pay31 k0_pay32 k0_pay33 0#32 s0 s1 s2 s3 = snk s0 s1 s2 s3 := rfl

end sinks

variable (fr : FVec Ideal S1x256 .f32) (k v : Vec Ideal S256x64 .bf16) (q : FVec Ideal S512x64 .bf16) (bi : FVec Ideal S512x256 .f32)

/-- The outputs of the first key head's heads. -/
theorem out0 (s0 s1 s2 s3 : Elt Ideal .f32) :
    k0_pay14 fr k v q bi (k0_pay12 (iota .tc S512x1 32 [0] iota_S512x1_d0_w32) s0 s1 s2) (k0_pay13 (iota .tc S512x1 32 [0] iota_S512x1_d0_w32)) s3 =
      stackOut k v q bi fr (snk s0 s1 s2 s3) :=
  (show k0_pay14 fr k v q bi _ _ s3 = stackOut k v q bi fr (select _ (broadcast S512x1 s3) _) from rfl).trans (congrArg _ (sinks0 s0 s1 s2 s3))

/-- The outputs of the second key head's heads. -/
theorem out1 (s0 s1 s2 s3 : Elt Ideal .f32) :
    k0_pay24 fr k v q bi k0_pay21 (k0_pay22 s0) k0_pay23 s1 s2 s3 = stackOut k v q bi fr (snk s0 s1 s2 s3) := by
  rfl

/-- The outputs of the third key head's heads. -/
theorem out2 (s0 s1 s2 s3 : Elt Ideal .f32) :
    k0_pay39 v (k0_pay37 fr k q bi k0_pay31 k0_pay32 k0_pay33 0#32 s0 s1 s2 s3) (k0_pay38 fr k q bi k0_pay31 k0_pay32 k0_pay33 0#32 s0 s1 s2 s3)
      (FloatOps.ofBits .f32 1065353216#32) = stackOut k v q bi fr (snk s0 s1 s2 s3) := by
  unfold k0_pay37 k0_pay38 k0_pay37 k0_pay36
  rw [sinks2]
  rfl

/-- The outputs of the last key head's heads. -/
theorem out3 (s0 s1 s2 s3 : Elt Ideal .f32) :
    k0_pay1 fr v bi (k0_pay48 (iota .tc S512x1 32 [0] iota_S512x1_d0_w32) 128#32 k0_pay46 k0_pay47 s0 s1 s2 s3) (k0_pay49 k q) k0_pay50 =
      stackOut k v q bi fr (snk s0 s1 s2 s3) :=
  (show k0_pay1 fr v bi _ (k0_pay49 k q) k0_pay50 = stackOut k v q bi fr _ from rfl).trans (congrArg _ (sinks3 s0 s1 s2 s3))

section pieces

variable {b : Blk} {h : Fin 4} {W : Fin 128 → Fin 256 → Bool} {f : Fin 256 → Bool} {k v : FVec Ideal S256x64 .bf16}
    {q o : FVec Ideal S512x64 .bf16} {bi : FVec Ideal S512x256 .f32} {fr : FVec Ideal S1x256 .f32} {s0 s1 s2 s3 : Elt Ideal .f32}

/-- One head's slice of what is stored for the first key head's heads; below those of the others. -/
theorem piece0 (G : Grp b h W f k v q o bi fr (snk s0 s1 s2 s3)) (g : Fin 4) {u : ℕ} (hu : u = 128 * g.val) {s} (r : Fin 128) (e : Fin 64) :
    extractStridedSlice S128x64 ![u, 0] (k0_pay14 fr k v q bi (k0_pay12 (iota .tc S512x1 32 [0] iota_S512x1_d0_w32) s0 s1 s2)
      (k0_pay13 (iota .tc S512x1 32 [0] iota_S512x1_d0_w32)) s3) s (ix2 r e) = ((b.out (mem h g) r e : ℝ) : EReal) := by
  rw [out0]
  exact G.out_piece g hu r e

theorem piece1 (G : Grp b h W f k v q o bi fr (snk s0 s1 s2 s3)) (g : Fin 4) {u : ℕ} (hu : u = 128 * g.val) {s} (r : Fin 128) (e : Fin 64) :
    extractStridedSlice S128x64 ![u, 0] (k0_pay24 fr k v q bi k0_pay21 (k0_pay22 s0) k0_pay23 s1 s2 s3) s (ix2 r e) =
      ((b.out (mem h g) r e : ℝ) : EReal) := by
  rw [out1]
  exact G.out_piece g hu r e

theorem piece2 (G : Grp b h W f k v q o bi fr (snk s0 s1 s2 s3)) (g : Fin 4) {u : ℕ} (hu : u = 128 * g.val) {s} (r : Fin 128) (e : Fin 64) :
    extractStridedSlice S128x64 ![u, 0] (k0_pay39 v (k0_pay37 fr k q bi k0_pay31 k0_pay32 k0_pay33 0#32 s0 s1 s2 s3)
      (k0_pay38 fr k q bi k0_pay31 k0_pay32 k0_pay33 0#32 s0 s1 s2 s3) (FloatOps.ofBits .f32 1065353216#32)) s (ix2 r e) =
      ((b.out (mem h g) r e : ℝ) : EReal) := by
  rw [out2]
  exact G.out_piece g hu r e

theorem piece3 (G : Grp b h W f k v q o bi fr (snk s0 s1 s2 s3)) (g : Fin 4) {u : ℕ} (hu : u = 128 * g.val) {s} (r : Fin 128) (e : Fin 64) :
    extractStridedSlice S128x64 ![u, 0] (k0_pay1 fr v bi (k0_pay48 (iota .tc S512x1 32 [0] iota_S512x1_d0_w32) 128#32 k0_pay46 k0_pay47 s0 s1 s2 s3)
      (k0_pay49 k q) k0_pay50) s (ix2 r e) = ((b.out (mem h g) r e : ℝ) : EReal) := by
  rw [out3]
  exact G.out_piece g hu r e

end pieces

end Cert.AttnF

end
-- ==== Proof.AttnFwdKernel.lean ====
/- The attention's forward kernel: what its result array holds at finite arguments. -/
module

public import proofs.«01_k».proof.Proof.AttnFwdPieces
public import proofs.«01_k».proof.Proof.AttnHost
public import proofs.«01_k».proof.Proof.Gen.AttnFwdIdeal.Value
import Idealize.ShloMosaic.Lib.Pipeline.ValueKit

@[expose] public section

set_option maxRecDepth 16384

noncomputable section

namespace Cert.AttnF

open Idealize.ShloMosaic Idealize.ShloMosaic.TcCoe Idealize.SL.Sem
open Cert.Reals Cert.Attn Cert.AttnFwdIdeal Cert.AttnFwdIdeal.Gen Cert.AttnFwdIdeal.Value

theorem coords_val (t : Fin cfg0.N) : (grid0.coords t 0).val = t.val :=
  (by decide +kernel : ∀ t : Fin grid0.N, (grid0.coords t 0).val = t.val) t

variable {m : (ℓ : Loc nD τ sig) → Buf (Elt Ideal) ℓ} {c : Dev nD} {b : Fin 32 → Blk} {W : Fin 128 → Fin 256 → Bool}

/-- Point `t`'s blocks are those of query block `t`; the forward pass reads no cotangent, the queries stand in its place. -/
abbrev AllOps (m : (ℓ : Loc nD τ sig) → Buf (Elt Ideal) ℓ) (c : Dev nD) (b : Fin 32 → Blk) (W : Fin 128 → Fin 256 → Bool) : Prop :=
  ∀ t : Fin cfg0.N, Ops (b t) W t (iblk m c 0 t) (iblk m c 1 t) (iblk m c 1 t) (iblk m c 2 t) (iblk m c 3 t) (iblk m c 4 t)

/-- The mask of the first block's missing keys. -/
theorem first_row (i : grid0.Coords) (j : Fin 256) :
    k0_pay8 (F := Ideal) i (ix2 0 j) = if !(decide (j.val < 128) && decide ((i 0).val = 0)) then 0 else ⊥ := by
  pointwise [k0_pay8]
  have hn : Named.named (F := Ideal) (φ := .f32) κ "mask" 4048155338#32 = (⊥ : EReal) := rfl
  rw [hn]
  have hj : ∀ j : Fin 256, IntOp.cmpi CmpIPredicate.slt (BitVec.ofNat 32 j.val) 128#32 = if j.val < 128 then 1#1 else 0#1 := by
    decide +kernel
  have hi : ∀ n : Fin 32, Scalar.cmpi CmpIPredicate.eq (BitVec.ofNat 32 n.val) 0#32 = if n.val = 0 then 1#1 else 0#1 := by
    decide +kernel
  rw [hj, hi (i 0)]
  by_cases h : j.val < 128 <;> by_cases h' : (i 0).val = 0 <;> simp [h, h', IntOp.andi, Scalar.select]

theorem row_at (t : Fin cfg0.N) (j : Fin 256) :
    k0_pay8 (F := Ideal) (grid0.coords t) (ix2 0 j) = if !(decide (j.val < 128) && decide (t.val = 0)) then 0 else ⊥ := by
  rw [first_row, coords_val]

set_option maxHeartbeats 4000000 in
/-- Point `t`'s outputs. -/
theorem out5 (H : AllOps m c b W) (t : Fin cfg0.N) : outsAt0 m c t = go (b t) := by
  have G0 := withKV (((H t).grp0 (i := AttnBwdIdeal.grid0.coords t) (Attn.coords_val t)).withRow (row_at t))
  have G1 := withKV (((H t).grp1 (i := AttnBwdIdeal.grid0.coords t) (Attn.coords_val t)).withRow (row_at t))
  have G2 := withKV (((H t).grp2 (i := AttnBwdIdeal.grid0.coords t) (Attn.coords_val t)).withRow (row_at t))
  have G3 := withKV (((H t).grp3 (i := AttnBwdIdeal.grid0.coords t) (Attn.coords_val t)).withRow (row_at t))
  funext y
  unfold outsAt0
  frame_open
  simp (disch := decide) only [↓ View.readCov_skip, ↓ View.readCov_cons_toLoadRect, ↓ View.readCov_fill]
  frame_out
  refine canon_pieces (e := .bf16) (go (b t)) ?_ ?_
  · refine ⟨?_, ?_, ?_, ?_, ?_, ?_, ?_, ?_, ?_, ?_, ?_, ?_, ?_, ?_, ?_, ?_, trivial⟩ <;> intro x <;> obtain ⟨r, e, rfl⟩ := exists_ix2 x
    · exact (piece3 G3 3 (u := 384) (s := by decide) rfl r e).trans (go_piece (b t) 15 (o := 960) (p := by decide) rfl r e)
    · exact (piece3 G3 2 (u := 256) (s := by decide) rfl r e).trans (go_piece (b t) 14 (o := 896) (p := by decide) rfl r e)
    · exact (piece3 G3 1 (u := 128) (s := by decide) rfl r e).trans (go_piece (b t) 13 (o := 832) (p := by decide) rfl r e)
    · exact (piece3 G3 0 (u := 0) (s := by decide) rfl r e).trans (go_piece (b t) 12 (o := 768) (p := by decide) rfl r e)
    · exact (piece2 G2 3 (u := 384) (s := by decide) rfl r e).trans (go_piece (b t) 11 (o := 704) (p := by decide) rfl r e)
    · exact (piece2 G2 2 (u := 256) (s := by decide) rfl r e).trans (go_piece (b t) 10 (o := 640) (p := by decide) rfl r e)
    · exact (piece2 G2 1 (u := 128) (s := by decide) rfl r e).trans (go_piece (b t) 9 (o := 576) (p := by decide) rfl r e)
    · exact (piece2 G2 0 (u := 0) (s := by decide) rfl r e).trans (go_piece (b t) 8 (o := 512) (p := by decide) rfl r e)
    · exact (piece1 G1 3 (u := 384) (s := by decide) rfl r e).trans (go_piece (b t) 7 (o := 448) (p := by decide) rfl r e)
    · exact (piece1 G1 2 (u := 256) (s := by decide) rfl r e).trans (go_piece (b t) 6 (o := 384) (p := by decide) rfl r e)
    · exact (piece1 G1 1 (u := 128) (s := by decide) rfl r e).trans (go_piece (b t) 5 (o := 320) (p := by decide) rfl r e)
    · exact (piece1 G1 0 (u := 0) (s := by decide) rfl r e).trans (go_piece (b t) 4 (o := 256) (p := by decide) rfl r e)
    · exact (piece0 G0 3 (u := 384) (s := by decide) rfl r e).trans (go_piece (b t) 3 (o := 192) (p := by decide) rfl r e)
    · exact (piece0 G0 2 (u := 256) (s := by decide) rfl r e).trans (go_piece (b t) 2 (o := 128) (p := by decide) rfl r e)
    · exact (piece0 G0 1 (u := 128) (s := by decide) rfl r e).trans (go_piece (b t) 1 (o := 64) (p := by decide) rfl r e)
    · exact (piece0 G0 0 (u := 0) (s := by decide) rfl r e).trans (go_piece (b t) 0 (o := 0) (p := by decide) rfl r e)
  · exact View.cover_of_tiledL _ ![128, 64] (by sl_kernel_rfl) _

/-- The windows' block indices, at every point. -/
theorem idx : ∀ t : Fin cfg0.N, win0_0.index t = ![0, 0] ∧ win0_1.index t = ![t.val, 0] ∧ win0_2.index t = ![t.val, 0]
    ∧ win0_3.index t = ![t.val - 1, 0] ∧ win0_4.index t = ![0, 0, 0] ∧ win0_5.index t = ![t.val, 0] :=
  (by decide +kernel : ∀ t : Fin grid0.N, _)

theorem arr5 (H : AllOps m c b W) : (dats m 0 c).arrAt 5 cfg0.N = ao b := by
  refine (dats m 0 c).arrAt_eq_of_covers 5 _ (by decide +kernel) fun t hf i => ?_
  blk_simp
  rw [after0_5, out5 H t]
  obtain ⟨r, k, rfl⟩ := exists_ix2 i
  trans ao b (ix2 (blockRow (T := 32) (B := 128) (N := 4096) rfl t r) k)
  · refine congrArg₂ (fun t r => go (b t) (ix2 r k)) (Fin.ext ?_) (Fin.ext ?_)
    · show t.val = (128 * t.val + r.val) / 128; omega
    · show r.val = (128 * t.val + r.val) % 128; omega
  · refine congrArg (ao b) ?_
    blk_ext! [idx t]
    show 128 * t.val + r.val = _
    omega

end Cert.AttnF

end
-- ==== Proof.AttnFwdHost.lean ====
/- What the attention's forward kernel finds in its operands, from the arguments. -/
module

public import proofs.«01_k».proof.Proof.AttnFwdKernel
import Idealize.ShloMosaic.Lib.Claim

@[expose] public section

set_option maxRecDepth 16384

noncomputable section

namespace Cert.AttnF

open Idealize.ShloMosaic Idealize.ShloMosaic.TcCoe Idealize.SL.Sem
open Cert.Reals Cert.Attn Cert.AttnFwdIdeal Cert.AttnFwdIdeal.Gen Cert.AttnFwdIdeal.Value

variable {m : (ℓ : Loc nD τ sig) → Buf (Elt Ideal) ℓ} {c : Dev nD}

/-- Host lines in two parts run one after the other. -/
theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- What the host lines before the call leave, one part after the other. -/
theorem V_eq (b : Ref sig .tc) : V m c b = StableHlo.after hostOps0_4 (StableHlo.after hostOps0_3 (StableHlo.after hostOps0_2 (StableHlo.after hostOps0_1
    (StableHlo.after hostOps0 fun b => m (c, b))))) (Proc.tc.devRef b) := by
  unfold V
  simp only [List.flatten_cons, List.flatten_nil, List.append_nil, after_app]

theorem entry45 (h : Fin 16) : V m c main_v45 (ix2 0 h) = m ((c.tc : Thread nD τ).loc main_arg3) (ix1 h) := by
  rw [V_eq]
  entry_read
  pointwise

theorem entry44 (r : Fin 4096) (k : Fin 512) : V m c main_v44 (ix2 r k) =
    if h : k.val < 256 then m ((c.tc : Thread nD τ).loc main_arg1) (ix2 r ⟨k.val, h⟩) else m ((c.tc : Thread nD τ).loc main_arg2) (ix2 r ⟨k.val - 256, by omega⟩) := by
  rw [V_eq]
  entry_read
  pointwise

theorem entry43 (h : Fin 16) (r : Fin 128) (j : Fin 256) : V m c main_v43 (ix3 h r j) =
    Scalar.select (AttnBwdRefIdeal.Read.val_main_v13 (F := Ideal) (ix2 r j))
      (AttnBwdRefIdeal.Read.val_main_v41 (F := Ideal) (m ((c.tc : Thread nD τ).loc main_arg4)) (ix3 h r j)) (Ideal.ofBits .f32 0xFF800000#32) := by
  rw [V_eq]
  entry_read
  simp only [StableHlo.TRef.ofBuf_toBuf]
  simp only [StableHlo.TRef.ofBuf, StableHlo.TRef.toBuf, cast_eq]
  sl_kernel_rfl

theorem entry44_real {w : Whole} (h1 : ∀ r k, m ((c.tc : Thread nD τ).loc main_arg1) (ix2 r k) = ((w.K r k : ℝ) : EReal))
    (h2 : ∀ r k, m ((c.tc : Thread nD τ).loc main_arg2) (ix2 r k) = ((w.V r k : ℝ) : EReal)) (r : Fin 4096) (k : Fin 512) :
    V m c main_v44 (ix2 r k) = ((w.kv r k : ℝ) : EReal) := by
  rw [entry44, Whole.kv]
  split
  · exact h1 _ _
  · exact h2 _ _

theorem blk0 (t : Fin cfg0.N) (h : Fin 16) : iblk m c 0 t (ix2 0 h) = V m c main_v45 (ix2 0 h) := by
  unfold iblk
  generalize V m c = X
  refine congrArg (X main_v45) ?_
  blk_ext! [idx t]

theorem blk1 (t : Fin cfg0.N) (r : Fin 128) (k : Fin 1024) : iblk m c 1 t (ix2 r k) = m ((c.tc : Thread nD τ).loc main_arg0) (ix2 (Whole.at' t r) k) := by
  refine congrArg (m ((c.tc : Thread nD τ).loc main_arg0)) ?_
  blk_ext! [idx t]
  show t.val * 128 + r.val = 128 * t.val + r.val
  omega

theorem blk2 (t : Fin cfg0.N) (r : Fin 128) (k : Fin 512) : iblk m c 2 t (ix2 r k) = V m c main_v44 (ix2 (Whole.at' t r) k) := by
  unfold iblk
  generalize V m c = X
  refine congrArg (X main_v44) ?_
  blk_ext! [idx t]
  show t.val * 128 + r.val = 128 * t.val + r.val
  omega

theorem blk3 (t : Fin cfg0.N) (r : Fin 128) (k : Fin 512) : iblk m c 3 t (ix2 r k) =
    V m c main_v44 (ix2 ⟨128 * (t.val - 1) + r.val, by have : t.val < 32 := t.isLt; omega⟩ k) := by
  unfold iblk
  generalize V m c = X
  refine congrArg (X main_v44) ?_
  blk_ext! [idx t]

theorem blk4 (t : Fin cfg0.N) (h : Fin 16) (r : Fin 128) (j : Fin 256) : iblk m c 4 t (ix3 h r j) = V m c main_v43 (ix3 h r j) := by
  unfold iblk
  generalize V m c = X
  refine congrArg (X main_v43) ?_
  blk_ext! [idx t]

/-- At finite arguments each point's blocks are the query block's. -/
theorem allOps {w : Whole} (H : Holds w (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg0))) : AllOps m c (w.blk (again w)) win := fun t => by
  have ht : t.val < 32 := t.isLt
  constructor
  · intro h
    exact (blk0 t h).trans ((entry45 h).trans (H.hs h))
  · intro r k
    exact (blk1 t r k).trans (H.hq _ k)
  · intro r k
    exact (blk1 t r k).trans (H.ho _ k)
  · intro r k
    refine (blk2 t r k).trans ((entry44_real H.hk H.hv _ _).trans (congrArg _ (w.band_pos (n := t) ?_ k).symm))
    show 128 * t.val + r.val + 128 = 128 * t.val + (128 + r.val)
    omega
  · intro r k
    refine (blk3 t r k).trans ((entry44_real H.hk H.hv _ _).trans (congrArg _ ?_))
    by_cases h : t.val = 0
    · refine Eq.trans ?_ (w.band_neg (n := t) (j := ⟨r.val, by omega⟩) ?_ k).symm
      · refine congrArg (fun i => w.kv i k) (Fin.ext ?_)
        show 128 * (t.val - 1) + r.val = r.val
        omega
      · show ¬128 ≤ 128 * t.val + r.val
        omega
    · refine (w.band_pos (n := t) (j := ⟨r.val, by omega⟩) ?_ k).symm
      show 128 * (t.val - 1) + r.val + 128 = 128 * t.val + r.val
      omega
  · intro h r j
    refine (blk4 t h r j).trans ?_
    rw [entry43, H.hb, bits_neg_inf, win]
    show (if _ = 1#1 then _ else _) = _
    simp only [decide_eq_true_eq]
    rfl
  · intro r j
    show (w.W r j && _) = _
    rw [H.hw]

end Cert.AttnF

end
-- ==== Proof.AttnFwd.lean ====
/- The banded attention's forward pass: kernel and reference hold the same output. -/
module

public import proofs.«01_k».proof.Defs
public import proofs.«01_k».proof.Proof.AttnGrad
public import proofs.«01_k».proof.Proof.Attn
public import proofs.«01_k».proof.Proof.AttnFwdHost
public import proofs.«01_k».proof.Proof.Gen.AttnFwdIdeal
public import proofs.«01_k».proof.Proof.Gen.AttnFwdRefIdeal
public import proofs.«01_k».proof.Proof.Gen.AttnFwdRefIdeal.Read
public import proofs.«01_k».proof.Proof.Gen.Pre_finite_attn_fwd
public import Idealize.ShloMosaic.Lib.Claim
public import Idealize.ShloMosaic.Lib.Quiescent

@[expose] public section

set_option maxRecDepth 16384

noncomputable section

namespace Cert.Proof.AttnFwd

open Idealize.ShloMosaic Idealize.ShloMosaic.TcCoe Idealize.SL.Sem Cert.Reals Cert.Attn

section Reference

open Cert.AttnFwdRefIdeal Cert.AttnFwdRefIdeal.Read

/-- A value of the reference on the arguments a memory holds. -/
abbrev on {α : Type} (m : (ℓ : Loc nD τ sig) → Buf (Elt Ideal) ℓ) (c : Dev nD)
    (f : FVec Ideal S4096x1024 .bf16 → FVec Ideal S4096x256 .bf16 → FVec Ideal S4096x256 .bf16 → FVec Ideal S16 .f32 →
      FVec Ideal S32x16 .f32 → α) : α :=
  f (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The reference's run, its result named by the operation's value. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v104) = on m c (val_main_v104 (F := Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v104_eq ..), (h c).2⟩) (Cert.AttnFwdRefIdeal.Value.run m ρ)

variable {w : Whole} {x0 : FVec Ideal S4096x1024 .bf16} {x1 x2 : FVec Ideal S4096x256 .bf16} {x3 : FVec Ideal S16 .f32}
  {x4 : FVec Ideal S32x16 .f32} {x5 : FVec Ideal S4096x1024 .bf16}

/-- The values' band is the one of the backward pass. -/
theorem values_eq (x2 : FVec Ideal S4096x256 .bf16) : val_main_v54 (F := Ideal) x2 = AttnBwdRefIdeal.Read.val_main_v54 (F := Ideal) x2 := rfl

/-- So are the probabilities. -/
theorem probs_eq (x0 : FVec Ideal S4096x1024 .bf16) (x1 : FVec Ideal S4096x256 .bf16) (x3 : FVec Ideal S16 .f32) (x4 : FVec Ideal S32x16 .f32) :
    val_main_v100 (F := Ideal) x0 x1 x3 x4 = AttnBwdRefIdeal.Read.val_main_v123 (F := Ideal) x0 x1 x3 x4 := rfl

theorem out_sum (b : Blk) {g i : Fin 4} {h : Fin 16} (hm : mem g i = h) (r : Fin 128) (e : Fin 64) :
    ∑ j, ((b.KV j (vd g e) : ℝ) : EReal) * ((b.p (mem g i) r j : ℝ) : EReal) = ((b.out h r e : ℝ) : EReal) := by
  subst hm
  rw [Blk.out, grp_mem]
  simp only [← EReal.coe_mul, sum_coe]
  exact congrArg _ (Finset.sum_congr rfl fun j _ => mul_comm _ _)

/-- The reference's output, the sum of the values by the probabilities. -/
theorem output (H : Holds w x0 x1 x2 x3 x4 x5) (a : Fin 4096) (k : Fin 1024) :
    val_main_v104 (F := Ideal) x0 x1 x2 x3 x4 (ix2 a k) = ao (w.blk zeros) (ix2 a k) := by
  have e := fun n g i r j => (congrFun (probs_eq x0 x1 x3 x4) (ix5 n g i r j)).trans (prob H n g i r j)
  have e' := fun n j g f => (congrFun (values_eq x2) (ix4 n j g f)).trans (band_v H.hv n j g f)
  unfold val_main_v104 val_main_v103 val_main_v102 val_main_v101
  generalize val_main_v100 (F := Ideal) x0 x1 x3 x4 = X at e ⊢
  generalize val_main_v54 (F := Ideal) x2 = Y at e' ⊢
  pointwise
  rw [ao_at]
  have hm : mem ⟨k.val / 256, by omega⟩ ⟨k.val / 64 % 4, by omega⟩ = ⟨k.val / 64, by omega⟩ :=
    Fin.ext (by show 4 * (k.val / 256) + k.val / 64 % 4 = k.val / 64; omega)
  refine Eq.trans ?_ (out_sum (w.blk zeros ⟨a.val / 128, by omega⟩) hm ⟨a.val % 128, by omega⟩ ⟨k.val % 64, by omega⟩)
  exact Finset.sum_congr rfl fun j _ => congrArg₂ (fun x y : EReal => x * y) (e' _ _ _ _) (e _ _ _ _ _)

end Reference

/-- The reference leaves its arguments as they were; it has no semaphore. -/
theorem frame_ref : Cert.quiescent_AttnFwdRefIdeal := fun m g _ =>
  (θ_run _ _ _).mono (fun _ h => ⟨fun c => (h c).2, sem_eq_zero_of_no_sems (by decide) _⟩) (run_vals m g)

open Cert.AttnFwdIdeal Cert.AttnFwdIdeal.Gen

/-- At finite arguments there are the reals the arguments hold; the forward pass has no cotangent, the queries stand in its place. -/
theorem reals (m : (ℓ : Loc nD τ sig) → Buf (Elt Ideal) ℓ) (hpre : Cert.Pre_AttnFwdIdeal_finite_attn_fwd m) (c : Dev nD) :
    ∃ w : Whole, Holds w (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg0)) := by
  obtain ⟨p0, p1, p2, p3, p4⟩ := hpre c
  have q0 := fun i => lt_of_pre p0 i
  have q1 := fun i => lt_of_pre p1 i
  have q2 := fun i => lt_of_pre p2 i
  have q3 := fun i => lt_of_pre p3 i
  have q4 := Attn.bias_real fun i => lt_of_pre p4 i
  choose Q hQ using q0
  choose K hK using q1
  choose V hV using q2
  choose S hS using q3
  choose B hB using q4
  exact ⟨⟨fun h => S (ix1 h), fun r k => Q (ix2 r k), fun r k => Q (ix2 r k), fun r k => K (ix2 r k), fun r k => V (ix2 r k),
    fun h r j => B (ix3 h r j), win⟩, fun r k => hQ (ix2 r k), fun r k => hK (ix2 r k), fun r k => hV (ix2 r k), fun h => hS (ix1 h),
    fun h r j => hB (ix3 h r j), fun r k => hQ (ix2 r k), rfl⟩

/-- The output at finite arguments: the reference's value is the kernel's array. -/
theorem equal (m : (ℓ : Loc nD τ sig) → Buf (Elt Ideal) ℓ) (hpre : Cert.Pre_AttnFwdIdeal_finite_attn_fwd m) (c : Dev nD) :
    AttnFwdRefIdeal.Read.val_main_v104 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = (dats m 0 c).arrAt 5 cfg0.N := by
  obtain ⟨w, H⟩ := reals m hpre c
  refine Eq.trans (funext fun i => ?_) ((ao_fill w zeros (again w)).trans (AttnF.arr5 (AttnF.allOps H)).symm)
  obtain ⟨r, k, rfl⟩ := exists_ix2 i
  exact output H r k

/-- The forward call computes the output of the attention that the plain lines give. -/
theorem algebraic : Cert.algebraic_AttnFwdIdeal_AttnFwdRefIdeal_pre_finite_attn_fwd := by
  pair_intro
  · run_from Cert.AttnFwdIdeal.Value.run_blocks m g
  · refine (θ_run _ _ _).mono (fun _ h c => ?_) (run_vals m' g')
    have e := equal m hpre c
    rw [← (hagree c).1, ← (hagree c).2.1, ← (hagree c).2.2.1, ← (hagree c).2.2.2.1, ← (hagree c).2.2.2.2] at e
    exact ⟨(h c).1.trans e, (h c).2⟩

end Cert.Proof.AttnFwd

end
-- ==== Proof.RmsRow.lean ====
/- The root-mean-square norm of a row, over the extended reals: both programs write it in one form, so it needs no finiteness. -/
module

public import proofs.«01_k».proof.Proof.Rms

@[expose] public section

noncomputable section

namespace Cert.Rms

open Idealize.ShloMosaic Cert.Reals

/-- Entry `k` of the row `x` normalised with the gain `g`. -/
def nrm (x g : Fin 1024 → EReal) (k : Fin 1024) : EReal :=
  x k * Ideal.rsqrt (Ideal.div (∑ i, x i * x i) (Ideal.ofBits .f32 0x44800000#32) + Ideal.ofBits .f32 0x358637BD#32) * g k

/-- The norm of equal rows with equal gains. -/
theorem nrm_congr {x y g f : Fin 1024 → EReal} (h : ∀ k, x k = y k) (hg : ∀ k, g k = f k) (k : Fin 1024) : nrm x g k = nrm y f k := by
  rw [funext h, funext hg]

end Cert.Rms

end
-- ==== Proof.RmsFwd.lean ====
/- The RMS norm: kernel and reference hold the same array. -/
module

public import proofs.«01_k».proof.Defs
public import proofs.«01_k».proof.Proof.RmsRow
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.RmsFwdRefIdeal
public import Idealize.ShloMosaic.Lib.Claim
public import Idealize.ShloMosaic.Lib.Quiescent
import Idealize.ShloMosaic.Lib.Pipeline.ValueKit

@[expose] public section

set_option maxRecDepth 16384

noncomputable section

namespace Cert.Proof.RmsFwd

open Idealize.ShloMosaic Idealize.ShloMosaic.TcCoe Idealize.SL.Sem Cert.Reals Cert.Rms

/-- The normalised rows of `X` with the gain `g`. -/
def rows (X : FVec Ideal ⟨2, ![4096, 1024]⟩ .f32) (g : FVec Ideal ⟨1, ![1024]⟩ .f32) : FVec Ideal ⟨2, ![4096, 1024]⟩ .bf16 :=
  fun i => nrm (fun k => X (ix2 (i 0 : Fin 4096) k)) (fun k => g (ix1 k)) (i 1)

section Reference

open Cert.RmsFwdRefIdeal Cert.RmsFwdRefIdeal.Read

/-- The reference's result. -/
theorem v13 (X : FVec Ideal S4096x1024 .f32) (g : FVec Ideal S1024 .f32) : val_main_v13 (F := Ideal) X g = rows X g := by
  funext i
  obtain ⟨r, k, rfl⟩ := exists_ix2 i
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The reference's run, its result named by the last operation's value. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v13_eq ..).trans (v13 _ _)), (h c).2⟩) (Cert.RmsFwdRefIdeal.Value.run m ρ)

end Reference

/-- The reference leaves its arguments as they were; it has no semaphore. -/
theorem frame_ref : Cert.quiescent_RmsFwdRefIdeal := fun m g _ =>
  (θ_run _ _ _).mono (fun _ h => ⟨fun c => (h c).2, sem_eq_zero_of_no_sems (by decide) _⟩) (run_vals m g)

open Cert.RmsFwdIdeal Cert.RmsFwdIdeal.Gen Cert.RmsFwdIdeal.Value

variable {m : (ℓ : Loc nD τ sig) → Buf (Elt Ideal) ℓ} {c : Dev nD}

/-- The stored block. -/
theorem p1 (x : FVec Ideal S512x1024 .f32) (g : FVec Ideal S1x1024 .f32) (r : Fin 512) (k : Fin 1024) :
    k0_pay1 (F := Ideal) x g (ix2 r k) = nrm (fun j => x (ix2 r j)) (fun j => g (ix2 0 j)) k := by
  pointwise [k0_pay1]
  rfl

theorem idx : ∀ t : Fin cfg0.N, win0_0.index t = ![t.val, 0] ∧ win0_1.index t = ![0, 0] ∧ win0_2.index t = ![t.val, 0] :=
  (by decide +kernel : ∀ t : Fin grid0.N, _)

/-- The row of the whole array that is row `r` of point `t`'s block. -/
abbrev row (t : Fin 8) (r : Fin 512) : Fin 4096 := blockRow (by norm_num) t r

theorem iblk0 (t : Fin cfg0.N) (r : Fin 512) (k : Fin 1024) : iblk m c 0 t (ix2 r k) = m ((c.tc : Thread nD τ).loc main_arg0) (ix2 (row t r) k) := by
  refine congrArg (m ((c.tc : Thread nD τ).loc main_arg0)) ?_
  blk_ext! [idx t]
  show _ = 512 * t.val + r.val
  omega

theorem iblk1 (t : Fin cfg0.N) (k : Fin 1024) : iblk m c 1 t (ix2 0 k) = m ((c.tc : Thread nD τ).loc main_arg1) (ix1 k) := by
  blk_simp [iblk, idx t]; entry_read; pointwise
  blk_ext! [iblk, V, idx t]

/-- The array after the run. -/
theorem arr2 : (dats m 0 c).arrAt 2 cfg0.N = rows (m ((c.tc : Thread nD τ).loc main_arg0)) (m ((c.tc : Thread nD τ).loc main_arg1)) := by
  refine (dats m 0 c).arrAt_eq_of_covers 2 _ (by decide +kernel) fun t hf i => ?_
  blk_simp
  rw [after0_2]
  obtain ⟨r, k, rfl⟩ := exists_ix2 i
  trans rows (m ((c.tc : Thread nD τ).loc main_arg0)) (m ((c.tc : Thread nD τ).loc main_arg1)) (ix2 (row t r) k)
  · unfold out0_2
    frame_out
    rw [p1]
    exact nrm_congr (fun j => iblk0 t r j) (fun j => iblk1 t j) k
  · refine congrArg _ ?_
    blk_ext! [idx t]
    show 512 * t.val + r.val = _
    omega

/-- The call computes the norm that the plain lines give. -/
theorem algebraic : Cert.algebraic_RmsFwdIdeal_RmsFwdRefIdeal := by
  pair_intro
  · run_from Cert.RmsFwdIdeal.Value.run_blocks m g
  · refine (θ_run _ _ _).mono (fun _ h c => ?_) (run_vals m' g')
    have e := (arr2 (m := m) (c := c)).symm
    rw [← (hagree c).1, ← (hagree c).2] at e
    exact ⟨(h c).1.trans e, (h c).2⟩

end Cert.Proof.RmsFwd

end
-- ==== Proof.Pw2Fwd.lean ====
/- The convolution's second pointwise product with its bias, the residual and the next norm: kernel and reference hold the same
   two arrays. -/
module

public import proofs.«01_k».proof.Defs
public import proofs.«01_k».proof.Proof.RmsRow
public import proofs.«01_k».proof.Proof.Gen.Pw2FwdIdeal.Value
public import proofs.«01_k».proof.Proof.Gen.Pw2FwdRefIdeal.Run
public import proofs.«01_k».proof.Proof.Gen.Pw2FwdRefIdeal.Read
public import proofs.«01_k».proof.Proof.Gen.Pw2FwdRefIdeal
public import Idealize.ShloMosaic.Lib.Claim
public import Idealize.ShloMosaic.Lib.Quiescent
import Idealize.ShloMosaic.Lib.Pipeline.ValueKit

@[expose] public section

set_option maxRecDepth 16384

noncomputable section

namespace Cert.Proof.Pw2Fwd

open Idealize.ShloMosaic Idealize.ShloMosaic.TcCoe Idealize.SL.Sem Cert.Reals Cert.Rms

/-- An entry of the new residual stream: the old one, the product, the bias. -/
def entry (z w : Fin 1024 → EReal) (b h : EReal) : EReal := (∑ i, z i * w i) + b + h

variable (z : FVec Ideal ⟨2, ![4096, 1024]⟩ .bf16) (w : FVec Ideal ⟨2, ![1024, 1024]⟩ .f32) (b g : FVec Ideal ⟨1, ![1024]⟩ .f32)
  (h : FVec Ideal ⟨2, ![4096, 1024]⟩ .f32)

/-- The new residual stream. -/
def stream : FVec Ideal ⟨2, ![4096, 1024]⟩ .f32 := fun i =>
  entry (fun k => z (ix2 (i 0 : Fin 4096) k)) (fun k => w (ix2 k (i 1 : Fin 1024))) (b (ix1 (i 1 : Fin 1024))) (h (ix2 (i 0 : Fin 4096) (i 1 : Fin 1024)))

/-- Its normalised rows. -/
def normed : FVec Ideal ⟨2, ![4096, 1024]⟩ .bf16 := fun i => nrm (fun k => stream z w b h (ix2 (i 0 : Fin 4096) k)) (fun k => g (ix1 k)) (i 1)

section Reference

open Cert.Pw2FwdRefIdeal Cert.Pw2FwdRefIdeal.Read

/-- The reference's residual stream. -/
theorem v5 : val_main_v5 (F := Ideal) z w b h = stream z w b h := by
  funext i
  obtain ⟨r, k, rfl⟩ := exists_ix2 i
  pointwise [val_main_v5, val_main_v4, val_main_v3, val_main_v2, val_main_v1, val_main_v0]
  exact add_comm _ _

/-- The reference's norm. -/
theorem v19 : val_main_v19 (F := Ideal) z w b h g = normed z w b g h := by
  funext i
  obtain ⟨r, k, rfl⟩ := exists_ix2 i
  pointwise [val_main_v19, val_main_v18, val_main_v17, val_main_v16, val_main_v15, val_main_v14, val_main_v13, val_main_v12, val_main_v11,
    val_main_v10, val_main_v9, val_main_v8, val_main_v7, val_main_v6, val_main_cst, val_main_cst_0, val_main_cst_1]
  rw [v5]
  rfl

/-- The reference's run, its results named. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = stream (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v19) = normed (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v5_eq ..).trans (v5 _ _ _ _)),
    (h c).2.1.trans ((val_main_v19_eq ..).trans (v19 _ _ _ _ _)), (h c).2.2⟩) (Cert.Pw2FwdRefIdeal.Value.run m ρ)

end Reference

/-- The reference leaves its arguments as they were; it has no semaphore. -/
theorem frame_ref : Cert.quiescent_Pw2FwdRefIdeal := fun m g _ =>
  (θ_run _ _ _).mono (fun _ h => ⟨fun c => (h c).2.2, sem_eq_zero_of_no_sems (by decide) _⟩) (run_vals m g)

open Cert.Pw2FwdIdeal Cert.Pw2FwdIdeal.Gen Cert.Pw2FwdIdeal.Value

section Block

variable (x : FVec Ideal S1024x1024 .bf16) (y : FVec Ideal S1x1024x1024 .bf16) (e : FVec Ideal S1x1x1024 .f32) (d : FVec Ideal S1024x1024 .f32)

/-- The stored block of the residual stream. -/
theorem p1 (r k : Fin 1024) : k0_pay1 (F := Ideal) x y e d (ix2 r k)
    = entry (fun i => x (ix2 r i)) (fun i => y (ix3 0 i k)) (e (ix3 0 0 k)) (d (ix2 r k)) := by
  pointwise [k0_pay1]
  rfl

/-- The stored block of the norm. -/
theorem p2 (f : FVec Ideal S1x1024 .f32) (r k : Fin 1024) : k0_pay2 (F := Ideal) x y e d f (ix2 r k)
    = nrm (fun i => k0_pay1 (F := Ideal) x y e d (ix2 r i)) (fun i => f (ix2 0 i)) k := by
  pointwise [k0_pay2]
  rfl

end Block

theorem idx : ∀ t : Fin cfg0.N, win0_0.index t = ![t.val, 0] ∧ win0_1.index t = ![0, 0, 0] ∧ win0_2.index t = ![0, 0, 0] ∧ win0_3.index t = ![t.val, 0]
    ∧ win0_4.index t = ![0, 0] ∧ win0_5.index t = ![t.val, 0] ∧ win0_6.index t = ![t.val, 0] :=
  (by decide +kernel : ∀ t : Fin grid0.N, _)

/-- The row of the whole array that is row `r` of point `t`'s block. -/
abbrev row (t : Fin 4) (r : Fin 1024) : Fin 4096 := blockRow (by norm_num) t r

variable {m : (ℓ : Loc nD τ sig) → Buf (Elt Ideal) ℓ} {c : Dev nD}

theorem iblk0 (t : Fin cfg0.N) (r k : Fin 1024) : iblk m c 0 t (ix2 r k) = m ((c.tc : Thread nD τ).loc main_arg0) (ix2 (row t r) k) := by
  refine congrArg (m ((c.tc : Thread nD τ).loc main_arg0)) ?_
  blk_ext! [idx t]
  show _ = 1024 * t.val + r.val
  omega

theorem iblk1 (t : Fin cfg0.N) (r k : Fin 1024) : iblk m c 1 t (ix3 0 r k) = m ((c.tc : Thread nD τ).loc main_arg1) (ix2 r k) := by
  blk_simp [iblk, idx t]; entry_read; pointwise
  blk_ext! [iblk, V, idx t]

theorem iblk2 (t : Fin cfg0.N) (k : Fin 1024) : iblk m c 2 t (ix3 0 0 k) = m ((c.tc : Thread nD τ).loc main_arg2) (ix1 k) := by
  blk_simp [iblk, idx t]; entry_read; pointwise
  blk_ext! [iblk, V, idx t]

theorem iblk3 (t : Fin cfg0.N) (r k : Fin 1024) : iblk m c 3 t (ix2 r k) = m ((c.tc : Thread nD τ).loc main_arg3) (ix2 (row t r) k) := by
  refine congrArg (m ((c.tc : Thread nD τ).loc main_arg3)) ?_
  blk_ext! [idx t]
  show _ = 1024 * t.val + r.val
  omega

theorem iblk4 (t : Fin cfg0.N) (k : Fin 1024) : iblk m c 4 t (ix2 0 k) = m ((c.tc : Thread nD τ).loc main_arg4) (ix1 k) := by
  blk_simp [iblk, idx t]; entry_read; pointwise
  blk_ext! [iblk, V, idx t]

/-- The residual stream on the arguments a memory holds. -/
abbrev after (m : (ℓ : Loc nD τ sig) → Buf (Elt Ideal) ℓ) (c : Dev nD) : FVec Ideal S4096x1024 .f32 :=
  stream (m ((c.tc : Thread nD τ).loc main_arg0)) (m ((c.tc : Thread nD τ).loc main_arg1)) (m ((c.tc : Thread nD τ).loc main_arg2))
    (m ((c.tc : Thread nD τ).loc main_arg3))

/-- Point `t` computes its rows of the residual stream. -/
theorem rows (t : Fin cfg0.N) (r k : Fin 1024) :
    k0_pay1 (F := Ideal) (iblk m c 0 t) (iblk m c 1 t) (iblk m c 2 t) (iblk m c 3 t) (ix2 r k) = after m c (ix2 (row t r) k) := by
  rw [p1, funext fun i => iblk0 t r i, funext fun i => iblk1 t i k, iblk2, iblk3]
  rfl

/-- The residual stream's array after the run. -/
theorem arr5 : (dats m 0 c).arrAt 5 cfg0.N = after m c := by
  refine (dats m 0 c).arrAt_eq_of_covers 5 _ (by decide +kernel) fun t hf i => ?_
  blk_simp
  rw [after0_5]
  obtain ⟨r, k, rfl⟩ := exists_ix2 i
  trans after m c (ix2 (row t r) k)
  · unfold out0_5
    frame_out
    exact rows t r k
  · refine congrArg (after m c) ?_
    blk_ext! [idx t]
    show 1024 * t.val + r.val = _
    omega

/-- The norm's array after the run. -/
theorem arr6 : (dats m 0 c).arrAt 6 cfg0.N = normed (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg3)) := by
  refine (dats m 0 c).arrAt_eq_of_covers 6 _ (by decide +kernel) fun t hf i => ?_
  blk_simp
  rw [after0_6]
  obtain ⟨r, k, rfl⟩ := exists_ix2 i
  trans normed (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg3)) (ix2 (row t r) k)
  · unfold out0_6
    frame_out
    rw [p2]
    exact nrm_congr (fun j => rows t r j) (fun j => iblk4 t j) k
  · refine congrArg _ ?_
    blk_ext! [idx t]
    show 1024 * t.val + r.val = _
    omega

/-- The call computes the residual stream and its norm that the plain lines give. -/
theorem algebraic : Cert.algebraic_Pw2FwdIdeal_Pw2FwdRefIdeal := by
  pair_intro
  · run_from Cert.Pw2FwdIdeal.Value.run_blocks m g
  · refine (θ_run _ _ _).mono (fun _ h c => ?_) (run_vals m' g')
    have H := h c
    rw [(hagree c).1, (hagree c).2.1, (hagree c).2.2.1, (hagree c).2.2.2.1, (hagree c).2.2.2.2] at H
    exact ⟨H.1.trans arr5.symm, H.2.1.trans arr6.symm, (h c).2.2⟩

end Cert.Proof.Pw2Fwd

end
-- ==== Proof.FfnFwdBlock.lean ====
/- One tile of the feed-forward block's forward call: a chunk's gates, its part of the sum, and the norm after a row tile's last chunk. -/
module

public import proofs.«01_k».proof.Defs
public import proofs.«01_k».proof.Proof.RmsRow
public import proofs.«01_k».proof.Proof.Pw1Block
public import proofs.«01_k».proof.Proof.FfnBlock
public import proofs.«01_k».proof.Proof.Gen.FfnFwdIdeal.Value
import Idealize.ShloMosaic.Lib.Pipeline.ValueKit
import Idealize.ShloMosaic.Lib.Pipeline.ReadBack
import Idealize.ShloMosaic.Lib.Pipeline.CanonAppend

@[expose] public section

set_option maxRecDepth 16384

noncomputable section

namespace Cert.Proof.FfnFwd

open Idealize.ShloMosaic Idealize.ShloMosaic.TcCoe Idealize.SL.Sem Cert.Reals Cert.Rms

/-- The gated product of one feature: the first gate's input times its logistic, times the second. -/
def act (a b : EReal) : EReal := a * Ideal.logistic a * b

open Cert.FfnFwdIdeal Cert.FfnFwdIdeal.Gen Cert.FfnFwdIdeal.Value

/-- Entry `(r, k)` of gate `q`: row `r` of the input times row `k` of the gate's chunk of the up weight. -/
def gate (x : FVec Ideal S1024x1024 .bf16) (u : FVec Ideal S1x2x1x704x1024 .bf16) (q : Fin 2) (r : Fin 1024) (k : Fin 704) : EReal :=
  ∑ i, x (ix2 r i) * u (ix5 0 q 0 k i)

/-- A chunk's part of the output: the gated product times the chunk of the down weight. -/
def part (x : FVec Ideal S1024x1024 .bf16) (u : FVec Ideal S1x2x1x704x1024 .bf16) (d : FVec Ideal S1x1x704x1024 .bf16) (r e : Fin 1024) : EReal :=
  ∑ k, act (gate x u 0 r k) (gate x u 1 r k) * d (ix4 0 0 k e)

/-- What a store of 256 rows adds: the rows' gated product times the down weight. -/
def rowsAdd (x : FVec Ideal S256x1024 .bf16) (p q : FVec Ideal S1x1x1x704x1024 .bf16) (v : FVec Ideal S256x1024 .f32) (d : FVec Ideal S1x1x704x1024 .bf16) : FVec Ideal S256x1024 .f32 :=
  k0_pay14 (F := Ideal) (k0_pay12 x p q) (k0_pay13 v) d

theorem gate_first (x : FVec Ideal S256x1024 .bf16) (p : FVec Ideal S1x1x1x704x1024 .bf16) (r : Fin 256) (k : Fin 704) :
    k0_pay8 (F := Ideal) x p (ix2 r k) = ∑ i, x (ix2 r i) * p (ix5 0 0 0 k i) := by
  pointwise [k0_pay8, k0_pay7]

theorem gate_second (x : FVec Ideal S256x1024 .bf16) (p : FVec Ideal S1x1x1x704x1024 .bf16) (r : Fin 256) (k : Fin 704) :
    k0_pay9 (F := Ideal) x p (ix2 r k) = ∑ i, x (ix2 r i) * p (ix5 0 0 0 k i) := by
  pointwise [k0_pay9, k0_pay7]

theorem rowsAdd_at (x : FVec Ideal S256x1024 .bf16) (p q : FVec Ideal S1x1x1x704x1024 .bf16) (v : FVec Ideal S256x1024 .f32) (d : FVec Ideal S1x1x704x1024 .bf16) (r : Fin 256) (e : Fin 1024) :
    rowsAdd x p q v d (ix2 r e) = v (ix2 r e) + ∑ k, act (∑ i, x (ix2 r i) * p (ix5 0 0 0 k i)) (∑ i, x (ix2 r i) * q (ix5 0 0 0 k i)) * d (ix4 0 0 k e) := by
  pointwise [rowsAdd, k0_pay14, k0_pay12, k0_pay13]
  simp only [gate_first, gate_second]
  rfl

theorem norm_at (y : FVec Ideal S256x1024 .f32) (g : FVec Ideal S1x1024 .f32) (r : Fin 256) (k : Fin 1024) :
    k0_pay4 (F := Ideal) y g (ix2 r k) = nrm (fun j => y (ix2 r j)) (fun j => g (ix2 0 j)) k := by
  pointwise [k0_pay4]
  rfl

section Loads

variable (x : FVec Ideal S1024x1024 .bf16) (u : FVec Ideal S1x2x1x704x1024 .bf16) (v : FVec Ideal S1024x1024 .f32) (d : FVec Ideal S1x1x704x1024 .bf16)

/-- Row `o + r` of a tile. -/
abbrev rowOf {o : ℕ} (inb : ∀ i, (![o, 0] : Fin 2 → ℕ) i + (![256, 1024] : Fin 2 → ℕ) i ≤ S1024x1024.size i) (r : Fin 256) : Fin 1024 :=
  ⟨o + r.val, lt_of_lt_of_le (Nat.add_lt_add_left r.isLt o) (inb 0)⟩

variable {o : ℕ} (inb : ∀ i, (![o, 0] : Fin 2 → ℕ) i + (![256, 1024] : Fin 2 → ℕ) i ≤ S1024x1024.size i)

theorem emb_row (r : Fin 256) (k : Fin 1024) : (Rect.unit (s := S1024x1024) ![o, 0] ![256, 1024] inb).emb (ix2 r k) = ix2 (rowOf inb r) k :=
  (Cert.Proof.Pw1.emb_part inb r k).trans (congrArg (ix2 _) (Fin.ext (Nat.zero_add k.val)))

/-- A gate's chunk of the up weight, read from the two. -/
theorem ld_gate {q : Fin 2} {n : ℕ} (hn : q.val = n) (b : ∀ i, (![0, n, 0, 0, 0] : Fin 5 → ℕ) i + (![1, 1, 1, 704, 1024] : Fin 5 → ℕ) i ≤ S1x2x1x704x1024.size i) (k : Fin 704) (i : Fin 1024) :
    (View.ld (Val := Elt Ideal) (e' := .bf16) u (Rect.unit ![0, n, 0, 0, 0] ![1, 1, 1, 704, 1024] b) : FVec Ideal S1x1x1x704x1024 .bf16) (ix5 0 0 0 k i) = u (ix5 0 q 0 k i) := by
  subst hn
  refine congrArg u (funext fun a => ?_)
  match a with
  | ⟨0, _⟩ => rfl
  | ⟨1, _⟩ => rfl
  | ⟨2, _⟩ => rfl
  | ⟨3, _⟩ => exact Fin.ext (show 0 + 1 * k.val = k.val by omega)
  | ⟨4, _⟩ => exact Fin.ext (show 0 + 1 * i.val = i.val by omega)

/-- The gate's sum over loaded parts is the gate of the tile. -/
theorem gate_ld {q : Fin 2} {n : ℕ} (hn : q.val = n) (b : ∀ i, (![0, n, 0, 0, 0] : Fin 5 → ℕ) i + (![1, 1, 1, 704, 1024] : Fin 5 → ℕ) i ≤ S1x2x1x704x1024.size i) (r : Fin 256) (k : Fin 704) :
    ∑ i : Fin 1024, (View.ld (Val := Elt Ideal) (e' := .bf16) x (Rect.unit ![o, 0] ![256, 1024] inb) : FVec Ideal S256x1024 .bf16) (ix2 r i)
      * (View.ld (Val := Elt Ideal) (e' := .bf16) u (Rect.unit ![0, n, 0, 0, 0] ![1, 1, 1, 704, 1024] b) : FVec Ideal S1x1x1x704x1024 .bf16) (ix5 0 0 0 k i) = gate x u q (rowOf inb r) k :=
  Finset.sum_congr rfl fun i _ => congrArg₂ (· * ·) (congrArg x (emb_row inb r i)) (ld_gate u hn b k i)

/-- The tile after a chunk: what it was, with the chunk's part added. -/
def plus : FVec Ideal S1024x1024 .f32 := fun i => v i + part x u d (i 0) (i 1)

variable (b0 : ∀ i, (![0, 0, 0, 0, 0] : Fin 5 → ℕ) i + (![1, 1, 1, 704, 1024] : Fin 5 → ℕ) i ≤ S1x2x1x704x1024.size i)
  (b1 : ∀ i, (![0, 1, 0, 0, 0] : Fin 5 → ℕ) i + (![1, 1, 1, 704, 1024] : Fin 5 → ℕ) i ≤ S1x2x1x704x1024.size i)

/-- The 256 rows from `o` on that a point stores. -/
abbrev stored : FVec Ideal S256x1024 .f32 :=
  rowsAdd (View.ld (Val := Elt Ideal) (e' := .bf16) x (Rect.unit ![o, 0] ![256, 1024] inb)) (View.ld (Val := Elt Ideal) (e' := .bf16) u (Rect.unit ![0, 0, 0, 0, 0] ![1, 1, 1, 704, 1024] b0))
    (View.ld (Val := Elt Ideal) (e' := .bf16) u (Rect.unit ![0, 1, 0, 0, 0] ![1, 1, 1, 704, 1024] b1)) (View.ld (Val := Elt Ideal) (e' := .f32) v (Rect.unit ![o, 0] ![256, 1024] inb)) d

theorem stored_row (r : Fin 256) (e : Fin 1024) : stored x u v d inb b0 b1 (ix2 r e) = plus x u v d (ix2 (rowOf inb r) e) := by
  rw [stored, rowsAdd_at]
  exact congrArg₂ (· + ·) (congrArg v (emb_row inb r e)) (Finset.sum_congr rfl fun k _ => congrArg (· * d (ix4 0 0 k e))
    (congrArg₂ act (gate_ld x u inb (q := 0) rfl b0 r k) (gate_ld x u inb (q := 1) rfl b1 r k)))

theorem stored_emb (y : (Rect.unit (s := S1024x1024) ![o, 0] ![256, 1024] inb).shape.Idx) : stored x u v d inb b0 b1 y = plus x u v d ((Rect.unit ![o, 0] ![256, 1024] inb).emb y) := by
  obtain ⟨r, e, rfl⟩ := exists_ix2 (a := 256) (b := 1024) y
  exact (stored_row x u v d inb b0 b1 r e).trans (congrArg _ (emb_row inb r e).symm)

/-- The norm of the stored rows is the norm of the tile's rows. -/
theorem norm_emb (g : FVec Ideal S1x1024 .f32) (y : (Rect.unit (s := S1024x1024) ![o, 0] ![256, 1024] inb).shape.Idx) :
    k0_pay4 (F := Ideal) (stored x u v d inb b0 b1) g y
      = (fun i : S1024x1024.Idx => nrm (fun j => plus x u v d (ix2 (i 0) j)) (fun j => g (ix2 0 j)) (i 1)) ((Rect.unit ![o, 0] ![256, 1024] inb).emb y) := by
  obtain ⟨r, e, rfl⟩ := exists_ix2 (a := 256) (b := 1024) y
  rw [norm_at]
  refine Eq.trans (nrm_congr (fun j => stored_row x u v d inb b0 b1 r j) (fun _ => rfl) e) ?_
  refine Eq.trans ?_ (congrArg (fun i : S1024x1024.Idx => nrm (fun j => plus x u v d (ix2 (i 0) j)) (fun j => g (ix2 0 j)) (i 1)) (emb_row inb r e).symm)
  rfl

end Loads

variable {m : (ℓ : Loc nD τ sig) → Buf (Elt Ideal) ℓ} {c : Dev nD} {t : Fin cfg0.N}

/-- The running sum before point `t`. -/
abbrev prev (m : (ℓ : Loc nD τ sig) → Buf (Elt Ideal) ℓ) (c : Dev nD) (t : Fin cfg0.N) : FVec Ideal S1024x1024 .f32 :=
  (outsAt0 m c (t.val - 1) (by have := t.isLt; omega)).1

section Pieces

variable (x : FVec Ideal S1024x1024 .bf16) (u : FVec Ideal S1x2x1x704x1024 .bf16) (v : FVec Ideal S1024x1024 .f32) (d : FVec Ideal S1x1x704x1024 .bf16)
  (b0 : ∀ i, (![0, 0, 0, 0, 0] : Fin 5 → ℕ) i + (![1, 1, 1, 704, 1024] : Fin 5 → ℕ) i ≤ S1x2x1x704x1024.size i)
  (b1 : ∀ i, (![0, 1, 0, 0, 0] : Fin 5 → ℕ) i + (![1, 1, 1, 704, 1024] : Fin 5 → ℕ) i ≤ S1x2x1x704x1024.size i)
  (i3 : ∀ i, (![768, 0] : Fin 2 → ℕ) i + (![256, 1024] : Fin 2 → ℕ) i ≤ S1024x1024.size i) (i2 : ∀ i, (![512, 0] : Fin 2 → ℕ) i + (![256, 1024] : Fin 2 → ℕ) i ≤ S1024x1024.size i)
  (i1 : ∀ i, (![256, 0] : Fin 2 → ℕ) i + (![256, 1024] : Fin 2 → ℕ) i ≤ S1024x1024.size i) (i0 : ∀ i, (![0, 0] : Fin 2 → ℕ) i + (![256, 1024] : Fin 2 → ℕ) i ≤ S1024x1024.size i)

/-- The four stores of the running sum each hold their rows of the tile after the chunk. -/
theorem sum_pieces : ∀ p ∈ [(⟨Rect.unit ![768, 0] ![256, 1024] i3, stored x u v d i3 b0 b1⟩ : View.Piece (Elt Ideal) S1024x1024 .f32), ⟨Rect.unit ![512, 0] ![256, 1024] i2, stored x u v d i2 b0 b1⟩,
      ⟨Rect.unit ![256, 0] ![256, 1024] i1, stored x u v d i1 b0 b1⟩, ⟨Rect.unit ![0, 0] ![256, 1024] i0, stored x u v d i0 b0 b1⟩],
    ∀ y : p.1.shape.Idx, p.2 y = plus x u v d (p.1.emb y) := by
  intro p hp
  simp only [List.mem_cons, List.not_mem_nil, or_false] at hp
  rcases hp with rfl | rfl | rfl | rfl
  all_goals exact stored_emb x u v d _ b0 b1

end Pieces

/-- The running sum after a chunk that is not a row tile's first. -/
theorem sum_next (h0 : ¬t.val % 4 = 0) : (outsAt0 m c t.val t.isLt).1 = plus (iblk m c 0 t) (iblk m c 2 t) (prev m c t) (iblk m c 3 t) := by
  funext i
  by_cases h1 : t.val % 4 = 3
  case' pos => rw [outsAt0_C m c t h0 h1]
  case' neg => rw [outsAt0_B m c t h0 h1]
  all_goals
    frame_open
    simp (disch := decide) only [↓ View.readCov_skip, ↓ View.readCov_cons_toLoadRect, ↓ View.readCov_fill]
    frame_out
    exact View.canon_apply_of_pieces (Val := Elt Ideal) (S := S1024x1024) (e := .f32) (plus (iblk m c 0 t) (iblk m c 2 t) (prev m c t) (iblk m c 3 t)) _
      (sum_pieces (iblk m c 0 t) (iblk m c 2 t) (prev m c t) (iblk m c 3 t) _ _ _ _ _ _) i (View.cover_of_tiledL (s := S1024x1024) _ S256x1024.size (by sl_kernel_rfl) i)

/-- The running sum after a row tile's first chunk. -/
theorem sum_first (h0 : t.val % 4 = 0) : (outsAt0 m c t.val t.isLt).1 = plus (iblk m c 0 t) (iblk m c 2 t) (iblk m c 1 t) (iblk m c 3 t) := by
  funext i
  have h1 : ¬t.val % 4 = 3 := by omega
  rw [outsAt0_A m c t h0 h1]
  frame_open
  simp (disch := decide) only [↓ View.readCov_skip, ↓ View.readCov_cons_toLoadRect, ↓ View.readCov_fill]
  frame_out
  exact View.canon_append_of_pieces (Val := Elt Ideal) (S := S1024x1024) (e := .f32) (plus (iblk m c 0 t) (iblk m c 2 t) (iblk m c 1 t) (iblk m c 3 t)) [_] _
    (sum_pieces (iblk m c 0 t) (iblk m c 2 t) (iblk m c 1 t) (iblk m c 3 t) _ _ _ _ _ _) i (View.cover_of_tiledL (s := S1024x1024) _ S256x1024.size (by sl_kernel_rfl) i)

/-- The norm stored at a row tile's last chunk. -/
theorem norm_last (h1 : t.val % 4 = 3) : (outsAt0 m c t.val t.isLt).2.2
    = fun i => nrm (fun j => plus (iblk m c 0 t) (iblk m c 2 t) (prev m c t) (iblk m c 3 t) (ix2 (i 0) j)) (fun j => iblk m c 4 t (ix2 0 j)) (i 1) := by
  have h0 : ¬t.val % 4 = 0 := by omega
  funext i
  rw [outsAt0_C m c t h0 h1]
  frame_open
  simp (disch := decide) only [↓ View.readCov_skip, ↓ View.readCov_cons_toLoadRect, ↓ View.readCov_fill]
  frame_out
  refine View.canon_apply_of_pieces (Val := Elt Ideal) (S := S1024x1024) (e := .bf16)
    (fun i => nrm (fun j => plus (iblk m c 0 t) (iblk m c 2 t) (prev m c t) (iblk m c 3 t) (ix2 (i 0) j)) (fun j => iblk m c 4 t (ix2 0 j)) (i 1)) _ (fun p hp => ?_) i
    (View.cover_of_tiledL (s := S1024x1024) _ S256x1024.size (by sl_kernel_rfl) i)
  simp only [List.mem_cons, List.not_mem_nil, or_false] at hp
  rcases hp with rfl | rfl | rfl | rfl
  all_goals exact norm_emb (iblk m c 0 t) (iblk m c 2 t) (prev m c t) (iblk m c 3 t) _ _ _ (iblk m c 4 t)

/-- The place in the tile of the gates of an index of a store of 256 rows. -/
theorem emb_gate {q : Fin 2} {n o : ℕ} (hn : q.val = n) (inb : ∀ i, (![n, 0, o, 0] : Fin 4 → ℕ) i + (![1, 1, 256, 704] : Fin 4 → ℕ) i ≤ S2x1x1024x704.size i)
    (ir : ∀ i, (![o, 0] : Fin 2 → ℕ) i + (![256, 1024] : Fin 2 → ℕ) i ≤ S1024x1024.size i) (u v : Fin 1) (r : Fin 256) (k : Fin 704) :
    (Rect.unit (s := S2x1x1024x704) ![n, 0, o, 0] ![1, 1, 256, 704] inb).emb (ix4 u v r k) = ix4 q 0 (rowOf ir r) k := by
  subst hn
  have := u.isLt; have := v.isLt
  funext n
  match n with
  | ⟨0, _⟩ => exact Fin.ext (show q.val + 1 * u.val = q.val by omega)
  | ⟨1, _⟩ => exact Fin.ext (show 0 + 1 * v.val = 0 by omega)
  | ⟨2, _⟩ => exact Fin.ext (show o + 1 * r.val = o + r.val by omega)
  | ⟨3, _⟩ => exact Fin.ext (show 0 + 1 * k.val = k.val by omega)

/-- The tile of the gates. -/
def gtile (x : FVec Ideal S1024x1024 .bf16) (u : FVec Ideal S1x2x1x704x1024 .bf16) : FVec Ideal S2x1x1024x704 .bf16 := fun i => gate x u (i 0) (i 2) (i 3)

section GatePieces

variable (x : FVec Ideal S1024x1024 .bf16) (u : FVec Ideal S1x2x1x704x1024 .bf16)
  (b0 : ∀ i, (![0, 0, 0, 0, 0] : Fin 5 → ℕ) i + (![1, 1, 1, 704, 1024] : Fin 5 → ℕ) i ≤ S1x2x1x704x1024.size i)
  (b1 : ∀ i, (![0, 1, 0, 0, 0] : Fin 5 → ℕ) i + (![1, 1, 1, 704, 1024] : Fin 5 → ℕ) i ≤ S1x2x1x704x1024.size i)

section Rows

variable {o : ℕ} (ir : ∀ i, (![o, 0] : Fin 2 → ℕ) i + (![256, 1024] : Fin 2 → ℕ) i ≤ S1024x1024.size i)
  (i0 : ∀ i, (![0, 0, o, 0] : Fin 4 → ℕ) i + (![1, 1, 256, 704] : Fin 4 → ℕ) i ≤ S2x1x1024x704.size i) (i1 : ∀ i, (![1, 0, o, 0] : Fin 4 → ℕ) i + (![1, 1, 256, 704] : Fin 4 → ℕ) i ≤ S2x1x1024x704.size i)

/-- The store of 256 rows of the first gate. -/
abbrev first : FVec Ideal S1x1x256x704 .bf16 :=
  k0_pay10 (F := Ideal) (View.ld (Val := Elt Ideal) (e' := .bf16) x (Rect.unit ![o, 0] ![256, 1024] ir)) (View.ld (Val := Elt Ideal) (e' := .bf16) u (Rect.unit ![0, 0, 0, 0, 0] ![1, 1, 1, 704, 1024] b0))

/-- The store of 256 rows of the second gate. -/
abbrev second : FVec Ideal S1x1x256x704 .bf16 :=
  k0_pay11 (F := Ideal) (View.ld (Val := Elt Ideal) (e' := .bf16) x (Rect.unit ![o, 0] ![256, 1024] ir)) (View.ld (Val := Elt Ideal) (e' := .bf16) u (Rect.unit ![0, 1, 0, 0, 0] ![1, 1, 1, 704, 1024] b1))

theorem first_emb (y : (Rect.unit (s := S2x1x1024x704) ![0, 0, o, 0] ![1, 1, 256, 704] i0).shape.Idx) :
    first x u b0 ir y = gtile x u ((Rect.unit (s := S2x1x1024x704) ![0, 0, o, 0] ![1, 1, 256, 704] i0).emb y) := by
  obtain ⟨p, v, r, k, rfl⟩ := Cert.Proof.Ffn.box4_index (a := 1) (b := 1) (c := 256) (d := 704) y
  refine Eq.trans ?_ (congrArg (gtile x u) (emb_gate (q := 0) rfl i0 ir p v r k).symm)
  pointwise [first, k0_pay10]
  rw [gate_first]
  exact gate_ld x u ir (q := 0) rfl b0 r k

theorem second_emb (y : (Rect.unit (s := S2x1x1024x704) ![1, 0, o, 0] ![1, 1, 256, 704] i1).shape.Idx) :
    second x u b1 ir y = gtile x u ((Rect.unit (s := S2x1x1024x704) ![1, 0, o, 0] ![1, 1, 256, 704] i1).emb y) := by
  obtain ⟨p, v, r, k, rfl⟩ := Cert.Proof.Ffn.box4_index (a := 1) (b := 1) (c := 256) (d := 704) y
  refine Eq.trans ?_ (congrArg (gtile x u) (emb_gate (q := 1) rfl i1 ir p v r k).symm)
  pointwise [second, k0_pay11]
  rw [gate_second]
  exact gate_ld x u ir (q := 1) rfl b1 r k

/-- The two stores of 256 rows, the later before the earlier. -/
abbrev two : List (View.Piece (Elt Ideal) S2x1x1024x704 .bf16) :=
  [⟨Rect.unit ![1, 0, o, 0] ![1, 1, 256, 704] i1, second x u b1 ir⟩, ⟨Rect.unit ![0, 0, o, 0] ![1, 1, 256, 704] i0, first x u b0 ir⟩]

theorem two_pieces : ∀ p ∈ two x u b0 b1 ir i0 i1, ∀ y : p.1.shape.Idx, p.2 y = gtile x u (p.1.emb y) := by
  intro p hp
  simp only [List.mem_cons, List.not_mem_nil, or_false] at hp
  rcases hp with rfl | rfl
  · exact second_emb x u b1 ir i1
  · exact first_emb x u b0 ir i0

end Rows

/-- The eight stores of the gates each hold their rows of the tile. -/
theorem gate_pieces (r3 r2 r1 r0) (f3 s3 f2 s2 f1 s1 f0 s0) : ∀ p ∈ two x u b0 b1 (o := 768) r3 f3 s3 ++ (two x u b0 b1 (o := 512) r2 f2 s2 ++ (two x u b0 b1 (o := 256) r1 f1 s1 ++ two x u b0 b1 (o := 0) r0 f0 s0)),
    ∀ y : p.1.shape.Idx, p.2 y = gtile x u (p.1.emb y) := by
  intro p hp
  simp only [List.mem_append] at hp
  rcases hp with h | h | h | h
  all_goals exact two_pieces x u b0 b1 _ _ _ p h

end GatePieces

theorem cases (t : Fin cfg0.N) : (t.val % 4 = 0 ∧ ¬t.val % 4 = 3) ∨ (¬t.val % 4 = 0 ∧ ¬t.val % 4 = 3) ∨ (¬t.val % 4 = 0 ∧ t.val % 4 = 3) := by
  omega

/-- The chunk's tile of the gates. -/
theorem gates_tile : (outsAt0 m c t.val t.isLt).2.1 = gtile (iblk m c 0 t) (iblk m c 2 t) := by
  funext i
  rcases cases t with ⟨h0, h1⟩ | ⟨h0, h1⟩ | ⟨h0, h1⟩
  case' inl => rw [outsAt0_A m c t h0 h1]
  case' inr.inl => rw [outsAt0_B m c t h0 h1]
  case' inr.inr => rw [outsAt0_C m c t h0 h1]
  all_goals
    frame_open
    try simp (disch := decide) only [↓ View.readCov_skip, ↓ View.readCov_cons_toLoadRect, ↓ View.readCov_fill]
    frame_out
    exact View.canon_apply_of_pieces (Val := Elt Ideal) (S := S2x1x1024x704) (e := .bf16) (gtile (iblk m c 0 t) (iblk m c 2 t)) _
      (gate_pieces (iblk m c 0 t) (iblk m c 2 t) _ _ _ _ _ _ _ _ _ _ _ _ _ _) i
      (View.cover_of_tiledL (s := S2x1x1024x704) _ S1x1x256x704.size (by sl_kernel_rfl) i)

end Cert.Proof.FfnFwd
-- ==== Proof.FfnFwd.lean ====
/- The feed-forward block's forward call: kernel and reference hold the same three arrays, at all arguments. -/
module

public import proofs.«01_k».proof.Defs
public import proofs.«01_k».proof.Proof.FfnFwdBlock
public import proofs.«01_k».proof.Proof.Gen.FfnFwdRefIdeal.Run
public import proofs.«01_k».proof.Proof.Gen.FfnFwdRefIdeal.Read
public import proofs.«01_k».proof.Proof.Gen.FfnFwdRefIdeal
public import Idealize.ShloMosaic.Lib.Claim
public import Idealize.ShloMosaic.Lib.Quiescent
import Idealize.ShloMosaic.Lib.Pipeline.ValueKit

@[expose] public section

set_option maxRecDepth 16384

noncomputable section

namespace Cert.Proof.FfnFwd

open Idealize.ShloMosaic Idealize.ShloMosaic.TcCoe Idealize.SL.Sem Cert.Reals Cert.Rms

/-- Column `k` of gate `q`'s half of the up weight. -/
abbrev gcol (q : Fin 2) (k : Fin 2816) : Fin 5632 := blockRow (T := 2) (B := 2816) rfl q k

/-- Feature `k` of chunk `j`. -/
abbrev feature (j : Fin 4) (k : Fin 704) : Fin 2816 := blockRow (T := 4) (B := 704) rfl j k

section Whole

variable (X : FVec Ideal ⟨2, ![4096, 1024]⟩ .f32) (g : FVec Ideal ⟨1, ![1024]⟩ .f32) (U : FVec Ideal ⟨2, ![1024, 5632]⟩ .f32) (D : FVec Ideal ⟨2, ![2816, 1024]⟩ .f32)
  (gn : FVec Ideal ⟨1, ![1024]⟩ .f32)

/-- The normalised input. -/
def un (r : Fin 4096) (i : Fin 1024) : EReal := nrm (fun k => X (ix2 r k)) (fun k => g (ix1 k)) i

/-- The gates' inputs. -/
def gin (q : Fin 2) (r : Fin 4096) (k : Fin 2816) : EReal := ∑ i, un X g r i * U (ix2 i (gcol q k))

/-- Feature `k`'s part of the block's output. -/
def term (r : Fin 4096) (e : Fin 1024) (k : Fin 2816) : EReal := act (gin X g U 0 r k) (gin X g U 1 r k) * D (ix2 k e)

/-- The block's output: the input plus the gated product times the down weight. -/
def out (r : Fin 4096) (e : Fin 1024) : EReal := X (ix2 r e) + ∑ k, term X g U D r e k

/-- The three arrays of the call: the output, the gates' inputs chunk by chunk, and the output normalised for the next block. -/
def outs : FVec Ideal ⟨2, ![4096, 1024]⟩ .f32 := fun i => out X g U D (i 0) (i 1)

/-- The gates' inputs, by gate and chunk. -/
def gins : FVec Ideal ⟨4, ![2, 4, 4096, 704]⟩ .bf16 := fun i => gin X g U (i 0) (i 2) (feature (i 1) (i 3))

/-- The output normalised for the next block. -/
def nexts : FVec Ideal ⟨2, ![4096, 1024]⟩ .bf16 := fun i => nrm (out X g U D (i 0)) (fun k => gn (ix1 k)) (i 1)

end Whole

section Reference

open Cert.FfnFwdRefIdeal Cert.FfnFwdRefIdeal.Read

variable (X : FVec Ideal S4096x1024 .f32) (g : FVec Ideal S1024 .f32) (U : FVec Ideal S1024x5632 .f32) (D : FVec Ideal S2816x1024 .f32) (gn : FVec Ideal S1024 .f32)

theorem v12 (r : Fin 4096) (i : Fin 1024) : val_main_v12 (F := Ideal) X g (ix2 r i) = un X g r i := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem v13 (q : Fin 2) (r : Fin 4096) (k : Fin 2816) : val_main_v13 (F := Ideal) X g U (ix2 r (gcol q k)) = gin X g U q r k := by
  pointwise [val_main_v13]
  exact Finset.sum_congr rfl fun i _ => congrArg (· * _) (v12 X g r i)

theorem v14 (r : Fin 4096) (k : Fin 2816) : val_main_v14 (F := Ideal) X g U (ix2 r k) = gin X g U 0 r k := by
  pointwise [val_main_v14]
  refine Eq.trans (congrArg (val_main_v13 (F := Ideal) X g U) (congrArg (ix2 r) (Fin.ext ?_))) (v13 X g U 0 r k)
  simp [blockRow]

theorem v15 (r : Fin 4096) (k : Fin 2816) : val_main_v15 (F := Ideal) X g U (ix2 r k) = gin X g U 1 r k := by
  pointwise [val_main_v15]
  refine Eq.trans (congrArg (val_main_v13 (F := Ideal) X g U) (congrArg (ix2 r) (Fin.ext ?_))) (v13 X g U 1 r k)
  simp [blockRow]

theorem v17 (r : Fin 4096) (k : Fin 2816) : val_main_v17 (F := Ideal) X g U (ix2 r k) = act (gin X g U 0 r k) (gin X g U 1 r k) := by
  pointwise [val_main_v17, val_main_v16, val_main_call0_v5, val_main_call0_v4, val_main_call0_cst_0, val_main_call0_v3, val_main_call0_v2, val_main_call0_cst, val_main_call0_v1, val_main_call0_v0]
  rw [v14, v15]
  simp only [one_coe]
  rfl

theorem v19 (r : Fin 4096) (e : Fin 1024) : val_main_v19 (F := Ideal) X g U D (ix2 r e) = out X g U D r e := by
  pointwise [val_main_v19, val_main_v18]
  exact congrArg (X (ix2 r e) + ·) (Finset.sum_congr rfl fun k _ => congrArg (· * _) (v17 X g U r k))

/-- The reference's output. -/
theorem r19 : val_main_v19 (F := Ideal) X g U D = outs X g U D := by
  funext i
  obtain ⟨r, e, rfl⟩ := exists_ix2 i
  exact v19 X g U D r e

/-- The reference's gates' inputs. -/
theorem r22 : val_main_v22 (F := Ideal) X g U = gins X g U := by
  funext i
  obtain ⟨q, j, r, k, rfl⟩ := Cert.Proof.Ffn.box4_index i
  refine Eq.trans ?_ (v13 X g U q r (feature j k))
  pointwise [val_main_v22, val_main_v21, val_main_v20]
  refine congrArg (val_main_v13 (F := Ideal) X g U) (congrArg (ix2 r) (Fin.ext ?_))
  simp only [blockRow]
  omega

/-- The reference's normalised output. -/
theorem r36 : val_main_v36 (F := Ideal) X g U D gn = nexts X g U D gn := by
  funext i
  obtain ⟨r, k, rfl⟩ := exists_ix2 i
  pointwise [val_main_v36, val_main_v35, val_main_v34, val_main_v33, val_main_v32, val_main_v31, val_main_v30, val_main_v29, val_main_v28, val_main_v27,
    val_main_v26, val_main_v25, val_main_v24, val_main_v23, val_main_cst_2, val_main_cst_3, val_main_cst_4]
  simp only [v19]
  rfl

/-- The reference's run, its results named. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = outs (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v22) = gins (m ((c.tc : Thread nD τ).loc main_arg0)) (m ((c.tc : Thread nD τ).loc main_arg1)) (m ((c.tc : Thread nD τ).loc main_arg2))
      ∧ r.2.mem ((c.tc : Thread nD τ).loc main_v36) = nexts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans ((val_main_v19_eq ..).trans (r19 ..)), (h c).2.1.trans ((val_main_v22_eq ..).trans (r22 ..)),
      (h c).2.2.1.trans ((val_main_v36_eq m c).trans (r36 ..)), (h c).2.2.2⟩)
    (Cert.FfnFwdRefIdeal.Value.run m ρ)

end Reference

/-- The reference leaves its arguments as they were; it has no semaphore. -/
theorem frame_ref : Cert.quiescent_FfnFwdRefIdeal := fun m g _ =>
  (θ_run _ _ _).mono (fun _ h => ⟨fun c => (h c).2.2.2, sem_eq_zero_of_no_sems (by decide) _⟩) (run_vals m g)

open Cert.FfnFwdIdeal Cert.FfnFwdIdeal.Gen Cert.FfnFwdIdeal.Value

theorem idx : ∀ t : Fin cfg0.N, win0_0.index t = ![t.val / 4, 0] ∧ win0_1.index t = ![t.val / 4, 0] ∧ win0_2.index t = ![0, 0, t.val % 4, 0, 0]
    ∧ win0_3.index t = ![0, t.val % 4, 0, 0] ∧ win0_4.index t = ![0, 0] ∧ win0_5.index t = ![t.val / 4, 0] ∧ win0_6.index t = ![0, t.val % 4, t.val / 4, 0]
    ∧ win0_7.index t = ![t.val / 4, 0] :=
  (by decide +kernel : ∀ t : Fin grid0.N, _)

/-- Row `r` of row tile `i`. -/
abbrev trow (i : ℕ) (r : Fin 1024) : Fin 4096 := blockRow (T := 4) (B := 1024) rfl (Fin.ofNat 4 i) r

/-- Feature `k` of chunk `j`. -/
abbrev tch (j : ℕ) (k : Fin 704) : Fin 2816 := feature (Fin.ofNat 4 j) k

variable {m : (ℓ : Loc nD τ sig) → Buf (Elt Ideal) ℓ} {c : Dev nD}

/-- The input. -/
abbrev aX (m : (ℓ : Loc nD τ sig) → Buf (Elt Ideal) ℓ) (c : Dev nD) : FVec Ideal S4096x1024 .f32 := m ((c.tc : Thread nD τ).loc main_arg0)
/-- The gain. -/
abbrev aG (m : (ℓ : Loc nD τ sig) → Buf (Elt Ideal) ℓ) (c : Dev nD) : FVec Ideal S1024 .f32 := m ((c.tc : Thread nD τ).loc main_arg1)
/-- The up weight. -/
abbrev aU (m : (ℓ : Loc nD τ sig) → Buf (Elt Ideal) ℓ) (c : Dev nD) : FVec Ideal S1024x5632 .f32 := m ((c.tc : Thread nD τ).loc main_arg2)
/-- The down weight. -/
abbrev aD (m : (ℓ : Loc nD τ sig) → Buf (Elt Ideal) ℓ) (c : Dev nD) : FVec Ideal S2816x1024 .f32 := m ((c.tc : Thread nD τ).loc main_arg3)
/-- The next block's gain. -/
abbrev aN (m : (ℓ : Loc nD τ sig) → Buf (Elt Ideal) ℓ) (c : Dev nD) : FVec Ideal S1024 .f32 := m ((c.tc : Thread nD τ).loc main_arg4)

theorem div_lt (t : Fin cfg0.N) : t.val / 4 < 4 := by
  have : t.val < 16 := t.isLt
  omega

/-- The host lines' normalised input. -/
theorem host_u (r : Fin 4096) (k : Fin 1024) : V m c main_v13 (ix2 r k) = un (aX m c) (aG m c) r k := by
  unfold V
  entry_read; pointwise
  rfl

/-- Point `t`'s block of the normalised input is its rows. -/
theorem iblk0 (t : Fin cfg0.N) (r k : Fin 1024) : iblk m c 0 t (ix2 r k) = un (aX m c) (aG m c) (trow (t.val / 4) r) k := by
  refine Eq.trans ?_ (host_u _ k)
  have := div_lt t
  unfold iblk
  generalize V m c = Z
  refine congrArg (Z main_v13) ?_
  blk_ext! [idx t]
  show _ = 1024 * (t.val / 4 % 4) + r.val
  omega

/-- Point `t`'s block of the input is its rows. -/
theorem iblk1 (t : Fin cfg0.N) (r k : Fin 1024) : iblk m c 1 t (ix2 r k) = aX m c (ix2 (trow (t.val / 4) r) k) := by
  have := div_lt t
  refine congrArg (aX m c) ?_
  blk_ext! [idx t]
  show _ = 1024 * (t.val / 4 % 4) + r.val
  omega

/-- Point `t`'s block of the up weight is its chunk's columns. -/
theorem iblk2 (t : Fin cfg0.N) (q : Fin 2) (k : Fin 704) (e : Fin 1024) : iblk m c 2 t (ix5 0 q 0 k e) = aU m c (ix2 e (gcol q (tch (t.val % 4) k))) := by
  blk_simp [iblk, idx t]; entry_read; pointwise
  refine congrArg (aU m c) ?_
  blk_ext! [idx t]
  show _ = 2816 * q.val + (704 * (t.val % 4 % 4) + k.val)
  omega

/-- Point `t`'s block of the down weight is its chunk's rows. -/
theorem iblk3 (t : Fin cfg0.N) (k : Fin 704) (e : Fin 1024) : iblk m c 3 t (ix4 0 0 k e) = aD m c (ix2 (tch (t.val % 4) k) e) := by
  blk_simp [iblk, idx t]; entry_read; pointwise
  refine congrArg (aD m c) ?_
  blk_ext! [idx t]
  show _ = 704 * (t.val % 4 % 4) + k.val
  omega

/-- Every point's block of the next gain is the gain. -/
theorem iblk4 (t : Fin cfg0.N) (k : Fin 1024) : iblk m c 4 t (ix2 0 k) = aN m c (ix1 k) := by
  blk_simp [iblk, idx t]; entry_read; pointwise
  blk_ext! [iblk, V, idx t]

/-- A point's gates are the gates' inputs at its rows and features. -/
theorem gate_blk (t : Fin cfg0.N) (q : Fin 2) (r : Fin 1024) (k : Fin 704) :
    gate (iblk m c 0 t) (iblk m c 2 t) q r k = gin (aX m c) (aG m c) (aU m c) q (trow (t.val / 4) r) (tch (t.val % 4) k) :=
  Finset.sum_congr rfl fun i _ => congrArg₂ (· * ·) (iblk0 t r i) (iblk2 t q k i)

/-- Chunk `j`'s part of the output's row tile `i`. -/
abbrev piece (m : (ℓ : Loc nD τ sig) → Buf (Elt Ideal) ℓ) (c : Dev nD) (i j : ℕ) (r e : Fin 1024) : EReal :=
  ∑ k, term (aX m c) (aG m c) (aU m c) (aD m c) (trow i r) e (tch j k)

theorem part_blk (t : Fin cfg0.N) (r e : Fin 1024) : part (iblk m c 0 t) (iblk m c 2 t) (iblk m c 3 t) r e = piece m c (t.val / 4) (t.val % 4) r e :=
  Finset.sum_congr rfl fun k _ => congrArg₂ (· * ·) (congrArg₂ act (gate_blk t 0 r k) (gate_blk t 1 r k)) (iblk3 t k e)

/-- The running sum after a row tile's first chunk. -/
theorem sum_start (t : Fin cfg0.N) (h0 : t.val % 4 = 0) (r e : Fin 1024) : (outsAt0 m c t.val t.isLt).1 (ix2 r e)
    = aX m c (ix2 (trow (t.val / 4) r) e) + ∑ j ∈ Finset.range (t.val % 4 + 1), piece m c (t.val / 4) j r e := by
  rw [h0, zero_add, Finset.sum_range_one, sum_first h0, ← iblk1, ← h0, ← part_blk]
  rfl

/-- The running sum after point `n`: the input's rows and the chunks so far. -/
theorem sum_at : ∀ (n : ℕ) (hn : n < cfg0.N) (r e : Fin 1024),
    (outsAt0 m c n hn).1 (ix2 r e) = aX m c (ix2 (trow (n / 4) r) e) + ∑ j ∈ Finset.range (n % 4 + 1), piece m c (n / 4) j r e := by
  intro n
  induction n with
  | zero => exact fun hn => sum_start ⟨0, hn⟩ rfl
  | succ n ih =>
    intro hn r e
    by_cases h0 : (n + 1) % 4 = 0
    · exact sum_start ⟨n + 1, hn⟩ h0 r e
    · refine (congrFun (sum_next (t := ⟨n + 1, hn⟩) h0) (ix2 r e)).trans ?_
      refine (congrArg₂ (fun a b : EReal => a + b) (ih (Nat.lt_of_succ_lt hn) r e) (part_blk ⟨n + 1, hn⟩ r e)).trans ?_
      dsimp only
      rw [show (n + 1) % 4 = n % 4 + 1 by omega, show (n + 1) / 4 = n / 4 by omega, Finset.sum_range_succ _ (n % 4 + 1), add_assoc]

/-- The four chunks' parts are the whole sum. -/
theorem pieces_sum (i : ℕ) (r e : Fin 1024) : ∑ j ∈ Finset.range 4, piece m c i j r e = ∑ k, term (aX m c) (aG m c) (aU m c) (aD m c) (trow i r) e k := by
  rw [Finset.sum_range, ← sum_blocks (T := 4) (B := 704) rfl]
  refine Finset.sum_congr rfl fun j _ => ?_
  have : (Fin.ofNat 4 j.val : Fin 4) = j := Fin.ext (Nat.mod_eq_of_lt j.isLt)
  unfold piece tch
  rw [this]

/-- After a row tile's last chunk the running sum is the output. -/
theorem sum_last (t : Fin cfg0.N) (h : t.val % 4 = 3) (r e : Fin 1024) :
    (outsAt0 m c t.val t.isLt).1 (ix2 r e) = out (aX m c) (aG m c) (aU m c) (aD m c) (trow (t.val / 4) r) e := by
  rw [sum_at, h, pieces_sum, out]

/-- The array of the output after the run. -/
theorem arr5 : (dats m 0 c).arrAt 5 cfg0.N = outs (aX m c) (aG m c) (aU m c) (aD m c) := by
  refine (dats m 0 c).arrAt_eq_of_covers 5 _ (by decide +kernel) fun t hf i => ?_
  have h3 : t.val % 4 = 3 := (by decide +kernel : ∀ t : Fin cfg0.N, (cfg0.win 5).flush t = true → t.val % 4 = 3) t hf
  blk_simp
  rw [after0_5]
  obtain ⟨r, k, rfl⟩ := exists_ix2 i
  refine (sum_last t h3 r k).trans ?_
  show outs (aX m c) (aG m c) (aU m c) (aD m c) (ix2 (trow (t.val / 4) r) k) = _
  have := div_lt t
  refine congrArg _ ?_
  blk_ext! [idx t]
  show 1024 * (t.val / 4 % 4) + r.val = _
  omega

/-- The array of the gates' inputs after the run. -/
theorem arr6 : (dats m 0 c).arrAt 6 cfg0.N = gins (aX m c) (aG m c) (aU m c) := by
  refine (dats m 0 c).arrAt_eq_of_covers 6 _ (by decide +kernel) fun t hf i => ?_
  blk_simp
  rw [after0_6, gates_tile]
  obtain ⟨q, u, r, k, rfl⟩ := Cert.Proof.Ffn.box4_index i
  refine (gate_blk t q r k).trans ?_
  show gins (aX m c) (aG m c) (aU m c) (ix4 q (Fin.ofNat 4 (t.val % 4)) (trow (t.val / 4) r) k) = _
  have := div_lt t
  refine congrArg _ ?_
  blk_ext! [idx t]
  · show t.val % 4 % 4 = _
    omega
  · show 1024 * (t.val / 4 % 4) + r.val = _
    omega

/-- The array of the normalised output after the run. -/
theorem arr7 : (dats m 0 c).arrAt 7 cfg0.N = nexts (aX m c) (aG m c) (aU m c) (aD m c) (aN m c) := by
  refine (dats m 0 c).arrAt_eq_of_covers 7 _ (by decide +kernel) fun t hf i => ?_
  have h3 : t.val % 4 = 3 := (by decide +kernel : ∀ t : Fin cfg0.N, (cfg0.win 7).flush t = true → t.val % 4 = 3) t hf
  have h0 : ¬t.val % 4 = 0 := by omega
  blk_simp
  rw [after0_7, norm_last h3, ← sum_next h0]
  obtain ⟨r, k, rfl⟩ := exists_ix2 i
  refine (nrm_congr (fun j => sum_last t h3 r j) (fun j => iblk4 t j) k).trans ?_
  show nexts (aX m c) (aG m c) (aU m c) (aD m c) (aN m c) (ix2 (trow (t.val / 4) r) k) = _
  have := div_lt t
  refine congrArg _ ?_
  blk_ext! [idx t]
  show 1024 * (t.val / 4 % 4) + r.val = _
  omega

/-- The call computes the three arrays that the plain lines give. -/
theorem algebraic : Cert.algebraic_FfnFwdIdeal_FfnFwdRefIdeal := by
  pair_intro
  · run_from Cert.FfnFwdIdeal.Value.run_blocks m g
  · refine (θ_run _ _ _).mono (fun _ h c => ?_) (run_vals m' g')
    have H := h c
    rw [(hagree c).1, (hagree c).2.1, (hagree c).2.2.1, (hagree c).2.2.2.1, (hagree c).2.2.2.2] at H
    refine ⟨H.1.trans arr5.symm, H.2.1.trans arr6.symm, H.2.2.1.trans arr7.symm, ?_⟩
    rw [← (hagree c).1, ← (hagree c).2.1, ← (hagree c).2.2.1, ← (hagree c).2.2.2.1, ← (hagree c).2.2.2.2] at H
    exact H.2.2.2

end Cert.Proof.FfnFwd

end
-- ==== Proof.Pw1Fwd.lean ====
/- The convolution's first pointwise product with its bias: kernel and reference hold the same array, at all arguments. -/
module

public import proofs.«01_k».proof.Defs
public import proofs.«01_k».proof.Proof.Pw1Block
public import proofs.«01_k».proof.Proof.Gen.Pw1FwdIdeal.Value
public import proofs.«01_k».proof.Proof.Gen.Pw1FwdRefIdeal.Run
public import proofs.«01_k».proof.Proof.Gen.Pw1FwdRefIdeal.Read
public import proofs.«01_k».proof.Proof.Gen.Pw1FwdRefIdeal
public import Idealize.ShloMosaic.Lib.Claim
public import Idealize.ShloMosaic.Lib.Quiescent
import Idealize.ShloMosaic.Lib.Pipeline.ValueKit

@[expose] public section

set_option maxRecDepth 16384

noncomputable section

namespace Cert.Proof.Pw1Fwd

open Idealize.ShloMosaic Idealize.ShloMosaic.TcCoe Idealize.SL.Sem Cert.Reals

section Reference

open Cert.Pw1FwdRefIdeal Cert.Pw1FwdRefIdeal.Read

variable (u : FVec Ideal ⟨2, ![4096, 1024]⟩ .bf16) (w : FVec Ideal ⟨2, ![1024, 2048]⟩ .f32) (b : FVec Ideal ⟨1, ![2048]⟩ .f32)

/-- The product with its bias. -/
def prod : FVec Ideal ⟨2, ![4096, 2048]⟩ .bf16 := fun i =>
  (∑ k : Fin 1024, u (ix2 (i 0 : Fin 4096) k) * w (ix2 k (i 1 : Fin 2048))) + b (ix1 (i 1 : Fin 2048))

/-- The reference's result. -/
theorem ref_value : val_main_v5 (F := Ideal) u w b = prod u w b := by
  funext i
  obtain ⟨r, k, rfl⟩ := exists_ix2 i
  pointwise [val_main_v5, val_main_v4, val_main_v3, val_main_v2, val_main_v1, val_main_v0]
  rfl

/-- The reference's run, its result named. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = prod (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((val_main_v5_eq ..).trans (ref_value _ _ _)), (h c).2⟩) (Cert.Pw1FwdRefIdeal.Value.run m ρ)

end Reference

/-- The reference leaves its arguments as they were; it has no semaphore. -/
theorem frame_ref : Cert.quiescent_Pw1FwdRefIdeal := fun m g _ =>
  (θ_run _ _ _).mono (fun _ h => ⟨fun c => (h c).2, sem_eq_zero_of_no_sems (by decide) _⟩) (run_vals m g)

open Cert.Pw1FwdIdeal Cert.Pw1FwdIdeal.Gen Cert.Pw1FwdIdeal.Value

/-- A piece of 256 rows and one column block: the product with its bias. -/
theorem piece_at (x : FVec Ideal S256x1024 .bf16) (y : FVec Ideal S1x1x1024x256 .bf16) (e : FVec Ideal S1x1x256 .f32) (r k : Fin 256) :
    k0_pay1 (F := Ideal) x y e (ix2 r k) = (∑ i, x (ix2 r i) * y (ix4 0 0 i k)) + e (ix3 0 0 k) := by
  pointwise [k0_pay1]

section Tile

variable (x : FVec Ideal S1024x1024 .bf16) (y : FVec Ideal S1x8x1024x256 .bf16) (e : FVec Ideal S1x1x2048 .f32)

/-- What a row tile's block of the result holds: the product with the weight's eight column blocks, with the bias. -/
def tile : FVec Ideal S1024x2048 .bf16 := fun i =>
  (∑ k : Fin 1024, x (ix2 (i 0 : Fin 1024) k) * y (ix4 0 ⟨(i 1).val / 256, Nat.div_lt_of_lt_mul (show (i 1).val < 256 * 8 from (i 1).isLt)⟩ k ⟨(i 1).val % 256, Nat.mod_lt _ (by norm_num)⟩))
    + e (ix3 0 0 (i 1 : Fin 2048))

section Store

variable {o q p : ℕ} (hp : p = 256 * q) (ix : ∀ i, (![o, 0] : Fin 2 → ℕ) i + (![256, 1024] : Fin 2 → ℕ) i ≤ S1024x1024.size i)
  (iy : ∀ i, (![0, q, 0, 0] : Fin 4 → ℕ) i + (![1, 1, 1024, 256] : Fin 4 → ℕ) i ≤ S1x8x1024x256.size i)
  (ie : ∀ i, (![0, 0, p] : Fin 3 → ℕ) i + (![1, 1, 256] : Fin 3 → ℕ) i ≤ S1x1x2048.size i)
  (io : ∀ i, (![o, p] : Fin 2 → ℕ) i + (![256, 256] : Fin 2 → ℕ) i ≤ S1024x2048.size i)

/-- The store of rows `o` on and column block `q`. -/
abbrev stored : View.Piece (Elt Ideal) S1024x2048 .bf16 :=
  ⟨Rect.unit ![o, p] ![256, 256] io, k0_pay1 (F := Ideal) (View.ld (Val := Elt Ideal) (e' := .bf16) x (Rect.unit ![o, 0] ![256, 1024] ix))
    (View.ld (Val := Elt Ideal) (e' := .bf16) y (Rect.unit ![0, q, 0, 0] ![1, 1, 1024, 256] iy)) (View.ld (Val := Elt Ideal) (e' := .f32) e (Rect.unit ![0, 0, p] ![1, 1, 256] ie))⟩

include hp in
/-- Each store holds its part of the tile. -/
theorem stored_emb (i : (Rect.unit (s := S1024x2048) ![o, p] ![256, 256] io).shape.Idx) :
    (stored x y e ix iy ie io).2 i = tile x y e ((Rect.unit (s := S1024x2048) ![o, p] ![256, 256] io).emb i) := by
  subst hp
  obtain ⟨r, k, rfl⟩ := exists_ix2 (a := 256) (b := 256) i
  have hk := k.isLt
  refine (piece_at _ _ _ r k).trans (Eq.trans ?_ (congrArg (tile x y e) (Cert.Proof.Pw1.emb_part io r k).symm))
  refine congrArg₂ (fun a b : EReal => a + b) (Finset.sum_congr rfl fun j _ => congrArg₂ (fun a b : EReal => a * b) (congrArg x ?_) (congrArg y ?_)) (congrArg e ?_)
  · exact (Cert.Proof.Pw1.emb_part ix r j).trans (congrArg (ix2 _) (Fin.ext (Nat.zero_add j.val)))
  · funext a
    match a with
    | ⟨0, _⟩ => rfl
    | ⟨1, _⟩ => exact Fin.ext (show q + 1 * 0 = (256 * q + k.val) / 256 by omega)
    | ⟨2, _⟩ => exact Fin.ext (show 0 + 1 * j.val = j.val by omega)
    | ⟨3, _⟩ => exact Fin.ext (show 0 + 1 * k.val = (256 * q + k.val) % 256 by omega)
  · funext a
    match a with
    | ⟨0, _⟩ => rfl
    | ⟨1, _⟩ => rfl
    | ⟨2, _⟩ => exact Fin.ext (show 256 * q + 1 * k.val = 256 * q + k.val by omega)

end Store

theorem inb_x (n : Fin 4) : ∀ i, (![256 * n.val, 0] : Fin 2 → ℕ) i + (![256, 1024] : Fin 2 → ℕ) i ≤ S1024x1024.size i := by
  revert n
  decide

theorem inb_y (q : Fin 8) : ∀ i, (![0, q.val, 0, 0] : Fin 4 → ℕ) i + (![1, 1, 1024, 256] : Fin 4 → ℕ) i ≤ S1x8x1024x256.size i := by
  revert q
  decide

theorem inb_e (q : Fin 8) : ∀ i, (![0, 0, 256 * q.val] : Fin 3 → ℕ) i + (![1, 1, 256] : Fin 3 → ℕ) i ≤ S1x1x2048.size i := by
  revert q
  decide

theorem inb_o (n : Fin 4) (q : Fin 8) : ∀ i, (![256 * n.val, 256 * q.val] : Fin 2 → ℕ) i + (![256, 256] : Fin 2 → ℕ) i ≤ S1024x2048.size i := by
  revert n q
  decide

/-- The store of 256 rows and one column block. -/
def piece (n : Fin 4) (q : Fin 8) : View.Piece (Elt Ideal) S1024x2048 .bf16 := stored x y e (inb_x n) (inb_y q) (inb_e q) (inb_o n q)

/-- It holds its part of the tile. -/
theorem piece_emb (n : Fin 4) (q : Fin 8) : ∀ i : (piece x y e n q).1.shape.Idx, (piece x y e n q).2 i = tile x y e ((piece x y e n q).1.emb i) :=
  stored_emb x y e rfl (inb_x n) (inb_y q) (inb_e q) (inb_o n q)

/-- A row tile's stores, the last one first. -/
def pieces : List (View.Piece (Elt Ideal) S1024x2048 .bf16) :=
  List.ofFn fun k : Fin 32 => piece x y e ⟨(31 - k.val) / 8, by omega⟩ ⟨(31 - k.val) % 8, by omega⟩

theorem pieces_emb : ∀ p ∈ pieces x y e, ∀ i : p.1.shape.Idx, p.2 i = tile x y e (p.1.emb i) := by
  intro p hp
  obtain ⟨k, rfl⟩ := List.mem_ofFn.1 hp
  exact piece_emb x y e _ _

/-- The call's block is made of them. -/
theorem out_eq : out0_3 (F := Ideal) x y e = View.canon (pieces x y e) := by
  unfold out0_3
  refine congrArg View.canon ?_
  sl_kernel_rfl

theorem cover (i : S1024x2048.Idx) : ∃ p ∈ pieces x y e, i ∈ p.1.set :=
  View.cover_of_tiledL (s := S1024x2048) _ S256x256.size (by sl_kernel_rfl) i

theorem out_value : out0_3 (F := Ideal) x y e = tile x y e := by
  funext i
  rw [out_eq]
  exact View.canon_apply_of_pieces (Val := Elt Ideal) (S := S1024x2048) (e := .bf16) (tile x y e) _ (pieces_emb x y e) i (cover x y e i)

end Tile

theorem idx : ∀ t : Fin cfg0.N, win0_0.index t = ![t.val, 0] ∧ win0_1.index t = ![0, 0, 0, 0] ∧ win0_2.index t = ![0, 0, 0] ∧ win0_3.index t = ![t.val, 0] :=
  (by decide +kernel : ∀ t : Fin grid0.N, _)

/-- The row of the whole array that is row `r` of point `t`'s block. -/
abbrev row (t : Fin 4) (r : Fin 1024) : Fin 4096 := blockRow (by norm_num) t r

/-- Column `k` of column block `q`. -/
abbrev col (q : Fin 8) (k : Fin 256) : Fin 2048 := blockRow (by norm_num) q k

variable {m : (ℓ : Loc nD τ sig) → Buf (Elt Ideal) ℓ} {c : Dev nD}

theorem iblk0 (t : Fin cfg0.N) (r k : Fin 1024) : iblk m c 0 t (ix2 r k) = m ((c.tc : Thread nD τ).loc main_arg0) (ix2 (row t r) k) := by
  refine congrArg (m ((c.tc : Thread nD τ).loc main_arg0)) ?_
  blk_ext! [idx t]
  show _ = 1024 * t.val + r.val
  omega

theorem iblk1 (t : Fin cfg0.N) (q : Fin 8) (r : Fin 1024) (k : Fin 256) : iblk m c 1 t (ix4 0 q r k) = m ((c.tc : Thread nD τ).loc main_arg1) (ix2 r (col q k)) := by
  blk_simp [iblk, idx t]; entry_read; pointwise
  refine congrArg (m ((c.tc : Thread nD τ).loc main_arg1)) ?_
  blk_ext! [idx t]
  show _ = 256 * q.val + k.val
  omega

theorem iblk2 (t : Fin cfg0.N) (k : Fin 2048) : iblk m c 2 t (ix3 0 0 k) = m ((c.tc : Thread nD τ).loc main_arg2) (ix1 k) := by
  blk_simp [iblk, idx t]; entry_read; pointwise
  blk_ext! [iblk, V, idx t]

/-- The product on the arguments a memory holds. -/
abbrev after (m : (ℓ : Loc nD τ sig) → Buf (Elt Ideal) ℓ) (c : Dev nD) : FVec Ideal S4096x2048 .bf16 :=
  prod (m ((c.tc : Thread nD τ).loc main_arg0)) (m ((c.tc : Thread nD τ).loc main_arg1)) (m ((c.tc : Thread nD τ).loc main_arg2))

/-- The result's array after the run. -/
theorem arr3 : (dats m 0 c).arrAt 3 cfg0.N = after m c := by
  refine (dats m 0 c).arrAt_eq_of_covers 3 _ (by decide +kernel) fun t hf i => ?_
  blk_simp
  rw [after0_3]
  obtain ⟨r, k, rfl⟩ := exists_ix2 i
  trans after m c (ix2 (row t r) k)
  · rw [out_value]
    refine congrArg₂ (fun a b : EReal => a + b) (Finset.sum_congr rfl fun j _ => congrArg₂ (fun a b : EReal => a * b) (iblk0 t r j) ((iblk1 t _ j _).trans ?_)) (iblk2 t k)
    refine congrArg (fun n => m ((c.tc : Thread nD τ).loc main_arg1) (ix2 j n)) (Fin.ext ?_)
    exact Nat.div_add_mod k.val 256
  · refine congrArg (after m c) ?_
    blk_ext! [idx t]
    show 1024 * t.val + r.val = _
    omega

/-- The call computes the product that the plain lines give. -/
theorem algebraic : Cert.algebraic_Pw1FwdIdeal_Pw1FwdRefIdeal := by
  pair_intro
  · run_from Cert.Pw1FwdIdeal.Value.run_blocks m g
  · refine (θ_run _ _ _).mono (fun _ h c => ?_) (run_vals m' g')
    have H := h c
    rw [(hagree c).1, (hagree c).2.1, (hagree c).2.2] at H
    exact ⟨H.1.trans arr3.symm, (h c).2⟩

end Cert.Proof.Pw1Fwd

end
-- ==== Proof.BiasTab.lean ====
/- The relative position bias of every pair of a block and its band: kernel and reference hold the same table, at all arguments. -/
module

public import proofs.«01_k».proof.Defs
public import proofs.«01_k».proof.Proof.BiasPieces
public import proofs.«01_k».proof.Proof.BiasTable
public import proofs.«01_k».proof.Proof.Rms
public import proofs.«01_k».proof.Proof.Gen.BiasTabIdeal.Value
public import proofs.«01_k».proof.Proof.Gen.BiasTabRefIdeal.Run
public import proofs.«01_k».proof.Proof.Gen.BiasTabRefIdeal.Read
public import proofs.«01_k».proof.Proof.Gen.BiasTabRefIdeal
public import Idealize.ShloMosaic.Lib.Claim
public import Idealize.ShloMosaic.Lib.Quiescent
import Idealize.ShloMosaic.Lib.Pipeline.ValueKit

@[expose] public section

set_option maxRecDepth 16384

noncomputable section

namespace Cert.Proof.BiasTab

open Idealize.ShloMosaic Idealize.ShloMosaic.TcCoe Idealize.SL.Sem Cert.Reals Cert.Rms Cert.Bias

/-- What stands outside the window. -/
def mask : EReal := Ideal.ofBits .f32 0xF149F2CA#32

theorem bk_lt (d : ℕ) : bk d < 32 := by
  have := List.length_filter_le (fun k => decide (8 ^ (k + 1) * 16 ^ 16 ≤ d ^ 16)) (List.range 15)
  rw [List.length_range] at this
  unfold bk
  split <;> omega

/-- The table: inside the window the bias of the distance's bucket, the mask outside. -/
def table (x : FVec Ideal ⟨2, ![32, 16]⟩ .f32) : FVec Ideal ⟨3, ![16, 128, 256]⟩ .f32 := fun i =>
  if inw (i 1) (i 2) then x (ix2 ⟨bk ((i 1 : Fin 128).val + 128 - (i 2 : Fin 256).val), bk_lt _⟩ (i 0 : Fin 16)) else mask

section Reference

open Cert.BiasTabRefIdeal Cert.BiasTabRefIdeal.Read

theorem same_index : val_main_v39 (F := Ideal) = Cert.BiasGradRefIdeal.Read.val_main_v40 (F := Ideal) := rfl

theorem same_window : val_main_v13 (F := Ideal) = Cert.BiasGradRefIdeal.Read.val_main_v13 (F := Ideal) := rfl

/-- The gather takes the row that the index names. -/
theorem gathered (x : FVec Ideal S32x16 .f32) (I : IVec S128x256x1 32) (r : Fin 128) (j : Fin 256) (h : Fin 16) {b : Fin 32}
    (hb : (I (ix3 r j 0)).toInt.toNat = b.val) :
    Host.gather gather_S32x16_S128x256x1_S128x256x16_2_0_n_n_0_2_116 x I (ix3 r j h) = x (ix2 b h) := by
  unfold Host.gather
  refine congrArg x (funext fun a => Fin.ext ?_)
  match a with
  | ⟨0, _⟩ =>
    have hs : gather_S32x16_S128x256x1_S128x256x16_2_0_n_n_0_2_116.start (ix3 r j h) I 0 = min (I (ix3 r j 0)).toInt.toNat 31 := by
      unfold GatherDims.start
      rw [dif_pos (by decide)]
      refine congrArg (fun i => min (I i).toInt.toNat 31) (funext fun a => ?_)
      match a with
      | ⟨0, _⟩ => rfl
      | ⟨1, _⟩ => rfl
      | ⟨2, _⟩ => rfl
    show gather_S32x16_S128x256x1_S128x256x16_2_0_n_n_0_2_116.start (ix3 r j h) I 0 + 0 + 0 = b.val
    rw [hs, hb]
    have := b.isLt
    omega
  | ⟨1, _⟩ =>
    show gather_S32x16_S128x256x1_S128x256x16_2_0_n_n_0_2_116.start (ix3 r j h) I 1 + 0 + h.val = h.val
    unfold GatherDims.start
    rw [dif_neg (by decide)]
    omega

/-- The reference's table. -/
theorem ref_table (x : FVec Ideal S32x16 .f32) : val_main_v43 (F := Ideal) x = table x := by
  funext i
  obtain ⟨h, r, j, rfl⟩ := box_index i
  have hw := (congrFun same_window (ix2 r j)).trans (ref_window r j)
  have hi := same_index
  unfold val_main_v43 val_main_v41 val_main_v40 val_main_call1_v1 val_main_v42
  generalize val_main_v13 (F := Ideal) = X at hw ⊢
  rw [hi]
  have hb := ref_bucket r j
  generalize Cert.BiasGradRefIdeal.Read.val_main_v40 (F := Ideal) = I at hb ⊢
  have hg := fun b : Fin 32 => gathered x I r j h (b := b)
  generalize Host.gather gather_S32x16_S128x256x1_S128x256x16_2_0_n_n_0_2_116 x I = G at hg ⊢
  pointwise [val_main_call1_v2, val_main_call1_v0, val_main_cst_11]
  rw [hw]
  show _ = if inw r j then x (ix2 ⟨bk (r.val + 128 - j.val), bk_lt _⟩ h) else mask
  by_cases w : inw r j
  · rw [if_pos w, if_pos w, sel_one]
    refine hg ⟨bk (r.val + 128 - j.val), bk_lt _⟩ ?_
    rw [hb w.1 w.2]
    exact (by decide : ∀ d : Fin 32, (BitVec.ofNat 32 d.val).toInt.toNat = d.val) ⟨_, bk_lt _⟩
  · rw [if_neg w, if_neg w, sel_zero]
    rfl

/-- The reference's run, its result named. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = table (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_v43_eq ..).trans (ref_table _)), (h c).2⟩) (Cert.BiasTabRefIdeal.Value.run m ρ)

end Reference

/-- The reference leaves its argument as it was; it has no semaphore. -/
theorem frame_ref : Cert.quiescent_BiasTabRefIdeal := fun m g _ =>
  (θ_run _ _ _).mono (fun _ h => ⟨fun c => (h c).2, sem_eq_zero_of_no_sems (by decide) _⟩) (run_vals m g)

open Cert.BiasTabIdeal Cert.BiasTabIdeal.Gen Cert.BiasTabIdeal.Value

section Layers

variable (T : IVec S128x256 32) (f : Fin 32 → Ideal .f32) (i : S128x256.Idx)

/-- A bucket's bias put where the table names the bucket, over what was there. -/
def over (acc : FVec Ideal S128x256 .f32) (b : Fin 32) : FVec Ideal S128x256 .f32 :=
  select (cmpi .eq T (broadcast S128x256 (BitVec.ofNat 32 b.val))) (broadcast S128x256 (f b)) acc

theorem over_at (acc : FVec Ideal S128x256 .f32) (b : Fin 32) : over T f acc b i = if T i = BitVec.ofNat 32 b.val then f b else acc i := by
  show Scalar.select (IntOp.cmpi CmpIPredicate.eq (T i) (BitVec.ofNat 32 b.val)) (f b) (acc i) = _
  rw [eq_word]
  by_cases e : T i = BitVec.ofNat 32 b.val
  · rw [if_pos e, if_pos e, sel_one]
  · rw [if_neg e, if_neg e, sel_zero]

/-- A place whose table entry is none of the buckets keeps what it had. -/
theorem layers_miss (l : List (Fin 32)) : (∀ b ∈ l, T i ≠ BitVec.ofNat 32 b.val) → ∀ acc, l.foldl (over T f) acc i = acc i := by
  induction l with
  | nil => exact fun _ _ => rfl
  | cons a l ih =>
    intro h acc
    rw [List.foldl_cons, ih (fun b hb => h b (List.mem_cons_of_mem a hb)), over_at, if_neg (h a List.mem_cons_self)]

/-- A place whose table entry is a bucket gets that bucket's bias. -/
theorem layers_hit {b : Fin 32} (hT : T i = BitVec.ofNat 32 b.val) (l : List (Fin 32)) : b ∈ l → ∀ acc, l.foldl (over T f) acc i = f b := by
  induction l with
  | nil => exact fun h => absurd h List.not_mem_nil
  | cons a l ih =>
    intro h acc
    by_cases hl : b ∈ l
    · exact ih hl _
    · have e : b = a := (List.mem_cons.1 h).resolve_right hl
      rw [List.foldl_cons, layers_miss T f i l, over_at, ← e, if_pos hT]
      intro d hd q
      have : b = d := (by decide : ∀ b d : Fin 32, BitVec.ofNat 32 b.val = BitVec.ofNat 32 d.val → b = d) b d (hT.symm.trans q)
      exact hl (this ▸ hd)

/-- The biases of a head, bucket after bucket, over the mask. -/
def layers : FVec Ideal S128x256 .f32 := (List.finRange 32).foldl (over T f) (broadcast S128x256 (Scalar.ofBits .f32 0xF149F2CA#32))

theorem layers_entry (r : Fin 128) (j : Fin 256) (hT : T (ix2 r j) = entry r j) :
    layers T f (ix2 r j) = if inw r j then f ⟨bk (r.val + 128 - j.val), bk_lt _⟩ else mask := by
  unfold layers
  unfold entry at hT
  by_cases w : inw r j
  · rw [if_pos w] at hT ⊢
    exact layers_hit T f _ (b := ⟨bk (r.val + 128 - j.val), bk_lt _⟩) hT _ (List.mem_finRange _) _
  · rw [if_neg w] at hT ⊢
    refine (layers_miss T f _ _ (fun b _ => ?_) _).trans rfl
    rw [hT]
    exact (by decide : ∀ b : Fin 32, 4294967295#32 ≠ BitVec.ofNat 32 b.val) b

end Layers

section Pieces

variable (c : Dev nD) (arg0 : Memref sig .tc .smem S32x16 .f32) (harg0 : arg0.IsWhole) (arg1 : Memref sig .tc .vmem S128x256 .i32) (harg1 : arg1.IsWhole)
  (arg2 : Memref sig .tc .vmem S16x128x256 .f32) (harg2 : arg2.IsWhole) (x0 : Vec Ideal S32x16 .f32) (x1 : Vec Ideal S128x256 .i32)

/-- The bias of bucket `b` and head `h`, as the kernel loads it. -/
abbrev biasOf (b : Fin 32) (h : Fin 16) : Ideal .f32 :=
  View.readAt (Elt Ideal) arg0.view (Rect.unit (s := S32x16) ![b.val, h.val] ![1, 1] (inb_cell b h)).toLoadRect (harg0.unread x0)
    (Shape.Idx.first (show 0 < (⟨2, ![1, 1]⟩ : Shape).numel by decide))

/-- The table of buckets, as the kernel loads it. -/
abbrev buckets : IVec S128x256 32 :=
  View.readAt (Elt Ideal) arg1.view (Rect.unit (s := S128x256) ![0, 0] ![128, 256] inb_S128x256_S128x256_0_0).toLoadRect (harg1.unread x1)

/-- What the kernel stores for head `h`. -/
def headBias (h : Fin 16) : FVec Ideal S1x128x256 .f32 :=
  shapeCast S1x128x256 (layers (buckets arg1 harg1 x1) fun b => biasOf arg0 harg0 x0 b h) shapeCasts_S128x256_S1x128x256

/-- Its store. -/
def slab (h : Fin 16) : View.Piece (Elt Ideal) S16x128x256 .f32 :=
  ⟨Rect.unit (s := S16x128x256) ![h.val, 0, 0] ![1, 128, 256] (inb_head h), headBias arg0 harg0 arg1 harg1 x0 x1 h⟩

/-- The kernel's stores are these, the last head first. -/
theorem slabs_eq : (kernelRun0_A c arg0 harg0 arg1 harg1 arg2 harg2 x0 x1).1
    = List.ofFn fun k : Fin 16 => slab arg0 harg0 arg1 harg1 x0 x1 ⟨15 - k.val, by omega⟩ := by
  sl_kernel_rfl

theorem biasOf_eq (b : Fin 32) (h : Fin 16) : biasOf arg0 harg0 x0 b h = x0 (ix2 b h) := by
  refine (congrFun (harg0.read_unread x0) _).trans (congrArg x0 (funext fun a => Fin.ext ?_))
  match a with
  | ⟨0, _⟩ => exact Nat.add_zero b.val
  | ⟨1, _⟩ => exact Nat.add_zero h.val

theorem buckets_eq (r : Fin 128) (j : Fin 256) : buckets arg1 harg1 x1 (ix2 r j) = x1 (ix2 r j) := by
  refine (congrFun (harg1.read_unread x1) _).trans (congrArg x1 (funext fun a => Fin.ext ?_))
  match a with
  | ⟨0, _⟩ => exact (by omega : 0 + 1 * r.val = r.val)
  | ⟨1, _⟩ => exact (by omega : 0 + 1 * j.val = j.val)

/-- A head's store is its part of the table. -/
theorem headBias_at (hT : ∀ r j, x1 (ix2 r j) = entry r j) (h : Fin 16) (r : Fin 128) (j : Fin 256) :
    headBias arg0 harg0 arg1 harg1 x0 x1 h (ix3 0 r j) = table x0 (ix3 h r j) := by
  have e := layers_entry (buckets arg1 harg1 x1) (fun b => biasOf arg0 harg0 x0 b h) r j ((buckets_eq arg1 harg1 x1 r j).trans (hT r j))
  unfold headBias
  generalize layers (buckets arg1 harg1 x1) (fun b => biasOf arg0 harg0 x0 b h) = L at e ⊢
  pointwise
  rw [e, biasOf_eq]
  rfl

theorem slab_emb (hT : ∀ r j, x1 (ix2 r j) = entry r j) (h : Fin 16) :
    ∀ y : (slab arg0 harg0 arg1 harg1 x0 x1 h).1.shape.Idx, (slab arg0 harg0 arg1 harg1 x0 x1 h).2 y = table x0 ((slab arg0 harg0 arg1 harg1 x0 x1 h).1.emb y) := by
  intro y
  obtain ⟨a, r, j, rfl⟩ := box_index (a := 1) (b := 128) (c := 256) y
  obtain rfl : a = 0 := Subsingleton.elim _ _
  refine (headBias_at arg0 harg0 arg1 harg1 x0 x1 hT h r j).trans (congrArg (table x0) (funext fun a => Fin.ext ?_))
  match a with
  | ⟨0, _⟩ => exact (by omega : h.val = h.val + 1 * 0)
  | ⟨1, _⟩ => exact (by omega : r.val = 0 + 1 * r.val)
  | ⟨2, _⟩ => exact (by omega : j.val = 0 + 1 * j.val)

/-- What the kernel's buffer holds. -/
theorem out_table (hT : ∀ r j, x1 (ix2 r j) = entry r j) : out0_A_2 c arg0 harg0 arg1 harg1 arg2 harg2 x0 x1 = table x0 := by
  funext i
  unfold out0_A_2
  rw [View.read_writes_junk_apply_eq_canon]
  refine View.canon_apply_of_pieces (Val := Elt Ideal) (e := .f32) (table x0) _ ?_ _ (cover0_A_2 c _ _ _ _ _ _ _ _ _)
  rw [slabs_eq]
  intro p hp
  obtain ⟨k, rfl⟩ := List.mem_ofFn.1 hp
  exact slab_emb arg0 harg0 arg1 harg1 x0 x1 hT _

end Pieces

theorem idx : ∀ t : Fin cfg0.N, win0_0.index t = ![0, 0] ∧ win0_1.index t = ![0, 0] ∧ win0_2.index t = ![0, 0, 0] :=
  (by decide +kernel : ∀ t : Fin grid0.N, _)

/-- Both programs' tables of buckets are one. -/
theorem same_lit : Cert.BiasTabIdeal.lit0 = Cert.BiasGradIdeal.lit0 := by
  sl_kernel_rfl

variable {m : (ℓ : Loc nD τ sig) → Buf (Elt Ideal) ℓ} {c : Dev nD}

theorem iblk0 (t : Fin cfg0.N) : iblk m c 0 t = m ((c.tc : Thread nD τ).loc main_arg0) := by
  funext i
  obtain ⟨b, h, rfl⟩ := exists_ix2 (a := 32) (b := 16) i
  blk_ext! [iblk, V, idx t]

theorem V_table (r : Fin 128) (j : Fin 256) : V m c main_c (ix2 r j) = entry r j := by
  unfold V
  entry_read
  rw [← rows_ok r j, same_lit]
  refine congrArg Cert.BiasGradIdeal.lit0 (Fin.ext ?_)
  rw [Shape.rowMajor_val_two]
  show r.val * 256 + j.val = 256 * r.val + j.val
  omega

theorem iblk1 (t : Fin cfg0.N) (r : Fin 128) (j : Fin 256) : iblk m c 1 t (ix2 r j) = entry r j := by
  rw [← V_table (m := m) (c := c) r j]
  unfold iblk
  generalize V m c = Z
  refine congrArg (Z main_c) ?_
  blk_ext! [idx t]

/-- The kernel's array after the run. -/
theorem arr2 : (dats m 0 c).arrAt 2 cfg0.N = table (m ((c.tc : Thread nD τ).loc main_arg0)) := by
  refine (dats m 0 c).arrAt_eq_of_covers 2 _ (by decide +kernel) fun t hf i => ?_
  blk_simp
  rw [after0_2]
  obtain ⟨h, r, j, rfl⟩ := box_index i
  unfold outsAt0
  rw [out_table _ _ _ _ _ _ _ _ _ (iblk1 t), iblk0]
  refine congrArg (table _) (?_ : ix3 h r j = _)
  blk_ext! [idx t]

theorem algebraic : Cert.algebraic_BiasTabIdeal_BiasTabRefIdeal := by
  pair_intro
  · run_from Cert.BiasTabIdeal.Value.run_blocks m g
  · refine (θ_run _ _ _).mono (fun _ h c => ?_) (run_vals m' g')
    have H := h c
    rw [hagree c] at H
    exact ⟨H.1.trans arr2.symm, (h c).2⟩

end Cert.Proof.BiasTab

end
-- ==== Proof.lean ====
/- The proof of the whole claim: every program's frame, from its generated run, and for each pair the equation of kernel
   and reference, from the module that carries it. -/
module

public import proofs.«01_k».proof.Defs
public import proofs.«01_k».proof.Proof.Gen.LossHead
public import proofs.«01_k».proof.Proof.Gen.LossHeadIdeal
public import proofs.«01_k».proof.Proof.Gen.LossHeadRefIdeal
public import proofs.«01_k».proof.Proof.Gen.AttnBwd
public import proofs.«01_k».proof.Proof.Gen.AttnBwdIdeal
public import proofs.«01_k».proof.Proof.Gen.AttnBwdRefIdeal
public import proofs.«01_k».proof.Proof.Gen.QBwd
public import proofs.«01_k».proof.Proof.Gen.QBwdIdeal
public import proofs.«01_k».proof.Proof.Gen.QBwdRefIdeal
public import proofs.«01_k».proof.Proof.Gen.DkvCombine
public import proofs.«01_k».proof.Proof.Gen.DkvCombineIdeal
public import proofs.«01_k».proof.Proof.Gen.DkvCombineRefIdeal
public import proofs.«01_k».proof.Proof.Gen.Pw1Bwd
public import proofs.«01_k».proof.Proof.Gen.Pw1BwdIdeal
public import proofs.«01_k».proof.Proof.Gen.Pw1BwdRefIdeal
public import proofs.«01_k».proof.Proof.Gen.FfnBwd
public import proofs.«01_k».proof.Proof.Gen.FfnBwdIdeal
public import proofs.«01_k».proof.Proof.Gen.FfnBwdRefIdeal
public import proofs.«01_k».proof.Proof.Gen.BiasGrad
public import proofs.«01_k».proof.Proof.Gen.BiasGradIdeal
public import proofs.«01_k».proof.Proof.Gen.BiasGradRefIdeal
public import proofs.«01_k».proof.Proof.Gen.AttnFwd
public import proofs.«01_k».proof.Proof.Gen.AttnFwdIdeal
public import proofs.«01_k».proof.Proof.Gen.AttnFwdRefIdeal
public import proofs.«01_k».proof.Proof.Gen.RmsFwd
public import proofs.«01_k».proof.Proof.Gen.RmsFwdIdeal
public import proofs.«01_k».proof.Proof.Gen.RmsFwdRefIdeal
public import proofs.«01_k».proof.Proof.Gen.Pw2Fwd
public import proofs.«01_k».proof.Proof.Gen.Pw2FwdIdeal
public import proofs.«01_k».proof.Proof.Gen.Pw2FwdRefIdeal
public import proofs.«01_k».proof.Proof.Gen.FfnFwd
public import proofs.«01_k».proof.Proof.Gen.FfnFwdIdeal
public import proofs.«01_k».proof.Proof.Gen.FfnFwdRefIdeal
public import proofs.«01_k».proof.Proof.Gen.Pw1Fwd
public import proofs.«01_k».proof.Proof.Gen.Pw1FwdIdeal
public import proofs.«01_k».proof.Proof.Gen.Pw1FwdRefIdeal
public import proofs.«01_k».proof.Proof.Gen.BiasTab
public import proofs.«01_k».proof.Proof.Gen.BiasTabIdeal
public import proofs.«01_k».proof.Proof.Gen.BiasTabRefIdeal
public import proofs.«01_k».proof.Proof.Gen.Pre_finite_loss
public import proofs.«01_k».proof.Proof.Gen.Pre_finite_attn
public import proofs.«01_k».proof.Proof.Gen.Pre_finite_q
public import proofs.«01_k».proof.Proof.Gen.Pre_finite_pw1
public import proofs.«01_k».proof.Proof.Gen.Pre_finite_ffn
public import proofs.«01_k».proof.Proof.Gen.Pre_finite_attn_fwd
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.AttnBwd.Frame
public import proofs.«01_k».proof.Proof.Gen.AttnBwdIdeal.Frame
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.QBwd.Frame
public import proofs.«01_k».proof.Proof.Gen.QBwdIdeal.Frame
public import proofs.«01_k».proof.Proof.Gen.QBwdIdeal.Value
public import proofs.«01_k».proof.Proof.Gen.QBwdRefIdeal.Run
public import proofs.«01_k».proof.Proof.Gen.QBwdRefIdeal.Read
public import proofs.«01_k».proof.Proof.Gen.DkvCombine.Frame
public import proofs.«01_k».proof.Proof.Gen.DkvCombineIdeal.Frame
public import proofs.«01_k».proof.Proof.Gen.DkvCombineIdeal.Value
public import proofs.«01_k».proof.Proof.Gen.DkvCombineRefIdeal.Run
public import proofs.«01_k».proof.Proof.Gen.DkvCombineRefIdeal.Read
public import proofs.«01_k».proof.Proof.Gen.Pw1Bwd.Frame
public import proofs.«01_k».proof.Proof.Gen.Pw1BwdIdeal.Frame
public import proofs.«01_k».proof.Proof.Gen.Pw1BwdIdeal.Value
public import proofs.«01_k».proof.Proof.Gen.Pw1BwdRefIdeal.Run
public import proofs.«01_k».proof.Proof.Gen.Pw1BwdRefIdeal.Read
public import proofs.«01_k».proof.Proof.Gen.FfnBwd.Frame
public import proofs.«01_k».proof.Proof.Gen.FfnBwdIdeal.Frame
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Gen.BiasGrad.Frame
public import proofs.«01_k».proof.Proof.Gen.BiasGradIdeal.Frame
public import proofs.«01_k».proof.Proof.Gen.BiasGradIdeal.Value
public import proofs.«01_k».proof.Proof.Gen.BiasGradRefIdeal.Run
public import proofs.«01_k».proof.Proof.Gen.BiasGradRefIdeal.Read
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.Pw2Fwd.Frame
public import proofs.«01_k».proof.Proof.Gen.Pw2FwdIdeal.Frame
public import proofs.«01_k».proof.Proof.Gen.Pw2FwdIdeal.Value
public import proofs.«01_k».proof.Proof.Gen.Pw2FwdRefIdeal.Run
public import proofs.«01_k».proof.Proof.Gen.Pw2FwdRefIdeal.Read
public import proofs.«01_k».proof.Proof.Gen.FfnFwd.Frame
public import proofs.«01_k».proof.Proof.Gen.FfnFwdIdeal.Frame
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.Pw1Fwd.Frame
public import proofs.«01_k».proof.Proof.Gen.Pw1FwdIdeal.Frame
public import proofs.«01_k».proof.Proof.Gen.Pw1FwdIdeal.Value
public import proofs.«01_k».proof.Proof.Gen.Pw1FwdRefIdeal.Run
public import proofs.«01_k».proof.Proof.Gen.Pw1FwdRefIdeal.Read
public import proofs.«01_k».proof.Proof.Gen.BiasTab.Frame
public import proofs.«01_k».proof.Proof.Gen.BiasTabIdeal.Frame
public import proofs.«01_k».proof.Proof.Gen.BiasTabIdeal.Value
public import proofs.«01_k».proof.Proof.Gen.BiasTabRefIdeal.Run
public import proofs.«01_k».proof.Proof.Gen.BiasTabRefIdeal.Read
public import proofs.«01_k».proof.Proof.Loss
public import proofs.«01_k».proof.Proof.Attn
public import proofs.«01_k».proof.Proof.QBwd
public import proofs.«01_k».proof.Proof.Dkv
public import proofs.«01_k».proof.Proof.Pw1
public import proofs.«01_k».proof.Proof.Ffn
public import proofs.«01_k».proof.Proof.Bias
public import proofs.«01_k».proof.Proof.AttnFwd
public import proofs.«01_k».proof.Proof.RmsFwd
public import proofs.«01_k».proof.Proof.Pw2Fwd
public import proofs.«01_k».proof.Proof.FfnFwd
public import proofs.«01_k».proof.Proof.Pw1Fwd
public import proofs.«01_k».proof.Proof.BiasTab
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- Everything the certificate claims. -/
theorem claim : Cert.Claim :=
  ⟨Cert.LossHead.Gen.facts, Cert.LossHeadIdeal.Gen.facts, Cert.LossHeadRefIdeal.Gen.facts, Cert.AttnBwd.Gen.facts, Cert.AttnBwdIdeal.Gen.facts, Cert.AttnBwdRefIdeal.Gen.facts, Cert.QBwd.Gen.facts, Cert.QBwdIdeal.Gen.facts, Cert.QBwdRefIdeal.Gen.facts, Cert.DkvCombine.Gen.facts, Cert.DkvCombineIdeal.Gen.facts, Cert.DkvCombineRefIdeal.Gen.facts, Cert.Pw1Bwd.Gen.facts, Cert.Pw1BwdIdeal.Gen.facts, Cert.Pw1BwdRefIdeal.Gen.facts, Cert.FfnBwd.Gen.facts, Cert.FfnBwdIdeal.Gen.facts, Cert.FfnBwdRefIdeal.Gen.facts, Cert.BiasGrad.Gen.facts, Cert.BiasGradIdeal.Gen.facts, Cert.BiasGradRefIdeal.Gen.facts, Cert.AttnFwd.Gen.facts, Cert.AttnFwdIdeal.Gen.facts, Cert.AttnFwdRefIdeal.Gen.facts, Cert.RmsFwd.Gen.facts, Cert.RmsFwdIdeal.Gen.facts, Cert.RmsFwdRefIdeal.Gen.facts, Cert.Pw2Fwd.Gen.facts, Cert.Pw2FwdIdeal.Gen.facts, Cert.Pw2FwdRefIdeal.Gen.facts, Cert.FfnFwd.Gen.facts, Cert.FfnFwdIdeal.Gen.facts, Cert.FfnFwdRefIdeal.Gen.facts, Cert.Pw1Fwd.Gen.facts, Cert.Pw1FwdIdeal.Gen.facts, Cert.Pw1FwdRefIdeal.Gen.facts, Cert.BiasTab.Gen.facts, Cert.BiasTabIdeal.Gen.facts, Cert.BiasTabRefIdeal.Gen.facts, Cert.Pre_finite_loss.Gen.facts, Cert.Pre_finite_attn.Gen.facts, Cert.Pre_finite_q.Gen.facts, Cert.Pre_finite_pw1.Gen.facts, Cert.Pre_finite_ffn.Gen.facts, Cert.Pre_finite_attn_fwd.Gen.facts,
    fun m ρ _ => Cert.LossHead.Gen.frame m ρ,
    fun m ρ _ => Cert.LossHeadIdeal.Gen.frame m ρ,
    fun m ρ _ => Cert.LossHeadIdeal.Gen.frame m ρ,
    Cert.Proof.Loss.frame_ref,
    fun m g _ => Cert.Proof.Loss.frame_ref m g trivial,
    fun m ρ _ => Cert.AttnBwd.Gen.frame m ρ,
    fun m ρ _ => Cert.AttnBwdIdeal.Gen.frame m ρ,
    fun m ρ _ => Cert.AttnBwdIdeal.Gen.frame m ρ,
    Cert.Proof.Attn.frame_ref,
    fun m g _ => Cert.Proof.Attn.frame_ref m g trivial,
    fun m ρ _ => Cert.QBwd.Gen.frame m ρ,
    fun m ρ _ => Cert.QBwdIdeal.Gen.frame m ρ,
    fun m ρ _ => Cert.QBwdIdeal.Gen.frame m ρ,
    Cert.Proof.QBwd.frame_ref,
    fun m g _ => Cert.Proof.QBwd.frame_ref m g trivial,
    fun m ρ _ => Cert.DkvCombine.Gen.frame m ρ,
    fun m ρ _ => Cert.DkvCombineIdeal.Gen.frame m ρ,
    Cert.Proof.Dkv.frame_ref,
    fun m ρ _ => Cert.Pw1Bwd.Gen.frame m ρ,
    fun m ρ _ => Cert.Pw1BwdIdeal.Gen.frame m ρ,
    fun m ρ _ => Cert.Pw1BwdIdeal.Gen.frame m ρ,
    Cert.Proof.Pw1.frame_ref,
    fun m g _ => Cert.Proof.Pw1.frame_ref m g trivial,
    fun m ρ _ => Cert.FfnBwd.Gen.frame m ρ,
    fun m ρ _ => Cert.FfnBwdIdeal.Gen.frame m ρ,
    fun m ρ _ => Cert.FfnBwdIdeal.Gen.frame m ρ,
    Cert.Proof.Ffn.frame_ref,
    fun m g _ => Cert.Proof.Ffn.frame_ref m g trivial,
    fun m ρ _ => Cert.BiasGrad.Gen.frame m ρ,
    fun m ρ _ => Cert.BiasGradIdeal.Gen.frame m ρ,
    Cert.Proof.Bias.frame_ref,
    fun m ρ _ => Cert.AttnFwd.Gen.frame m ρ,
    fun m ρ _ => Cert.AttnFwdIdeal.Gen.frame m ρ,
    fun m ρ _ => Cert.AttnFwdIdeal.Gen.frame m ρ,
    Cert.Proof.AttnFwd.frame_ref,
    fun m g _ => Cert.Proof.AttnFwd.frame_ref m g trivial,
    fun m ρ _ => Cert.RmsFwd.Gen.frame m ρ,
    fun m ρ _ => Cert.RmsFwdIdeal.Gen.frame m ρ,
    Cert.Proof.RmsFwd.frame_ref,
    fun m ρ _ => Cert.Pw2Fwd.Gen.frame m ρ,
    fun m ρ _ => Cert.Pw2FwdIdeal.Gen.frame m ρ,
    Cert.Proof.Pw2Fwd.frame_ref,
    fun m ρ _ => Cert.FfnFwd.Gen.frame m ρ,
    fun m ρ _ => Cert.FfnFwdIdeal.Gen.frame m ρ,
    Cert.Proof.FfnFwd.frame_ref,
    fun m ρ _ => Cert.Pw1Fwd.Gen.frame m ρ,
    fun m ρ _ => Cert.Pw1FwdIdeal.Gen.frame m ρ,
    Cert.Proof.Pw1Fwd.frame_ref,
    fun m ρ _ => Cert.BiasTab.Gen.frame m ρ,
    fun m ρ _ => Cert.BiasTabIdeal.Gen.frame m ρ,
    Cert.Proof.BiasTab.frame_ref,
    trivial,
    Cert.Proof.Loss.algebraic,
    IdealRules.named_const.statement Cert.AttnBwdIdeal.κ "mask" .f32 0xF149F2CA#32 ⊥ rfl,
    Cert.Proof.Attn.algebraic,
    trivial,
    Cert.Proof.QBwd.algebraic,
    trivial,
    Cert.Proof.Dkv.algebraic,
    trivial,
    Cert.Proof.Pw1.algebraic,
    trivial,
    Cert.Proof.Ffn.algebraic,
    trivial,
    Cert.Proof.Bias.algebraic,
    IdealRules.named_const.statement Cert.AttnFwdIdeal.κ "mask" .f32 0xF149F2CA#32 ⊥ rfl,
    Cert.Proof.AttnFwd.algebraic,
    trivial,
    Cert.Proof.RmsFwd.algebraic,
    trivial,
    Cert.Proof.Pw2Fwd.algebraic,
    trivial,
    Cert.Proof.FfnFwd.algebraic,
    trivial,
    Cert.Proof.Pw1Fwd.algebraic,
    trivial,
    Cert.Proof.BiasTab.algebraic⟩

end Cert.Proof

end
